-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_lse_finite [hPre_lse_finite : Cert.Pre_lse_finite.Facts] (m : (ℓ : Loc Cert.AttnIdeal.nD Cert.AttnIdeal.τ Cert.AttnIdeal.sig) → Buf (Elt Ideal) ℓ) : Prop :=
  ∀ c : Dev Cert.AttnIdeal.nD,
    (Cert.Pre_lse_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_lse_finite [hPre_lse_finite : Cert.Pre_lse_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_lse_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_inputs_finite [hPre_inputs_finite : Cert.Pre_inputs_finite.Facts] (m : (ℓ : Loc Cert.InProjIdeal.nD Cert.InProjIdeal.τ Cert.InProjIdeal.sig) → Buf (Elt Ideal) ℓ) : Prop :=
  ∀ c : Dev Cert.InProjIdeal.nD,
    (Cert.Pre_inputs_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).1 = (fun _ => 1#1)
    ∧ (Cert.Pre_inputs_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.1 = (fun _ => 1#1)
    ∧ (Cert.Pre_inputs_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.2.1 = (fun _ => 1#1)
    ∧ (Cert.Pre_inputs_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))).2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_inputs_finite [hPre_inputs_finite : Cert.Pre_inputs_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_inputs_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).1 = (fun _ => 1#1)
    ∧ (Cert.Pre_inputs_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).2.1 = (fun _ => 1#1)
    ∧ (Cert.Pre_inputs_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).2.2.1 = (fun _ => 1#1)
    ∧ (Cert.Pre_inputs_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))).2.2.2 = (fun _ => 1#1)

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjIdeal_even_finite [hPre_even_finite : Cert.Pre_even_finite.Facts] (m : (ℓ : Loc Cert.EvenProjIdeal.nD Cert.EvenProjIdeal.τ Cert.EvenProjIdeal.sig) → Buf (Elt Ideal) ℓ) : Prop :=
  ∀ c : Dev Cert.EvenProjIdeal.nD,
    (Cert.Pre_even_finite.fn (F := Ideal) (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4))).1 = (fun _ => 1#1)
    ∧ (Cert.Pre_even_finite.fn (F := Ideal) (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4))).2.1 = (fun _ => 1#1)
    ∧ (Cert.Pre_even_finite.fn (F := Ideal) (m ((c.tc : Thread Cert.EvenProjIdeal.nD Cert.EvenProjIdeal.τ).loc Cert.EvenProjIdeal.main_arg0)) (m ((c.tc : Thread Cert.EvenProjIdeal.nD Cert.EvenProjIdeal.τ).loc Cert.EvenProjIdeal.main_arg1)) (m ((c.tc : Thread Cert.EvenProjIdeal.nD Cert.EvenProjIdeal.τ).loc Cert.EvenProjIdeal.main_arg2)) (m ((c.tc : Thread Cert.EvenProjIdeal.nD Cert.EvenProjIdeal.τ).loc Cert.EvenProjIdeal.main_arg3)) (m ((c.tc : Thread Cert.EvenProjIdeal.nD Cert.EvenProjIdeal.τ).loc Cert.EvenProjIdeal.main_arg4))).2.2 = (fun _ => 1#1)

def Pre_EvenProjRefIdeal (m : (ℓ : Loc Cert.EvenProjRefIdeal.nD Cert.EvenProjRefIdeal.τ Cert.EvenProjRefIdeal.sig) → Buf (Elt Ideal) ℓ) : Prop :=
  True

def Pre_EvenProjRefIdeal_even_finite [hPre_even_finite : Cert.Pre_even_finite.Facts] (m : (ℓ : Loc Cert.EvenProjRefIdeal.nD Cert.EvenProjRefIdeal.τ Cert.EvenProjRefIdeal.sig) → Buf (Elt Ideal) ℓ) : Prop :=
  ∀ c : Dev Cert.EvenProjRefIdeal.nD,
    (Cert.Pre_even_finite.fn (F := Ideal) (m ((c.tc : Thread Cert.EvenProjRefIdeal.nD Cert.EvenProjRefIdeal.τ).loc Cert.EvenProjRefIdeal.main_arg0)) (m ((c.tc : Thread Cert.EvenProjRefIdeal.nD Cert.EvenProjRefIdeal.τ).loc Cert.EvenProjRefIdeal.main_arg1)) (m ((c.tc : Thread Cert.EvenProjRefIdeal.nD Cert.EvenProjRefIdeal.τ).loc Cert.EvenProjRefIdeal.main_arg2)) (m ((c.tc : Thread Cert.EvenProjRefIdeal.nD Cert.EvenProjRefIdeal.τ).loc Cert.EvenProjRefIdeal.main_arg3)) (m ((c.tc : Thread Cert.EvenProjRefIdeal.nD Cert.EvenProjRefIdeal.τ).loc Cert.EvenProjRefIdeal.main_arg4))).1 = (fun _ => 1#1)
    ∧ (Cert.Pre_even_finite.fn (F := Ideal) (m ((c.tc : Thread Cert.EvenProjRefIdeal.nD Cert.EvenProjRefIdeal.τ).loc Cert.EvenProjRefIdeal.main_arg0)) (m ((c.tc : Thread Cert.EvenProjRefIdeal.nD Cert.EvenProjRefIdeal.τ).loc Cert.EvenProjRefIdeal.main_arg1)) (m ((c.tc : Thread Cert.EvenProjRefIdeal.nD Cert.EvenProjRefIdeal.τ).loc Cert.EvenProjRefIdeal.main_arg2)) (m ((c.tc : Thread Cert.EvenProjRefIdeal.nD Cert.EvenProjRefIdeal.τ).loc Cert.EvenProjRefIdeal.main_arg3)) (m ((c.tc : Thread Cert.EvenProjRefIdeal.nD Cert.EvenProjRefIdeal.τ).loc Cert.EvenProjRefIdeal.main_arg4))).2.1 = (fun _ => 1#1)
    ∧ (Cert.Pre_even_finite.fn (F := Ideal) (m ((c.tc : Thread Cert.EvenProjRefIdeal.nD Cert.EvenProjRefIdeal.τ).loc Cert.EvenProjRefIdeal.main_arg0)) (m ((c.tc : Thread Cert.EvenProjRefIdeal.nD Cert.EvenProjRefIdeal.τ).loc Cert.EvenProjRefIdeal.main_arg1)) (m ((c.tc : Thread Cert.EvenProjRefIdeal.nD Cert.EvenProjRefIdeal.τ).loc Cert.EvenProjRefIdeal.main_arg2)) (m ((c.tc : Thread Cert.EvenProjRefIdeal.nD Cert.EvenProjRefIdeal.τ).loc Cert.EvenProjRefIdeal.main_arg3)) (m ((c.tc : Thread Cert.EvenProjRefIdeal.nD Cert.EvenProjRefIdeal.τ).loc Cert.EvenProjRefIdeal.main_arg4))).2.2 = (fun _ => 1#1)

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_FirstProj (m : (ℓ : Loc Cert.FirstProj.nD Cert.FirstProj.τ Cert.FirstProj.sig) → Buf (Elt Bits) ℓ) : Prop :=
  True

def Pre_FirstProjIdeal (m : (ℓ : Loc Cert.FirstProjIdeal.nD Cert.FirstProjIdeal.τ Cert.FirstProjIdeal.sig) → Buf (Elt Ideal) ℓ) : Prop :=
  True

def Pre_FirstProjIdeal_first_finite [hPre_first_finite : Cert.Pre_first_finite.Facts] (m : (ℓ : Loc Cert.FirstProjIdeal.nD Cert.FirstProjIdeal.τ Cert.FirstProjIdeal.sig) → Buf (Elt Ideal) ℓ) : Prop :=
  ∀ c : Dev Cert.FirstProjIdeal.nD,
    (Cert.Pre_first_finite.fn (F := Ideal) (m ((c.tc : Thread Cert.FirstProjIdeal.nD Cert.FirstProjIdeal.τ).loc Cert.FirstProjIdeal.main_arg0)) (m ((c.tc : Thread Cert.FirstProjIdeal.nD Cert.FirstProjIdeal.τ).loc Cert.FirstProjIdeal.main_arg1)) (m ((c.tc : Thread Cert.FirstProjIdeal.nD Cert.FirstProjIdeal.τ).loc Cert.FirstProjIdeal.main_arg2)) (m ((c.tc : Thread Cert.FirstProjIdeal.nD Cert.FirstProjIdeal.τ).loc Cert.FirstProjIdeal.main_arg3))).1 = (fun _ => 1#1)
    ∧ (Cert.Pre_first_finite.fn (F := Ideal) (m ((c.tc : Thread Cert.FirstProjIdeal.nD Cert.FirstProjIdeal.τ).loc Cert.FirstProjIdeal.main_arg0)) (m ((c.tc : Thread Cert.FirstProjIdeal.nD Cert.FirstProjIdeal.τ).loc Cert.FirstProjIdeal.main_arg1)) (m ((c.tc : Thread Cert.FirstProjIdeal.nD Cert.FirstProjIdeal.τ).loc Cert.FirstProjIdeal.main_arg2)) (m ((c.tc : Thread Cert.FirstProjIdeal.nD Cert.FirstProjIdeal.τ).loc Cert.FirstProjIdeal.main_arg3))).2.1 = (fun _ => 1#1)
    ∧ (Cert.Pre_first_finite.fn (F := Ideal) (m ((c.tc : Thread Cert.FirstProjIdeal.nD Cert.FirstProjIdeal.τ).loc Cert.FirstProjIdeal.main_arg0)) (m ((c.tc : Thread Cert.FirstProjIdeal.nD Cert.FirstProjIdeal.τ).loc Cert.FirstProjIdeal.main_arg1)) (m ((c.tc : Thread Cert.FirstProjIdeal.nD Cert.FirstProjIdeal.τ).loc Cert.FirstProjIdeal.main_arg2)) (m ((c.tc : Thread Cert.FirstProjIdeal.nD Cert.FirstProjIdeal.τ).loc Cert.FirstProjIdeal.main_arg3))).2.2.1 = (fun _ => 1#1)
    ∧ (Cert.Pre_first_finite.fn (F := Ideal) (m ((c.tc : Thread Cert.FirstProjIdeal.nD Cert.FirstProjIdeal.τ).loc Cert.FirstProjIdeal.main_arg0)) (m ((c.tc : Thread Cert.FirstProjIdeal.nD Cert.FirstProjIdeal.τ).loc Cert.FirstProjIdeal.main_arg1)) (m ((c.tc : Thread Cert.FirstProjIdeal.nD Cert.FirstProjIdeal.τ).loc Cert.FirstProjIdeal.main_arg2)) (m ((c.tc : Thread Cert.FirstProjIdeal.nD Cert.FirstProjIdeal.τ).loc Cert.FirstProjIdeal.main_arg3))).2.2.2 = (fun _ => 1#1)

def Pre_FirstProjRefIdeal (m : (ℓ : Loc Cert.FirstProjRefIdeal.nD Cert.FirstProjRefIdeal.τ Cert.FirstProjRefIdeal.sig) → Buf (Elt Ideal) ℓ) : Prop :=
  True

def Pre_FirstProjRefIdeal_first_finite [hPre_first_finite : Cert.Pre_first_finite.Facts] (m : (ℓ : Loc Cert.FirstProjRefIdeal.nD Cert.FirstProjRefIdeal.τ Cert.FirstProjRefIdeal.sig) → Buf (Elt Ideal) ℓ) : Prop :=
  ∀ c : Dev Cert.FirstProjRefIdeal.nD,
    (Cert.Pre_first_finite.fn (F := Ideal) (m ((c.tc : Thread Cert.FirstProjRefIdeal.nD Cert.FirstProjRefIdeal.τ).loc Cert.FirstProjRefIdeal.main_arg0)) (m ((c.tc : Thread Cert.FirstProjRefIdeal.nD Cert.FirstProjRefIdeal.τ).loc Cert.FirstProjRefIdeal.main_arg1)) (m ((c.tc : Thread Cert.FirstProjRefIdeal.nD Cert.FirstProjRefIdeal.τ).loc Cert.FirstProjRefIdeal.main_arg2)) (m ((c.tc : Thread Cert.FirstProjRefIdeal.nD Cert.FirstProjRefIdeal.τ).loc Cert.FirstProjRefIdeal.main_arg3))).1 = (fun _ => 1#1)
    ∧ (Cert.Pre_first_finite.fn (F := Ideal) (m ((c.tc : Thread Cert.FirstProjRefIdeal.nD Cert.FirstProjRefIdeal.τ).loc Cert.FirstProjRefIdeal.main_arg0)) (m ((c.tc : Thread Cert.FirstProjRefIdeal.nD Cert.FirstProjRefIdeal.τ).loc Cert.FirstProjRefIdeal.main_arg1)) (m ((c.tc : Thread Cert.FirstProjRefIdeal.nD Cert.FirstProjRefIdeal.τ).loc Cert.FirstProjRefIdeal.main_arg2)) (m ((c.tc : Thread Cert.FirstProjRefIdeal.nD Cert.FirstProjRefIdeal.τ).loc Cert.FirstProjRefIdeal.main_arg3))).2.1 = (fun _ => 1#1)
    ∧ (Cert.Pre_first_finite.fn (F := Ideal) (m ((c.tc : Thread Cert.FirstProjRefIdeal.nD Cert.FirstProjRefIdeal.τ).loc Cert.FirstProjRefIdeal.main_arg0)) (m ((c.tc : Thread Cert.FirstProjRefIdeal.nD Cert.FirstProjRefIdeal.τ).loc Cert.FirstProjRefIdeal.main_arg1)) (m ((c.tc : Thread Cert.FirstProjRefIdeal.nD Cert.FirstProjRefIdeal.τ).loc Cert.FirstProjRefIdeal.main_arg2)) (m ((c.tc : Thread Cert.FirstProjRefIdeal.nD Cert.FirstProjRefIdeal.τ).loc Cert.FirstProjRefIdeal.main_arg3))).2.2.1 = (fun _ => 1#1)
    ∧ (Cert.Pre_first_finite.fn (F := Ideal) (m ((c.tc : Thread Cert.FirstProjRefIdeal.nD Cert.FirstProjRefIdeal.τ).loc Cert.FirstProjRefIdeal.main_arg0)) (m ((c.tc : Thread Cert.FirstProjRefIdeal.nD Cert.FirstProjRefIdeal.τ).loc Cert.FirstProjRefIdeal.main_arg1)) (m ((c.tc : Thread Cert.FirstProjRefIdeal.nD Cert.FirstProjRefIdeal.τ).loc Cert.FirstProjRefIdeal.main_arg2)) (m ((c.tc : Thread Cert.FirstProjRefIdeal.nD Cert.FirstProjRefIdeal.τ).loc Cert.FirstProjRefIdeal.main_arg3))).2.2.2 = (fun _ => 1#1)

def Pre_NearAttn (m : (ℓ : Loc Cert.NearAttn.nD Cert.NearAttn.τ Cert.NearAttn.sig) → Buf (Elt Bits) ℓ) : Prop :=
  True

def Pre_NearAttnIdeal (m : (ℓ : Loc Cert.NearAttnIdeal.nD Cert.NearAttnIdeal.τ Cert.NearAttnIdeal.sig) → Buf (Elt Ideal) ℓ) : Prop :=
  True

def Pre_NearAttnRefIdeal (m : (ℓ : Loc Cert.NearAttnRefIdeal.nD Cert.NearAttnRefIdeal.τ Cert.NearAttnRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_lse_finite [hAttnIdeal : Cert.AttnIdeal.Facts] [hPre_lse_finite : Cert.Pre_lse_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_lse_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_lse_finite [hAttnRefIdeal : Cert.AttnRefIdeal.Facts] [hPre_lse_finite : Cert.Pre_lse_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_lse_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjIdeal_pre_inputs_finite [hInProjIdeal : Cert.InProjIdeal.Facts] [hPre_inputs_finite : Cert.Pre_inputs_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_inputs_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjRefIdeal_pre_inputs_finite [hInProjRefIdeal : Cert.InProjRefIdeal.Facts] [hPre_inputs_finite : Cert.Pre_inputs_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_inputs_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2)
      ∧ r.2.mem ((c.tc : Thread Cert.EvenProj.nD Cert.EvenProj.τ).loc Cert.EvenProj.main_arg3) = m ((c.tc : Thread Cert.EvenProj.nD Cert.EvenProj.τ).loc Cert.EvenProj.main_arg3)
      ∧ r.2.mem ((c.tc : Thread Cert.EvenProj.nD Cert.EvenProj.τ).loc Cert.EvenProj.main_arg4) = m ((c.tc : Thread Cert.EvenProj.nD Cert.EvenProj.τ).loc Cert.EvenProj.main_arg4))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4))
      ∧ r.2.sem = fun _ => 0)

def quiescent_EvenProjIdeal_pre_even_finite [hEvenProjIdeal : Cert.EvenProjIdeal.Facts] [hPre_even_finite : Cert.Pre_even_finite.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal_even_finite m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
      ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
      ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4))
      ∧ r.2.sem = fun _ => 0)

def quiescent_EvenProjRefIdeal_pre_even_finite [hEvenProjRefIdeal : Cert.EvenProjRefIdeal.Facts] [hPre_even_finite : Cert.Pre_even_finite.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal_even_finite m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2)
      ∧ r.2.mem ((c.tc : Thread Cert.EvenProjRefIdeal.nD Cert.EvenProjRefIdeal.τ).loc Cert.EvenProjRefIdeal.main_arg3) = m ((c.tc : Thread Cert.EvenProjRefIdeal.nD Cert.EvenProjRefIdeal.τ).loc Cert.EvenProjRefIdeal.main_arg3)
      ∧ r.2.mem ((c.tc : Thread Cert.EvenProjRefIdeal.nD Cert.EvenProjRefIdeal.τ).loc Cert.EvenProjRefIdeal.main_arg4) = m ((c.tc : Thread Cert.EvenProjRefIdeal.nD Cert.EvenProjRefIdeal.τ).loc Cert.EvenProjRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
      ∧ r.2.sem = fun _ => 0)

def quiescent_FirstProj [hFirstProj : Cert.FirstProj.Facts] : Prop :=
  ∀ (m : (ℓ : Loc Cert.FirstProj.nD Cert.FirstProj.τ Cert.FirstProj.sig) → Buf (Elt Bits) ℓ) (g : Dev Cert.FirstProj.nD → PrngReg), Pre_FirstProj m →
    θ_run (Cert.FirstProj.defs (F := Bits)) (onTc (τ := Cert.FirstProj.τ) (Cert.FirstProj.main (F := Bits))) ⟨m, fun _ => 0, g⟩ (fun r => (∀ c : Dev Cert.FirstProj.nD,
      r.2.mem ((c.tc : Thread Cert.FirstProj.nD Cert.FirstProj.τ).loc Cert.FirstProj.main_arg0) = m ((c.tc : Thread Cert.FirstProj.nD Cert.FirstProj.τ).loc Cert.FirstProj.main_arg0)
      ∧ r.2.mem ((c.tc : Thread Cert.FirstProj.nD Cert.FirstProj.τ).loc Cert.FirstProj.main_arg1) = m ((c.tc : Thread Cert.FirstProj.nD Cert.FirstProj.τ).loc Cert.FirstProj.main_arg1)
      ∧ r.2.mem ((c.tc : Thread Cert.FirstProj.nD Cert.FirstProj.τ).loc Cert.FirstProj.main_arg2) = m ((c.tc : Thread Cert.FirstProj.nD Cert.FirstProj.τ).loc Cert.FirstProj.main_arg2)
      ∧ r.2.mem ((c.tc : Thread Cert.FirstProj.nD Cert.FirstProj.τ).loc Cert.FirstProj.main_arg3) = m ((c.tc : Thread Cert.FirstProj.nD Cert.FirstProj.τ).loc Cert.FirstProj.main_arg3))
      ∧ r.2.sem = fun _ => 0)

def quiescent_FirstProjIdeal [hFirstProjIdeal : Cert.FirstProjIdeal.Facts] : Prop :=
  ∀ (m : (ℓ : Loc Cert.FirstProjIdeal.nD Cert.FirstProjIdeal.τ Cert.FirstProjIdeal.sig) → Buf (Elt Ideal) ℓ) (g : Dev Cert.FirstProjIdeal.nD → PrngReg), Pre_FirstProjIdeal m →
    θ_run (Cert.FirstProjIdeal.defs (F := Ideal)) (onTc (τ := Cert.FirstProjIdeal.τ) (Cert.FirstProjIdeal.main (F := Ideal))) ⟨m, fun _ => 0, g⟩ (fun r => (∀ c : Dev Cert.FirstProjIdeal.nD,
      r.2.mem ((c.tc : Thread Cert.FirstProjIdeal.nD Cert.FirstProjIdeal.τ).loc Cert.FirstProjIdeal.main_arg0) = m ((c.tc : Thread Cert.FirstProjIdeal.nD Cert.FirstProjIdeal.τ).loc Cert.FirstProjIdeal.main_arg0)
      ∧ r.2.mem ((c.tc : Thread Cert.FirstProjIdeal.nD Cert.FirstProjIdeal.τ).loc Cert.FirstProjIdeal.main_arg1) = m ((c.tc : Thread Cert.FirstProjIdeal.nD Cert.FirstProjIdeal.τ).loc Cert.FirstProjIdeal.main_arg1)
      ∧ r.2.mem ((c.tc : Thread Cert.FirstProjIdeal.nD Cert.FirstProjIdeal.τ).loc Cert.FirstProjIdeal.main_arg2) = m ((c.tc : Thread Cert.FirstProjIdeal.nD Cert.FirstProjIdeal.τ).loc Cert.FirstProjIdeal.main_arg2)
      ∧ r.2.mem ((c.tc : Thread Cert.FirstProjIdeal.nD Cert.FirstProjIdeal.τ).loc Cert.FirstProjIdeal.main_arg3) = m ((c.tc : Thread Cert.FirstProjIdeal.nD Cert.FirstProjIdeal.τ).loc Cert.FirstProjIdeal.main_arg3))
      ∧ r.2.sem = fun _ => 0)

def quiescent_FirstProjIdeal_pre_first_finite [hFirstProjIdeal : Cert.FirstProjIdeal.Facts] [hPre_first_finite : Cert.Pre_first_finite.Facts] : Prop :=
  ∀ (m : (ℓ : Loc Cert.FirstProjIdeal.nD Cert.FirstProjIdeal.τ Cert.FirstProjIdeal.sig) → Buf (Elt Ideal) ℓ) (g : Dev Cert.FirstProjIdeal.nD → PrngReg), Pre_FirstProjIdeal_first_finite m →
    θ_run (Cert.FirstProjIdeal.defs (F := Ideal)) (onTc (τ := Cert.FirstProjIdeal.τ) (Cert.FirstProjIdeal.main (F := Ideal))) ⟨m, fun _ => 0, g⟩ (fun r => (∀ c : Dev Cert.FirstProjIdeal.nD,
      r.2.mem ((c.tc : Thread Cert.FirstProjIdeal.nD Cert.FirstProjIdeal.τ).loc Cert.FirstProjIdeal.main_arg0) = m ((c.tc : Thread Cert.FirstProjIdeal.nD Cert.FirstProjIdeal.τ).loc Cert.FirstProjIdeal.main_arg0)
      ∧ r.2.mem ((c.tc : Thread Cert.FirstProjIdeal.nD Cert.FirstProjIdeal.τ).loc Cert.FirstProjIdeal.main_arg1) = m ((c.tc : Thread Cert.FirstProjIdeal.nD Cert.FirstProjIdeal.τ).loc Cert.FirstProjIdeal.main_arg1)
      ∧ r.2.mem ((c.tc : Thread Cert.FirstProjIdeal.nD Cert.FirstProjIdeal.τ).loc Cert.FirstProjIdeal.main_arg2) = m ((c.tc : Thread Cert.FirstProjIdeal.nD Cert.FirstProjIdeal.τ).loc Cert.FirstProjIdeal.main_arg2)
      ∧ r.2.mem ((c.tc : Thread Cert.FirstProjIdeal.nD Cert.FirstProjIdeal.τ).loc Cert.FirstProjIdeal.main_arg3) = m ((c.tc : Thread Cert.FirstProjIdeal.nD Cert.FirstProjIdeal.τ).loc Cert.FirstProjIdeal.main_arg3))
      ∧ r.2.sem = fun _ => 0)

def quiescent_FirstProjRefIdeal [hFirstProjRefIdeal : Cert.FirstProjRefIdeal.Facts] : Prop :=
  ∀ (m : (ℓ : Loc Cert.FirstProjRefIdeal.nD Cert.FirstProjRefIdeal.τ Cert.FirstProjRefIdeal.sig) → Buf (Elt Ideal) ℓ) (g : Dev Cert.FirstProjRefIdeal.nD → PrngReg), Pre_FirstProjRefIdeal m →
    θ_run (Cert.FirstProjRefIdeal.defs (F := Ideal)) (onTc (τ := Cert.FirstProjRefIdeal.τ) (Cert.FirstProjRefIdeal.main (F := Ideal))) ⟨m, fun _ => 0, g⟩ (fun r => (∀ c : Dev Cert.FirstProjRefIdeal.nD,
      r.2.mem ((c.tc : Thread Cert.FirstProjRefIdeal.nD Cert.FirstProjRefIdeal.τ).loc Cert.FirstProjRefIdeal.main_arg0) = m ((c.tc : Thread Cert.FirstProjRefIdeal.nD Cert.FirstProjRefIdeal.τ).loc Cert.FirstProjRefIdeal.main_arg0)
      ∧ r.2.mem ((c.tc : Thread Cert.FirstProjRefIdeal.nD Cert.FirstProjRefIdeal.τ).loc Cert.FirstProjRefIdeal.main_arg1) = m ((c.tc : Thread Cert.FirstProjRefIdeal.nD Cert.FirstProjRefIdeal.τ).loc Cert.FirstProjRefIdeal.main_arg1)
      ∧ r.2.mem ((c.tc : Thread Cert.FirstProjRefIdeal.nD Cert.FirstProjRefIdeal.τ).loc Cert.FirstProjRefIdeal.main_arg2) = m ((c.tc : Thread Cert.FirstProjRefIdeal.nD Cert.FirstProjRefIdeal.τ).loc Cert.FirstProjRefIdeal.main_arg2)
      ∧ r.2.mem ((c.tc : Thread Cert.FirstProjRefIdeal.nD Cert.FirstProjRefIdeal.τ).loc Cert.FirstProjRefIdeal.main_arg3) = m ((c.tc : Thread Cert.FirstProjRefIdeal.nD Cert.FirstProjRefIdeal.τ).loc Cert.FirstProjRefIdeal.main_arg3))
      ∧ r.2.sem = fun _ => 0)

def quiescent_FirstProjRefIdeal_pre_first_finite [hFirstProjRefIdeal : Cert.FirstProjRefIdeal.Facts] [hPre_first_finite : Cert.Pre_first_finite.Facts] : Prop :=
  ∀ (m : (ℓ : Loc Cert.FirstProjRefIdeal.nD Cert.FirstProjRefIdeal.τ Cert.FirstProjRefIdeal.sig) → Buf (Elt Ideal) ℓ) (g : Dev Cert.FirstProjRefIdeal.nD → PrngReg), Pre_FirstProjRefIdeal_first_finite m →
    θ_run (Cert.FirstProjRefIdeal.defs (F := Ideal)) (onTc (τ := Cert.FirstProjRefIdeal.τ) (Cert.FirstProjRefIdeal.main (F := Ideal))) ⟨m, fun _ => 0, g⟩ (fun r => (∀ c : Dev Cert.FirstProjRefIdeal.nD,
      r.2.mem ((c.tc : Thread Cert.FirstProjRefIdeal.nD Cert.FirstProjRefIdeal.τ).loc Cert.FirstProjRefIdeal.main_arg0) = m ((c.tc : Thread Cert.FirstProjRefIdeal.nD Cert.FirstProjRefIdeal.τ).loc Cert.FirstProjRefIdeal.main_arg0)
      ∧ r.2.mem ((c.tc : Thread Cert.FirstProjRefIdeal.nD Cert.FirstProjRefIdeal.τ).loc Cert.FirstProjRefIdeal.main_arg1) = m ((c.tc : Thread Cert.FirstProjRefIdeal.nD Cert.FirstProjRefIdeal.τ).loc Cert.FirstProjRefIdeal.main_arg1)
      ∧ r.2.mem ((c.tc : Thread Cert.FirstProjRefIdeal.nD Cert.FirstProjRefIdeal.τ).loc Cert.FirstProjRefIdeal.main_arg2) = m ((c.tc : Thread Cert.FirstProjRefIdeal.nD Cert.FirstProjRefIdeal.τ).loc Cert.FirstProjRefIdeal.main_arg2)
      ∧ r.2.mem ((c.tc : Thread Cert.FirstProjRefIdeal.nD Cert.FirstProjRefIdeal.τ).loc Cert.FirstProjRefIdeal.main_arg3) = m ((c.tc : Thread Cert.FirstProjRefIdeal.nD Cert.FirstProjRefIdeal.τ).loc Cert.FirstProjRefIdeal.main_arg3))
      ∧ r.2.sem = fun _ => 0)

def quiescent_NearAttn [hNearAttn : Cert.NearAttn.Facts] : Prop :=
  ∀ (m : (ℓ : Loc Cert.NearAttn.nD Cert.NearAttn.τ Cert.NearAttn.sig) → Buf (Elt Bits) ℓ) (g : Dev Cert.NearAttn.nD → PrngReg), Pre_NearAttn m →
    θ_run (Cert.NearAttn.defs (F := Bits)) (onTc (τ := Cert.NearAttn.τ) (Cert.NearAttn.main (F := Bits))) ⟨m, fun _ => 0, g⟩ (fun r => (∀ c : Dev Cert.NearAttn.nD,
      r.2.mem ((c.tc : Thread Cert.NearAttn.nD Cert.NearAttn.τ).loc Cert.NearAttn.main_arg0) = m ((c.tc : Thread Cert.NearAttn.nD Cert.NearAttn.τ).loc Cert.NearAttn.main_arg0)
      ∧ r.2.mem ((c.tc : Thread Cert.NearAttn.nD Cert.NearAttn.τ).loc Cert.NearAttn.main_arg1) = m ((c.tc : Thread Cert.NearAttn.nD Cert.NearAttn.τ).loc Cert.NearAttn.main_arg1)
      ∧ r.2.mem ((c.tc : Thread Cert.NearAttn.nD Cert.NearAttn.τ).loc Cert.NearAttn.main_arg2) = m ((c.tc : Thread Cert.NearAttn.nD Cert.NearAttn.τ).loc Cert.NearAttn.main_arg2)
      ∧ r.2.mem ((c.tc : Thread Cert.NearAttn.nD Cert.NearAttn.τ).loc Cert.NearAttn.main_arg3) = m ((c.tc : Thread Cert.NearAttn.nD Cert.NearAttn.τ).loc Cert.NearAttn.main_arg3)
      ∧ r.2.mem ((c.tc : Thread Cert.NearAttn.nD Cert.NearAttn.τ).loc Cert.NearAttn.main_arg4) = m ((c.tc : Thread Cert.NearAttn.nD Cert.NearAttn.τ).loc Cert.NearAttn.main_arg4))
      ∧ r.2.sem = fun _ => 0)

def quiescent_NearAttnIdeal [hNearAttnIdeal : Cert.NearAttnIdeal.Facts] : Prop :=
  ∀ (m : (ℓ : Loc Cert.NearAttnIdeal.nD Cert.NearAttnIdeal.τ Cert.NearAttnIdeal.sig) → Buf (Elt Ideal) ℓ) (g : Dev Cert.NearAttnIdeal.nD → PrngReg), Pre_NearAttnIdeal m →
    θ_run (Cert.NearAttnIdeal.defs (F := Ideal)) (onTc (τ := Cert.NearAttnIdeal.τ) (Cert.NearAttnIdeal.main (F := Ideal))) ⟨m, fun _ => 0, g⟩ (fun r => (∀ c : Dev Cert.NearAttnIdeal.nD,
      r.2.mem ((c.tc : Thread Cert.NearAttnIdeal.nD Cert.NearAttnIdeal.τ).loc Cert.NearAttnIdeal.main_arg0) = m ((c.tc : Thread Cert.NearAttnIdeal.nD Cert.NearAttnIdeal.τ).loc Cert.NearAttnIdeal.main_arg0)
      ∧ r.2.mem ((c.tc : Thread Cert.NearAttnIdeal.nD Cert.NearAttnIdeal.τ).loc Cert.NearAttnIdeal.main_arg1) = m ((c.tc : Thread Cert.NearAttnIdeal.nD Cert.NearAttnIdeal.τ).loc Cert.NearAttnIdeal.main_arg1)
      ∧ r.2.mem ((c.tc : Thread Cert.NearAttnIdeal.nD Cert.NearAttnIdeal.τ).loc Cert.NearAttnIdeal.main_arg2) = m ((c.tc : Thread Cert.NearAttnIdeal.nD Cert.NearAttnIdeal.τ).loc Cert.NearAttnIdeal.main_arg2)
      ∧ r.2.mem ((c.tc : Thread Cert.NearAttnIdeal.nD Cert.NearAttnIdeal.τ).loc Cert.NearAttnIdeal.main_arg3) = m ((c.tc : Thread Cert.NearAttnIdeal.nD Cert.NearAttnIdeal.τ).loc Cert.NearAttnIdeal.main_arg3)
      ∧ r.2.mem ((c.tc : Thread Cert.NearAttnIdeal.nD Cert.NearAttnIdeal.τ).loc Cert.NearAttnIdeal.main_arg4) = m ((c.tc : Thread Cert.NearAttnIdeal.nD Cert.NearAttnIdeal.τ).loc Cert.NearAttnIdeal.main_arg4))
      ∧ r.2.sem = fun _ => 0)

def quiescent_NearAttnRefIdeal [hNearAttnRefIdeal : Cert.NearAttnRefIdeal.Facts] : Prop :=
  ∀ (m : (ℓ : Loc Cert.NearAttnRefIdeal.nD Cert.NearAttnRefIdeal.τ Cert.NearAttnRefIdeal.sig) → Buf (Elt Ideal) ℓ) (g : Dev Cert.NearAttnRefIdeal.nD → PrngReg), Pre_NearAttnRefIdeal m →
    θ_run (Cert.NearAttnRefIdeal.defs (F := Ideal)) (onTc (τ := Cert.NearAttnRefIdeal.τ) (Cert.NearAttnRefIdeal.main (F := Ideal))) ⟨m, fun _ => 0, g⟩ (fun r => (∀ c : Dev Cert.NearAttnRefIdeal.nD,
      r.2.mem ((c.tc : Thread Cert.NearAttnRefIdeal.nD Cert.NearAttnRefIdeal.τ).loc Cert.NearAttnRefIdeal.main_arg0) = m ((c.tc : Thread Cert.NearAttnRefIdeal.nD Cert.NearAttnRefIdeal.τ).loc Cert.NearAttnRefIdeal.main_arg0)
      ∧ r.2.mem ((c.tc : Thread Cert.NearAttnRefIdeal.nD Cert.NearAttnRefIdeal.τ).loc Cert.NearAttnRefIdeal.main_arg1) = m ((c.tc : Thread Cert.NearAttnRefIdeal.nD Cert.NearAttnRefIdeal.τ).loc Cert.NearAttnRefIdeal.main_arg1)
      ∧ r.2.mem ((c.tc : Thread Cert.NearAttnRefIdeal.nD Cert.NearAttnRefIdeal.τ).loc Cert.NearAttnRefIdeal.main_arg2) = m ((c.tc : Thread Cert.NearAttnRefIdeal.nD Cert.NearAttnRefIdeal.τ).loc Cert.NearAttnRefIdeal.main_arg2)
      ∧ r.2.mem ((c.tc : Thread Cert.NearAttnRefIdeal.nD Cert.NearAttnRefIdeal.τ).loc Cert.NearAttnRefIdeal.main_arg3) = m ((c.tc : Thread Cert.NearAttnRefIdeal.nD Cert.NearAttnRefIdeal.τ).loc Cert.NearAttnRefIdeal.main_arg3)
      ∧ r.2.mem ((c.tc : Thread Cert.NearAttnRefIdeal.nD Cert.NearAttnRefIdeal.τ).loc Cert.NearAttnRefIdeal.main_arg4) = m ((c.tc : Thread Cert.NearAttnRefIdeal.nD Cert.NearAttnRefIdeal.τ).loc Cert.NearAttnRefIdeal.main_arg4))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_lse_finite [hAttnIdeal : Cert.AttnIdeal.Facts] [hAttnRefIdeal : Cert.AttnRefIdeal.Facts] [hPre_lse_finite : Cert.Pre_lse_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_lse_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v77)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v77) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v124) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_InProj_InProjIdeal : Prop :=
  IdealRules.named_const.Statement Cert.InProjIdeal.κ "log2e" .f32 0x3FB8AA3B#32 (((Real.log 2)⁻¹ : ℝ) : EReal)

def algebraic_InProjIdeal_InProjRefIdeal_pre_inputs_finite [hInProjIdeal : Cert.InProjIdeal.Facts] [hInProjRefIdeal : Cert.InProjRefIdeal.Facts] [hPre_inputs_finite : Cert.Pre_inputs_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_inputs_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v41)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v41) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v67) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_EvenProj_EvenProjIdeal : Prop :=
  True

def algebraic_EvenProjIdeal_EvenProjRefIdeal_pre_even_finite [hEvenProjIdeal : Cert.EvenProjIdeal.Facts] [hEvenProjRefIdeal : Cert.EvenProjRefIdeal.Facts] [hPre_even_finite : Cert.Pre_even_finite.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal_even_finite m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)
      ∧ m' ((c.tc : Thread Cert.EvenProjRefIdeal.nD Cert.EvenProjRefIdeal.τ).loc Cert.EvenProjRefIdeal.main_arg3) = m ((c.tc : Thread Cert.EvenProjIdeal.nD Cert.EvenProjIdeal.τ).loc Cert.EvenProjIdeal.main_arg3)
      ∧ m' ((c.tc : Thread Cert.EvenProjRefIdeal.nD Cert.EvenProjRefIdeal.τ).loc Cert.EvenProjRefIdeal.main_arg4) = m ((c.tc : Thread Cert.EvenProjIdeal.nD Cert.EvenProjIdeal.τ).loc Cert.EvenProjIdeal.main_arg4)) →
    ∃ (v0 : (c : Dev Cert.EvenProjIdeal.nD) → Buf (Elt Ideal) ((c.tc : Thread Cert.EvenProjIdeal.nD Cert.EvenProjIdeal.τ).loc Cert.EvenProjIdeal.main_v71_0)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v71_0) = v0 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2)
          ∧ r.2.mem ((c.tc : Thread Cert.EvenProjIdeal.nD Cert.EvenProjIdeal.τ).loc Cert.EvenProjIdeal.main_arg3) = m ((c.tc : Thread Cert.EvenProjIdeal.nD Cert.EvenProjIdeal.τ).loc Cert.EvenProjIdeal.main_arg3)
          ∧ r.2.mem ((c.tc : Thread Cert.EvenProjIdeal.nD Cert.EvenProjIdeal.τ).loc Cert.EvenProjIdeal.main_arg4) = m ((c.tc : Thread Cert.EvenProjIdeal.nD Cert.EvenProjIdeal.τ).loc Cert.EvenProjIdeal.main_arg4))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v71) = v0 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2)
          ∧ r.2.mem ((c.tc : Thread Cert.EvenProjRefIdeal.nD Cert.EvenProjRefIdeal.τ).loc Cert.EvenProjRefIdeal.main_arg3) = m' ((c.tc : Thread Cert.EvenProjRefIdeal.nD Cert.EvenProjRefIdeal.τ).loc Cert.EvenProjRefIdeal.main_arg3)
          ∧ r.2.mem ((c.tc : Thread Cert.EvenProjRefIdeal.nD Cert.EvenProjRefIdeal.τ).loc Cert.EvenProjRefIdeal.main_arg4) = m' ((c.tc : Thread Cert.EvenProjRefIdeal.nD Cert.EvenProjRefIdeal.τ).loc Cert.EvenProjRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v6)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v6) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v34) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4))

def preserves_FirstProj_FirstProjIdeal : Prop :=
  IdealRules.named_const.Statement Cert.FirstProjIdeal.κ "log2e" .f32 0x3FB8AA3B#32 (((Real.log 2)⁻¹ : ℝ) : EReal)

def algebraic_FirstProjIdeal_FirstProjRefIdeal_pre_first_finite [hFirstProjIdeal : Cert.FirstProjIdeal.Facts] [hFirstProjRefIdeal : Cert.FirstProjRefIdeal.Facts] [hPre_first_finite : Cert.Pre_first_finite.Facts] : Prop :=
  ∀ (m : (ℓ : Loc Cert.FirstProjIdeal.nD Cert.FirstProjIdeal.τ Cert.FirstProjIdeal.sig) → Buf (Elt Ideal) ℓ) (g : Dev Cert.FirstProjIdeal.nD → PrngReg)
    (m' : (ℓ : Loc Cert.FirstProjRefIdeal.nD Cert.FirstProjRefIdeal.τ Cert.FirstProjRefIdeal.sig) → Buf (Elt Ideal) ℓ) (g' : Dev Cert.FirstProjRefIdeal.nD → PrngReg), Pre_FirstProjIdeal_first_finite m →
    (∀ c : Dev Cert.FirstProjIdeal.nD,
      m' ((c.tc : Thread Cert.FirstProjRefIdeal.nD Cert.FirstProjRefIdeal.τ).loc Cert.FirstProjRefIdeal.main_arg0) = m ((c.tc : Thread Cert.FirstProjIdeal.nD Cert.FirstProjIdeal.τ).loc Cert.FirstProjIdeal.main_arg0)
      ∧ m' ((c.tc : Thread Cert.FirstProjRefIdeal.nD Cert.FirstProjRefIdeal.τ).loc Cert.FirstProjRefIdeal.main_arg1) = m ((c.tc : Thread Cert.FirstProjIdeal.nD Cert.FirstProjIdeal.τ).loc Cert.FirstProjIdeal.main_arg1)
      ∧ m' ((c.tc : Thread Cert.FirstProjRefIdeal.nD Cert.FirstProjRefIdeal.τ).loc Cert.FirstProjRefIdeal.main_arg2) = m ((c.tc : Thread Cert.FirstProjIdeal.nD Cert.FirstProjIdeal.τ).loc Cert.FirstProjIdeal.main_arg2)
      ∧ m' ((c.tc : Thread Cert.FirstProjRefIdeal.nD Cert.FirstProjRefIdeal.τ).loc Cert.FirstProjRefIdeal.main_arg3) = m ((c.tc : Thread Cert.FirstProjIdeal.nD Cert.FirstProjIdeal.τ).loc Cert.FirstProjIdeal.main_arg3)) →
    ∃ (v0 : (c : Dev Cert.FirstProjIdeal.nD) → Buf (Elt Ideal) ((c.tc : Thread Cert.FirstProjIdeal.nD Cert.FirstProjIdeal.τ).loc Cert.FirstProjIdeal.main_v41)),
      θ_run (Cert.FirstProjIdeal.defs (F := Ideal)) (onTc (τ := Cert.FirstProjIdeal.τ) (Cert.FirstProjIdeal.main (F := Ideal))) ⟨m, fun _ => 0, g⟩ (fun r => ∀ c : Dev Cert.FirstProjIdeal.nD,
          r.2.mem ((c.tc : Thread Cert.FirstProjIdeal.nD Cert.FirstProjIdeal.τ).loc Cert.FirstProjIdeal.main_v41) = v0 c
          ∧ r.2.mem ((c.tc : Thread Cert.FirstProjIdeal.nD Cert.FirstProjIdeal.τ).loc Cert.FirstProjIdeal.main_arg0) = m ((c.tc : Thread Cert.FirstProjIdeal.nD Cert.FirstProjIdeal.τ).loc Cert.FirstProjIdeal.main_arg0)
          ∧ r.2.mem ((c.tc : Thread Cert.FirstProjIdeal.nD Cert.FirstProjIdeal.τ).loc Cert.FirstProjIdeal.main_arg1) = m ((c.tc : Thread Cert.FirstProjIdeal.nD Cert.FirstProjIdeal.τ).loc Cert.FirstProjIdeal.main_arg1)
          ∧ r.2.mem ((c.tc : Thread Cert.FirstProjIdeal.nD Cert.FirstProjIdeal.τ).loc Cert.FirstProjIdeal.main_arg2) = m ((c.tc : Thread Cert.FirstProjIdeal.nD Cert.FirstProjIdeal.τ).loc Cert.FirstProjIdeal.main_arg2)
          ∧ r.2.mem ((c.tc : Thread Cert.FirstProjIdeal.nD Cert.FirstProjIdeal.τ).loc Cert.FirstProjIdeal.main_arg3) = m ((c.tc : Thread Cert.FirstProjIdeal.nD Cert.FirstProjIdeal.τ).loc Cert.FirstProjIdeal.main_arg3))
      ∧ θ_run (Cert.FirstProjRefIdeal.defs (F := Ideal)) (onTc (τ := Cert.FirstProjRefIdeal.τ) (Cert.FirstProjRefIdeal.main (F := Ideal))) ⟨m', fun _ => 0, g'⟩ (fun r => ∀ c : Dev Cert.FirstProjRefIdeal.nD,
          r.2.mem ((c.tc : Thread Cert.FirstProjRefIdeal.nD Cert.FirstProjRefIdeal.τ).loc Cert.FirstProjRefIdeal.main_v67) = v0 c
          ∧ r.2.mem ((c.tc : Thread Cert.FirstProjRefIdeal.nD Cert.FirstProjRefIdeal.τ).loc Cert.FirstProjRefIdeal.main_arg0) = m' ((c.tc : Thread Cert.FirstProjRefIdeal.nD Cert.FirstProjRefIdeal.τ).loc Cert.FirstProjRefIdeal.main_arg0)
          ∧ r.2.mem ((c.tc : Thread Cert.FirstProjRefIdeal.nD Cert.FirstProjRefIdeal.τ).loc Cert.FirstProjRefIdeal.main_arg1) = m' ((c.tc : Thread Cert.FirstProjRefIdeal.nD Cert.FirstProjRefIdeal.τ).loc Cert.FirstProjRefIdeal.main_arg1)
          ∧ r.2.mem ((c.tc : Thread Cert.FirstProjRefIdeal.nD Cert.FirstProjRefIdeal.τ).loc Cert.FirstProjRefIdeal.main_arg2) = m' ((c.tc : Thread Cert.FirstProjRefIdeal.nD Cert.FirstProjRefIdeal.τ).loc Cert.FirstProjRefIdeal.main_arg2)
          ∧ r.2.mem ((c.tc : Thread Cert.FirstProjRefIdeal.nD Cert.FirstProjRefIdeal.τ).loc Cert.FirstProjRefIdeal.main_arg3) = m' ((c.tc : Thread Cert.FirstProjRefIdeal.nD Cert.FirstProjRefIdeal.τ).loc Cert.FirstProjRefIdeal.main_arg3))

def preserves_NearAttn_NearAttnIdeal : Prop :=
  IdealRules.named_const.Statement Cert.NearAttnIdeal.κ "log2e" .f32 0x3FB8AA3B#32 (((Real.log 2)⁻¹ : ℝ) : EReal)

def algebraic_NearAttnIdeal_NearAttnRefIdeal [hNearAttnIdeal : Cert.NearAttnIdeal.Facts] [hNearAttnRefIdeal : Cert.NearAttnRefIdeal.Facts] : Prop :=
  ∀ (m : (ℓ : Loc Cert.NearAttnIdeal.nD Cert.NearAttnIdeal.τ Cert.NearAttnIdeal.sig) → Buf (Elt Ideal) ℓ) (g : Dev Cert.NearAttnIdeal.nD → PrngReg)
    (m' : (ℓ : Loc Cert.NearAttnRefIdeal.nD Cert.NearAttnRefIdeal.τ Cert.NearAttnRefIdeal.sig) → Buf (Elt Ideal) ℓ) (g' : Dev Cert.NearAttnRefIdeal.nD → PrngReg), Pre_NearAttnIdeal m →
    (∀ c : Dev Cert.NearAttnIdeal.nD,
      m' ((c.tc : Thread Cert.NearAttnRefIdeal.nD Cert.NearAttnRefIdeal.τ).loc Cert.NearAttnRefIdeal.main_arg0) = m ((c.tc : Thread Cert.NearAttnIdeal.nD Cert.NearAttnIdeal.τ).loc Cert.NearAttnIdeal.main_arg0)
      ∧ m' ((c.tc : Thread Cert.NearAttnRefIdeal.nD Cert.NearAttnRefIdeal.τ).loc Cert.NearAttnRefIdeal.main_arg1) = m ((c.tc : Thread Cert.NearAttnIdeal.nD Cert.NearAttnIdeal.τ).loc Cert.NearAttnIdeal.main_arg1)
      ∧ m' ((c.tc : Thread Cert.NearAttnRefIdeal.nD Cert.NearAttnRefIdeal.τ).loc Cert.NearAttnRefIdeal.main_arg2) = m ((c.tc : Thread Cert.NearAttnIdeal.nD Cert.NearAttnIdeal.τ).loc Cert.NearAttnIdeal.main_arg2)
      ∧ m' ((c.tc : Thread Cert.NearAttnRefIdeal.nD Cert.NearAttnRefIdeal.τ).loc Cert.NearAttnRefIdeal.main_arg3) = m ((c.tc : Thread Cert.NearAttnIdeal.nD Cert.NearAttnIdeal.τ).loc Cert.NearAttnIdeal.main_arg3)
      ∧ m' ((c.tc : Thread Cert.NearAttnRefIdeal.nD Cert.NearAttnRefIdeal.τ).loc Cert.NearAttnRefIdeal.main_arg4) = m ((c.tc : Thread Cert.NearAttnIdeal.nD Cert.NearAttnIdeal.τ).loc Cert.NearAttnIdeal.main_arg4)) →
    ∃ (v0 : (c : Dev Cert.NearAttnIdeal.nD) → Buf (Elt Ideal) ((c.tc : Thread Cert.NearAttnIdeal.nD Cert.NearAttnIdeal.τ).loc Cert.NearAttnIdeal.main_v65_0)),
      θ_run (Cert.NearAttnIdeal.defs (F := Ideal)) (onTc (τ := Cert.NearAttnIdeal.τ) (Cert.NearAttnIdeal.main (F := Ideal))) ⟨m, fun _ => 0, g⟩ (fun r => ∀ c : Dev Cert.NearAttnIdeal.nD,
          r.2.mem ((c.tc : Thread Cert.NearAttnIdeal.nD Cert.NearAttnIdeal.τ).loc Cert.NearAttnIdeal.main_v65_0) = v0 c
          ∧ r.2.mem ((c.tc : Thread Cert.NearAttnIdeal.nD Cert.NearAttnIdeal.τ).loc Cert.NearAttnIdeal.main_arg0) = m ((c.tc : Thread Cert.NearAttnIdeal.nD Cert.NearAttnIdeal.τ).loc Cert.NearAttnIdeal.main_arg0)
          ∧ r.2.mem ((c.tc : Thread Cert.NearAttnIdeal.nD Cert.NearAttnIdeal.τ).loc Cert.NearAttnIdeal.main_arg1) = m ((c.tc : Thread Cert.NearAttnIdeal.nD Cert.NearAttnIdeal.τ).loc Cert.NearAttnIdeal.main_arg1)
          ∧ r.2.mem ((c.tc : Thread Cert.NearAttnIdeal.nD Cert.NearAttnIdeal.τ).loc Cert.NearAttnIdeal.main_arg2) = m ((c.tc : Thread Cert.NearAttnIdeal.nD Cert.NearAttnIdeal.τ).loc Cert.NearAttnIdeal.main_arg2)
          ∧ r.2.mem ((c.tc : Thread Cert.NearAttnIdeal.nD Cert.NearAttnIdeal.τ).loc Cert.NearAttnIdeal.main_arg3) = m ((c.tc : Thread Cert.NearAttnIdeal.nD Cert.NearAttnIdeal.τ).loc Cert.NearAttnIdeal.main_arg3)
          ∧ r.2.mem ((c.tc : Thread Cert.NearAttnIdeal.nD Cert.NearAttnIdeal.τ).loc Cert.NearAttnIdeal.main_arg4) = m ((c.tc : Thread Cert.NearAttnIdeal.nD Cert.NearAttnIdeal.τ).loc Cert.NearAttnIdeal.main_arg4))
      ∧ θ_run (Cert.NearAttnRefIdeal.defs (F := Ideal)) (onTc (τ := Cert.NearAttnRefIdeal.τ) (Cert.NearAttnRefIdeal.main (F := Ideal))) ⟨m', fun _ => 0, g'⟩ (fun r => ∀ c : Dev Cert.NearAttnRefIdeal.nD,
          r.2.mem ((c.tc : Thread Cert.NearAttnRefIdeal.nD Cert.NearAttnRefIdeal.τ).loc Cert.NearAttnRefIdeal.main_v94) = v0 c
          ∧ r.2.mem ((c.tc : Thread Cert.NearAttnRefIdeal.nD Cert.NearAttnRefIdeal.τ).loc Cert.NearAttnRefIdeal.main_arg0) = m' ((c.tc : Thread Cert.NearAttnRefIdeal.nD Cert.NearAttnRefIdeal.τ).loc Cert.NearAttnRefIdeal.main_arg0)
          ∧ r.2.mem ((c.tc : Thread Cert.NearAttnRefIdeal.nD Cert.NearAttnRefIdeal.τ).loc Cert.NearAttnRefIdeal.main_arg1) = m' ((c.tc : Thread Cert.NearAttnRefIdeal.nD Cert.NearAttnRefIdeal.τ).loc Cert.NearAttnRefIdeal.main_arg1)
          ∧ r.2.mem ((c.tc : Thread Cert.NearAttnRefIdeal.nD Cert.NearAttnRefIdeal.τ).loc Cert.NearAttnRefIdeal.main_arg2) = m' ((c.tc : Thread Cert.NearAttnRefIdeal.nD Cert.NearAttnRefIdeal.τ).loc Cert.NearAttnRefIdeal.main_arg2)
          ∧ r.2.mem ((c.tc : Thread Cert.NearAttnRefIdeal.nD Cert.NearAttnRefIdeal.τ).loc Cert.NearAttnRefIdeal.main_arg3) = m' ((c.tc : Thread Cert.NearAttnRefIdeal.nD Cert.NearAttnRefIdeal.τ).loc Cert.NearAttnRefIdeal.main_arg3)
          ∧ r.2.mem ((c.tc : Thread Cert.NearAttnRefIdeal.nD Cert.NearAttnRefIdeal.τ).loc Cert.NearAttnRefIdeal.main_arg4) = m' ((c.tc : Thread Cert.NearAttnRefIdeal.nD Cert.NearAttnRefIdeal.τ).loc Cert.NearAttnRefIdeal.main_arg4))

def Claim : Prop :=
  ∃ (hAttn : Cert.Attn.Facts) (hAttnIdeal : Cert.AttnIdeal.Facts) (hAttnRefIdeal : Cert.AttnRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hEvenProj : Cert.EvenProj.Facts) (hEvenProjIdeal : Cert.EvenProjIdeal.Facts) (hEvenProjRefIdeal : Cert.EvenProjRefIdeal.Facts) (hEvenOut : Cert.EvenOut.Facts) (hEvenOutIdeal : Cert.EvenOutIdeal.Facts) (hEvenOutRefIdeal : Cert.EvenOutRefIdeal.Facts) (hFirstProj : Cert.FirstProj.Facts) (hFirstProjIdeal : Cert.FirstProjIdeal.Facts) (hFirstProjRefIdeal : Cert.FirstProjRefIdeal.Facts) (hNearAttn : Cert.NearAttn.Facts) (hNearAttnIdeal : Cert.NearAttnIdeal.Facts) (hNearAttnRefIdeal : Cert.NearAttnRefIdeal.Facts) (hPre_lse_finite : Cert.Pre_lse_finite.Facts) (hPre_inputs_finite : Cert.Pre_inputs_finite.Facts) (hPre_even_finite : Cert.Pre_even_finite.Facts) (hPre_first_finite : Cert.Pre_first_finite.Facts),
    quiescent_Attn (hAttn := hAttn)
    ∧ quiescent_AttnIdeal (hAttnIdeal := hAttnIdeal)
    ∧ quiescent_AttnIdeal_pre_lse_finite (hAttnIdeal := hAttnIdeal) (hPre_lse_finite := hPre_lse_finite)
    ∧ quiescent_AttnRefIdeal (hAttnRefIdeal := hAttnRefIdeal)
    ∧ quiescent_AttnRefIdeal_pre_lse_finite (hAttnRefIdeal := hAttnRefIdeal) (hPre_lse_finite := hPre_lse_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjIdeal_pre_inputs_finite (hInProjIdeal := hInProjIdeal) (hPre_inputs_finite := hPre_inputs_finite)
    ∧ quiescent_InProjRefIdeal (hInProjRefIdeal := hInProjRefIdeal)
    ∧ quiescent_InProjRefIdeal_pre_inputs_finite (hInProjRefIdeal := hInProjRefIdeal) (hPre_inputs_finite := hPre_inputs_finite)
    ∧ quiescent_EvenProj (hEvenProj := hEvenProj)
    ∧ quiescent_EvenProjIdeal (hEvenProjIdeal := hEvenProjIdeal)
    ∧ quiescent_EvenProjIdeal_pre_even_finite (hEvenProjIdeal := hEvenProjIdeal) (hPre_even_finite := hPre_even_finite)
    ∧ quiescent_EvenProjRefIdeal (hEvenProjRefIdeal := hEvenProjRefIdeal)
    ∧ quiescent_EvenProjRefIdeal_pre_even_finite (hEvenProjRefIdeal := hEvenProjRefIdeal) (hPre_even_finite := hPre_even_finite)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_FirstProj (hFirstProj := hFirstProj)
    ∧ quiescent_FirstProjIdeal (hFirstProjIdeal := hFirstProjIdeal)
    ∧ quiescent_FirstProjIdeal_pre_first_finite (hFirstProjIdeal := hFirstProjIdeal) (hPre_first_finite := hPre_first_finite)
    ∧ quiescent_FirstProjRefIdeal (hFirstProjRefIdeal := hFirstProjRefIdeal)
    ∧ quiescent_FirstProjRefIdeal_pre_first_finite (hFirstProjRefIdeal := hFirstProjRefIdeal) (hPre_first_finite := hPre_first_finite)
    ∧ quiescent_NearAttn (hNearAttn := hNearAttn)
    ∧ quiescent_NearAttnIdeal (hNearAttnIdeal := hNearAttnIdeal)
    ∧ quiescent_NearAttnRefIdeal (hNearAttnRefIdeal := hNearAttnRefIdeal)
    ∧ preserves_Attn_AttnIdeal
    ∧ algebraic_AttnIdeal_AttnRefIdeal_pre_lse_finite (hAttnIdeal := hAttnIdeal) (hAttnRefIdeal := hAttnRefIdeal) (hPre_lse_finite := hPre_lse_finite)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal_pre_inputs_finite (hInProjIdeal := hInProjIdeal) (hInProjRefIdeal := hInProjRefIdeal) (hPre_inputs_finite := hPre_inputs_finite)
    ∧ preserves_EvenProj_EvenProjIdeal
    ∧ algebraic_EvenProjIdeal_EvenProjRefIdeal_pre_even_finite (hEvenProjIdeal := hEvenProjIdeal) (hEvenProjRefIdeal := hEvenProjRefIdeal) (hPre_even_finite := hPre_even_finite)
    ∧ preserves_EvenOut_EvenOutIdeal
    ∧ algebraic_EvenOutIdeal_EvenOutRefIdeal (hEvenOutIdeal := hEvenOutIdeal) (hEvenOutRefIdeal := hEvenOutRefIdeal)
    ∧ preserves_FirstProj_FirstProjIdeal
    ∧ algebraic_FirstProjIdeal_FirstProjRefIdeal_pre_first_finite (hFirstProjIdeal := hFirstProjIdeal) (hFirstProjRefIdeal := hFirstProjRefIdeal) (hPre_first_finite := hPre_first_finite)
    ∧ preserves_NearAttn_NearAttnIdeal
    ∧ algebraic_NearAttnIdeal_NearAttnRefIdeal (hNearAttnIdeal := hNearAttnIdeal) (hNearAttnRefIdeal := hNearAttnRefIdeal)
-- ==== Pre_even_finite.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x64 : Shape := ⟨2, ![2, 64]⟩
abbrev S_ : Shape := ⟨0, ![]⟩

class Facts : Prop where
  bcast_S_S4x8192x1024 : S_.BroadcastsInDim S4x8192x1024 (![] : Fin 0 → Fin S4x8192x1024.rank)
  bcast_S_S2x1024 : S_.BroadcastsInDim S2x1024 (![] : Fin 0 → Fin S2x1024.rank)
  bcast_S_S2x1024x8192 : S_.BroadcastsInDim S2x1024x8192 (![] : Fin 0 → Fin S2x1024x8192.rank)

variable [Facts]

def fn {F : FTy → Type} [FloatOps F] (main_arg0 : FVec F S4x8192x1024 .f32) (main_arg1 : FVec F S2x1024 .f32) (main_arg2 : FVec F S2x1024x8192 .f32) (main_arg3 : FVec F S2x64 .f32) (main_arg4 : FVec F S2x64 .f32) : IVec S4x8192x1024 1 × IVec S2x1024 1 × IVec S2x1024x8192 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x8192 .f32 := Host.absf main_arg2
  let main_cst_1 : FVec F S_ .f32 := constant S_ .f32 0x7F800000#32
  let main_v7 : FVec F S2x1024x8192 .f32 := broadcastInDim S2x1024x8192 ![] bcast_S_S2x1024x8192 main_cst_1
  let main_v8 : IVec S2x1024x8192 1 := cmpf .olt main_v6 main_v7
  (main_v2, main_v5, main_v8)
-- ==== Pre_first_finite.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x2048 : Shape := ⟨2, ![2, 2048]⟩
abbrev S_ : Shape := ⟨0, ![]⟩

class Facts : Prop where
  bcast_S_S4x8192x1024 : S_.BroadcastsInDim S4x8192x1024 (![] : Fin 0 → Fin S4x8192x1024.rank)
  bcast_S_S2x1024 : S_.BroadcastsInDim S2x1024 (![] : Fin 0 → Fin S2x1024.rank)
  bcast_S_S2x1024x8192 : S_.BroadcastsInDim S2x1024x8192 (![] : Fin 0 → Fin S2x1024x8192.rank)
  bcast_S_S2x2048 : S_.BroadcastsInDim S2x2048 (![] : Fin 0 → Fin S2x2048.rank)

variable [Facts]

def fn {F : FTy → Type} [FloatOps F] (main_arg0 : FVec F S4x8192x1024 .f32) (main_arg1 : FVec F S2x1024 .f32) (main_arg2 : FVec F S2x1024x8192 .f32) (main_arg3 : FVec F S2x2048 .f32) : IVec S4x8192x1024 1 × IVec S2x1024 1 × IVec S2x1024x8192 1 × IVec S2x2048 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x8192 .f32 := Host.absf main_arg2
  let main_cst_1 : FVec F S_ .f32 := constant S_ .f32 0x7F800000#32
  let main_v7 : FVec F S2x1024x8192 .f32 := broadcastInDim S2x1024x8192 ![] bcast_S_S2x1024x8192 main_cst_1
  let main_v8 : IVec S2x1024x8192 1 := cmpf .olt main_v6 main_v7
  let main_v9 : FVec F S2x2048 .f32 := Host.absf main_arg3
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  (main_v2, main_v5, main_v8, main_v11)
-- ==== Pre_inputs_finite.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x2048 : Shape := ⟨2, ![2, 2048]⟩
abbrev S_ : Shape := ⟨0, ![]⟩

class Facts : Prop where
  bcast_S_S4x8192x1024 : S_.BroadcastsInDim S4x8192x1024 (![] : Fin 0 → Fin S4x8192x1024.rank)
  bcast_S_S2x1024 : S_.BroadcastsInDim S2x1024 (![] : Fin 0 → Fin S2x1024.rank)
  bcast_S_S2x1024x8192 : S_.BroadcastsInDim S2x1024x8192 (![] : Fin 0 → Fin S2x1024x8192.rank)
  bcast_S_S2x2048 : S_.BroadcastsInDim S2x2048 (![] : Fin 0 → Fin S2x2048.rank)

variable [Facts]

def fn {F : FTy → Type} [FloatOps F] (main_arg0 : FVec F S4x8192x1024 .f32) (main_arg1 : FVec F S2x1024 .f32) (main_arg2 : FVec F S2x1024x8192 .f32) (main_arg3 : FVec F S2x2048 .f32) : IVec S4x8192x1024 1 × IVec S2x1024 1 × IVec S2x1024x8192 1 × IVec S2x2048 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S2x1024x8192 .f32 := Host.absf main_arg2
  let main_cst_1 : FVec F S_ .f32 := constant S_ .f32 0x7F800000#32
  let main_v7 : FVec F S2x1024x8192 .f32 := broadcastInDim S2x1024x8192 ![] bcast_S_S2x1024x8192 main_cst_1
  let main_v8 : IVec S2x1024x8192 1 := cmpf .olt main_v6 main_v7
  let main_v9 : FVec F S2x2048 .f32 := Host.absf main_arg3
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  (main_v2, main_v5, main_v8, main_v11)
-- ==== Pre_lse_finite.lean ====
abbrev S4x8192x1024 : Shape := ⟨3, ![4, 8192, 1024]⟩
abbrev S32x16 : Shape := ⟨2, ![32, 16]⟩
abbrev S4x8192x16 : Shape := ⟨3, ![4, 8192, 16]⟩
abbrev S_ : Shape := ⟨0, ![]⟩

class Facts : Prop where
  bcast_S_S4x8192x16 : S_.BroadcastsInDim S4x8192x16 (![] : Fin 0 → Fin S4x8192x16.rank)

variable [Facts]

def fn {F : FTy → Type} [FloatOps F] (main_arg0 : FVec F S4x8192x1024 .f32) (main_arg1 : FVec F S4x8192x1024 .f32) (main_arg2 : FVec F S4x8192x1024 .f32) (main_arg3 : FVec F S32x16 .f32) (main_arg4 : FVec F S4x8192x1024 .f32) (main_arg5 : FVec F S4x8192x16 .f32) : IVec S4x8192x16 1 :=
  let main_v0 : FVec F S4x8192x16 .f32 := Host.absf main_arg5
  let main_cst : FVec F S_ .f32 := constant S_ .f32 0x7F800000#32
  let main_v1 : FVec F S4x8192x16 .f32 := broadcastInDim S4x8192x16 ![] bcast_S_S4x8192x16 main_cst
  let main_v2 : IVec S4x8192x16 1 := cmpf .olt main_v0 main_v1
  main_v2
-- ==== Attn.lean ====
abbrev S4x8192x1024 : Shape := ⟨3, ![4, 8192, 1024]⟩
abbrev S32x16 : Shape := ⟨2, ![32, 16]⟩
abbrev S4x8192x16 : Shape := ⟨3, ![4, 8192, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩
abbrev S1x1x256 : Shape := ⟨3, ![1, 1, 256]⟩
abbrev S1x16x128x256 : Shape := ⟨4, ![1, 16, 128, 256]⟩
abbrev S2x16x128x256 : Shape := ⟨4, ![2, 16, 128, 256]⟩
abbrev S4x8192x3072 : Shape := ⟨3, ![4, 8192, 3072]⟩
abbrev S4x512x16x3072 : Shape := ⟨4, ![4, 512, 16, 3072]⟩
abbrev S4x16x512x3072 : Shape := ⟨4, ![4, 16, 512, 3072]⟩
abbrev S4x512x16x1024 : Shape := ⟨4, ![4, 512, 16, 1024]⟩
abbrev S4x16x512x1024 : Shape := ⟨4, ![4, 16, 512, 1024]⟩
abbrev S4x8192x16x1 : Shape := ⟨4, ![4, 8192, 16, 1]⟩
abbrev S4x8192x16x64 : Shape := ⟨4, ![4, 8192, 16, 64]⟩
abbrev S1x1x512x3072 : Shape := ⟨4, ![1, 1, 512, 3072]⟩
abbrev S1x1x128x3072 : Shape := ⟨4, ![1, 1, 128, 3072]⟩
abbrev S1x1x512x1024 : Shape := ⟨4, ![1, 1, 512, 1024]⟩
abbrev S128x128 : Shape := ⟨2, ![128, 128]⟩
abbrev S256x128 : Shape := ⟨2, ![256, 128]⟩
abbrev S1x1x128x128 : Shape := ⟨4, ![1, 1, 128, 128]⟩
abbrev S256x256 : Shape := ⟨2, ![256, 256]⟩
abbrev S1x1x128x256 : Shape := ⟨4, ![1, 1, 128, 256]⟩
abbrev S256x1 : Shape := ⟨2, ![256, 1]⟩
abbrev S512x256 : Shape := ⟨2, ![512, 256]⟩
abbrev S128x512 : Shape := ⟨2, ![128, 512]⟩
abbrev S1x1x256x128 : Shape := ⟨4, ![1, 1, 256, 128]⟩

abbrev nBuf : Space → Nat
  | .hbm => 113
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S32x16, .f32⟩
  | .hbm, ⟨4, _⟩ => ⟨S4x8192x1024, .f32⟩
  | .hbm, ⟨5, _⟩ => ⟨S4x8192x16, .f32⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S128x256, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x16, .f32⟩
  | .hbm, ⟨28, _⟩ => ⟨S32x16, .f32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S128x256, .f32⟩
  | .hbm, ⟨39, _⟩ => ⟨S_, .f32⟩
  | .hbm, ⟨40, _⟩ => ⟨S128x256, .f32⟩
  | .hbm, ⟨41, _⟩ => ⟨S128x256, .f32⟩
  | .hbm, ⟨42, _⟩ => ⟨S128x256, .f32⟩
  | .hbm, ⟨43, _⟩ => ⟨S_, .f32⟩
  | .hbm, ⟨44, _⟩ => ⟨S128x256, .f32⟩
  | .hbm, ⟨45, _⟩ => ⟨S128x256, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .i32⟩
  | .hbm, ⟨50, _⟩ => ⟨S_, .i32⟩
  | .hbm, ⟨51, _⟩ => ⟨S128x256, .i32⟩
  | .hbm, ⟨52, _⟩ => ⟨S128x256, .i32⟩
  | .hbm, ⟨53, _⟩ => ⟨S_, .i32⟩
  | .hbm, ⟨54, _⟩ => ⟨S128x256, .i32⟩
  | .hbm, ⟨55, _⟩ => ⟨S128x256, .i32⟩
  | .hbm, ⟨56, _⟩ => ⟨S_, .i32⟩
  | .hbm, ⟨57, _⟩ => ⟨S128x256, .i32⟩
  | .hbm, ⟨58, _⟩ => ⟨S128x256, .i1⟩
  | .hbm, ⟨59, _⟩ => ⟨S128x256, .i32⟩
  | .hbm, ⟨60, _⟩ => ⟨S_, .i32⟩
  | .hbm, ⟨61, _⟩ => ⟨S128x256, .i32⟩
  | .hbm, ⟨62, _⟩ => ⟨S128x256, .i1⟩
  | .hbm, ⟨63, _⟩ => ⟨S_, .i32⟩
  | .hbm, ⟨64, _⟩ => ⟨S128x256, .i32⟩
  | .hbm, ⟨65, _⟩ => ⟨S128x256, .i32⟩
  | .hbm, ⟨66, _⟩ => ⟨S128x256, .i32⟩
  | .hbm, ⟨67, _⟩ => ⟨S128x256x1, .i32⟩
  | .hbm, ⟨68, _⟩ => ⟨S128x256x16, .f32⟩
  | .hbm, ⟨69, _⟩ => ⟨S16x128x256, .f32⟩
  | .hbm, ⟨70, _⟩ => ⟨S1x128x256, .i1⟩
  | .hbm, ⟨71, _⟩ => ⟨S_, .f32⟩
  | .hbm, ⟨72, _⟩ => ⟨S_, .f32⟩
  | .hbm, ⟨73, _⟩ => ⟨S16x128x256, .i1⟩
  | .hbm, ⟨74, _⟩ => ⟨S16x128x256, .f32⟩
  | .hbm, ⟨75, _⟩ => ⟨S16x128x256, .f32⟩
  | .hbm, ⟨76, _⟩ => ⟨S1x1x256, .i32⟩
  | .hbm, ⟨77, _⟩ => ⟨S_, .i32⟩
  | .hbm, ⟨78, _⟩ => ⟨S1x1x256, .i32⟩
  | .hbm, ⟨79, _⟩ => ⟨S1x1x256, .i1⟩
  | .hbm, ⟨80, _⟩ => ⟨S_, .f32⟩
  | .hbm, ⟨81, _⟩ => ⟨S_, .f32⟩
  | .hbm, ⟨82, _⟩ => ⟨S16x128x256, .i1⟩
  | .hbm, ⟨83, _⟩ => ⟨S16x128x256, .f32⟩
  | .hbm, ⟨84, _⟩ => ⟨S16x128x256, .f32⟩
  | .hbm, ⟨85, _⟩ => ⟨S1x16x128x256, .f32⟩
  | .hbm, ⟨86, _⟩ => ⟨S1x16x128x256, .f32⟩
  | .hbm, ⟨87, _⟩ => ⟨S2x16x128x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S4x8192x1024, .f32⟩
  | .hbm, ⟨93, _⟩ => ⟨S4x8192x1024, .f32⟩
  | .hbm, ⟨94, _⟩ => ⟨S4x8192x3072, .f32⟩
  | .hbm, ⟨95, _⟩ => ⟨S4x8192x3072, .bf16⟩
  | .hbm, ⟨96, _⟩ => ⟨S4x512x16x3072, .bf16⟩
  | .hbm, ⟨97, _⟩ => ⟨S4x16x512x3072, .bf16⟩
  | .hbm, ⟨98, _⟩ => ⟨S4x8192x1024, .bf16⟩
  | .hbm, ⟨99, _⟩ => ⟨S4x512x16x1024, .bf16⟩
  | .hbm, ⟨100, _⟩ => ⟨S4x16x512x1024, .bf16⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S4x8192x16, .f32⟩
  | .hbm, ⟨106, _⟩ => ⟨S4x8192x16, .f32⟩
  | .hbm, ⟨107, _⟩ => ⟨S4x8192x16x1, .f32⟩
  | .hbm, ⟨108, _⟩ => ⟨S4x8192x16x64, .f32⟩
  | .hbm, ⟨109, _⟩ => ⟨S4x8192x1024, .f32⟩
  | .hbm, ⟨110, _⟩ => ⟨S4x512x16x1024, .f32⟩
  | .hbm, ⟨111, _⟩ => ⟨S4x16x512x1024, .f32⟩
  | .hbm, ⟨112, _⟩ => ⟨S4x16x512x1024, .bf16⟩
  | .local _ .vmem, ⟨0, _⟩ => ⟨S1x1x512x3072, .bf16⟩
  | .local _ .vmem, ⟨1, _⟩ => ⟨S1x1x512x3072, .bf16⟩
  | .local _ .vmem, ⟨2, _⟩ => ⟨S1x1x128x3072, .bf16⟩
  | .local _ .vmem, ⟨3, _⟩ => ⟨S1x1x128x3072, .bf16⟩
  | .local _ .vmem, ⟨4, _⟩ => ⟨S2x16x128x256, .f32⟩
  | .local _ .vmem, ⟨5, _⟩ => ⟨S1x1x512x1024, .bf16⟩
  | .local _ .vmem, ⟨6, _⟩ => ⟨S1x1x512x1024, .bf16⟩
  | .local _ .vmem, ⟨7, _⟩ => ⟨S1x1x512x1024, .f32⟩
  | .local _ .vmem, ⟨8, _⟩ => ⟨S1x1x512x1024, .f32⟩
  | .local _ .vmem, ⟨9, _⟩ => ⟨S1x1x512x1024, .bf16⟩
  | .local _ .vmem, ⟨10, _⟩ => ⟨S1x1x512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_12 : Ref sig .tc := ⟨.hbm, 60, rfl⟩
abbrev main_v40 : Ref sig .tc := ⟨.hbm, 61, rfl⟩
abbrev main_v41 : Ref sig .tc := ⟨.hbm, 62, rfl⟩
abbrev main_c_13 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v49 : Ref sig .tc := ⟨.hbm, 75, rfl⟩
abbrev main_v50 : Ref sig .tc := ⟨.hbm, 76, rfl⟩
abbrev main_c_15 : Ref sig .tc := ⟨.hbm, 77, rfl⟩
abbrev main_v51 : Ref sig .tc := ⟨.hbm, 78, rfl⟩
abbrev main_v52 : Ref sig .tc := ⟨.hbm, 79, rfl⟩
abbrev main_cst_16 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_17 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_19 : Ref sig .tc := ⟨.hbm, 101, rfl⟩
abbrev main_v68 : Ref sig .tc := ⟨.hbm, 102, rfl⟩
abbrev main_cst_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 16, 1], ![false, false, false]⟩

def k0_off1 (i : grid0.Coords) : Fin 4 → Nat :=
  let arg2 : BitVec 32 := BitVec.ofNat 32 (i 2).val
  let c0_i32 : BitVec 32 := 0#32
  let v57 : BitVec 1 := Scalar.cmpi .eq arg2 c0_i32
  let v58 : BitVec 32 := Scalar.extui v57
  let v59 : Index := Scalar.indexCast v58
  let c0_47 : Index := 0#32
  let c0_48 : Index := 0#32
  let c0_49 : Index := 0#32
  ![v59.toNat, 0, 0, 0]
def k0_off2 (i : grid0.Coords) : Fin 4 → Nat :=
  let arg2 : BitVec 32 := BitVec.ofNat 32 (i 2).val
  let c0_i32 : BitVec 32 := 0#32
  let v57 : BitVec 1 := Scalar.cmpi .eq arg2 c0_i32
  let v58 : BitVec 32 := Scalar.extui v57
  let v62 : Index := Scalar.indexCast v58
  let c1 : Index := 1#32
  let c0_50 : Index := 0#32
  let c0_51 : Index := 0#32
  ![v62.toNat, 1, 0, 0]
def k0_off3 (i : grid0.Coords) : Fin 4 → Nat :=
  let arg2 : BitVec 32 := BitVec.ofNat 32 (i 2).val
  let c0_i32_53 : BitVec 32 := 0#32
  let v80 : BitVec 1 := Scalar.cmpi .eq arg2 c0_i32_53
  let v81 : BitVec 32 := Scalar.extui v80
  let v82 : Index := Scalar.indexCast v81
  let c2 : Index := 2#32
  let c0_54 : Index := 0#32
  let c0_55 : Index := 0#32
  ![v82.toNat, 2, 0, 0]
def k0_off4 (i : grid0.Coords) : Fin 4 → Nat :=
  let arg2 : BitVec 32 := BitVec.ofNat 32 (i 2).val
  let c0_i32_53 : BitVec 32 := 0#32
  let v80 : BitVec 1 := Scalar.cmpi .eq arg2 c0_i32_53
  let v81 : BitVec 32 := Scalar.extui v80
  let v85 : Index := Scalar.indexCast v81
  let c3 : Index := 3#32
  let c0_56 : Index := 0#32
  let c0_57 : Index := 0#32
  ![v85.toNat, 3, 0, 0]
def k0_off5 (i : grid0.Coords) : Fin 4 → Nat :=
  let arg2 : BitVec 32 := BitVec.ofNat 32 (i 2).val
  let c0_i32_59 : BitVec 32 := 0#32
  let v103 : BitVec 1 := Scalar.cmpi .eq arg2 c0_i32_59
  let v104 : BitVec 32 := Scalar.extui v103
  let v105 : Index := Scalar.indexCast v104
  let c4 : Index := 4#32
  let c0_60 : Index := 0#32
  let c0_61 : Index := 0#32
  ![v105.toNat, 4, 0, 0]
def k0_off6 (i : grid0.Coords) : Fin 4 → Nat :=
  let arg2 : BitVec 32 := BitVec.ofNat 32 (i 2).val
  let c0_i32_59 : BitVec 32 := 0#32
  let v103 : BitVec 1 := Scalar.cmpi .eq arg2 c0_i32_59
  let v104 : BitVec 32 := Scalar.extui v103
  let v108 : Index := Scalar.indexCast v104
  let c5 : Index := 5#32
  let c0_62 : Index := 0#32
  let c0_63 : Index := 0#32
  ![v108.toNat, 5, 0, 0]
def k0_off7 (i : grid0.Coords) : Fin 4 → Nat :=
  let arg2 : BitVec 32 := BitVec.ofNat 32 (i 2).val
  let c0_i32_65 : BitVec 32 := 0#32
  let v126 : BitVec 1 := Scalar.cmpi .eq arg2 c0_i32_65
  let v127 : BitVec 32 := Scalar.extui v126
  let v128 : Index := Scalar.indexCast v127
  let c6 : Index := 6#32
  let c0_66 : Index := 0#32
  let c0_67 : Index := 0#32
  ![v128.toNat, 6, 0, 0]
def k0_off8 (i : grid0.Coords) : Fin 4 → Nat :=
  let arg2 : BitVec 32 := BitVec.ofNat 32 (i 2).val
  let c0_i32_65 : BitVec 32 := 0#32
  let v126 : BitVec 1 := Scalar.cmpi .eq arg2 c0_i32_65
  let v127 : BitVec 32 := Scalar.extui v126
  let v131 : Index := Scalar.indexCast v127
  let c7 : Index := 7#32
  let c0_68 : Index := 0#32
  let c0_69 : Index := 0#32
  ![v131.toNat, 7, 0, 0]
def k0_off9 (i : grid0.Coords) : Fin 4 → Nat :=
  let arg2 : BitVec 32 := BitVec.ofNat 32 (i 2).val
  let c0_i32_211 : BitVec 32 := 0#32
  let v369 : BitVec 1 := Scalar.cmpi .eq arg2 c0_i32_211
  let v370 : BitVec 32 := Scalar.extui v369
  let v371 : Index := Scalar.indexCast v370
  let c8 : Index := 8#32
  let c0_212 : Index := 0#32
  let c0_213 : Index := 0#32
  ![v371.toNat, 8, 0, 0]
def k0_off10 (i : grid0.Coords) : Fin 4 → Nat :=
  let arg2 : BitVec 32 := BitVec.ofNat 32 (i 2).val
  let c0_i32_211 : BitVec 32 := 0#32
  let v369 : BitVec 1 := Scalar.cmpi .eq arg2 c0_i32_211
  let v370 : BitVec 32 := Scalar.extui v369
  let v374 : Index := Scalar.indexCast v370
  let c9 : Index := 9#32
  let c0_214 : Index := 0#32
  let c0_215 : Index := 0#32
  ![v374.toNat, 9, 0, 0]
def k0_off11 (i : grid0.Coords) : Fin 4 → Nat :=
  let arg2 : BitVec 32 := BitVec.ofNat 32 (i 2).val
  let c0_i32_217 : BitVec 32 := 0#32
  let v392 : BitVec 1 := Scalar.cmpi .eq arg2 c0_i32_217
  let v393 : BitVec 32 := Scalar.extui v392
  let v394 : Index := Scalar.indexCast v393
  let c10 : Index := 10#32
  let c0_218 : Index := 0#32
  let c0_219 : Index := 0#32
  ![v394.toNat, 10, 0, 0]
def k0_off12 (i : grid0.Coords) : Fin 4 → Nat :=
  let arg2 : BitVec 32 := BitVec.ofNat 32 (i 2).val
  let c0_i32_217 : BitVec 32 := 0#32
  let v392 : BitVec 1 := Scalar.cmpi .eq arg2 c0_i32_217
  let v393 : BitVec 32 := Scalar.extui v392
  let v397 : Index := Scalar.indexCast v393
  let c11 : Index := 11#32
  let c0_220 : Index := 0#32
  let c0_221 : Index := 0#32
  ![v397.toNat, 11, 0, 0]
def k0_off13 (i : grid0.Coords) : Fin 4 → Nat :=
  let arg2 : BitVec 32 := BitVec.ofNat 32 (i 2).val
  let c0_i32_223 : BitVec 32 := 0#32
  let v415 : BitVec 1 := Scalar.cmpi .eq arg2 c0_i32_223
  let v416 : BitVec 32 := Scalar.extui v415
  let v417 : Index := Scalar.indexCast v416
  let c12 : Index := 12#32
  let c0_224 : Index := 0#32
  let c0_225 : Index := 0#32
  ![v417.toNat, 12, 0, 0]
def k0_off14 (i : grid0.Coords) : Fin 4 → Nat :=
  let arg2 : BitVec 32 := BitVec.ofNat 32 (i 2).val
  let c0_i32_223 : BitVec 32 := 0#32
  let v415 : BitVec 1 := Scalar.cmpi .eq arg2 c0_i32_223
  let v416 : BitVec 32 := Scalar.extui v415
  let v420 : Index := Scalar.indexCast v416
  let c13 : Index := 13#32
  let c0_226 : Index := 0#32
  let c0_227 : Index := 0#32
  ![v420.toNat, 13, 0, 0]
def k0_off15 (i : grid0.Coords) : Fin 4 → Nat :=
  let arg2 : BitVec 32 := BitVec.ofNat 32 (i 2).val
  let c0_i32_229 : BitVec 32 := 0#32
  let v438 : BitVec 1 := Scalar.cmpi .eq arg2 c0_i32_229
  let v439 : BitVec 32 := Scalar.extui v438
  let v440 : Index := Scalar.indexCast v439
  let c14 : Index := 14#32
  let c0_230 : Index := 0#32
  let c0_231 : Index := 0#32
  ![v440.toNat, 14, 0, 0]
def k0_off16 (i : grid0.Coords) : Fin 4 → Nat :=
  let arg2 : BitVec 32 := BitVec.ofNat 32 (i 2).val
  let c0_i32_229 : BitVec 32 := 0#32
  let v438 : BitVec 1 := Scalar.cmpi .eq arg2 c0_i32_229
  let v439 : BitVec 32 := Scalar.extui v438
  let v443 : Index := Scalar.indexCast v439
  let c15 : Index := 15#32
  let c0_232 : Index := 0#32
  let c0_233 : Index := 0#32
  ![v443.toNat, 15, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S2x16x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S4x8192x1024 : Shape := ⟨3, ![4, 8192, 1024]⟩
abbrev S32x16 : Shape := ⟨2, ![32, 16]⟩
abbrev S4x8192x16 : Shape := ⟨3, ![4, 8192, 16]⟩
abbrev S4x512x16x16x64 : Shape := ⟨5, ![4, 512, 16, 16, 64]⟩
abbrev S4x16x16x512x64 : Shape := ⟨5, ![4, 16, 16, 512, 64]⟩
abbrev S1024x4x128x64 : Shape := ⟨4, ![1024, 4, 128, 64]⟩
abbrev S1024x3x128x64 : Shape := ⟨4, ![1024, 3, 128, 64]⟩
abbrev S_ : Shape := ⟨0, ![]⟩
abbrev S1024x4x256x64 : Shape := ⟨4, ![1024, 4, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x16x1x128x256 : Shape := ⟨5, ![1, 16, 1, 128, 256]⟩
abbrev S4x16x16x128x256 : Shape := ⟨5, ![4, 16, 16, 128, 256]⟩
abbrev S1024x1x128x256 : Shape := ⟨4, ![1024, 1, 128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S1024x4x128x256 : Shape := ⟨4, ![1024, 4, 128, 256]⟩
abbrev S1x4x128x256 : Shape := ⟨4, ![1, 4, 128, 256]⟩
abbrev S1024x4x128 : Shape := ⟨3, ![1024, 4, 128]⟩
abbrev S1024x4x128x1 : Shape := ⟨4, ![1024, 4, 128, 1]⟩
abbrev S1x1024x4x128x64 : Shape := ⟨5, ![1, 1024, 4, 128, 64]⟩
abbrev S2x1024x4x128x64 : Shape := ⟨5, ![2, 1024, 4, 128, 64]⟩
abbrev S4x512x16x16 : Shape := ⟨4, ![4, 512, 16, 16]⟩
abbrev S4x16x16x512 : Shape := ⟨4, ![4, 16, 16, 512]⟩
abbrev S1x1024x4x128 : Shape := ⟨4, ![1, 1024, 4, 128]⟩
abbrev S2x1024x4x128 : Shape := ⟨4, ![2, 1024, 4, 128]⟩
abbrev S2x1024x4x128x1 : Shape := ⟨5, ![2, 1024, 4, 128, 1]⟩
abbrev S4x16x512x16x64 : Shape := ⟨5, ![4, 16, 512, 16, 64]⟩
abbrev S4x16x512x1024 : Shape := ⟨4, ![4, 16, 512, 1024]⟩

abbrev nBuf : Space → Nat
  | .hbm => 161
  | .vmem => 0
  | .smem => 0
  | _ => 0

abbrev hbmTy0_0 (i : Nat) : BufTy := match i % 128 with
  | 0 => ⟨S4x8192x1024, .f32⟩
  | 1 => ⟨S4x8192x1024, .f32⟩
  | 2 => ⟨S4x8192x1024, .f32⟩
  | 3 => ⟨S32x16, .f32⟩
  | 4 => ⟨S4x8192x1024, .f32⟩
  | 5 => ⟨S4x8192x16, .f32⟩
  | 6 => ⟨S4x512x16x16x64, .f32⟩
  | 7 => ⟨S4x16x16x512x64, .f32⟩
  | 8 => ⟨S1024x4x128x64, .f32⟩
  | 9 => ⟨S4x512x16x16x64, .f32⟩
  | 10 => ⟨S4x16x16x512x64, .f32⟩
  | 11 => ⟨S1024x4x128x64, .f32⟩
  | 12 => ⟨S1024x3x128x64, .f32⟩
  | 13 => ⟨S_, .i32⟩
  | 14 => ⟨S_, .f32⟩
  | 15 => ⟨S1024x4x128x64, .f32⟩
  | 16 => ⟨S1024x4x256x64, .f32⟩
  | 17 => ⟨S4x512x16x16x64, .f32⟩
  | 18 => ⟨S4x16x16x512x64, .f32⟩
  | 19 => ⟨S1024x4x128x64, .f32⟩
  | 20 => ⟨S1024x3x128x64, .f32⟩
  | 21 => ⟨S_, .i32⟩
  | 22 => ⟨S_, .f32⟩
  | 23 => ⟨S1024x4x128x64, .f32⟩
  | 24 => ⟨S1024x4x256x64, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S_, .i32⟩
  | 43 => ⟨S128x256, .i32⟩
  | 44 => ⟨S128x256, .i32⟩
  | 45 => ⟨S_, .i32⟩
  | 46 => ⟨S128x256, .i32⟩
  | 47 => ⟨S128x256, .i32⟩
  | 48 => ⟨S_, .i32⟩
  | 49 => ⟨S128x256, .i32⟩
  | 50 => ⟨S128x256, .i32⟩
  | 51 => ⟨S128x256, .f32⟩
  | 52 => ⟨S_, .f32⟩
  | 53 => ⟨S128x256, .f32⟩
  | 54 => ⟨S128x256, .f32⟩
  | 55 => ⟨S128x256, .f32⟩
  | 56 => ⟨S_, .f32⟩
  | 57 => ⟨S128x256, .f32⟩
  | 58 => ⟨S128x256, .f32⟩
  | 59 => ⟨S_, .f32⟩
  | 60 => ⟨S128x256, .f32⟩
  | 61 => ⟨S128x256, .f32⟩
  | 62 => ⟨S128x256, .i32⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S128x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i32⟩
  | 79 => ⟨S128x256, .i32⟩
  | 80 => ⟨S128x256x1, .i32⟩
  | 81 => ⟨S128x256x16, .f32⟩
  | 82 => ⟨S16x128x256, .f32⟩
  | 83 => ⟨S1x16x1x128x256, .f32⟩
  | 84 => ⟨S4x16x16x128x256, .f32⟩
  | 85 => ⟨S1024x1x128x256, .f32⟩
  | 86 => ⟨S4, .i32⟩
  | 87 => ⟨S4x1x1, .i32⟩
  | 88 => ⟨S_, .i32⟩
  | 89 => ⟨S4x1x1, .i32⟩
  | 90 => ⟨S4x1x1, .i1⟩
  | 91 => ⟨S1x1x256, .i32⟩
  | 92 => ⟨S_, .i32⟩
  | 93 => ⟨S1x1x256, .i32⟩
  | 94 => ⟨S1x1x256, .i1⟩
  | 95 => ⟨S4x1x256, .i1⟩
  | 96 => ⟨S4x1x256, .i1⟩
  | 97 => ⟨S4x1x256, .i1⟩
  | 98 => ⟨S1x128x256, .i1⟩
  | 99 => ⟨S4x128x256, .i1⟩
  | 100 => ⟨S4x128x256, .i1⟩
  | 101 => ⟨S4x128x256, .i1⟩
  | 102 => ⟨S1024x4x128x256, .f32⟩
  | 103 => ⟨S1024x4x128x256, .f32⟩
  | 104 => ⟨S1024x4x128x256, .f32⟩
  | 105 => ⟨S1x4x128x256, .i1⟩
  | 106 => ⟨S_, .f32⟩
  | 107 => ⟨S_, .f32⟩
  | 108 => ⟨S1024x4x128x256, .i1⟩
  | 109 => ⟨S1024x4x128x256, .f32⟩
  | 110 => ⟨S1024x4x128x256, .f32⟩
  | 111 => ⟨S_, .f32⟩
  | 112 => ⟨S1024x4x128, .f32⟩
  | 113 => ⟨S1024x4x128x1, .f32⟩
  | 114 => ⟨S1024x4x128x256, .f32⟩
  | 115 => ⟨S1024x4x128x256, .f32⟩
  | 116 => ⟨S1024x4x128x256, .f32⟩
  | 117 => ⟨S_, .f32⟩
  | 118 => ⟨S1024x4x128, .f32⟩
  | 119 => ⟨S1024x4x128x1, .f32⟩
  | 120 => ⟨S1024x4x128x64, .f32⟩
  | 121 => ⟨S1024x4x128x64, .f32⟩
  | 122 => ⟨S1024x4x128x64, .f32⟩
  | 123 => ⟨S1024x4x128x1, .f32⟩
  | 124 => ⟨S1024x4x128x1, .f32⟩
  | 125 => ⟨S1024x4x128, .f32⟩
  | 126 => ⟨S4x512x16x16x64, .f32⟩
  | 127 => ⟨S4x16x16x512x64, .f32⟩
  | _ => ⟨S4x8192x1024, .f32⟩

abbrev hbmTy0_1 (i : Nat) : BufTy := match i % 128 with
  | 0 => ⟨S1024x4x128x64, .f32⟩
  | 1 => ⟨S1x1024x4x128x64, .f32⟩
  | 2 => ⟨S1x1024x4x128x64, .f32⟩
  | 3 => ⟨S2x1024x4x128x64, .f32⟩
  | 4 => ⟨S4x512x16x16, .f32⟩
  | 5 => ⟨S4x16x16x512, .f32⟩
  | 6 => ⟨S1024x4x128, .f32⟩
  | 7 => ⟨S1x1024x4x128, .f32⟩
  | 8 => ⟨S1x1024x4x128, .f32⟩
  | 9 => ⟨S2x1024x4x128, .f32⟩
  | 10 => ⟨S_, .f32⟩
  | 11 => ⟨S1024x4x128, .f32⟩
  | 12 => ⟨S_, .f32⟩
  | 13 => ⟨S1024x4x128, .f32⟩
  | 14 => ⟨S1024x4x128, .f32⟩
  | 15 => ⟨S1x1024x4x128, .f32⟩
  | 16 => ⟨S2x1024x4x128, .f32⟩
  | 17 => ⟨S2x1024x4x128, .f32⟩
  | 18 => ⟨S2x1024x4x128, .f32⟩
  | 19 => ⟨S_, .f32⟩
  | 20 => ⟨S1024x4x128, .f32⟩
  | 21 => ⟨S1x1024x4x128, .f32⟩
  | 22 => ⟨S2x1024x4x128, .f32⟩
  | 23 => ⟨S2x1024x4x128, .f32⟩
  | 24 => ⟨S2x1024x4x128x1, .f32⟩
  | 25 => ⟨S2x1024x4x128x64, .f32⟩
  | 26 => ⟨S2x1024x4x128x64, .f32⟩
  | 27 => ⟨S_, .f32⟩
  | 28 => ⟨S1024x4x128x64, .f32⟩
  | 29 => ⟨S4x16x16x512x64, .f32⟩
  | 30 => ⟨S4x16x512x16x64, .f32⟩
  | 31 => ⟨S4x16x512x1024, .f32⟩
  | 32 => ⟨S4x16x512x1024, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_12 : Ref sig .tc := ⟨.hbm, 73, rfl⟩
abbrev main_v51 : Ref sig .tc := ⟨.hbm, 74, rfl⟩
abbrev main_v52 : Ref sig .tc := ⟨.hbm, 75, rfl⟩
abbrev main_c_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_18 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_19 : Ref sig .tc := ⟨.hbm, 138, rfl⟩
abbrev main_v106 : Ref sig .tc := ⟨.hbm, 139, rfl⟩
abbrev main_cst_20 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_21 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_22 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩

abbrev nD : Nat := 1
abbrev τ : Topo := Topo.v7x

variable {F : FTy → Type} [FloatOps F]
-- ==== OutProj.lean ====
abbrev S4x8192x2048 : Shape := ⟨3, ![4, 8192, 2048]⟩
abbrev S2x2048x1024 : Shape := ⟨3, ![2, 2048, 1024]⟩
abbrev S4x8192x1024 : Shape := ⟨3, ![4, 8192, 1024]⟩
abbrev S32768x1024 : Shape := ⟨2, ![32768, 1024]⟩
abbrev S32768x2048 : Shape := ⟨2, ![32768, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x2048, .f32⟩
  | .hbm, ⟨1, _⟩ => ⟨S2x2048x1024, .f32⟩
  | .hbm, ⟨2, _⟩ => ⟨S4x8192x1024, .f32⟩
  | .hbm, ⟨3, _⟩ => ⟨S32768x1024, .f32⟩
  | .hbm, ⟨4, _⟩ => ⟨S4x8192x2048, .bf16⟩
  | .hbm, ⟨5, _⟩ => ⟨S32768x2048, .bf16⟩
  | .hbm, ⟨6, _⟩ => ⟨S2x2048x1024, .bf16⟩
  | .hbm, ⟨7, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutProjRefIdeal.lean ====
abbrev S4x8192x2048 : Shape := ⟨3, ![4, 8192, 2048]⟩
abbrev S2x2048x1024 : Shape := ⟨3, ![2, 2048, 1024]⟩
abbrev S4x8192x1024 : Shape := ⟨3, ![4, 8192, 1024]⟩
abbrev S1x2048x1024 : Shape := ⟨3, ![1, 2048, 1024]⟩
abbrev S2048x1024 : Shape := ⟨2, ![2048, 1024]⟩
abbrev S32768x1024 : Shape := ⟨2, ![32768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2x2048x1024, .f32⟩
  | .hbm, ⟨2, _⟩ => ⟨S4x8192x1024, .f32⟩
  | .hbm, ⟨3, _⟩ => ⟨S1x2048x1024, .f32⟩
  | .hbm, ⟨4, _⟩ => ⟨S2048x1024, .f32⟩
  | .hbm, ⟨5, _⟩ => ⟨S4x8192x1024, .f32⟩
  | .hbm, ⟨6, _⟩ => ⟨S4x8192x1024, .f32⟩
  | .hbm, ⟨7, _⟩ => ⟨S32768x1024, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x2048 : Shape := ⟨2, ![2, 2048]⟩
abbrev S256x256 : Shape := ⟨2, ![256, 256]⟩
abbrev S32768x1024 : Shape := ⟨2, ![32768, 1024]⟩
abbrev S_ : Shape := ⟨0, ![]⟩
abbrev S2048 : Shape := ⟨1, ![2048]⟩
abbrev S1x2048 : Shape := ⟨2, ![1, 2048]⟩
abbrev S1x8192 : Shape := ⟨2, ![1, 8192]⟩
abbrev S1 : Shape := ⟨1, ![1]⟩
abbrev S2 : Shape := ⟨1, ![2]⟩
abbrev S1x1024 : Shape := ⟨2, ![1, 1024]⟩
abbrev S1024 : Shape := ⟨1, ![1024]⟩
abbrev S32768x8192 : Shape := ⟨2, ![32768, 8192]⟩
abbrev S512x1024 : Shape := ⟨2, ![512, 1024]⟩
abbrev S1x1024x8192 : Shape := ⟨3, ![1, 1024, 8192]⟩
abbrev S512x8192 : Shape := ⟨2, ![512, 8192]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 61
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x8192, .f32⟩
  | .hbm, ⟨3, _⟩ => ⟨S2x2048, .f32⟩
  | .hbm, ⟨4, _⟩ => ⟨S256x256, .bf16⟩
  | .hbm, ⟨5, _⟩ => ⟨S32768x1024, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S2x2048, .f32⟩
  | .hbm, ⟨19, _⟩ => ⟨S2x2048, .f32⟩
  | .hbm, ⟨20, _⟩ => ⟨S_, .f32⟩
  | .hbm, ⟨21, _⟩ => ⟨S_, .f32⟩
  | .hbm, ⟨22, _⟩ => ⟨S2x2048, .f32⟩
  | .hbm, ⟨23, _⟩ => ⟨S1x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S1x8192, .f32⟩
  | .hbm, ⟨28, _⟩ => ⟨S1x2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x8192, .f32⟩
  | .hbm, ⟨42, _⟩ => ⟨S1x2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1x8192, .f32⟩
  | .hbm, ⟨56, _⟩ => ⟨S1x1024, .f32⟩
  | .hbm, ⟨57, _⟩ => ⟨S1024, .f32⟩
  | .hbm, ⟨58, _⟩ => ⟨S2x1024x8192, .bf16⟩
  | .hbm, ⟨59, _⟩ => ⟨S1x1024, .f32⟩
  | .hbm, ⟨60, _⟩ => ⟨S32768x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x8192, .bf16⟩
  | .local _ .vmem, ⟨4, _⟩ => ⟨S1x8192, .f32⟩
  | .local _ .vmem, ⟨5, _⟩ => ⟨S1x8192, .f32⟩
  | .local _ .vmem, ⟨6, _⟩ => ⟨S256x256, .bf16⟩
  | .local _ .vmem, ⟨7, _⟩ => ⟨S512x8192, .bf16⟩
  | .local _ .vmem, ⟨8, _⟩ => ⟨S512x8192, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjIdeal.lean ====
variable {F : FTy → Type} [FloatOps F] [Named F]
def κ : String → Option EReal := fun
  | "log2e" => some (((Real.log 2)⁻¹ : ℝ) : EReal)
  | _ => none
-- ==== InProjRefIdeal.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x2048 : Shape := ⟨2, ![2, 2048]⟩
abbrev S_ : Shape := ⟨0, ![]⟩
abbrev S2048 : Shape := ⟨1, ![2048]⟩
abbrev S1x2048 : Shape := ⟨2, ![1, 2048]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1x1024x8192 : Shape := ⟨3, ![1, 1024, 8192]⟩
abbrev S1024x8192 : Shape := ⟨2, ![1024, 8192]⟩
abbrev S4x8192x8192 : Shape := ⟨3, ![4, 8192, 8192]⟩
abbrev S4x8192x2048 : Shape := ⟨3, ![4, 8192, 2048]⟩
abbrev S1x1x2048 : Shape := ⟨3, ![1, 1, 2048]⟩
abbrev S32768x8192 : Shape := ⟨2, ![32768, 8192]⟩

abbrev nBuf : Space → Nat
  | .hbm => 112
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x8192, .f32⟩
  | .hbm, ⟨3, _⟩ => ⟨S2x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2x2048, .f32⟩
  | .hbm, ⟨23, _⟩ => ⟨S2x2048, .f32⟩
  | .hbm, ⟨24, _⟩ => ⟨S1x2048, .f32⟩
  | .hbm, ⟨25, _⟩ => ⟨S2048, .f32⟩
  | .hbm, ⟨26, _⟩ => ⟨S4x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S1x1024x8192, .f32⟩
  | .hbm, ⟨45, _⟩ => ⟨S1024x8192, .f32⟩
  | .hbm, ⟨46, _⟩ => ⟨S4x8192x8192, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S4x8192x2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S4x8192x2048, .f32⟩
  | .hbm, ⟨55, _⟩ => ⟨S_, .f32⟩
  | .hbm, ⟨56, _⟩ => ⟨S4x8192x2048, .f32⟩
  | .hbm, ⟨57, _⟩ => ⟨S4x8192x2048, .f32⟩
  | .hbm, ⟨58, _⟩ => ⟨S4x8192x2048, .f32⟩
  | .hbm, ⟨59, _⟩ => ⟨S4x8192x2048, .f32⟩
  | .hbm, ⟨60, _⟩ => ⟨S4x8192x2048, .i1⟩
  | .hbm, ⟨61, _⟩ => ⟨S4x8192x2048, .f32⟩
  | .hbm, ⟨62, _⟩ => ⟨S4x8192x2048, .f32⟩
  | .hbm, ⟨63, _⟩ => ⟨S4x8192x2048, .f32⟩
  | .hbm, ⟨64, _⟩ => ⟨S4x8192x2048, .f32⟩
  | .hbm, ⟨65, _⟩ => ⟨S4x8192x2048, .f32⟩
  | .hbm, ⟨66, _⟩ => ⟨S4x8192x2048, .f32⟩
  | .hbm, ⟨67, _⟩ => ⟨S4x8192x2048, .f32⟩
  | .hbm, ⟨68, _⟩ => ⟨S4x8192x2048, .f32⟩
  | .hbm, ⟨69, _⟩ => ⟨S4x8192x2048, .f32⟩
  | .hbm, ⟨70, _⟩ => ⟨S1x1x2048, .f32⟩
  | .hbm, ⟨71, _⟩ => ⟨S4x8192x2048, .f32⟩
  | .hbm, ⟨72, _⟩ => ⟨S4x8192x2048, .f32⟩
  | .hbm, ⟨73, _⟩ => ⟨S1x1x2048, .f32⟩
  | .hbm, ⟨74, _⟩ => ⟨S4x8192x2048, .f32⟩
  | .hbm, ⟨75, _⟩ => ⟨S4x8192x2048, .f32⟩
  | .hbm, ⟨76, _⟩ => ⟨S4x8192x2048, .f32⟩
  | .hbm, ⟨77, _⟩ => ⟨S4x8192x2048, .f32⟩
  | .hbm, ⟨78, _⟩ => ⟨S4x8192x2048, .i1⟩
  | .hbm, ⟨79, _⟩ => ⟨S4x8192x2048, .f32⟩
  | .hbm, ⟨80, _⟩ => ⟨S4x8192x2048, .f32⟩
  | .hbm, ⟨81, _⟩ => ⟨S4x8192x2048, .f32⟩
  | .hbm, ⟨82, _⟩ => ⟨S4x8192x2048, .f32⟩
  | .hbm, ⟨83, _⟩ => ⟨S4x8192x2048, .f32⟩
  | .hbm, ⟨84, _⟩ => ⟨S4x8192x2048, .f32⟩
  | .hbm, ⟨85, _⟩ => ⟨S4x8192x2048, .f32⟩
  | .hbm, ⟨86, _⟩ => ⟨S4x8192x2048, .f32⟩
  | .hbm, ⟨87, _⟩ => ⟨S4x8192x2048, .f32⟩
  | .hbm, ⟨88, _⟩ => ⟨S4x8192x2048, .f32⟩
  | .hbm, ⟨89, _⟩ => ⟨S_, .f32⟩
  | .hbm, ⟨90, _⟩ => ⟨S4x8192x2048, .f32⟩
  | .hbm, ⟨91, _⟩ => ⟨S4x8192x2048, .f32⟩
  | .hbm, ⟨92, _⟩ => ⟨S_, .f32⟩
  | .hbm, ⟨93, _⟩ => ⟨S4x8192x2048, .f32⟩
  | .hbm, ⟨94, _⟩ => ⟨S4x8192x2048, .f32⟩
  | .hbm, ⟨95, _⟩ => ⟨S4x8192x2048, .f32⟩
  | .hbm, ⟨96, _⟩ => ⟨S_, .f32⟩
  | .hbm, ⟨97, _⟩ => ⟨S_, .f32⟩
  | .hbm, ⟨98, _⟩ => ⟨S4x8192x2048, .f32⟩
  | .hbm, ⟨99, _⟩ => ⟨S4x8192x2048, .f32⟩
  | .hbm, ⟨100, _⟩ => ⟨S4x8192x2048, .f32⟩
  | .hbm, ⟨101, _⟩ => ⟨S4x8192x2048, .f32⟩
  | .hbm, ⟨102, _⟩ => ⟨S_, .f32⟩
  | .hbm, ⟨103, _⟩ => ⟨S4x8192x2048, .f32⟩
  | .hbm, ⟨104, _⟩ => ⟨S4x8192x2048, .f32⟩
  | .hbm, ⟨105, _⟩ => ⟨S_, .f32⟩
  | .hbm, ⟨106, _⟩ => ⟨S4x8192x2048, .f32⟩
  | .hbm, ⟨107, _⟩ => ⟨S4x8192x2048, .f32⟩
  | .hbm, ⟨108, _⟩ => ⟨S4x8192x2048, .f32⟩
  | .hbm, ⟨109, _⟩ => ⟨S4x8192x8192, .f32⟩
  | .hbm, ⟨110, _⟩ => ⟨S32768x8192, .f32⟩
  | .hbm, ⟨111, _⟩ => ⟨S32768x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v60 : Ref sig .tc := ⟨.hbm, 95, rfl⟩
abbrev main_cst_5 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]
-- ==== EvenProj.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x64 : Shape := ⟨2, ![2, 64]⟩
abbrev S32768x1024 : Shape := ⟨2, ![32768, 1024]⟩
abbrev S_ : Shape := ⟨0, ![]⟩
abbrev S1x8192 : Shape := ⟨2, ![1, 8192]⟩
abbrev S1x64 : Shape := ⟨2, ![1, 64]⟩
abbrev S64 : Shape := ⟨1, ![64]⟩
abbrev S16x64 : Shape := ⟨2, ![16, 64]⟩
abbrev S1024 : Shape := ⟨1, ![1024]⟩
abbrev S1 : Shape := ⟨1, ![1]⟩
abbrev S2 : Shape := ⟨1, ![2]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x6144 : Shape := ⟨2, ![32768, 6144]⟩
abbrev S4x4x2048x3072 : Shape := ⟨4, ![4, 4, 2048, 3072]⟩
abbrev S4x16x512x3072 : Shape := ⟨4, ![4, 16, 512, 3072]⟩
abbrev S256x1024 : Shape := ⟨2, ![256, 1024]⟩
abbrev S1x1024x8192 : Shape := ⟨3, ![1, 1024, 8192]⟩
abbrev S256x6144 : Shape := ⟨2, ![256, 6144]⟩
abbrev S1x4x64x3072 : Shape := ⟨4, ![1, 4, 64, 3072]⟩
abbrev S1x16x16x3072 : Shape := ⟨4, ![1, 16, 16, 3072]⟩
abbrev S1x1024x1024 : Shape := ⟨3, ![1, 1024, 1024]⟩
abbrev S1024x1024 : Shape := ⟨2, ![1024, 1024]⟩
abbrev S64x1024 : Shape := ⟨2, ![64, 1024]⟩
abbrev S1x1x64x1024 : Shape := ⟨4, ![1, 1, 64, 1024]⟩
abbrev S16x1024 : Shape := ⟨2, ![16, 1024]⟩
abbrev S1x1x16x1024 : Shape := ⟨4, ![1, 1, 16, 1024]⟩

abbrev nBuf : Space → Nat
  | .hbm => 95
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x8192, .f32⟩
  | .hbm, ⟨3, _⟩ => ⟨S2x64, .f32⟩
  | .hbm, ⟨4, _⟩ => ⟨S2x64, .f32⟩
  | .hbm, ⟨5, _⟩ => ⟨S32768x1024, .f32⟩
  | .hbm, ⟨6, _⟩ => ⟨S_, .f32⟩
  | .hbm, ⟨7, _⟩ => ⟨S1x8192, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x8192, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S16x64, .f32⟩
  | .hbm, ⟨31, _⟩ => ⟨S1024, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S1x8192, .f32⟩
  | .hbm, ⟨38, _⟩ => ⟨S1x1024, .f32⟩
  | .hbm, ⟨39, _⟩ => ⟨S1024, .f32⟩
  | .hbm, ⟨40, _⟩ => ⟨S2x1024x8192, .bf16⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256x1, .i32⟩
  | .hbm, ⟨46, _⟩ => ⟨S1x256, .i32⟩
  | .hbm, ⟨47, _⟩ => ⟨S256x256, .i32⟩
  | .hbm, ⟨48, _⟩ => ⟨S256x256, .i32⟩
  | .hbm, ⟨49, _⟩ => ⟨S256x256, .i1⟩
  | .hbm, ⟨50, _⟩ => ⟨S256x256, .f32⟩
  | .hbm, ⟨51, _⟩ => ⟨S_, .f32⟩
  | .hbm, ⟨52, _⟩ => ⟨S256x256, .f32⟩
  | .hbm, ⟨53, _⟩ => ⟨S256x256, .f32⟩
  | .hbm, ⟨54, _⟩ => ⟨S256x256, .bf16⟩
  | .hbm, ⟨55, _⟩ => ⟨S256, .i32⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i32⟩
  | .hbm, ⟨65, _⟩ => ⟨S256, .i32⟩
  | .hbm, ⟨66, _⟩ => ⟨S256x1, .i32⟩
  | .hbm, ⟨67, _⟩ => ⟨S256, .i32⟩
  | .hbm, ⟨68, _⟩ => ⟨S1x256, .i32⟩
  | .hbm, ⟨69, _⟩ => ⟨S256x256, .i32⟩
  | .hbm, ⟨70, _⟩ => ⟨S256x256, .i32⟩
  | .hbm, ⟨71, _⟩ => ⟨S256x256, .i1⟩
  | .hbm, ⟨72, _⟩ => ⟨S256x256, .bf16⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S_, .i32⟩
  | .hbm, ⟨78, _⟩ => ⟨S256, .i32⟩
  | .hbm, ⟨79, _⟩ => ⟨S256, .i32⟩
  | .hbm, ⟨80, _⟩ => ⟨S_, .i32⟩
  | .hbm, ⟨81, _⟩ => ⟨S256, .i32⟩
  | .hbm, ⟨82, _⟩ => ⟨S256, .i32⟩
  | .hbm, ⟨83, _⟩ => ⟨S256, .i32⟩
  | .hbm, ⟨84, _⟩ => ⟨S256x1, .i32⟩
  | .hbm, ⟨85, _⟩ => ⟨S256, .i32⟩
  | .hbm, ⟨86, _⟩ => ⟨S1x256, .i32⟩
  | .hbm, ⟨87, _⟩ => ⟨S256x256, .i32⟩
  | .hbm, ⟨88, _⟩ => ⟨S256x256, .i32⟩
  | .hbm, ⟨89, _⟩ => ⟨S256x256, .i1⟩
  | .hbm, ⟨90, _⟩ => ⟨S256x256, .bf16⟩
  | .hbm, ⟨91, _⟩ => ⟨S1x1024, .f32⟩
  | .hbm, ⟨92, _⟩ => ⟨S32768x6144, .bf16⟩
  | .hbm, ⟨93, _⟩ => ⟨S4x4x2048x3072, .bf16⟩
  | .hbm, ⟨94, _⟩ => ⟨S4x16x512x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x8192, .bf16⟩
  | .local _ .vmem, ⟨4, _⟩ => ⟨S1x8192, .f32⟩
  | .local _ .vmem, ⟨5, _⟩ => ⟨S1x8192, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x6144, .bf16⟩
  | .local _ .vmem, ⟨10, _⟩ => ⟨S256x6144, .bf16⟩
  | .local _ .vmem, ⟨11, _⟩ => ⟨S1x4x64x3072, .bf16⟩
  | .local _ .vmem, ⟨12, _⟩ => ⟨S1x4x64x3072, .bf16⟩
  | .local _ .vmem, ⟨13, _⟩ => ⟨S1x16x16x3072, .bf16⟩
  | .local _ .vmem, ⟨14, _⟩ => ⟨S1x16x16x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_11 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71_0 : Ref sig .tc := ⟨.hbm, 92, rfl⟩
abbrev main_v71_1 : Ref sig .tc := ⟨.hbm, 93, rfl⟩
abbrev main_v71_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x64x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x16x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== EvenProjRefIdeal.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x8192 : Shape := ⟨3, ![1, 1024, 8192]⟩
abbrev S1024x8192 : Shape := ⟨2, ![1024, 8192]⟩
abbrev S4x8192x8192 : Shape := ⟨3, ![4, 8192, 8192]⟩
abbrev S4x8192x2048 : Shape := ⟨3, ![4, 8192, 2048]⟩
abbrev S1x64 : Shape := ⟨2, ![1, 64]⟩
abbrev S64 : Shape := ⟨1, ![64]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x6144 : Shape := ⟨3, ![4, 8192, 6144]⟩
abbrev S32768x6144 : Shape := ⟨2, ![32768, 6144]⟩

abbrev nBuf : Space → Nat
  | .hbm => 96
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x8192, .f32⟩
  | .hbm, ⟨3, _⟩ => ⟨S2x64, .f32⟩
  | .hbm, ⟨4, _⟩ => ⟨S2x64, .f32⟩
  | .hbm, ⟨5, _⟩ => ⟨S1x1024, .f32⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1x1024x8192, .f32⟩
  | .hbm, ⟨24, _⟩ => ⟨S1024x8192, .f32⟩
  | .hbm, ⟨25, _⟩ => ⟨S4x8192x8192, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x2048, .f32⟩
  | .hbm, ⟨33, _⟩ => ⟨S4x8192x1024, .f32⟩
  | .hbm, ⟨34, _⟩ => ⟨S1x64, .f32⟩
  | .hbm, ⟨35, _⟩ => ⟨S64, .f32⟩
  | .hbm, ⟨36, _⟩ => ⟨S4x8192x16x64, .f32⟩
  | .hbm, ⟨37, _⟩ => ⟨S4x8192x16x64, .f32⟩
  | .hbm, ⟨38, _⟩ => ⟨S_, .f32⟩
  | .hbm, ⟨39, _⟩ => ⟨S4x8192x16, .f32⟩
  | .hbm, ⟨40, _⟩ => ⟨S4x8192x16x1, .f32⟩
  | .hbm, ⟨41, _⟩ => ⟨S_, .f32⟩
  | .hbm, ⟨42, _⟩ => ⟨S4x8192x16x1, .f32⟩
  | .hbm, ⟨43, _⟩ => ⟨S4x8192x16x1, .f32⟩
  | .hbm, ⟨44, _⟩ => ⟨S_, .f32⟩
  | .hbm, ⟨45, _⟩ => ⟨S4x8192x16x1, .f32⟩
  | .hbm, ⟨46, _⟩ => ⟨S4x8192x16x1, .f32⟩
  | .hbm, ⟨47, _⟩ => ⟨S4x8192x16x1, .f32⟩
  | .hbm, ⟨48, _⟩ => ⟨S4x8192x16x64, .f32⟩
  | .hbm, ⟨49, _⟩ => ⟨S4x8192x16x64, .f32⟩
  | .hbm, ⟨50, _⟩ => ⟨S1x1x1x64, .f32⟩
  | .hbm, ⟨51, _⟩ => ⟨S4x8192x16x64, .f32⟩
  | .hbm, ⟨52, _⟩ => ⟨S4x8192x16x64, .f32⟩
  | .hbm, ⟨53, _⟩ => ⟨S4x8192x1024, .f32⟩
  | .hbm, ⟨54, _⟩ => ⟨S_, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S_, .f32⟩
  | .hbm, ⟨59, _⟩ => ⟨S4x8192x1024, .f32⟩
  | .hbm, ⟨60, _⟩ => ⟨S4x8192x1024, .f32⟩
  | .hbm, ⟨61, _⟩ => ⟨S1x64, .f32⟩
  | .hbm, ⟨62, _⟩ => ⟨S64, .f32⟩
  | .hbm, ⟨63, _⟩ => ⟨S4x8192x16x64, .f32⟩
  | .hbm, ⟨64, _⟩ => ⟨S4x8192x16x64, .f32⟩
  | .hbm, ⟨65, _⟩ => ⟨S_, .f32⟩
  | .hbm, ⟨66, _⟩ => ⟨S4x8192x16, .f32⟩
  | .hbm, ⟨67, _⟩ => ⟨S4x8192x16x1, .f32⟩
  | .hbm, ⟨68, _⟩ => ⟨S_, .f32⟩
  | .hbm, ⟨69, _⟩ => ⟨S4x8192x16x1, .f32⟩
  | .hbm, ⟨70, _⟩ => ⟨S4x8192x16x1, .f32⟩
  | .hbm, ⟨71, _⟩ => ⟨S_, .f32⟩
  | .hbm, ⟨72, _⟩ => ⟨S4x8192x16x1, .f32⟩
  | .hbm, ⟨73, _⟩ => ⟨S4x8192x16x1, .f32⟩
  | .hbm, ⟨74, _⟩ => ⟨S4x8192x16x1, .f32⟩
  | .hbm, ⟨75, _⟩ => ⟨S4x8192x16x64, .f32⟩
  | .hbm, ⟨76, _⟩ => ⟨S4x8192x16x64, .f32⟩
  | .hbm, ⟨77, _⟩ => ⟨S1x1x1x64, .f32⟩
  | .hbm, ⟨78, _⟩ => ⟨S4x8192x16x64, .f32⟩
  | .hbm, ⟨79, _⟩ => ⟨S4x8192x16x64, .f32⟩
  | .hbm, ⟨80, _⟩ => ⟨S4x8192x1024, .f32⟩
  | .hbm, ⟨81, _⟩ => ⟨S4x8192x2048, .f32⟩
  | .hbm, ⟨82, _⟩ => ⟨S4x8192x2048, .f32⟩
  | .hbm, ⟨83, _⟩ => ⟨S_, .f32⟩
  | .hbm, ⟨84, _⟩ => ⟨S4x8192x2048, .f32⟩
  | .hbm, ⟨85, _⟩ => ⟨S4x8192x2048, .f32⟩
  | .hbm, ⟨86, _⟩ => ⟨S_, .f32⟩
  | .hbm, ⟨87, _⟩ => ⟨S4x8192x2048, .f32⟩
  | .hbm, ⟨88, _⟩ => ⟨S4x8192x2048, .f32⟩
  | .hbm, ⟨89, _⟩ => ⟨S4x8192x2048, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x6144, .f32⟩
  | .hbm, ⟨94, _⟩ => ⟨S32768x6144, .f32⟩
  | .hbm, ⟨95, _⟩ => ⟨S32768x6144, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== EvenOut.lean ====
abbrev S32768x6144 : Shape := ⟨2, ![32768, 6144]⟩
abbrev S4x16x512x1024 : Shape := ⟨4, ![4, 16, 512, 1024]⟩
abbrev S2x3x1024 : Shape := ⟨3, ![2, 3, 1024]⟩
abbrev S2x2048x1024 : Shape := ⟨3, ![2, 2048, 1024]⟩
abbrev S4x8192x1024 : Shape := ⟨3, ![4, 8192, 1024]⟩
abbrev S32768x1024 : Shape := ⟨2, ![32768, 1024]⟩
abbrev S1x3x1024 : Shape := ⟨3, ![1, 3, 1024]⟩
abbrev S3x1024 : Shape := ⟨2, ![3, 1024]⟩
abbrev S512x1024 : Shape := ⟨2, ![512, 1024]⟩
abbrev S1x16x32x1024 : Shape := ⟨4, ![1, 16, 32, 1024]⟩
abbrev S8x1024 : Shape := ⟨2, ![8, 1024]⟩
abbrev S1x2048x1024 : Shape := ⟨3, ![1, 2048, 1024]⟩
abbrev S8x512x128 : Shape := ⟨3, ![8, 512, 128]⟩
abbrev S1x1x32x128 : Shape := ⟨4, ![1, 1, 32, 128]⟩
abbrev S32x128 : Shape := ⟨2, ![32, 128]⟩
abbrev S1x32x128 : Shape := ⟨3, ![1, 32, 128]⟩
abbrev S1x512x128 : Shape := ⟨3, ![1, 512, 128]⟩
abbrev S512x128 : Shape := ⟨2, ![512, 128]⟩
abbrev S512x256 : Shape := ⟨2, ![512, 256]⟩
abbrev S1x256x1024 : Shape := ⟨3, ![1, 256, 1024]⟩
abbrev S256x1024 : Shape := ⟨2, ![256, 1024]⟩
abbrev S8x256 : Shape := ⟨2, ![8, 256]⟩
abbrev S504x256 : Shape := ⟨2, ![504, 256]⟩
abbrev S1x256 : Shape := ⟨2, ![1, 256]⟩

abbrev nBuf : Space → Nat
  | .hbm => 12
  | .vmem => 17
  | .smem => 0
  | _ => 0

abbrev bufTy : (tb : Table) → Fin (tcTables nBuf tb) → BufTy
  | .hbm, ⟨0, _⟩ => ⟨S32768x6144, .f32⟩
  | .hbm, ⟨1, _⟩ => ⟨S4x16x512x1024, .f32⟩
  | .hbm, ⟨2, _⟩ => ⟨S2x3x1024, .f32⟩
  | .hbm, ⟨3, _⟩ => ⟨S2x2048x1024, .f32⟩
  | .hbm, ⟨4, _⟩ => ⟨S4x8192x1024, .f32⟩
  | .hbm, ⟨5, _⟩ => ⟨S32768x1024, .f32⟩
  | .hbm, ⟨6, _⟩ => ⟨S32768x6144, .bf16⟩
  | .hbm, ⟨7, _⟩ => ⟨S4x16x512x1024, .bf16⟩
  | .hbm, ⟨8, _⟩ => ⟨S1x3x1024, .f32⟩
  | .hbm, ⟨9, _⟩ => ⟨S3x1024, .f32⟩
  | .hbm, ⟨10, _⟩ => ⟨S2x2048x1024, .bf16⟩
  | .hbm, ⟨11, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x16x32x1024, .bf16⟩
  | .local _ .vmem, ⟨7, _⟩ => ⟨S1x16x32x1024, .bf16⟩
  | .local _ .vmem, ⟨8, _⟩ => ⟨S8x1024, .bf16⟩
  | .local _ .vmem, ⟨9, _⟩ => ⟨S8x1024, .bf16⟩
  | .local _ .vmem, ⟨10, _⟩ => ⟨S3x1024, .f32⟩
  | .local _ .vmem, ⟨11, _⟩ => ⟨S1x2048x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x512x128, .f32⟩
  | _, _ => ⟨S32768x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenOutRefIdeal.lean ====
abbrev S32768x6144 : Shape := ⟨2, ![32768, 6144]⟩
abbrev S4x16x512x1024 : Shape := ⟨4, ![4, 16, 512, 1024]⟩
abbrev S2x3x1024 : Shape := ⟨3, ![2, 3, 1024]⟩
abbrev S2x2048x1024 : Shape := ⟨3, ![2, 2048, 1024]⟩
abbrev S4x8192x1024 : Shape := ⟨3, ![4, 8192, 1024]⟩
abbrev S4x8192x6144 : Shape := ⟨3, ![4, 8192, 6144]⟩
abbrev S4x8192x3072 : Shape := ⟨3, ![4, 8192, 3072]⟩
abbrev S_ : Shape := ⟨0, ![]⟩
abbrev S4x8194x1024 : Shape := ⟨3, ![4, 8194, 1024]⟩
abbrev S1x1x1024 : Shape := ⟨3, ![1, 1, 1024]⟩
abbrev S1024 : Shape := ⟨1, ![1024]⟩
abbrev S4x512x16x1024 : Shape := ⟨4, ![4, 512, 16, 1024]⟩
abbrev S4x8192x2048 : Shape := ⟨3, ![4, 8192, 2048]⟩
abbrev S1x2048x1024 : Shape := ⟨3, ![1, 2048, 1024]⟩
abbrev S2048x1024 : Shape := ⟨2, ![2048, 1024]⟩
abbrev S32768x1024 : Shape := ⟨2, ![32768, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x6144, .f32⟩
  | .hbm, ⟨1, _⟩ => ⟨S4x16x512x1024, .f32⟩
  | .hbm, ⟨2, _⟩ => ⟨S2x3x1024, .f32⟩
  | .hbm, ⟨3, _⟩ => ⟨S2x2048x1024, .f32⟩
  | .hbm, ⟨4, _⟩ => ⟨S4x8192x1024, .f32⟩
  | .hbm, ⟨5, _⟩ => ⟨S4x8192x6144, .f32⟩
  | .hbm, ⟨6, _⟩ => ⟨S4x8192x3072, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S_, .i32⟩
  | .hbm, ⟨11, _⟩ => ⟨S_, .f32⟩
  | .hbm, ⟨12, _⟩ => ⟨S4x8194x1024, .f32⟩
  | .hbm, ⟨13, _⟩ => ⟨S1x1x1024, .f32⟩
  | .hbm, ⟨14, _⟩ => ⟨S1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x512x16x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x2048, .f32⟩
  | .hbm, ⟨37, _⟩ => ⟨S1x2048x1024, .f32⟩
  | .hbm, ⟨38, _⟩ => ⟨S2048x1024, .f32⟩
  | .hbm, ⟨39, _⟩ => ⟨S4x8192x1024, .f32⟩
  | .hbm, ⟨40, _⟩ => ⟨S4x8192x1024, .f32⟩
  | .hbm, ⟨41, _⟩ => ⟨S32768x1024, .f32⟩
  | _, _ => ⟨S32768x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩

abbrev nD : Nat := 1
abbrev τ : Topo := Topo.v7x

variable {F : FTy → Type} [FloatOps F]
-- ==== FirstProj.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x2048 : Shape := ⟨2, ![2, 2048]⟩
abbrev S256x256 : Shape := ⟨2, ![256, 256]⟩
abbrev S32768x1024 : Shape := ⟨2, ![32768, 1024]⟩
abbrev S_ : Shape := ⟨0, ![]⟩
abbrev S2048 : Shape := ⟨1, ![2048]⟩
abbrev S1x2048 : Shape := ⟨2, ![1, 2048]⟩
abbrev S1x8192 : Shape := ⟨2, ![1, 8192]⟩
abbrev S1 : Shape := ⟨1, ![1]⟩
abbrev S2 : Shape := ⟨1, ![2]⟩
abbrev S1x1024 : Shape := ⟨2, ![1, 1024]⟩
abbrev S1024 : Shape := ⟨1, ![1024]⟩
abbrev S32768x8192 : Shape := ⟨2, ![32768, 8192]⟩
abbrev S512x1024 : Shape := ⟨2, ![512, 1024]⟩
abbrev S1x1024x8192 : Shape := ⟨3, ![1, 1024, 8192]⟩
abbrev S512x8192 : Shape := ⟨2, ![512, 8192]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 61
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x8192, .f32⟩
  | .hbm, ⟨3, _⟩ => ⟨S2x2048, .f32⟩
  | .hbm, ⟨4, _⟩ => ⟨S256x256, .bf16⟩
  | .hbm, ⟨5, _⟩ => ⟨S32768x1024, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2048, .f32⟩
  | .hbm, ⟨17, _⟩ => ⟨S1x2048, .f32⟩
  | .hbm, ⟨18, _⟩ => ⟨S2x2048, .f32⟩
  | .hbm, ⟨19, _⟩ => ⟨S2x2048, .f32⟩
  | .hbm, ⟨20, _⟩ => ⟨S_, .f32⟩
  | .hbm, ⟨21, _⟩ => ⟨S_, .f32⟩
  | .hbm, ⟨22, _⟩ => ⟨S2x2048, .f32⟩
  | .hbm, ⟨23, _⟩ => ⟨S1x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S1x8192, .f32⟩
  | .hbm, ⟨28, _⟩ => ⟨S1x2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x8192, .f32⟩
  | .hbm, ⟨42, _⟩ => ⟨S1x2048, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1x8192, .f32⟩
  | .hbm, ⟨56, _⟩ => ⟨S1x1024, .f32⟩
  | .hbm, ⟨57, _⟩ => ⟨S1024, .f32⟩
  | .hbm, ⟨58, _⟩ => ⟨S2x1024x8192, .bf16⟩
  | .hbm, ⟨59, _⟩ => ⟨S1x1024, .f32⟩
  | .hbm, ⟨60, _⟩ => ⟨S32768x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x8192, .bf16⟩
  | .local _ .vmem, ⟨4, _⟩ => ⟨S1x8192, .f32⟩
  | .local _ .vmem, ⟨5, _⟩ => ⟨S1x8192, .f32⟩
  | .local _ .vmem, ⟨6, _⟩ => ⟨S256x256, .bf16⟩
  | .local _ .vmem, ⟨7, _⟩ => ⟨S512x8192, .bf16⟩
  | .local _ .vmem, ⟨8, _⟩ => ⟨S512x8192, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_c_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FirstProjIdeal.lean ====
variable {F : FTy → Type} [FloatOps F] [Named F]
def κ : String → Option EReal := fun
  | "log2e" => some (((Real.log 2)⁻¹ : ℝ) : EReal)
  | _ => none
-- ==== FirstProjRefIdeal.lean ====
abbrev S4x8192x1024 : Shape := ⟨3, ![4, 8192, 1024]⟩
abbrev S2x1024 : Shape := ⟨2, ![2, 1024]⟩
abbrev S2x1024x8192 : Shape := ⟨3, ![2, 1024, 8192]⟩
abbrev S2x2048 : Shape := ⟨2, ![2, 2048]⟩
abbrev S_ : Shape := ⟨0, ![]⟩
abbrev S2048 : Shape := ⟨1, ![2048]⟩
abbrev S1x2048 : Shape := ⟨2, ![1, 2048]⟩
abbrev S4x8192 : Shape := ⟨2, ![4, 8192]⟩
abbrev S4x8192x1 : Shape := ⟨3, ![4, 8192, 1]⟩
abbrev S1x1024 : Shape := ⟨2, ![1, 1024]⟩
abbrev S1024 : Shape := ⟨1, ![1024]⟩
abbrev S1x1x1024 : Shape := ⟨3, ![1, 1, 1024]⟩
abbrev S1x1024x8192 : Shape := ⟨3, ![1, 1024, 8192]⟩
abbrev S1024x8192 : Shape := ⟨2, ![1024, 8192]⟩
abbrev S4x8192x8192 : Shape := ⟨3, ![4, 8192, 8192]⟩
abbrev S4x8192x2048 : Shape := ⟨3, ![4, 8192, 2048]⟩
abbrev S1x1x2048 : Shape := ⟨3, ![1, 1, 2048]⟩
abbrev S32768x8192 : Shape := ⟨2, ![32768, 8192]⟩

abbrev nBuf : Space → Nat
  | .hbm => 112
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x1024, .f32⟩
  | .hbm, ⟨2, _⟩ => ⟨S2x1024x8192, .f32⟩
  | .hbm, ⟨3, _⟩ => ⟨S2x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S_, .f32⟩
  | .hbm, ⟨20, _⟩ => ⟨S2x2048, .f32⟩
  | .hbm, ⟨21, _⟩ => ⟨S1x2048, .f32⟩
  | .hbm, ⟨22, _⟩ => ⟨S2x2048, .f32⟩
  | .hbm, ⟨23, _⟩ => ⟨S2x2048, .f32⟩
  | .hbm, ⟨24, _⟩ => ⟨S1x2048, .f32⟩
  | .hbm, ⟨25, _⟩ => ⟨S2048, .f32⟩
  | .hbm, ⟨26, _⟩ => ⟨S4x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S1x1024, .f32⟩
  | .hbm, ⟨40, _⟩ => ⟨S1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S1x1024x8192, .f32⟩
  | .hbm, ⟨45, _⟩ => ⟨S1024x8192, .f32⟩
  | .hbm, ⟨46, _⟩ => ⟨S4x8192x8192, .f32⟩
  | .hbm, ⟨47, _⟩ => ⟨S4x8192x2048, .f32⟩
  | .hbm, ⟨48, _⟩ => ⟨S4x8192x2048, .f32⟩
  | .hbm, ⟨49, _⟩ => ⟨S4x8192x2048, .f32⟩
  | .hbm, ⟨50, _⟩ => ⟨S4x8192x2048, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S4x8192x2048, .f32⟩
  | .hbm, ⟨55, _⟩ => ⟨S_, .f32⟩
  | .hbm, ⟨56, _⟩ => ⟨S4x8192x2048, .f32⟩
  | .hbm, ⟨57, _⟩ => ⟨S4x8192x2048, .f32⟩
  | .hbm, ⟨58, _⟩ => ⟨S4x8192x2048, .f32⟩
  | .hbm, ⟨59, _⟩ => ⟨S4x8192x2048, .f32⟩
  | .hbm, ⟨60, _⟩ => ⟨S4x8192x2048, .i1⟩
  | .hbm, ⟨61, _⟩ => ⟨S4x8192x2048, .f32⟩
  | .hbm, ⟨62, _⟩ => ⟨S4x8192x2048, .f32⟩
  | .hbm, ⟨63, _⟩ => ⟨S4x8192x2048, .f32⟩
  | .hbm, ⟨64, _⟩ => ⟨S4x8192x2048, .f32⟩
  | .hbm, ⟨65, _⟩ => ⟨S4x8192x2048, .f32⟩
  | .hbm, ⟨66, _⟩ => ⟨S4x8192x2048, .f32⟩
  | .hbm, ⟨67, _⟩ => ⟨S4x8192x2048, .f32⟩
  | .hbm, ⟨68, _⟩ => ⟨S4x8192x2048, .f32⟩
  | .hbm, ⟨69, _⟩ => ⟨S4x8192x2048, .f32⟩
  | .hbm, ⟨70, _⟩ => ⟨S1x1x2048, .f32⟩
  | .hbm, ⟨71, _⟩ => ⟨S4x8192x2048, .f32⟩
  | .hbm, ⟨72, _⟩ => ⟨S4x8192x2048, .f32⟩
  | .hbm, ⟨73, _⟩ => ⟨S1x1x2048, .f32⟩
  | .hbm, ⟨74, _⟩ => ⟨S4x8192x2048, .f32⟩
  | .hbm, ⟨75, _⟩ => ⟨S4x8192x2048, .f32⟩
  | .hbm, ⟨76, _⟩ => ⟨S4x8192x2048, .f32⟩
  | .hbm, ⟨77, _⟩ => ⟨S4x8192x2048, .f32⟩
  | .hbm, ⟨78, _⟩ => ⟨S4x8192x2048, .i1⟩
  | .hbm, ⟨79, _⟩ => ⟨S4x8192x2048, .f32⟩
  | .hbm, ⟨80, _⟩ => ⟨S4x8192x2048, .f32⟩
  | .hbm, ⟨81, _⟩ => ⟨S4x8192x2048, .f32⟩
  | .hbm, ⟨82, _⟩ => ⟨S4x8192x2048, .f32⟩
  | .hbm, ⟨83, _⟩ => ⟨S4x8192x2048, .f32⟩
  | .hbm, ⟨84, _⟩ => ⟨S4x8192x2048, .f32⟩
  | .hbm, ⟨85, _⟩ => ⟨S4x8192x2048, .f32⟩
  | .hbm, ⟨86, _⟩ => ⟨S4x8192x2048, .f32⟩
  | .hbm, ⟨87, _⟩ => ⟨S4x8192x2048, .f32⟩
  | .hbm, ⟨88, _⟩ => ⟨S4x8192x2048, .f32⟩
  | .hbm, ⟨89, _⟩ => ⟨S_, .f32⟩
  | .hbm, ⟨90, _⟩ => ⟨S4x8192x2048, .f32⟩
  | .hbm, ⟨91, _⟩ => ⟨S4x8192x2048, .f32⟩
  | .hbm, ⟨92, _⟩ => ⟨S_, .f32⟩
  | .hbm, ⟨93, _⟩ => ⟨S4x8192x2048, .f32⟩
  | .hbm, ⟨94, _⟩ => ⟨S4x8192x2048, .f32⟩
  | .hbm, ⟨95, _⟩ => ⟨S4x8192x2048, .f32⟩
  | .hbm, ⟨96, _⟩ => ⟨S_, .f32⟩
  | .hbm, ⟨97, _⟩ => ⟨S_, .f32⟩
  | .hbm, ⟨98, _⟩ => ⟨S4x8192x2048, .f32⟩
  | .hbm, ⟨99, _⟩ => ⟨S4x8192x2048, .f32⟩
  | .hbm, ⟨100, _⟩ => ⟨S4x8192x2048, .f32⟩
  | .hbm, ⟨101, _⟩ => ⟨S4x8192x2048, .f32⟩
  | .hbm, ⟨102, _⟩ => ⟨S_, .f32⟩
  | .hbm, ⟨103, _⟩ => ⟨S4x8192x2048, .f32⟩
  | .hbm, ⟨104, _⟩ => ⟨S4x8192x2048, .f32⟩
  | .hbm, ⟨105, _⟩ => ⟨S_, .f32⟩
  | .hbm, ⟨106, _⟩ => ⟨S4x8192x2048, .f32⟩
  | .hbm, ⟨107, _⟩ => ⟨S4x8192x2048, .f32⟩
  | .hbm, ⟨108, _⟩ => ⟨S4x8192x2048, .f32⟩
  | .hbm, ⟨109, _⟩ => ⟨S4x8192x8192, .f32⟩
  | .hbm, ⟨110, _⟩ => ⟨S32768x8192, .f32⟩
  | .hbm, ⟨111, _⟩ => ⟨S32768x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_call1_v0 : Ref sig .tc := ⟨.hbm, 54, rfl⟩
abbrev main_call1_call0_cst : Ref sig .tc := ⟨.hbm, 55, rfl⟩
abbrev main_call1_call0_v0 : Ref sig .tc := ⟨.hbm, 56, rfl⟩
abbrev main_call1_call0_v1 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_v8 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_v1 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v60 : Ref sig .tc := ⟨.hbm, 95, rfl⟩
abbrev main_cst_5 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_call3_v0 : Ref sig .tc := ⟨.hbm, 100, rfl⟩
abbrev main_call3_v1 : Ref sig .tc := ⟨.hbm, 101, rfl⟩
abbrev main_call3_cst : Ref sig .tc := ⟨.hbm, 102, rfl⟩
abbrev main_call3_v2 : Ref sig .tc := ⟨.hbm, 103, rfl⟩
abbrev main_call3_v3 : Ref sig .tc := ⟨.hbm, 104, rfl⟩
abbrev main_call3_cst_0 : Ref sig .tc := ⟨.hbm, 105, rfl⟩
abbrev main_call3_v4 : Ref sig .tc := ⟨.hbm, 106, rfl⟩
abbrev main_call3_v5 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]
-- ==== NearAttn.lean ====
abbrev S4x8192x1024 : Shape := ⟨3, ![4, 8192, 1024]⟩
abbrev S4x8192x3072 : Shape := ⟨3, ![4, 8192, 3072]⟩
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x128x256 : Shape := ⟨3, ![1, 128, 256]⟩
abbrev S1x1x256 : Shape := ⟨3, ![1, 1, 256]⟩
abbrev S1x16x128x256 : Shape := ⟨4, ![1, 16, 128, 256]⟩
abbrev S2x16x128x256 : Shape := ⟨4, ![2, 16, 128, 256]⟩
abbrev S4x8192x6144 : Shape := ⟨3, ![4, 8192, 6144]⟩
abbrev S32768x6144 : Shape := ⟨2, ![32768, 6144]⟩
abbrev S4x4x1x2048x1024 : Shape := ⟨5, ![4, 4, 1, 2048, 1024]⟩
abbrev S1x512x3072 : Shape := ⟨3, ![1, 512, 3072]⟩
abbrev S1x128x3072 : Shape := ⟨3, ![1, 128, 3072]⟩
abbrev S1x4x1x128x1024 : Shape := ⟨5, ![1, 4, 1, 128, 1024]⟩
abbrev S4x128x128 : Shape := ⟨3, ![4, 128, 128]⟩
abbrev S128x128 : Shape := ⟨2, ![128, 128]⟩
abbrev S256x128 : Shape := ⟨2, ![256, 128]⟩
abbrev S1x128x128 : Shape := ⟨3, ![1, 128, 128]⟩
abbrev S256x256 : Shape := ⟨2, ![256, 256]⟩
abbrev S1x1x128x256 : Shape := ⟨4, ![1, 1, 128, 256]⟩
abbrev S256x1 : Shape := ⟨2, ![256, 1]⟩
abbrev S512x256 : Shape := ⟨2, ![512, 256]⟩
abbrev S128x512 : Shape := ⟨2, ![128, 512]⟩
abbrev S1x32x128 : Shape := ⟨3, ![1, 32, 128]⟩
abbrev S32x128 : Shape := ⟨2, ![32, 128]⟩
abbrev S1x1x1x32x128 : Shape := ⟨5, ![1, 1, 1, 32, 128]⟩
abbrev S1x256x128 : Shape := ⟨3, ![1, 256, 128]⟩

abbrev nBuf : Space → Nat
  | .hbm => 99
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x3072, .f32⟩
  | .hbm, ⟨4, _⟩ => ⟨S32x16, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S_, .i32⟩
  | .hbm, ⟨19, _⟩ => ⟨S128x256, .i32⟩
  | .hbm, ⟨20, _⟩ => ⟨S128x256, .i1⟩
  | .hbm, ⟨21, _⟩ => ⟨S128x256, .i1⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32x16, .f32⟩
  | .hbm, ⟨27, _⟩ => ⟨S32x16, .f32⟩
  | .hbm, ⟨28, _⟩ => ⟨S_, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S_, .f32⟩
  | .hbm, ⟨46, _⟩ => ⟨S128x256, .f32⟩
  | .hbm, ⟨47, _⟩ => ⟨S128x256, .f32⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i32⟩
  | .hbm, ⟨52, _⟩ => ⟨S_, .i32⟩
  | .hbm, ⟨53, _⟩ => ⟨S128x256, .i32⟩
  | .hbm, ⟨54, _⟩ => ⟨S128x256, .i32⟩
  | .hbm, ⟨55, _⟩ => ⟨S_, .i32⟩
  | .hbm, ⟨56, _⟩ => ⟨S128x256, .i32⟩
  | .hbm, ⟨57, _⟩ => ⟨S128x256, .i1⟩
  | .hbm, ⟨58, _⟩ => ⟨S128x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .i32⟩
  | .hbm, ⟨63, _⟩ => ⟨S128x256, .i32⟩
  | .hbm, ⟨64, _⟩ => ⟨S128x256, .i32⟩
  | .hbm, ⟨65, _⟩ => ⟨S128x256, .i32⟩
  | .hbm, ⟨66, _⟩ => ⟨S128x256x1, .i32⟩
  | .hbm, ⟨67, _⟩ => ⟨S128x256x16, .f32⟩
  | .hbm, ⟨68, _⟩ => ⟨S16x128x256, .f32⟩
  | .hbm, ⟨69, _⟩ => ⟨S1x128x256, .i1⟩
  | .hbm, ⟨70, _⟩ => ⟨S_, .f32⟩
  | .hbm, ⟨71, _⟩ => ⟨S_, .f32⟩
  | .hbm, ⟨72, _⟩ => ⟨S16x128x256, .i1⟩
  | .hbm, ⟨73, _⟩ => ⟨S16x128x256, .f32⟩
  | .hbm, ⟨74, _⟩ => ⟨S16x128x256, .f32⟩
  | .hbm, ⟨75, _⟩ => ⟨S1x1x256, .i32⟩
  | .hbm, ⟨76, _⟩ => ⟨S_, .i32⟩
  | .hbm, ⟨77, _⟩ => ⟨S1x1x256, .i32⟩
  | .hbm, ⟨78, _⟩ => ⟨S1x1x256, .i1⟩
  | .hbm, ⟨79, _⟩ => ⟨S_, .f32⟩
  | .hbm, ⟨80, _⟩ => ⟨S_, .f32⟩
  | .hbm, ⟨81, _⟩ => ⟨S16x128x256, .i1⟩
  | .hbm, ⟨82, _⟩ => ⟨S16x128x256, .f32⟩
  | .hbm, ⟨83, _⟩ => ⟨S16x128x256, .f32⟩
  | .hbm, ⟨84, _⟩ => ⟨S1x16x128x256, .f32⟩
  | .hbm, ⟨85, _⟩ => ⟨S1x16x128x256, .f32⟩
  | .hbm, ⟨86, _⟩ => ⟨S2x16x128x256, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4x8192x1024, .f32⟩
  | .hbm, ⟨92, _⟩ => ⟨S4x8192x1024, .f32⟩
  | .hbm, ⟨93, _⟩ => ⟨S4x8192x6144, .f32⟩
  | .hbm, ⟨94, _⟩ => ⟨S4x8192x6144, .bf16⟩
  | .hbm, ⟨95, _⟩ => ⟨S32768x6144, .bf16⟩
  | .hbm, ⟨96, _⟩ => ⟨S4x8192x6144, .bf16⟩
  | .hbm, ⟨97, _⟩ => ⟨S4x4x1x2048x1024, .bf16⟩
  | .hbm, ⟨98, _⟩ => ⟨S4x4x1x2048x1024, .f32⟩
  | .local _ .vmem, ⟨0, _⟩ => ⟨S1x512x3072, .bf16⟩
  | .local _ .vmem, ⟨1, _⟩ => ⟨S1x512x3072, .bf16⟩
  | .local _ .vmem, ⟨2, _⟩ => ⟨S1x128x3072, .bf16⟩
  | .local _ .vmem, ⟨3, _⟩ => ⟨S1x128x3072, .bf16⟩
  | .local _ .vmem, ⟨4, _⟩ => ⟨S2x16x128x256, .f32⟩
  | .local _ .vmem, ⟨5, _⟩ => ⟨S1x4x1x128x1024, .bf16⟩
  | .local _ .vmem, ⟨6, _⟩ => ⟨S1x4x1x128x1024, .bf16⟩
  | .local _ .vmem, ⟨7, _⟩ => ⟨S1x4x1x128x1024, .f32⟩
  | .local _ .vmem, ⟨8, _⟩ => ⟨S1x4x1x128x1024, .f32⟩
  | .local _ .vmem, ⟨9, _⟩ => ⟨S4x128x128, .f32⟩
  | .local _ .vmem, ⟨10, _⟩ => ⟨S4x128x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_9 : Ref sig .tc := ⟨.hbm, 49, rfl⟩
abbrev main_v33 : Ref sig .tc := ⟨.hbm, 50, rfl⟩
abbrev main_v34 : Ref sig .tc := ⟨.hbm, 51, rfl⟩
abbrev main_c_10 : Ref sig .tc := ⟨.hbm, 52, rfl⟩
abbrev main_v35 : Ref sig .tc := ⟨.hbm, 53, rfl⟩
abbrev main_v36 : Ref sig .tc := ⟨.hbm, 54, rfl⟩
abbrev main_c_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v49 : Ref sig .tc := ⟨.hbm, 74, rfl⟩
abbrev main_v50 : Ref sig .tc := ⟨.hbm, 75, rfl⟩
abbrev main_c_15 : Ref sig .tc := ⟨.hbm, 76, rfl⟩
abbrev main_v51 : Ref sig .tc := ⟨.hbm, 77, rfl⟩
abbrev main_v52 : Ref sig .tc := ⟨.hbm, 78, rfl⟩
abbrev main_cst_16 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_17 : Ref sig .tc := ⟨.hbm, 87, rfl⟩
abbrev main_v57 : Ref sig .tc := ⟨.hbm, 88, rfl⟩
abbrev main_cst_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65_0 : Ref sig .tc := ⟨.hbm, 97, rfl⟩
abbrev main_v65_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 16], ![false, false, false]⟩

def k0_off1 (i : grid0.Coords) : Fin 4 → Nat :=
  let arg2 : BitVec 32 := BitVec.ofNat 32 (i 2).val
  let c0_i32 : BitVec 32 := 0#32
  let v57 : BitVec 1 := Scalar.cmpi .eq arg2 c0_i32
  let v58 : BitVec 32 := Scalar.extui v57
  let v59 : Index := Scalar.indexCast v58
  let c0_35 : Index := 0#32
  let c0_36 : Index := 0#32
  let c0_37 : Index := 0#32
  ![v59.toNat, 0, 0, 0]
def k0_off2 (i : grid0.Coords) : Fin 4 → Nat :=
  let arg2 : BitVec 32 := BitVec.ofNat 32 (i 2).val
  let c0_i32 : BitVec 32 := 0#32
  let v57 : BitVec 1 := Scalar.cmpi .eq arg2 c0_i32
  let v58 : BitVec 32 := Scalar.extui v57
  let v62 : Index := Scalar.indexCast v58
  let c1 : Index := 1#32
  let c0_38 : Index := 0#32
  let c0_39 : Index := 0#32
  ![v62.toNat, 1, 0, 0]
def k0_off3 (i : grid0.Coords) : Fin 4 → Nat :=
  let arg2 : BitVec 32 := BitVec.ofNat 32 (i 2).val
  let c0_i32_41 : BitVec 32 := 0#32
  let v80 : BitVec 1 := Scalar.cmpi .eq arg2 c0_i32_41
  let v81 : BitVec 32 := Scalar.extui v80
  let v82 : Index := Scalar.indexCast v81
  let c2 : Index := 2#32
  let c0_42 : Index := 0#32
  let c0_43 : Index := 0#32
  ![v82.toNat, 2, 0, 0]
def k0_off4 (i : grid0.Coords) : Fin 4 → Nat :=
  let arg2 : BitVec 32 := BitVec.ofNat 32 (i 2).val
  let c0_i32_41 : BitVec 32 := 0#32
  let v80 : BitVec 1 := Scalar.cmpi .eq arg2 c0_i32_41
  let v81 : BitVec 32 := Scalar.extui v80
  let v85 : Index := Scalar.indexCast v81
  let c3 : Index := 3#32
  let c0_44 : Index := 0#32
  let c0_45 : Index := 0#32
  ![v85.toNat, 3, 0, 0]
def k0_off5 (i : grid0.Coords) : Fin 4 → Nat :=
  let arg2 : BitVec 32 := BitVec.ofNat 32 (i 2).val
  let c0_i32_47 : BitVec 32 := 0#32
  let v103 : BitVec 1 := Scalar.cmpi .eq arg2 c0_i32_47
  let v104 : BitVec 32 := Scalar.extui v103
  let v105 : Index := Scalar.indexCast v104
  let c4 : Index := 4#32
  let c0_48 : Index := 0#32
  let c0_49 : Index := 0#32
  ![v105.toNat, 4, 0, 0]
def k0_off6 (i : grid0.Coords) : Fin 4 → Nat :=
  let arg2 : BitVec 32 := BitVec.ofNat 32 (i 2).val
  let c0_i32_47 : BitVec 32 := 0#32
  let v103 : BitVec 1 := Scalar.cmpi .eq arg2 c0_i32_47
  let v104 : BitVec 32 := Scalar.extui v103
  let v108 : Index := Scalar.indexCast v104
  let c5 : Index := 5#32
  let c0_50 : Index := 0#32
  let c0_51 : Index := 0#32
  ![v108.toNat, 5, 0, 0]
def k0_off7 (i : grid0.Coords) : Fin 4 → Nat :=
  let arg2 : BitVec 32 := BitVec.ofNat 32 (i 2).val
  let c0_i32_53 : BitVec 32 := 0#32
  let v126 : BitVec 1 := Scalar.cmpi .eq arg2 c0_i32_53
  let v127 : BitVec 32 := Scalar.extui v126
  let v128 : Index := Scalar.indexCast v127
  let c6 : Index := 6#32
  let c0_54 : Index := 0#32
  let c0_55 : Index := 0#32
  ![v128.toNat, 6, 0, 0]
def k0_off8 (i : grid0.Coords) : Fin 4 → Nat :=
  let arg2 : BitVec 32 := BitVec.ofNat 32 (i 2).val
  let c0_i32_53 : BitVec 32 := 0#32
  let v126 : BitVec 1 := Scalar.cmpi .eq arg2 c0_i32_53
  let v127 : BitVec 32 := Scalar.extui v126
  let v131 : Index := Scalar.indexCast v127
  let c7 : Index := 7#32
  let c0_56 : Index := 0#32
  let c0_57 : Index := 0#32
  ![v131.toNat, 7, 0, 0]
def k0_off9 (i : grid0.Coords) : Fin 4 → Nat :=
  let arg2 : BitVec 32 := BitVec.ofNat 32 (i 2).val
  let c0_i32_399 : BitVec 32 := 0#32
  let v477 : BitVec 1 := Scalar.cmpi .eq arg2 c0_i32_399
  let v478 : BitVec 32 := Scalar.extui v477
  let v479 : Index := Scalar.indexCast v478
  let c8 : Index := 8#32
  let c0_400 : Index := 0#32
  let c0_401 : Index := 0#32
  ![v479.toNat, 8, 0, 0]
def k0_off10 (i : grid0.Coords) : Fin 4 → Nat :=
  let arg2 : BitVec 32 := BitVec.ofNat 32 (i 2).val
  let c0_i32_399 : BitVec 32 := 0#32
  let v477 : BitVec 1 := Scalar.cmpi .eq arg2 c0_i32_399
  let v478 : BitVec 32 := Scalar.extui v477
  let v482 : Index := Scalar.indexCast v478
  let c9 : Index := 9#32
  let c0_402 : Index := 0#32
  let c0_403 : Index := 0#32
  ![v482.toNat, 9, 0, 0]
def k0_off11 (i : grid0.Coords) : Fin 4 → Nat :=
  let arg2 : BitVec 32 := BitVec.ofNat 32 (i 2).val
  let c0_i32_405 : BitVec 32 := 0#32
  let v500 : BitVec 1 := Scalar.cmpi .eq arg2 c0_i32_405
  let v501 : BitVec 32 := Scalar.extui v500
  let v502 : Index := Scalar.indexCast v501
  let c10 : Index := 10#32
  let c0_406 : Index := 0#32
  let c0_407 : Index := 0#32
  ![v502.toNat, 10, 0, 0]
def k0_off12 (i : grid0.Coords) : Fin 4 → Nat :=
  let arg2 : BitVec 32 := BitVec.ofNat 32 (i 2).val
  let c0_i32_405 : BitVec 32 := 0#32
  let v500 : BitVec 1 := Scalar.cmpi .eq arg2 c0_i32_405
  let v501 : BitVec 32 := Scalar.extui v500
  let v505 : Index := Scalar.indexCast v501
  let c11 : Index := 11#32
  let c0_408 : Index := 0#32
  let c0_409 : Index := 0#32
  ![v505.toNat, 11, 0, 0]
def k0_off13 (i : grid0.Coords) : Fin 4 → Nat :=
  let arg2 : BitVec 32 := BitVec.ofNat 32 (i 2).val
  let c0_i32_411 : BitVec 32 := 0#32
  let v523 : BitVec 1 := Scalar.cmpi .eq arg2 c0_i32_411
  let v524 : BitVec 32 := Scalar.extui v523
  let v525 : Index := Scalar.indexCast v524
  let c12 : Index := 12#32
  let c0_412 : Index := 0#32
  let c0_413 : Index := 0#32
  ![v525.toNat, 12, 0, 0]
def k0_off14 (i : grid0.Coords) : Fin 4 → Nat :=
  let arg2 : BitVec 32 := BitVec.ofNat 32 (i 2).val
  let c0_i32_411 : BitVec 32 := 0#32
  let v523 : BitVec 1 := Scalar.cmpi .eq arg2 c0_i32_411
  let v524 : BitVec 32 := Scalar.extui v523
  let v528 : Index := Scalar.indexCast v524
  let c13 : Index := 13#32
  let c0_414 : Index := 0#32
  let c0_415 : Index := 0#32
  ![v528.toNat, 13, 0, 0]
def k0_off15 (i : grid0.Coords) : Fin 4 → Nat :=
  let arg2 : BitVec 32 := BitVec.ofNat 32 (i 2).val
  let c0_i32_417 : BitVec 32 := 0#32
  let v546 : BitVec 1 := Scalar.cmpi .eq arg2 c0_i32_417
  let v547 : BitVec 32 := Scalar.extui v546
  let v548 : Index := Scalar.indexCast v547
  let c14 : Index := 14#32
  let c0_418 : Index := 0#32
  let c0_419 : Index := 0#32
  ![v548.toNat, 14, 0, 0]
def k0_off16 (i : grid0.Coords) : Fin 4 → Nat :=
  let arg2 : BitVec 32 := BitVec.ofNat 32 (i 2).val
  let c0_i32_417 : BitVec 32 := 0#32
  let v546 : BitVec 1 := Scalar.cmpi .eq arg2 c0_i32_417
  let v547 : BitVec 32 := Scalar.extui v546
  let v551 : Index := Scalar.indexCast v547
  let c15 : Index := 15#32
  let c0_420 : Index := 0#32
  let c0_421 : Index := 0#32
  ![v551.toNat, 15, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

abbrev stage0_0 : Fin 2 → Memref sig .tc .vmem S1x512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S2x16x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x4x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== NearAttnIdeal.lean ====
variable {F : FTy → Type} [FloatOps F] [Named F]
def κ : String → Option EReal := fun
  | "log2e" => some (((Real.log 2)⁻¹ : ℝ) : EReal)
  | _ => none
-- ==== NearAttnRefIdeal.lean ====
abbrev S4x8192x1024 : Shape := ⟨3, ![4, 8192, 1024]⟩
abbrev S4x8192x3072 : Shape := ⟨3, ![4, 8192, 3072]⟩
abbrev S32x16 : Shape := ⟨2, ![32, 16]⟩
abbrev S4x8192x16x64 : Shape := ⟨4, ![4, 8192, 16, 64]⟩
abbrev S4x16x8192x64 : Shape := ⟨4, ![4, 16, 8192, 64]⟩
abbrev S64x64x128x64 : Shape := ⟨4, ![64, 64, 128, 64]⟩
abbrev S64x63x128x64 : Shape := ⟨4, ![64, 63, 128, 64]⟩
abbrev S_ : Shape := ⟨0, ![]⟩
abbrev S64x64x256x64 : Shape := ⟨4, ![64, 64, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S1x16x128x256 : Shape := ⟨4, ![1, 16, 128, 256]⟩
abbrev S4x16x128x256 : Shape := ⟨4, ![4, 16, 128, 256]⟩
abbrev S64x1x128x256 : Shape := ⟨4, ![64, 1, 128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x64x128x256 : Shape := ⟨4, ![64, 64, 128, 256]⟩
abbrev S1x64x128x256 : Shape := ⟨4, ![1, 64, 128, 256]⟩
abbrev S64x64x128 : Shape := ⟨3, ![64, 64, 128]⟩
abbrev S64x64x128x1 : Shape := ⟨4, ![64, 64, 128, 1]⟩
abbrev S4x16x2048x4x64 : Shape := ⟨5, ![4, 16, 2048, 4, 64]⟩
abbrev S4x4x2048x16x64 : Shape := ⟨5, ![4, 4, 2048, 16, 64]⟩
abbrev S4x4x1x2048x1024 : Shape := ⟨5, ![4, 4, 1, 2048, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x3072, .f32⟩
  | .hbm, ⟨4, _⟩ => ⟨S32x16, .f32⟩
  | .hbm, ⟨5, _⟩ => ⟨S4x8192x16x64, .f32⟩
  | .hbm, ⟨6, _⟩ => ⟨S4x16x8192x64, .f32⟩
  | .hbm, ⟨7, _⟩ => ⟨S64x64x128x64, .f32⟩
  | .hbm, ⟨8, _⟩ => ⟨S4x8192x16x64, .f32⟩
  | .hbm, ⟨9, _⟩ => ⟨S4x16x8192x64, .f32⟩
  | .hbm, ⟨10, _⟩ => ⟨S64x64x128x64, .f32⟩
  | .hbm, ⟨11, _⟩ => ⟨S64x63x128x64, .f32⟩
  | .hbm, ⟨12, _⟩ => ⟨S_, .i32⟩
  | .hbm, ⟨13, _⟩ => ⟨S_, .f32⟩
  | .hbm, ⟨14, _⟩ => ⟨S64x64x128x64, .f32⟩
  | .hbm, ⟨15, _⟩ => ⟨S64x64x256x64, .f32⟩
  | .hbm, ⟨16, _⟩ => ⟨S4x8192x16x64, .f32⟩
  | .hbm, ⟨17, _⟩ => ⟨S4x16x8192x64, .f32⟩
  | .hbm, ⟨18, _⟩ => ⟨S64x64x128x64, .f32⟩
  | .hbm, ⟨19, _⟩ => ⟨S64x63x128x64, .f32⟩
  | .hbm, ⟨20, _⟩ => ⟨S_, .i32⟩
  | .hbm, ⟨21, _⟩ => ⟨S_, .f32⟩
  | .hbm, ⟨22, _⟩ => ⟨S64x64x128x64, .f32⟩
  | .hbm, ⟨23, _⟩ => ⟨S64x64x256x64, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i32⟩
  | .hbm, ⟨50, _⟩ => ⟨S128x256, .f32⟩
  | .hbm, ⟨51, _⟩ => ⟨S_, .f32⟩
  | .hbm, ⟨52, _⟩ => ⟨S128x256, .f32⟩
  | .hbm, ⟨53, _⟩ => ⟨S128x256, .f32⟩
  | .hbm, ⟨54, _⟩ => ⟨S128x256, .f32⟩
  | .hbm, ⟨55, _⟩ => ⟨S_, .f32⟩
  | .hbm, ⟨56, _⟩ => ⟨S128x256, .f32⟩
  | .hbm, ⟨57, _⟩ => ⟨S128x256, .f32⟩
  | .hbm, ⟨58, _⟩ => ⟨S_, .f32⟩
  | .hbm, ⟨59, _⟩ => ⟨S128x256, .f32⟩
  | .hbm, ⟨60, _⟩ => ⟨S128x256, .f32⟩
  | .hbm, ⟨61, _⟩ => ⟨S128x256, .i32⟩
  | .hbm, ⟨62, _⟩ => ⟨S_, .i32⟩
  | .hbm, ⟨63, _⟩ => ⟨S128x256, .i32⟩
  | .hbm, ⟨64, _⟩ => ⟨S128x256, .i32⟩
  | .hbm, ⟨65, _⟩ => ⟨S_, .i32⟩
  | .hbm, ⟨66, _⟩ => ⟨S128x256, .i32⟩
  | .hbm, ⟨67, _⟩ => ⟨S128x256, .i32⟩
  | .hbm, ⟨68, _⟩ => ⟨S_, .i32⟩
  | .hbm, ⟨69, _⟩ => ⟨S128x256, .i32⟩
  | .hbm, ⟨70, _⟩ => ⟨S128x256, .i1⟩
  | .hbm, ⟨71, _⟩ => ⟨S128x256, .i32⟩
  | .hbm, ⟨72, _⟩ => ⟨S_, .i32⟩
  | .hbm, ⟨73, _⟩ => ⟨S128x256, .i32⟩
  | .hbm, ⟨74, _⟩ => ⟨S128x256, .i1⟩
  | .hbm, ⟨75, _⟩ => ⟨S_, .i32⟩
  | .hbm, ⟨76, _⟩ => ⟨S128x256, .i32⟩
  | .hbm, ⟨77, _⟩ => ⟨S128x256, .i32⟩
  | .hbm, ⟨78, _⟩ => ⟨S128x256, .i32⟩
  | .hbm, ⟨79, _⟩ => ⟨S128x256x1, .i32⟩
  | .hbm, ⟨80, _⟩ => ⟨S128x256x16, .f32⟩
  | .hbm, ⟨81, _⟩ => ⟨S16x128x256, .f32⟩
  | .hbm, ⟨82, _⟩ => ⟨S1x16x128x256, .f32⟩
  | .hbm, ⟨83, _⟩ => ⟨S4x16x128x256, .f32⟩
  | .hbm, ⟨84, _⟩ => ⟨S64x1x128x256, .f32⟩
  | .hbm, ⟨85, _⟩ => ⟨S64, .i32⟩
  | .hbm, ⟨86, _⟩ => ⟨S64x1x1, .i32⟩
  | .hbm, ⟨87, _⟩ => ⟨S_, .i32⟩
  | .hbm, ⟨88, _⟩ => ⟨S64x1x1, .i32⟩
  | .hbm, ⟨89, _⟩ => ⟨S64x1x1, .i1⟩
  | .hbm, ⟨90, _⟩ => ⟨S1x1x256, .i32⟩
  | .hbm, ⟨91, _⟩ => ⟨S_, .i32⟩
  | .hbm, ⟨92, _⟩ => ⟨S1x1x256, .i32⟩
  | .hbm, ⟨93, _⟩ => ⟨S1x1x256, .i1⟩
  | .hbm, ⟨94, _⟩ => ⟨S64x1x256, .i1⟩
  | .hbm, ⟨95, _⟩ => ⟨S64x1x256, .i1⟩
  | .hbm, ⟨96, _⟩ => ⟨S64x1x256, .i1⟩
  | .hbm, ⟨97, _⟩ => ⟨S1x128x256, .i1⟩
  | .hbm, ⟨98, _⟩ => ⟨S64x128x256, .i1⟩
  | .hbm, ⟨99, _⟩ => ⟨S64x128x256, .i1⟩
  | .hbm, ⟨100, _⟩ => ⟨S64x128x256, .i1⟩
  | .hbm, ⟨101, _⟩ => ⟨S64x64x128x256, .f32⟩
  | .hbm, ⟨102, _⟩ => ⟨S64x64x128x256, .f32⟩
  | .hbm, ⟨103, _⟩ => ⟨S64x64x128x256, .f32⟩
  | .hbm, ⟨104, _⟩ => ⟨S1x64x128x256, .i1⟩
  | .hbm, ⟨105, _⟩ => ⟨S_, .f32⟩
  | .hbm, ⟨106, _⟩ => ⟨S_, .f32⟩
  | .hbm, ⟨107, _⟩ => ⟨S64x64x128x256, .i1⟩
  | .hbm, ⟨108, _⟩ => ⟨S64x64x128x256, .f32⟩
  | .hbm, ⟨109, _⟩ => ⟨S64x64x128x256, .f32⟩
  | .hbm, ⟨110, _⟩ => ⟨S_, .f32⟩
  | .hbm, ⟨111, _⟩ => ⟨S64x64x128, .f32⟩
  | .hbm, ⟨112, _⟩ => ⟨S64x64x128x1, .f32⟩
  | .hbm, ⟨113, _⟩ => ⟨S64x64x128x256, .f32⟩
  | .hbm, ⟨114, _⟩ => ⟨S64x64x128x256, .f32⟩
  | .hbm, ⟨115, _⟩ => ⟨S64x64x128x256, .f32⟩
  | .hbm, ⟨116, _⟩ => ⟨S_, .f32⟩
  | .hbm, ⟨117, _⟩ => ⟨S64x64x128, .f32⟩
  | .hbm, ⟨118, _⟩ => ⟨S64x64x128x1, .f32⟩
  | .hbm, ⟨119, _⟩ => ⟨S64x64x128x64, .f32⟩
  | .hbm, ⟨120, _⟩ => ⟨S64x64x128x64, .f32⟩
  | .hbm, ⟨121, _⟩ => ⟨S64x64x128x64, .f32⟩
  | .hbm, ⟨122, _⟩ => ⟨S4x16x2048x4x64, .f32⟩
  | .hbm, ⟨123, _⟩ => ⟨S4x4x2048x16x64, .f32⟩
  | .hbm, ⟨124, _⟩ => ⟨S4x4x1x2048x1024, .f32⟩
  | .hbm, ⟨125, _⟩ => ⟨S4x4x1x2048x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_c_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Proof.OutValue.lean ====
/-
  The output projection's value: the array its kernel leaves is the reference's residual sum, row block by row block.
-/
module

public import proofs.«01_k».proof.Proof.Gen.OutProjIdeal.Value
public import proofs.«01_k».proof.Proof.Gen.OutProjRefIdeal.Read
public import Idealize.ShloMosaic.Lib.Pipeline.Value
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen

variable (m : (ℓ : Loc nD τ sig) → Buf (Elt Ideal) ℓ) (ρ : Dev nD → PrngReg)

/-- The reference's result on device `c`'s three arguments: what the result array is shown to hold. -/
abbrev goal (c : Dev nD) : Buf (Elt Ideal) ((c : Thread nD τ).loc main_v4) :=
  Cert.OutProjRefIdeal.Read.val_main_v4 (F := Ideal) (m ((c : Thread nD τ).loc main_arg0))
    (m ((c : Thread nD τ).loc main_arg1)) (m ((c : Thread nD τ).loc main_arg2))

theorem zero2 : (![0, 0] : Fin 2 → Nat) = fun _ => 0 := funext fun a => by fin_cases a <;> rfl
theorem zero3 : (![0, 0, 0] : Fin 3 → Nat) = fun _ => 0 := funext fun a => by fin_cases a <;> rfl

/-- Where each window's block lies at a grid point: the row blocks move with the point, the weights' block is fixed
    at the second of the two stacked layers. -/
theorem index_facts : ∀ t : Fin grid0.N,
    (win0_0.index t 0 = t.val ∧ win0_0.index t 1 = 0)
    ∧ (win0_1.index t 0 = 1 ∧ win0_1.index t 1 = 0 ∧ win0_1.index t 2 = 0)
    ∧ (win0_2.index t 0 = t.val ∧ win0_2.index t 1 = 0)
    ∧ (win0_3.index t 0 = t.val ∧ win0_3.index t 1 = 0) := by decide +kernel

/-- The rows of `y` at a grid point. -/
theorem block_y (c : Dev nD) (t : Fin cfg0.N) (r : Fin 512) (k : Fin 2048) (h : t.val < 64) :
    (iblk m c 0 t : Vec Ideal S512x2048 .bf16) (ix2 r k)
      = m ((c : Thread nD τ).loc main_arg0) (ix3 ⟨t.val / 16, by omega⟩ ⟨t.val % 16 * 512 + r.val, by omega⟩ k) := by
  obtain ⟨⟨h0, h1⟩, _⟩ := index_facts t
  unfold iblk
  rw [View.read_apply]
  have e : ((cfg0.win 0).blk t).view.emb (ix2 r k) = (ix2 (⟨t.val * 512 + r.val, by omega⟩ : Fin 32768) k : S32768x2048.Idx) := by
    funext a; apply Fin.ext
    match a with
    | ⟨0, _⟩ => show win0_0.index t 0 * 512 + 1 * r.val = t.val * 512 + r.val; rw [h0]; omega
    | ⟨1, _⟩ => show win0_0.index t 1 * 2048 + 1 * k.val = k.val; rw [h1]; omega
  show V m c main_v2 (((cfg0.win 0).blk t).view.emb (ix2 r k)) = _
  rw [e]
  entry_read
  pointwise
  refine congrArg (m ((c : Thread nD τ).loc main_arg0)) ?_
  idx_ext <;> omega

/-- The second layer's weights: the block every grid point reads. -/
theorem block_w (c : Dev nD) (t : Fin cfg0.N) (k : Fin 2048) (l : Fin 1024) :
    (iblk m c 1 t : Vec Ideal S1x2048x1024 .bf16) (ix3 0 k l) = m ((c : Thread nD τ).loc main_arg1) (ix3 1 k l) := by
  obtain ⟨_, ⟨h0, h1, h2⟩, _⟩ := index_facts t
  unfold iblk
  rw [View.read_apply]
  have e : ((cfg0.win 1).blk t).view.emb (ix3 0 k l) = (ix3 1 k l : S2x2048x1024.Idx) := by
    funext a; apply Fin.ext
    match a with
    | ⟨0, _⟩ => show win0_1.index t 0 * 1 + 1 * 0 = 1; rw [h0]
    | ⟨1, _⟩ => show win0_1.index t 1 * 2048 + 1 * k.val = k.val; rw [h1]; omega
    | ⟨2, _⟩ => show win0_1.index t 2 * 1024 + 1 * l.val = l.val; rw [h2]; omega
  show V m c main_v3 (((cfg0.win 1).blk t).view.emb (ix3 0 k l)) = _
  rw [e]
  entry_read
  pointwise

/-- The rows of the residual stream at a grid point. -/
theorem block_x (c : Dev nD) (t : Fin cfg0.N) (r : Fin 512) (l : Fin 1024) (h : t.val < 64) :
    (iblk m c 2 t : Vec Ideal S512x1024 .f32) (ix2 r l)
      = m ((c : Thread nD τ).loc main_arg2) (ix3 ⟨t.val / 16, by omega⟩ ⟨t.val % 16 * 512 + r.val, by omega⟩ l) := by
  obtain ⟨_, _, ⟨h0, h1⟩, _⟩ := index_facts t
  unfold iblk
  rw [View.read_apply]
  have e : ((cfg0.win 2).blk t).view.emb (ix2 r l) = (ix2 (⟨t.val * 512 + r.val, by omega⟩ : Fin 32768) l : S32768x1024.Idx) := by
    funext a; apply Fin.ext
    match a with
    | ⟨0, _⟩ => show win0_2.index t 0 * 512 + 1 * r.val = t.val * 512 + r.val; rw [h0]; omega
    | ⟨1, _⟩ => show win0_2.index t 1 * 1024 + 1 * l.val = l.val; rw [h1]; omega
  show V m c main_v0 (((cfg0.win 2).blk t).view.emb (ix2 r l)) = _
  rw [e]
  entry_read
  pointwise
  refine congrArg (m ((c : Thread nD τ).loc main_arg2)) ?_
  idx_ext <;> omega

/-- What a grid point writes back is its row block of the reference's result. -/
theorem flushed_eq (c : Dev nD) (t : Fin cfg0.N) :
    (dats m 0 c).flushed 3 t = ((cfg0.win 3).blk t).view.read (Elt Ideal) (goal m c) := by
  have h : t.val < 64 := t.isLt
  obtain ⟨_, _, _, ⟨h0, h1⟩⟩ := index_facts t
  rw [Value.flushed3]
  show out0_3 (iblk m c 0 t) (iblk m c 1 t) (iblk m c 2 t) = _
  unfold out0_3
  rw [View.canon_unit_zero zero2, View.ld_unit_zero zero2, View.ld_unit_zero zero2, View.ld_unit_zero zero3]
  funext j
  rw [View.read_apply]
  obtain ⟨r, l, rfl⟩ : ∃ (r : Fin 512) (l : Fin 1024), j = ix2 r l := ⟨j 0, j 1, eq_ix2 j⟩
  have e : ((cfg0.win 3).blk t).view.emb (ix2 r l) = (ix2 (⟨t.val * 512 + r.val, by omega⟩ : Fin 32768) l : S32768x1024.Idx) := by
    funext a; apply Fin.ext
    match a with
    | ⟨0, _⟩ => show win0_3.index t 0 * 512 + 1 * r.val = t.val * 512 + r.val; rw [h0]; omega
    | ⟨1, _⟩ => show win0_3.index t 1 * 1024 + 1 * l.val = l.val; rw [h1]; omega
  rw [e]
  pointwise [k0_pay1, block_y m c t _ _ h, block_w m c t, block_x m c t _ _ h, goal, Cert.OutProjRefIdeal.Read.val_main_v4,
    Cert.OutProjRefIdeal.Read.val_main_v3, Cert.OutProjRefIdeal.Read.val_main_v2, Cert.OutProjRefIdeal.Read.val_main_v1,
    Cert.OutProjRefIdeal.Read.val_main_v0]
  refine congrArg₂ (· + ·) (congrArg (m ((c : Thread nD τ).loc main_arg2)) ?_)
    (Finset.sum_congr rfl fun k _ => congrArg (· * _) (congrArg (m ((c : Thread nD τ).loc main_arg0)) ?_))
  all_goals idx_ext <;> omega

/-- An index is in a point's block when its row is one of the point's 512 rows. -/
theorem mem_blk (t : Fin cfg0.N) (i : S32768x1024.Idx) (hi : t.val * 512 ≤ (i 0 : Nat) ∧ (i 0 : Nat) < t.val * 512 + 512) :
    i ∈ ((cfg0.win 3).blk t).view.set := by
  show i ∈ ((View.whole main_v4).slice (win0_3.rect t)).set
  rw [View.set_slice_whole, Rect.mem_set_unit]
  obtain ⟨_, _, _, ⟨h0, h1⟩⟩ := index_facts t
  have hl : (i 1 : Nat) < 1024 := (i 1).isLt
  have e0 : win0_3.index t 0 * 512 ≤ (i 0 : Nat) ∧ (i 0 : Nat) < win0_3.index t 0 * 512 + 512 := by
    obtain ⟨ha, hb⟩ := hi
    omega
  have e1 : win0_3.index t 1 * 1024 ≤ (i 1 : Nat) ∧ (i 1 : Nat) < win0_3.index t 1 * 1024 + 1024 := by omega
  intro a
  match a with
  | ⟨0, _⟩ => exact e0
  | ⟨1, _⟩ => exact e1

/-- The row blocks tile the result. -/
theorem cover (i : S32768x1024.Idx) :
    ∃ t : Fin cfg0.N, (cfg0.win 3).flush t = true ∧ i ∈ ((cfg0.win 3).blk t).view.set := by
  have h0 : (i 0 : Nat) < 32768 := (i 0).isLt
  have hN : cfg0.N = 64 := N_0
  refine ⟨⟨(i 0 : Nat) / 512, by omega⟩, flush0_3 _, mem_blk _ _ ?_⟩
  dsimp only
  omega

/-- So the result array ends at the reference's result. -/
theorem final (c : Dev nD) : (dats m 0 c).arrAt 3 cfg0.N = goal m c :=
  (dats m 0 c).arrAt_eq_of_cover 3 (goal m c) (fun t _ => flushed_eq m c t) cover

/-- The run, read: the result array at the reference's result, the arguments unchanged. -/
theorem run : θ_run defs (onTc (τ := τ) (main (F := Ideal))) ⟨m, fun _ => 0, ρ⟩ fun r => ∀ c : Dev nD,
      r.2.mem ((c : Thread nD τ).loc main_v4) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)

end Cert.OutProjIdeal.RefValue
-- ==== Proof.AttnPieces.lean ====
/-
  The attention kernel's body as thirty-two units, one per block of 128 queries and pair of heads: what each stores, by the
  same few functions of the blocks it loads.
-/
module

public import proofs.«01_k».proof.Proof.Gen.AttnIdeal.Value

@[expose] public section

set_option maxRecDepth 16384

noncomputable section

open Idealize.ShloMosaic Idealize.ShloMosaic.TcCoe Idealize.SL.Sem

namespace Cert.AttnIdeal.Pieces
open Cert.AttnIdeal Cert.AttnIdeal.Gen

variable {F : FTy → Type} [FloatOps F] [Named F]

/-- The first query block's unit: its window is the block before (`ka`, `va`) and its own (`kb`, `vb`), loaded apart. -/
def unitFirst (q ka kb va vb : Vec F S1x1x128x128 .bf16) (b0 b1 : Vec F S1x1x128x256 .f32) (po : Vec F S1x1x128x128 .bf16)
    (pl : Vec F S1x1x128x128 .f32) : FVec F S1x1x128x128 .bf16 :=
  k0_pay134 (k0_pay16 k0_pay2 (k0_pay7 q ka kb) b0 b1) (k0_pay31 k0_pay5 k0_pay6 (k0_pay15 (k0_pay7 q ka kb) b0 b1) va vb) po pl

/-- A later query block's unit: its window is one load. -/
def unitLater (q : Vec F S1x1x128x128 .bf16) (kw vw : Vec F S1x1x256x128 .bf16) (b0 b1 : Vec F S1x1x128x256 .f32)
    (po : Vec F S1x1x128x128 .bf16) (pl : Vec F S1x1x128x128 .f32) : FVec F S1x1x128x128 .bf16 :=
  k0_pay134 (k0_pay16 k0_pay2 (k0_pay86 k0_pay3 k0_pay4 q kw) b0 b1)
    (k0_pay125 k0_pay5 k0_pay6 (k0_pay15 (k0_pay86 k0_pay3 k0_pay4 q kw) b0 b1) vw) po pl

/-- Rows `128 qb …` and lanes `part * 1024 + 128 hp …` of the staged block of queries, keys and values. -/
theorem inb_cur (r c : ℕ) (hr : r ≤ 384) (hc : c ≤ 2944) : ∀ a, ![0, 0, r, c] a + ![1, 1, 128, 128] a ≤ S1x1x512x3072.size a := by
  intro a; fin_cases a <;> simp <;> omega
theorem inb_win (r c : ℕ) (hr : r ≤ 256) (hc : c ≤ 2944) : ∀ a, ![0, 0, r, c] a + ![1, 1, 256, 128] a ≤ S1x1x512x3072.size a := by
  intro a; fin_cases a <;> simp <;> omega
theorem inb_prev (c : ℕ) (hc : c ≤ 2944) : ∀ a, ![0, 0, 0, c] a + ![1, 1, 128, 128] a ≤ S1x1x128x3072.size a := by
  intro a; fin_cases a <;> simp <;> omega
theorem inb_out (r c : ℕ) (hr : r ≤ 384) (hc : c ≤ 896) : ∀ a, ![0, 0, r, c] a + ![1, 1, 128, 128] a ≤ S1x1x512x1024.size a := by
  intro a; fin_cases a <;> simp <;> omega
theorem inb_bias (f h : ℕ) (hf : f ≤ 1) (hh : h ≤ 15) : ∀ a, ![f, h, 0, 0] a + ![1, 1, 128, 256] a ≤ S2x16x128x256.size a := by
  intro a; fin_cases a <;> simp <;> omega

def cur (r c : ℕ) (hr : r ≤ 384) (hc : c ≤ 2944) : Rect S1x1x512x3072 := Rect.unit ![0, 0, r, c] ![1, 1, 128, 128] (inb_cur r c hr hc)
def win (r c : ℕ) (hr : r ≤ 256) (hc : c ≤ 2944) : Rect S1x1x512x3072 := Rect.unit ![0, 0, r, c] ![1, 1, 256, 128] (inb_win r c hr hc)
def prv (c : ℕ) (hc : c ≤ 2944) : Rect S1x1x128x3072 := Rect.unit ![0, 0, 0, c] ![1, 1, 128, 128] (inb_prev c hc)
def out (r c : ℕ) (hr : r ≤ 384) (hc : c ≤ 896) : Rect S1x1x512x1024 := Rect.unit ![0, 0, r, c] ![1, 1, 128, 128] (inb_out r c hr hc)
def bia (f h : ℕ) (hf : f ≤ 1) (hh : h ≤ 15) : Rect S2x16x128x256 := Rect.unit ![f, h, 0, 0] ![1, 1, 128, 256] (inb_bias f h hf hh)

/-- The piece of query block `0` and head pair `hp`; its bias rows are those of table `f`. -/
def pieceFirst (x0 : Vec F S1x1x512x3072 .bf16) (x1 : Vec F S1x1x128x3072 .bf16) (x2 : Vec F S2x16x128x256 .f32)
    (x3 : Vec F S1x1x512x1024 .bf16) (x4 : Vec F S1x1x512x1024 .f32) (f : ℕ) (hf : f ≤ 1) (hp : Fin 8) : View.Piece (Elt F) S1x1x512x1024 .bf16 :=
  ⟨out 0 (128 * hp) (by omega) (by omega),
    unitFirst (View.ld x0 (cur 0 (128 * hp) (by omega) (by omega)))
      (View.ld x1 (prv (1024 + 128 * hp) (by omega))) (View.ld x0 (cur 0 (1024 + 128 * hp) (by omega) (by omega)))
      (View.ld x1 (prv (2048 + 128 * hp) (by omega))) (View.ld x0 (cur 0 (2048 + 128 * hp) (by omega) (by omega)))
      (View.ld x2 (bia f (2 * hp) hf (by omega))) (View.ld x2 (bia f (2 * hp + 1) hf (by omega)))
      (View.ld x3 (out 0 (128 * hp) (by omega) (by omega))) (View.ld x4 (out 0 (128 * hp) (by omega) (by omega)))⟩

/-- The piece of query block `qb + 1` and head pair `hp`. -/
def pieceLater (x0 : Vec F S1x1x512x3072 .bf16) (x2 : Vec F S2x16x128x256 .f32)
    (x3 : Vec F S1x1x512x1024 .bf16) (x4 : Vec F S1x1x512x1024 .f32) (qb : Fin 3) (hp : Fin 8) :
    View.Piece (Elt F) S1x1x512x1024 .bf16 :=
  ⟨out (128 * (qb + 1)) (128 * hp) (by omega) (by omega),
    unitLater (View.ld x0 (cur (128 * (qb + 1)) (128 * hp) (by omega) (by omega)))
      (View.ld x0 (win (128 * qb) (1024 + 128 * hp) (by omega) (by omega)))
      (View.ld x0 (win (128 * qb) (2048 + 128 * hp) (by omega) (by omega)))
      (View.ld x2 (bia 0 (2 * hp) (by omega) (by omega))) (View.ld x2 (bia 0 (2 * hp + 1) (by omega) (by omega)))
      (View.ld x3 (out (128 * (qb + 1)) (128 * hp) (by omega) (by omega)))
      (View.ld x4 (out (128 * (qb + 1)) (128 * hp) (by omega) (by omega)))⟩

/-- Which of the two bias tables the first query block reads, as the body computes it from the grid point. -/
def first (i : grid0.Coords) : ℕ := k0_off1 i 0

theorem first_eq (i : grid0.Coords) : first i = 1 := by
  have h : i 2 = (⟨0, by decide⟩ : Fin (grid0.bound 2)) := Fin.ext (Nat.lt_one_iff.mp (i 2).isLt)
  unfold first k0_off1
  rw [h]
  rfl

theorem first_le (i : grid0.Coords) : first i ≤ 1 := (first_eq i).le

theorem pieces_eq (c : Dev nD) (i : grid0.Coords) (a3 : Memref sig .tc .vmem S1x1x512x3072 .bf16) (h3 : a3.IsWhole)
    (a4 : Memref sig .tc .vmem S1x1x128x3072 .bf16) (h4 : a4.IsWhole) (a5 : Memref sig .tc .vmem S2x16x128x256 .f32) (h5 : a5.IsWhole)
    (a6 : Memref sig .tc .vmem S1x1x512x1024 .bf16) (h6 : a6.IsWhole) (a7 : Memref sig .tc .vmem S1x1x512x1024 .f32) (h7 : a7.IsWhole)
    (a8 : Memref sig .tc .vmem S1x1x512x1024 .bf16) (h8 : a8.IsWhole)
    (x0 : Vec F S1x1x512x3072 .bf16) (x1 : Vec F S1x1x128x3072 .bf16) (x2 : Vec F S2x16x128x256 .f32)
    (x3 : Vec F S1x1x512x1024 .bf16) (x4 : Vec F S1x1x512x1024 .f32) :
    let L := pieceLater (a3.view.read (Elt F) (h3.unread x0)) (a5.view.read (Elt F) (h5.unread x2))
      (a6.view.read (Elt F) (h6.unread x3)) (a7.view.read (Elt F) (h7.unread x4))
    let K := pieceFirst (a3.view.read (Elt F) (h3.unread x0)) (a4.view.read (Elt F) (h4.unread x1)) (a5.view.read (Elt F) (h5.unread x2))
      (a6.view.read (Elt F) (h6.unread x3)) (a7.view.read (Elt F) (h7.unread x4)) (first i) (first_le i)
    (kernelRun0_A c i a3 h3 a4 h4 a5 h5 a6 h6 a7 h7 a8 h8 x0 x1 x2 x3 x4).1 =
      [L 2 7, L 2 6, L 2 5, L 2 4, L 2 3, L 2 2, L 2 1, L 2 0, L 1 7, L 1 6, L 1 5, L 1 4, L 1 3, L 1 2, L 1 1, L 1 0,
       L 0 7, L 0 6, L 0 5, L 0 4, L 0 3, L 0 2, L 0 1, L 0 0, K 7, K 6, K 5, K 4, K 3, K 2, K 1, K 0] := by
  intro L K
  rfl

end Cert.AttnIdeal.Pieces
-- ==== Proof.Scalar.lean ====
/-
# One row of attention, and the merge with an earlier result

Plain facts about extended reals: what changes when every exponent is kept in base two (that is, multiplied by `1 / log 2`),
and why the kernel's merge of two attention results by the difference of their log-sum-exps is a softmax over the two.
-/
module

public import Idealize.ShloMosaic.PureOps.Ideal.Laws
public import Idealize.ShloMosaic.Lib.IdealHost

@[expose] public section

namespace Cert.Proof.Scalar
open Idealize.ShloMosaic

/-- `1 / log 2`, the factor that turns a natural exponent into a binary one. -/
noncomputable def L : EReal := (((Real.log 2)⁻¹ : ℝ) : EReal)

theorem log_two_pos : 0 < Real.log 2 := Real.log_pos (by norm_num)
theorem log_two_inv_pos : 0 < (Real.log 2)⁻¹ := _root_.inv_pos.mpr log_two_pos
theorem L_nonneg : (0 : EReal) ≤ L := by unfold L; exact_mod_cast log_two_inv_pos.le
theorem L_pos : (0 : EReal) < L := by unfold L; exact_mod_cast log_two_inv_pos
theorem L_ne_top : L ≠ ⊤ := EReal.coe_ne_top _

theorem top_mul_L : ⊤ * L = ⊤ := EReal.top_mul_of_pos L_pos
theorem bot_mul_L : ⊥ * L = ⊥ := EReal.bot_mul_of_pos L_pos

theorem log_coe (r : ℝ) : Ideal.log (r : EReal) = if r ≤ 0 then ⊥ else ((Real.log r : ℝ) : EReal) := rfl

/-- The host spells the factor as one over the logarithm of two. -/
theorem div_one_log_two : Ideal.div 1 (Ideal.log ((2 : ℝ) : EReal)) = L := by
  have h : Ideal.log ((2 : ℝ) : EReal) = ((Real.log 2 : ℝ) : EReal) := by
    rw [log_coe, if_neg (by norm_num)]
  rw [h, Ideal.div_coe log_two_pos.ne', one_mul, L, one_div]

theorem exp2_mul_L (x : EReal) : Ideal.exp2 (x * L) = Ideal.exp x := by
  induction x with
  | bot => rw [bot_mul_L]; rfl
  | top => rw [top_mul_L]; rfl
  | coe r =>
    have h : (r : EReal) * L = ((r * (Real.log 2)⁻¹ : ℝ) : EReal) := by rw [L, EReal.coe_mul]
    rw [h]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp [log_two_pos.ne']

theorem add_mul_L (a b : EReal) : (a + b) * L = a * L + b * L :=
  EReal.right_distrib_of_nonneg_of_ne_top L_nonneg L_ne_top a b

theorem neg_mul_L (a : EReal) : (-a) * L = -(a * L) := EReal.neg_mul a L

theorem sub_mul_L (a b : EReal) : (a - b) * L = a * L - b * L := by
  rw [sub_eq_add_neg, add_mul_L, neg_mul_L, ← sub_eq_add_neg]

theorem mul_L_mono : Monotone (fun a : EReal => a * L) := fun _ _ h => mul_le_mul_of_nonneg_right h L_nonneg

theorem max_mul_L (a b : EReal) : max a b * L = max (a * L) (b * L) := mul_L_mono.map_max

theorem sum_mul_L {ι : Type*} (s : Finset ι) (f : ι → EReal) : (∑ i ∈ s, f i) * L = ∑ i ∈ s, f i * L := by
  classical
  induction s using Finset.induction_on with
  | empty => simp
  | insert a s ha ih => rw [Finset.sum_insert ha, Finset.sum_insert ha, add_mul_L, ih]

theorem fold_max_mul_L {ι : Type*} (s : Finset ι) (f : ι → EReal) :
    s.fold max ⊥ f * L = s.fold max ⊥ (fun i => f i * L) := by
  classical
  induction s using Finset.induction_on with
  | empty => simp [bot_mul_L]
  | insert a s ha ih => rw [Finset.fold_insert ha, Finset.fold_insert ha, max_mul_L, ih]

theorem le_fold_max {ι : Type*} (s : Finset ι) (f : ι → EReal) {i : ι} (h : i ∈ s) : f i ≤ s.fold max ⊥ f := by
  rw [Finset.le_fold_max]; exact Or.inr ⟨i, h, le_rfl⟩

theorem mul_L_nonneg_iff (a : EReal) : 0 ≤ a * L ↔ 0 ≤ a := by
  constructor
  · intro h
    by_contra hc
    have := EReal.mul_neg_iff.mpr (Or.inr ⟨lt_of_not_ge hc, L_pos⟩)
    exact absurd h (not_le.mpr this)
  · intro h; exact mul_nonneg h L_nonneg

/-- One row's weights: the exponentials of the scores less the row's largest. -/
noncomputable def weight {ι : Type*} [Fintype ι] (s : ι → EReal) (k : ι) : EReal :=
  Ideal.exp (s k - Finset.univ.fold max ⊥ s)

/-- A row's log-sum-exp. -/
noncomputable def lse {ι : Type*} [Fintype ι] (s : ι → EReal) : EReal :=
  Finset.univ.fold max ⊥ s + Ideal.log (∑ k, weight s k)

/-- In base two the weights are the same. -/
theorem weight_scaled {ι : Type*} [Fintype ι] (s : ι → EReal) (k : ι) :
    Ideal.exp2 (s k * L - Finset.univ.fold max ⊥ (fun i => s i * L)) = weight s k := by
  rw [← fold_max_mul_L, ← sub_mul_L, exp2_mul_L, weight]

theorem exp_bot : Ideal.exp ⊥ = 0 := rfl

theorem exp_le_one {x : EReal} (h : x ≤ 0) : Ideal.exp x ≤ 1 := by
  induction x with
  | bot => rw [exp_bot]; exact zero_le_one
  | top => exact absurd h (by simp)
  | coe r =>
    have hr : r ≤ 0 := by exact_mod_cast h
    show ((Real.exp r : ℝ) : EReal) ≤ 1
    exact_mod_cast Real.exp_le_one_iff.mpr hr

/-- A masked score gets no weight. -/
theorem weight_of_bot {ι : Type*} [Fintype ι] {s : ι → EReal} {k : ι} (h : s k = ⊥) : weight s k = 0 := by
  rw [weight, h, EReal.bot_sub, exp_bot]

theorem weight_le_one {ι : Type*} [Fintype ι] (s : ι → EReal) (k : ι) : weight s k ≤ 1 := by
  have hk := le_fold_max Finset.univ s (Finset.mem_univ k)
  refine exp_le_one ?_
  generalize Finset.univ.fold max ⊥ s = m at hk ⊢
  generalize s k = a at hk ⊢
  induction m with
  | bot => rw [le_bot_iff.mp hk]; simp
  | top => rw [EReal.sub_top]; exact bot_le
  | coe r =>
    induction a with
    | bot => simp
    | top => exact absurd hk (by simp)
    | coe q =>
      have : q ≤ r := by exact_mod_cast hk
      exact_mod_cast sub_nonpos.mpr this

theorem log_ne_top {x : EReal} (h : x ≠ ⊤) : Ideal.log x ≠ ⊤ := by
  induction x with
  | bot => exact bot_ne_top
  | top => exact absurd rfl h
  | coe r =>
    rw [log_coe]
    split
    · exact bot_ne_top
    · exact EReal.coe_ne_top _

/-- A log-sum-exp is never `+∞`: where the largest score is, every weight is zero. -/
theorem lse_ne_top {n : ℕ} (s : Fin n → EReal) : lse s ≠ ⊤ := by
  unfold lse
  by_cases hm : Finset.univ.fold max ⊥ s = ⊤
  · have h0 : ∀ k, weight s k = 0 := fun k => by rw [weight, hm, EReal.sub_top, exp_bot]
    have hl : Ideal.log (∑ k, weight s k) = ⊥ := by
      simp only [h0, Finset.sum_const_zero]
      show Ideal.log ((0 : ℝ) : EReal) = ⊥
      rw [log_coe, if_pos le_rfl]
    rw [hl, EReal.add_bot]; exact bot_ne_top
  · have hs : ∑ k, weight s k ≠ ⊤ := by
      have hle : ∑ k, weight s k ≤ ∑ _k : Fin n, (1 : EReal) := Finset.sum_le_sum fun k _ => weight_le_one s k
      have hc : ∑ _k : Fin n, (1 : EReal) = ((n : ℝ) : EReal) := by simp
      rw [hc] at hle
      exact ne_top_of_le_ne_top (EReal.coe_ne_top _) hle
    exact (EReal.add_lt_top hm (log_ne_top hs)).ne

/-- Merging the result `po` (log-sum-exp `l1`) with `o` (log-sum-exp `l2`), the way the reference does: softmax weights. -/
noncomputable def merge (l1 l2 po o : EReal) : EReal :=
  Ideal.div (Ideal.exp (l1 - max l1 l2)) (Ideal.exp (l1 - max l1 l2) + Ideal.exp (l2 - max l1 l2)) * po
    + Ideal.div (Ideal.exp (l2 - max l1 l2)) (Ideal.exp (l1 - max l1 l2) + Ideal.exp (l2 - max l1 l2)) * o

theorem div_one_add {c : ℝ} (hc : 0 < c) (x : EReal) : Ideal.div x (c : EReal) = x * ((1 / c : ℝ) : EReal) :=
  Ideal.div_coe hc.ne' x

/-- A quotient of a sum by a positive real. -/
theorem div_add {c : ℝ} (hc : 0 < c) (x y : EReal) : Ideal.div (x + y) (c : EReal) = Ideal.div x c + Ideal.div y c := by
  simp only [div_one_add hc]
  exact EReal.right_distrib_of_nonneg_of_ne_top (by exact_mod_cast (one_div_pos.mpr hc).le) (EReal.coe_ne_top _) _ _

/-- The kernel's merge: the factor `e ^ -|l1 - l2|` on the smaller side. -/
theorem merge_by_gap {l1 l2 : EReal} (h1 : ∃ r : ℝ, l1 = r) (h2 : l2 ≠ ⊤) (po o : EReal) :
    Ideal.div ((if 0 ≤ l1 - l2 then po else o) + Ideal.exp (-(max (l1 - l2) (-(l1 - l2)))) * (if 0 ≤ l1 - l2 then o else po))
      (1 + Ideal.exp (-(max (l1 - l2) (-(l1 - l2))))) = merge l1 l2 po o := by
  obtain ⟨r, rfl⟩ := h1
  induction l2 with
  | top => exact absurd rfl h2
  | bot =>
    have hM : max (r : EReal) ⊥ = r := by simp
    have hg : (r : EReal) - ⊥ = ⊤ := EReal.coe_sub_bot r
    have h0 : (r : EReal) - r = ((0 : ℝ) : EReal) := by rw [← EReal.coe_sub, sub_self]
    have he : Ideal.exp ((0 : ℝ) : EReal) = ((1 : ℝ) : EReal) := by
      show ((Real.exp 0 : ℝ) : EReal) = _; rw [Real.exp_zero]
    have h10 : ((1 : ℝ) : EReal) + 0 = ((1 : ℝ) : EReal) := add_zero _
    have h11 : (1 : EReal) = ((1 : ℝ) : EReal) := rfl
    have hd : ∀ x : EReal, Ideal.div x ((1 : ℝ) : EReal) = x := fun x => by
      rw [div_one_add one_pos]; simp
    simp only [merge, hM, hg, h0, he, EReal.bot_sub, exp_bot, EReal.neg_top, max_eq_left bot_le, le_top, if_true, h11, h10, hd,
      zero_mul, add_zero]
    rw [← h11, one_mul]
  | coe q =>
    have hgap : (r : EReal) - (q : EReal) = ((r - q : ℝ) : EReal) := (EReal.coe_sub r q).symm
    have hE : ∀ t : ℝ, Ideal.exp (t : EReal) = ((Real.exp t : ℝ) : EReal) := fun _ => rfl
    rcases le_or_gt q r with hqr | hqr
    · have hc : (0 : EReal) ≤ ((r - q : ℝ) : EReal) := by exact_mod_cast sub_nonneg.mpr hqr
      have hmax : max ((r - q : ℝ) : EReal) ((-(r - q) : ℝ) : EReal) = ((r - q : ℝ) : EReal) := by
        exact max_eq_left (by exact_mod_cast (by linarith : -(r - q) ≤ r - q))
      have hM : max (r : EReal) (q : EReal) = r := max_eq_left (by exact_mod_cast hqr)
      have hp : 0 < 1 + Real.exp (-(r - q)) := by positivity
      have hden : (1 : EReal) + ((Real.exp (-(r - q)) : ℝ) : EReal) = ((1 + Real.exp (-(r - q)) : ℝ) : EReal) := by
        rw [EReal.coe_add]; rfl
      have hqr' : (q : EReal) - (r : EReal) = ((-(r - q) : ℝ) : EReal) := by rw [← EReal.coe_sub]; congr 1; ring
      simp only [merge, hgap, hM, if_pos hc, ← EReal.coe_neg, hmax, hE, hqr', sub_self, Real.exp_zero]
      have h11 : ((1 : ℝ) : EReal) = 1 := rfl
      rw [← EReal.coe_sub, sub_self, hE, Real.exp_zero, h11, hden, div_add hp]
      simp only [div_one_add hp]
      rw [one_mul, mul_comm po, mul_right_comm]
    · have hc : ¬ (0 : EReal) ≤ ((r - q : ℝ) : EReal) := by
        rw [not_le]; exact_mod_cast sub_neg.mpr hqr
      have hmax : max ((r - q : ℝ) : EReal) ((-(r - q) : ℝ) : EReal) = ((-(r - q) : ℝ) : EReal) := by
        exact max_eq_right (by exact_mod_cast (by linarith : r - q ≤ -(r - q)))
      have hM : max (r : EReal) (q : EReal) = q := max_eq_right (by exact_mod_cast hqr.le)
      have hp : 0 < 1 + Real.exp (r - q) := by positivity
      have hden : (1 : EReal) + ((Real.exp (r - q) : ℝ) : EReal) = ((1 + Real.exp (r - q) : ℝ) : EReal) := by
        rw [EReal.coe_add]; rfl
      have hden' : ((Real.exp (r - q) : ℝ) : EReal) + 1 = ((1 + Real.exp (r - q) : ℝ) : EReal) := by
        rw [add_comm, hden]
      simp only [merge, hgap, hM, if_neg hc, ← EReal.coe_neg, hmax, neg_neg, hE]
      have h11 : ((1 : ℝ) : EReal) = 1 := rfl
      rw [← EReal.coe_sub, sub_self, hE, Real.exp_zero, h11, hden, hden', div_add hp]
      simp only [div_one_add hp]
      rw [one_mul, mul_comm o, mul_right_comm, add_comm]

end Cert.Proof.Scalar
-- ==== Proof.AttnUnit.lean ====
/-
  A unit of the attention kernel's body, read at one query and one lane: a row of scores over the window's 256 keys, its weights,
  their weighted sum of values, and the merge with the earlier result.
-/
module

public import proofs.«01_k».proof.Proof.AttnPieces
public import proofs.«01_k».proof.Proof.Scalar
public import Idealize.ShloMosaic.Lib.Pointwise

@[expose] public section

set_option maxRecDepth 16384

noncomputable section

open Idealize.ShloMosaic Idealize.ShloMosaic.TcCoe Idealize.SL.Sem

namespace Cert.AttnIdeal.Unit
open Cert.AttnIdeal Cert.AttnIdeal.Gen Cert.AttnIdeal.Pieces Idealize.ShloMosaic.Pointwise
open Cert.Proof.Scalar

/-- The body's lane test: lanes below 64 belong to the pair's first head. -/
theorem low_eq {n : ℕ} (hn : n < 256) (a b : EReal) :
    Scalar.select (IntOp.cmpi CmpIPredicate.slt (BitVec.ofNat 32 n) 64#32) a b = if n < 64 then a else b := by
  have h : IntOp.cmpi CmpIPredicate.slt (BitVec.ofNat 32 n) 64#32 = if n < 64 then 1#1 else 0#1 := by
    revert n; decide
  rw [h]
  split <;> rfl

/-- A sum over a pair's 128 lanes that only sees one head's 64. -/
theorem sum_lanes (e : Fin 2) (f : Fin 128 → EReal) (g : Fin 64 → EReal)
    (hin : ∀ d : Fin 64, f ⟨64 * e + d, by omega⟩ = g d) (hout : ∀ x : Fin 128, (x : ℕ) / 64 ≠ e → f x = 0) :
    ∑ x, f x = ∑ d, g d := by
  have h : ∑ x : Fin 128, f x = ∑ x : Fin (64 + 64), f x := rfl
  rw [h, Fin.sum_univ_add]
  match e with
  | ⟨0, _⟩ =>
    rw [Finset.sum_eq_zero (s := Finset.univ) (f := fun i : Fin 64 => f (Fin.natAdd 64 i)), add_zero]
    · refine Finset.sum_congr rfl fun d _ => ?_
      rw [← hin d]; congr 1; apply Fin.ext; simp
    · intro d _; apply hout; simp
  | ⟨1, _⟩ =>
    rw [Finset.sum_eq_zero (s := Finset.univ) (f := fun i : Fin 64 => f (Fin.castAdd 64 i)), zero_add]
    · refine Finset.sum_congr rfl fun d _ => ?_
      rw [← hin d]; congr 1
    · intro d _; apply hout; simp; omega

theorem score_apply (q : Vec Ideal S1x1x128x128 .bf16) (kw : Vec Ideal S1x1x256x128 .bf16) (e : Fin 2) (i : Fin 128) (k : Fin 256) :
    k0_pay86 k0_pay3 k0_pay4 q kw (ix2 ⟨128 * e + i, by omega⟩ k)
      = ∑ d : Fin 64, q (ix4 0 0 i ⟨64 * e + d, by omega⟩) * kw (ix4 0 0 k ⟨64 * e + d, by omega⟩) := by
  pointwise [k0_pay86, k0_pay3, k0_pay4, k0_pay2]
  refine sum_lanes e _ _ (fun d => ?_) (fun x hx => ?_)
  · match e with
    | ⟨0, _⟩ => rw [dif_pos (by simp), low_eq (by simp; omega), if_pos (by simp)]; congr 2; idx_ext <;> simp
    | ⟨1, _⟩ => rw [dif_neg (by simp), low_eq (by simp; omega), if_neg (by simp)]; congr 2; idx_ext <;> simp
  · match e with
    | ⟨0, _⟩ => rw [dif_pos (by simp), low_eq (by omega), if_neg (by simp at hx; omega), zero_mul]
    | ⟨1, _⟩ => rw [dif_neg (by simp), low_eq (by omega), if_pos (by simp at hx; omega), zero_mul]

/-- Two blocks of 128 rows one after the other. -/
def joined (a b : Vec Ideal S1x1x128x128 .bf16) (k : Fin 256) (l : Fin 128) : EReal :=
  if h : (k : ℕ) < 128 then a (ix4 0 0 ⟨k, h⟩ l) else b (ix4 0 0 ⟨k - 128, by omega⟩ l)

theorem score_first_apply (q ka kb : Vec Ideal S1x1x128x128 .bf16) (e : Fin 2) (i : Fin 128) (k : Fin 256) :
    k0_pay7 q ka kb (ix2 ⟨128 * e + i, by omega⟩ k)
      = ∑ d : Fin 64, q (ix4 0 0 i ⟨64 * e + d, by omega⟩) * joined ka kb k ⟨64 * e + d, by omega⟩ := by
  pointwise [k0_pay7, k0_pay3, k0_pay4, k0_pay2]
  refine sum_lanes e _ _ (fun d => ?_) (fun x hx => ?_)
  · match e with
    | ⟨0, _⟩ => rw [dif_pos (by simp), low_eq (by simp; omega), if_pos (by simp)]; congr 2; idx_ext <;> simp
    | ⟨1, _⟩ => rw [dif_neg (by simp), low_eq (by simp; omega), if_neg (by simp)]; congr 2; idx_ext <;> simp
  · match e with
    | ⟨0, _⟩ => rw [dif_pos (by simp), low_eq (by omega), if_neg (by simp at hx; omega), zero_mul]
    | ⟨1, _⟩ => rw [dif_neg (by simp), low_eq (by omega), if_pos (by simp at hx; omega), zero_mul]

/-- A sum over the weights of both heads, of which a lane's column only sees its own head's. -/
theorem sum_heads (e : Fin 2) (f : Fin 512 → EReal) (g : Fin 256 → EReal)
    (hin : ∀ k : Fin 256, f ⟨256 * e + k, by omega⟩ = g k) (hout : ∀ x : Fin 512, (x : ℕ) / 256 ≠ e → f x = 0) :
    ∑ x, f x = ∑ k, g k := by
  have h : ∑ x : Fin 512, f x = ∑ x : Fin (256 + 256), f x := rfl
  rw [h, Fin.sum_univ_add]
  match e with
  | ⟨0, _⟩ =>
    rw [Finset.sum_eq_zero (s := Finset.univ) (f := fun i : Fin 256 => f (Fin.natAdd 256 i)), add_zero]
    · refine Finset.sum_congr rfl fun d _ => ?_
      rw [← hin d]; congr 1; apply Fin.ext; simp
    · intro d _; apply hout; simp
  | ⟨1, _⟩ =>
    rw [Finset.sum_eq_zero (s := Finset.univ) (f := fun i : Fin 256 => f (Fin.castAdd 256 i)), zero_add]
    · refine Finset.sum_congr rfl fun d _ => ?_
      rw [← hin d]; congr 1
    · intro d _; apply hout; simp; omega

theorem num_apply (p : FVec Ideal S256x256 .bf16) (vw : Vec Ideal S1x1x256x128 .bf16) (e : Fin 2) (i : Fin 128) (d : Fin 64) :
    k0_pay125 k0_pay5 k0_pay6 p vw (ix2 i ⟨64 * e + d, by omega⟩)
      = ∑ k, p (ix2 ⟨128 * e + i, by omega⟩ k) * vw (ix4 0 0 k ⟨64 * e + d, by omega⟩) := by
  pointwise [k0_pay125, k0_pay5, k0_pay6, k0_pay3, k0_pay4, k0_pay2]
  refine sum_heads e _ _ (fun k => ?_) (fun x hx => ?_) <;>
  · simp only [low_eq (show 64 * (e : ℕ) + d < 256 by omega), ite_self, dite_eq_ite, ↓reduceDIte, show 64 * (e : ℕ) + d < 128 by omega]
    match e with
    | ⟨0, _⟩ => simp_all
    | ⟨1, _⟩ => simp_all <;> omega

theorem den_apply (p : FVec Ideal S256x256 .bf16) (vw : Vec Ideal S1x1x256x128 .bf16) (e : Fin 2) (i : Fin 128) (d : Fin 64) :
    k0_pay125 k0_pay5 k0_pay6 p vw (ix2 i ⟨128 + (64 * e + d), by omega⟩) = ∑ k, p (ix2 ⟨128 * e + i, by omega⟩ k) := by
  pointwise [k0_pay125, k0_pay5, k0_pay6, k0_pay3, k0_pay4, k0_pay2]
  refine sum_heads e _ _ (fun k => ?_) (fun x hx => ?_) <;>
  · simp only [low_eq (show 64 * (e : ℕ) + d < 256 by omega), ite_self, dite_eq_ite, ↓reduceDIte, show 64 * (e : ℕ) + d < 128 by omega]
    match e with
    | ⟨0, _⟩ => simp_all
    | ⟨1, _⟩ => simp_all <;> omega

theorem num_first_apply (p : FVec Ideal S256x256 .bf16) (va vb : Vec Ideal S1x1x128x128 .bf16) (e : Fin 2) (i : Fin 128) (d : Fin 64) :
    k0_pay31 k0_pay5 k0_pay6 p va vb (ix2 i ⟨64 * e + d, by omega⟩)
      = ∑ k, p (ix2 ⟨128 * e + i, by omega⟩ k) * joined va vb k ⟨64 * e + d, by omega⟩ := by
  pointwise [k0_pay31, k0_pay5, k0_pay6, k0_pay3, k0_pay4, k0_pay2]
  refine sum_heads e _ _ (fun k => ?_) (fun x hx => ?_) <;>
  · simp only [low_eq (show 64 * (e : ℕ) + d < 256 by omega), ite_self, joined, dite_eq_ite, ↓reduceDIte, show 64 * (e : ℕ) + d < 128 by omega]
    match e with
    | ⟨0, _⟩ => simp_all
    | ⟨1, _⟩ => simp_all <;> omega

theorem den_first_apply (p : FVec Ideal S256x256 .bf16) (va vb : Vec Ideal S1x1x128x128 .bf16) (e : Fin 2) (i : Fin 128) (d : Fin 64) :
    k0_pay31 k0_pay5 k0_pay6 p va vb (ix2 i ⟨128 + (64 * e + d), by omega⟩) = ∑ k, p (ix2 ⟨128 * e + i, by omega⟩ k) := by
  pointwise [k0_pay31, k0_pay5, k0_pay6, k0_pay3, k0_pay4, k0_pay2]
  refine sum_heads e _ _ (fun k => ?_) (fun x hx => ?_) <;>
  · simp only [low_eq (show 64 * (e : ℕ) + d < 256 by omega), ite_self, joined, dite_eq_ite, ↓reduceDIte, show 64 * (e : ℕ) + d < 128 by omega]
    match e with
    | ⟨0, _⟩ => simp_all
    | ⟨1, _⟩ => simp_all <;> omega

theorem probs_apply (s : FVec Ideal S256x256 .f32) (b0 b1 : Vec Ideal S1x1x128x256 .f32) (e : Fin 2) (i : Fin 128) (k : Fin 256) :
    k0_pay15 s b0 b1 (ix2 ⟨128 * e + i, by omega⟩ k)
      = Ideal.exp2 ((s (ix2 ⟨128 * e + i, by omega⟩ k) + (if e = 0 then b0 else b1) (ix4 0 0 i k)) -
          Finset.univ.fold max ⊥ fun x => s (ix2 ⟨128 * e + i, by omega⟩ x) + (if e = 0 then b0 else b1) (ix4 0 0 i x)) := by
  have hbot : Ideal.ofBits FTy.f32 4286578688#32 = ⊥ := by simp [Ideal.ofBits, Ideal.ieee]
  pointwise [k0_pay15, k0_pay14, k0_pay13]
  rw [hbot]
  match e with
  | ⟨0, _⟩ => simp; rfl
  | ⟨1, _⟩ => simp; rfl

theorem max_apply (s : FVec Ideal S256x256 .f32) (b0 b1 : Vec Ideal S1x1x128x256 .f32) (e : Fin 2) (i : Fin 128) (d : Fin 64) :
    k0_pay16 k0_pay2 s b0 b1 (ix2 i ⟨64 * e + d, by omega⟩)
      = Finset.univ.fold max ⊥ fun x => s (ix2 ⟨128 * e + i, by omega⟩ x) + (if e = 0 then b0 else b1) (ix4 0 0 i x) := by
  have hbot : Ideal.ofBits FTy.f32 4286578688#32 = ⊥ := by simp [Ideal.ofBits, Ideal.ieee]
  pointwise [k0_pay16, k0_pay14, k0_pay13, k0_pay2]
  rw [hbot, low_eq (by omega)]
  match e with
  | ⟨0, _⟩ => simp
  | ⟨1, _⟩ => simp

/-- What the body does with a row's largest score, its weights' sum and the weighted sum of values (all in base two): the row's
    result and log-sum-exp, mixed with the earlier ones `po` and `pl`. -/
def finish (M den num po pl : EReal) : EReal :=
  Ideal.div
    ((if 0 ≤ pl - (M + Ideal.log den * L) then po else Ideal.div num den) +
      Ideal.exp2 (-(max (pl - (M + Ideal.log den * L)) (-(pl - (M + Ideal.log den * L))))) *
        (if 0 ≤ pl - (M + Ideal.log den * L) then Ideal.div num den else po))
    (1 + Ideal.exp2 (-(max (pl - (M + Ideal.log den * L)) (-(pl - (M + Ideal.log den * L))))))

theorem named_eq : Named.named (F := Ideal) (φ := .f32) κ "log2e" 1069066811#32 = L := rfl

theorem finish_apply (m : FVec Ideal S128x128 .f32) (pv : FVec Ideal S128x256 .f32) (po : Vec Ideal S1x1x128x128 .bf16)
    (pl : Vec Ideal S1x1x128x128 .f32) (i : Fin 128) (l : Fin 128) :
    k0_pay134 m pv po pl (ix4 0 0 i l)
      = finish (m (ix2 i l)) (pv (ix2 i ⟨128 + l, by omega⟩)) (pv (ix2 i ⟨l, by omega⟩)) (po (ix4 0 0 i l)) (pl (ix4 0 0 i l)) := by
  pointwise [k0_pay134]
  simp only [named_eq, zero_sub]
  rfl

/-- One row of a unit: scores `s` (in base two, bias included), values `v`. -/
def row (s v : Fin 256 → EReal) (po pl : EReal) : EReal :=
  finish (Finset.univ.fold max ⊥ s) (∑ k, Ideal.exp2 (s k - Finset.univ.fold max ⊥ s))
    (∑ k, Ideal.exp2 (s k - Finset.univ.fold max ⊥ s) * v k) po pl

/-- A row whose scores and earlier log-sum-exp are natural ones scaled to base two: a softmax row, merged with the earlier result. -/
theorem row_scaled (t v : Fin 256 → EReal) (po : EReal) (l1 : EReal) (h1 : ∃ r : ℝ, l1 = r) :
    row (fun k => t k * L) v po (l1 * L)
      = merge l1 (lse t) po (Ideal.div (∑ k, weight t k * v k) (∑ k, weight t k)) := by
  have hl : Finset.univ.fold max ⊥ (fun k => t k * L) + Ideal.log (∑ k, weight t k) * L = lse t * L := by
    rw [lse, add_mul_L, fold_max_mul_L]
  rw [← merge_by_gap h1 (lse_ne_top t)]
  unfold row finish
  simp only [weight_scaled, hl]
  rw [← sub_mul_L, ← neg_mul_L, ← max_mul_L, ← neg_mul_L, exp2_mul_L]
  simp only [mul_L_nonneg_iff]

theorem later_apply (q : Vec Ideal S1x1x128x128 .bf16) (kw vw : Vec Ideal S1x1x256x128 .bf16) (b0 b1 : Vec Ideal S1x1x128x256 .f32)
    (po : Vec Ideal S1x1x128x128 .bf16) (pl : Vec Ideal S1x1x128x128 .f32) (e : Fin 2) (i : Fin 128) (d : Fin 64) :
    unitLater q kw vw b0 b1 po pl (ix4 0 0 i ⟨64 * e + d, by omega⟩)
      = row (fun k => (∑ d' : Fin 64, q (ix4 0 0 i ⟨64 * e + d', by omega⟩) * kw (ix4 0 0 k ⟨64 * e + d', by omega⟩))
            + (if e = 0 then b0 else b1) (ix4 0 0 i k))
          (fun k => vw (ix4 0 0 k ⟨64 * e + d, by omega⟩)) (po (ix4 0 0 i ⟨64 * e + d, by omega⟩)) (pl (ix4 0 0 i ⟨64 * e + d, by omega⟩)) := by
  unfold unitLater row
  rw [finish_apply]
  dsimp only
  rw [max_apply, den_apply, num_apply]
  simp only [probs_apply, score_apply]

theorem first_apply (q ka kb va vb : Vec Ideal S1x1x128x128 .bf16) (b0 b1 : Vec Ideal S1x1x128x256 .f32)
    (po : Vec Ideal S1x1x128x128 .bf16) (pl : Vec Ideal S1x1x128x128 .f32) (e : Fin 2) (i : Fin 128) (d : Fin 64) :
    unitFirst q ka kb va vb b0 b1 po pl (ix4 0 0 i ⟨64 * e + d, by omega⟩)
      = row (fun k => (∑ d' : Fin 64, q (ix4 0 0 i ⟨64 * e + d', by omega⟩) * joined ka kb k ⟨64 * e + d', by omega⟩)
            + (if e = 0 then b0 else b1) (ix4 0 0 i k))
          (fun k => joined va vb k ⟨64 * e + d, by omega⟩) (po (ix4 0 0 i ⟨64 * e + d, by omega⟩)) (pl (ix4 0 0 i ⟨64 * e + d, by omega⟩)) := by
  unfold unitFirst row
  rw [finish_apply]
  dsimp only
  rw [max_apply, den_first_apply, num_first_apply]
  simp only [probs_apply, score_first_apply]

end Cert.AttnIdeal.Unit
-- ==== Proof.AttnBlock.lean ====
/-
  What one grid point of the attention kernel writes: every element of its 512 by 1024 block is a softmax row over a window
  of 256 keys, whichever of the thirty-two units stored it.
-/
module

public import proofs.«01_k».proof.Proof.AttnUnit
public import Idealize.ShloMosaic.Lib.CellWrites

@[expose] public section

set_option maxRecDepth 16384

noncomputable section

open Idealize.ShloMosaic Idealize.ShloMosaic.TcCoe Idealize.SL.Sem

namespace Cert.AttnIdeal.Block
open Cert.AttnIdeal Cert.AttnIdeal.Gen Cert.AttnIdeal.Pieces Cert.AttnIdeal.Unit

/-- Writes that all agree with one function: an element that some piece covers reads that function's value. -/
theorem read_writes_of_agree {sig : RefSig} {κ : Kind} {sp : Space} {e : EltTy} {Val : EltTy → Type} {s : Shape}
    (v : View sig κ sp s e) (f : v.ty.Contents Val) (G : s.Idx → Val e) (y : s.Idx) :
    ∀ L : List (View.Piece Val s e), (∀ p ∈ L, ∀ x : p.1.shape.Idx, p.2 x = G (p.1.emb x)) → (∃ p ∈ L, y ∈ p.1.set) →
      v.read Val (v.writes Val f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_of_agree v f G y L (fun q hq => hP q (List.mem_cons_of_mem _ hq)) ?_
      obtain ⟨q, hq, hyq⟩ := h
      rcases List.mem_cons.mp hq with rfl | hq'
      · exact absurd hyq hy
      · exact ⟨q, hq', hyq⟩

variable (x0 : Vec Ideal S1x1x512x3072 .bf16) (x1 : Vec Ideal S1x1x128x3072 .bf16) (x2 : Vec Ideal S2x16x128x256 .f32)
    (x3 : Vec Ideal S1x1x512x1024 .bf16) (x4 : Vec Ideal S1x1x512x1024 .f32)

theorem ld_cur (r c : ℕ) (hr : r ≤ 384) (hc : c ≤ 2944) (i l : Fin 128) :
    View.ld x0 (cur r c hr hc) (ix4 0 0 i l) = x0 (ix4 0 0 ⟨r + i, by omega⟩ ⟨c + l, by omega⟩) := by
  refine congrArg x0 ?_
  funext a; apply Fin.ext
  match a with
  | ⟨0, _⟩ => rfl
  | ⟨1, _⟩ => rfl
  | ⟨2, _⟩ => show r + 1 * i.val = r + i.val; omega
  | ⟨3, _⟩ => show c + 1 * l.val = c + l.val; omega

theorem ld_win (r c : ℕ) (hr : r ≤ 256) (hc : c ≤ 2944) (i : Fin 256) (l : Fin 128) :
    View.ld x0 (win r c hr hc) (ix4 0 0 i l) = x0 (ix4 0 0 ⟨r + i, by omega⟩ ⟨c + l, by omega⟩) := by
  refine congrArg x0 ?_
  funext a; apply Fin.ext
  match a with
  | ⟨0, _⟩ => rfl
  | ⟨1, _⟩ => rfl
  | ⟨2, _⟩ => show r + 1 * i.val = r + i.val; omega
  | ⟨3, _⟩ => show c + 1 * l.val = c + l.val; omega

theorem ld_prv (c : ℕ) (hc : c ≤ 2944) (i l : Fin 128) :
    View.ld x1 (prv c hc) (ix4 0 0 i l) = x1 (ix4 0 0 i ⟨c + l, by omega⟩) := by
  refine congrArg x1 ?_
  funext a; apply Fin.ext
  match a with
  | ⟨0, _⟩ => rfl
  | ⟨1, _⟩ => rfl
  | ⟨2, _⟩ => show 0 + 1 * i.val = i.val; omega
  | ⟨3, _⟩ => show c + 1 * l.val = c + l.val; omega

theorem emb_out (r c : ℕ) (hr : r ≤ 384) (hc : c ≤ 896) (i l : Fin 128) :
    (out r c hr hc).emb (ix4 0 0 i l) = (ix4 0 0 ⟨r + i, by omega⟩ ⟨c + l, by omega⟩ : S1x1x512x1024.Idx) := by
  funext a; apply Fin.ext
  match a with
  | ⟨0, _⟩ => rfl
  | ⟨1, _⟩ => rfl
  | ⟨2, _⟩ => show r + 1 * i.val = r + i.val; omega
  | ⟨3, _⟩ => show c + 1 * l.val = c + l.val; omega

theorem ld_out {e : EltTy} (x : Vec Ideal S1x1x512x1024 e) (r c : ℕ) (hr : r ≤ 384) (hc : c ≤ 896) (i l : Fin 128) :
    View.ld x (out r c hr hc) (ix4 0 0 i l) = x (ix4 0 0 ⟨r + i, by omega⟩ ⟨c + l, by omega⟩) := by
  rw [← emb_out r c hr hc]; rfl

theorem ld_bia (f h : ℕ) (hf : f ≤ 1) (hh : h ≤ 15) (i : Fin 128) (k : Fin 256) :
    View.ld x2 (bia f h hf hh) (ix4 0 0 i k) = x2 (ix4 ⟨f, by omega⟩ ⟨h, by omega⟩ i k) := by
  refine congrArg x2 ?_
  funext a; apply Fin.ext
  match a with
  | ⟨0, _⟩ => show f + 1 * 0 = f; omega
  | ⟨1, _⟩ => show h + 1 * 0 = h; omega
  | ⟨2, _⟩ => show 0 + 1 * i.val = i.val; omega
  | ⟨3, _⟩ => show 0 + 1 * k.val = k.val; omega

/-- The `k`-th key (or value) row of query block `qb`'s window: block `qb - 1`, then block `qb`. -/
def window (qb : Fin 4) (k : Fin 256) (col : Fin 3072) : EReal :=
  if h : (qb : ℕ) = 0 then
    if hk : (k : ℕ) < 128 then x1 (ix4 0 0 ⟨k, hk⟩ col) else x0 (ix4 0 0 ⟨k - 128, by omega⟩ col)
  else x0 (ix4 0 0 ⟨128 * (qb - 1) + k, by omega⟩ col)

/-- Query `128 qb + i`, head `2 hp + e`, lane `d`. -/
def value (qb : Fin 4) (i : Fin 128) (hp : Fin 8) (e : Fin 2) (d : Fin 64) : EReal :=
  row (fun k => (∑ d' : Fin 64, x0 (ix4 0 0 ⟨128 * qb + i, by omega⟩ ⟨128 * hp + (64 * e + d'), by omega⟩)
          * window x0 x1 qb k ⟨1024 + 128 * hp + (64 * e + d'), by omega⟩)
        + x2 (ix4 (if (qb : ℕ) = 0 then 1 else 0) ⟨2 * hp + e, by omega⟩ i k))
    (fun k => window x0 x1 qb k ⟨2048 + 128 * hp + (64 * e + d), by omega⟩)
    (x3 (ix4 0 0 ⟨128 * qb + i, by omega⟩ ⟨128 * hp + (64 * e + d), by omega⟩))
    (x4 (ix4 0 0 ⟨128 * qb + i, by omega⟩ ⟨128 * hp + (64 * e + d), by omega⟩))

/-- The same by position in the block. -/
def whole (y : S1x1x512x1024.Idx) : EReal :=
  have h2 : (y 2 : ℕ) < 512 := (y 2).isLt
  have h3 : (y 3 : ℕ) < 1024 := (y 3).isLt
  value x0 x1 x2 x3 x4 ⟨(y 2 : ℕ) / 128, by omega⟩ ⟨(y 2 : ℕ) % 128, by omega⟩ ⟨(y 3 : ℕ) / 128, by omega⟩
    ⟨(y 3 : ℕ) % 128 / 64, by omega⟩ ⟨(y 3 : ℕ) % 64, by omega⟩

theorem value_congr {qb qb' : Fin 4} {i i' : Fin 128} {hp hp' : Fin 8} {e e' : Fin 2} {d d' : Fin 64} (h1 : (qb : ℕ) = qb')
    (h2 : (i : ℕ) = i') (h3 : (hp : ℕ) = hp') (h4 : (e : ℕ) = e') (h5 : (d : ℕ) = d') :
    value x0 x1 x2 x3 x4 qb i hp e d = value x0 x1 x2 x3 x4 qb' i' hp' e' d' := by
  obtain rfl := Fin.ext h1
  obtain rfl := Fin.ext h2
  obtain rfl := Fin.ext h3
  obtain rfl := Fin.ext h4
  obtain rfl := Fin.ext h5
  rfl

theorem whole_at (qb : Fin 4) (i : Fin 128) (hp : Fin 8) (e : Fin 2) (d : Fin 64) :
    whole x0 x1 x2 x3 x4 (ix4 0 0 ⟨128 * qb + i, by omega⟩ ⟨128 * hp + (64 * e + d), by omega⟩) = value x0 x1 x2 x3 x4 qb i hp e d := by
  refine value_congr x0 x1 x2 x3 x4 ?_ ?_ ?_ ?_ ?_
  · show (128 * (qb : ℕ) + i) / 128 = qb; omega
  · show (128 * (qb : ℕ) + i) % 128 = i; omega
  · show (128 * (hp : ℕ) + (64 * e + d)) / 128 = hp; omega
  · show (128 * (hp : ℕ) + (64 * e + d)) % 128 / 64 = e; omega
  · show (128 * (hp : ℕ) + (64 * e + d)) % 64 = d; omega

/-- Every index of a unit's 128 by 128 payload, by row, head and lane. -/
theorem lanes (x : S1x1x128x128.Idx) : ∃ (i : Fin 128) (e : Fin 2) (d : Fin 64), x = ix4 0 0 i ⟨64 * e + d, by omega⟩ := by
  have h3 : (x 3 : ℕ) < 128 := (x 3).isLt
  refine ⟨x 2, ⟨(x 3 : ℕ) / 64, by omega⟩, ⟨(x 3 : ℕ) % 64, by omega⟩, ?_⟩
  have h0 : (x 0 : ℕ) < 1 := (x 0).isLt
  have h1 : (x 1 : ℕ) < 1 := (x 1).isLt
  funext a; apply Fin.ext
  match a with
  | ⟨0, _⟩ => show (x 0 : ℕ) = 0; omega
  | ⟨1, _⟩ => show (x 1 : ℕ) = 0; omega
  | ⟨2, _⟩ => rfl
  | ⟨3, _⟩ => show (x 3 : ℕ) = 64 * ((x 3 : ℕ) / 64) + (x 3 : ℕ) % 64; omega

/-- A head's bias rows, of the two that a unit loads. -/
theorem bias_at (f : Fin 2) (hp : Fin 8) (e : Fin 2) (i : Fin 128) (k : Fin 256) (b0 b1 : Vec Ideal S1x1x128x256 .f32)
    (h0 : b0 (ix4 0 0 i k) = x2 (ix4 f ⟨2 * hp, by omega⟩ i k)) (h1 : b1 (ix4 0 0 i k) = x2 (ix4 f ⟨2 * hp + 1, by omega⟩ i k)) :
    (if e = 0 then b0 else b1) (ix4 0 0 i k) = x2 (ix4 f ⟨2 * hp + e, by omega⟩ i k) := by
  match e with
  | ⟨0, _⟩ => exact h0
  | ⟨1, _⟩ => exact h1

theorem row_congr {s s' v v' : Fin 256 → EReal} {po po' pl pl' : EReal} (h1 : ∀ k, s k = s' k) (h2 : ∀ k, v k = v' k) (h3 : po = po')
    (h4 : pl = pl') : row s v po pl = row s' v' po' pl' := by
  rw [funext h1, funext h2, h3, h4]

theorem later_agrees (qb : Fin 3) (hp : Fin 8) (x : (pieceLater (F := Ideal) x0 x2 x3 x4 qb hp).1.shape.Idx) :
    (pieceLater (F := Ideal) x0 x2 x3 x4 qb hp).2 x = whole x0 x1 x2 x3 x4 ((pieceLater (F := Ideal) x0 x2 x3 x4 qb hp).1.emb x) := by
  obtain ⟨i, e, d, rfl⟩ := lanes x
  have hr := (congrArg (whole x0 x1 x2 x3 x4) (emb_out (128 * (qb + 1)) (128 * hp) (by omega) (by omega) i ⟨64 * e + d, by omega⟩)).trans
    (whole_at x0 x1 x2 x3 x4 ⟨qb + 1, by omega⟩ i hp e d)
  refine Eq.trans ?_ hr.symm
  refine (later_apply _ _ _ _ _ _ _ e i d).trans (row_congr (fun k => congrArg₂ (· + ·) (Finset.sum_congr rfl fun d' _ =>
    congrArg₂ (· * ·) ?_ ?_) (bias_at x2 0 hp e i k _ _ ?_ ?_)) (fun k => ?_) ?_ ?_)
  · exact ld_cur x0 ..
  · exact ld_win x0 ..
  · exact ld_bia x2 ..
  · exact ld_bia x2 ..
  · exact ld_win x0 ..
  · exact ld_out x3 ..
  · exact ld_out x4 ..

theorem first_agrees (f : ℕ) (hf : f ≤ 1) (h1 : f = 1) (hp : Fin 8) (x : (pieceFirst (F := Ideal) x0 x1 x2 x3 x4 f hf hp).1.shape.Idx) :
    (pieceFirst (F := Ideal) x0 x1 x2 x3 x4 f hf hp).2 x = whole x0 x1 x2 x3 x4 ((pieceFirst (F := Ideal) x0 x1 x2 x3 x4 f hf hp).1.emb x) := by
  subst h1
  obtain ⟨i, e, d, rfl⟩ := lanes x
  have hr := (congrArg (whole x0 x1 x2 x3 x4) (emb_out 0 (128 * hp) (by omega) (by omega) i ⟨64 * e + d, by omega⟩)).trans
    (whole_at x0 x1 x2 x3 x4 ⟨0, by omega⟩ i hp e d)
  have hj : ∀ (c : ℕ) (hc : c ≤ 2944) (k : Fin 256) (l : Fin 128),
      joined (View.ld x1 (prv c hc)) (View.ld x0 (cur 0 c (by omega) hc)) k l = window x0 x1 ⟨0, by omega⟩ k ⟨c + l, by omega⟩ := by
    intro c hc k l
    unfold joined window
    rw [dif_pos (show ((⟨0, by omega⟩ : Fin 4) : ℕ) = 0 from rfl)]
    split
    · exact ld_prv x1 ..
    · refine (ld_cur x0 ..).trans (congrArg x0 ?_)
      funext a; apply Fin.ext
      match a with
      | ⟨0, _⟩ => rfl
      | ⟨1, _⟩ => rfl
      | ⟨2, _⟩ => show 0 + (k.val - 128) = k.val - 128; omega
      | ⟨3, _⟩ => rfl
  refine Eq.trans ?_ hr.symm
  refine (first_apply _ _ _ _ _ _ _ _ _ e i d).trans (row_congr (fun k => congrArg₂ (· + ·) (Finset.sum_congr rfl fun d' _ =>
    congrArg₂ (· * ·) ?_ ?_) (bias_at x2 1 hp e i k _ _ ?_ ?_)) (fun k => ?_) ?_ ?_)
  · exact ld_cur x0 ..
  · exact hj _ _ _ _
  · exact ld_bia x2 ..
  · exact ld_bia x2 ..
  · exact hj _ _ _ _
  · exact ld_out x3 ..
  · exact ld_out x4 ..

/-- An index lies in the piece of its block of rows and pair of heads. -/
theorem mem_out (r c : ℕ) (hr : r ≤ 384) (hc : c ≤ 896) (y : S1x1x512x1024.Idx) (h2 : r ≤ (y 2 : ℕ) ∧ (y 2 : ℕ) < r + 128)
    (h3 : c ≤ (y 3 : ℕ) ∧ (y 3 : ℕ) < c + 128) : y ∈ (out r c hr hc).set := by
  unfold out
  rw [Rect.mem_set_unit]
  have h0 : (y 0 : ℕ) < 1 := (y 0).isLt
  have h1 : (y 1 : ℕ) < 1 := (y 1).isLt
  intro a
  match a with
  | ⟨0, _⟩ => exact ⟨Nat.zero_le _, h0⟩
  | ⟨1, _⟩ => exact ⟨Nat.zero_le _, h1⟩
  | ⟨2, _⟩ => exact h2
  | ⟨3, _⟩ => exact h3

/-- The thirty-two units in the order of their stores, the last first. -/
def order {α : Type} (L : Fin 3 → Fin 8 → α) (K : Fin 8 → α) : List α :=
  [L 2 7, L 2 6, L 2 5, L 2 4, L 2 3, L 2 2, L 2 1, L 2 0, L 1 7, L 1 6, L 1 5, L 1 4, L 1 3, L 1 2, L 1 1, L 1 0,
       L 0 7, L 0 6, L 0 5, L 0 4, L 0 3, L 0 2, L 0 1, L 0 0, K 7, K 6, K 5, K 4, K 3, K 2, K 1, K 0]

theorem first_mem {α : Type} (L : Fin 3 → Fin 8 → α) (K : Fin 8 → α) (h : Fin 8) : K h ∈ order L K := by
  unfold order; fin_cases h <;> simp

theorem later_mem {α : Type} (L : Fin 3 → Fin 8 → α) (K : Fin 8 → α) (q : Fin 3) (h : Fin 8) : L q h ∈ order L K := by
  unfold order; fin_cases q <;> fin_cases h <;> simp

theorem of_order {α : Type} (L : Fin 3 → Fin 8 → α) (K : Fin 8 → α) (P : α → Prop) (hL : ∀ q h, P (L q h)) (hK : ∀ h, P (K h)) :
    ∀ p ∈ order L K, P p := by
  intro p hm
  simp only [order, List.mem_cons, List.not_mem_nil, or_false] at hm
  rcases hm with rfl | rfl | rfl | rfl | rfl | rfl | rfl | rfl | rfl | rfl | rfl | rfl | rfl | rfl | rfl | rfl | rfl | rfl | rfl
    | rfl | rfl | rfl | rfl | rfl | rfl | rfl | rfl | rfl | rfl | rfl | rfl | rfl
  all_goals first | exact hL _ _ | exact hK _

/-- The block a grid point writes back. -/
theorem out_eq (c : Dev nD) (i : grid0.Coords) (a3 : Memref sig .tc .vmem S1x1x512x3072 .bf16) (h3 : a3.IsWhole)
    (a4 : Memref sig .tc .vmem S1x1x128x3072 .bf16) (h4 : a4.IsWhole) (a5 : Memref sig .tc .vmem S2x16x128x256 .f32) (h5 : a5.IsWhole)
    (a6 : Memref sig .tc .vmem S1x1x512x1024 .bf16) (h6 : a6.IsWhole) (a7 : Memref sig .tc .vmem S1x1x512x1024 .f32) (h7 : a7.IsWhole)
    (a8 : Memref sig .tc .vmem S1x1x512x1024 .bf16) (h8 : a8.IsWhole) :
    out0_A_5 (F := Ideal) c i a3 h3 a4 h4 a5 h5 a6 h6 a7 h7 a8 h8 x0 x1 x2 x3 x4 = whole x0 x1 x2 x3 x4 := by
  funext y
  have hp := pieces_eq (F := Ideal) c i a3 h3 a4 h4 a5 h5 a6 h6 a7 h7 a8 h8 x0 x1 x2 x3 x4
  simp only [Memref.IsWhole.read_unread] at hp
  unfold out0_A_5
  rw [hp]
  have y2 : (y 2 : ℕ) < 512 := (y 2).isLt
  have y3 : (y 3 : ℕ) < 1024 := (y 3).isLt
  refine read_writes_of_agree (Val := Elt Ideal) VO0_5 _ (whole x0 x1 x2 x3 x4) y _ ?_ ?_
  · exact of_order _ _ _ (later_agrees x0 x1 x2 x3 x4) (first_agrees x0 x1 x2 x3 x4 (first i) (first_le i) (first_eq i))
  · by_cases hq : (y 2 : ℕ) < 128
    · exact ⟨_, first_mem (pieceLater (F := Ideal) x0 x2 x3 x4) (pieceFirst (F := Ideal) x0 x1 x2 x3 x4 (first i) (first_le i))
        ⟨(y 3 : ℕ) / 128, by omega⟩, mem_out _ _ (by omega) (by dsimp only; omega) y (by omega) (by dsimp only; omega)⟩
    · exact ⟨_, later_mem (pieceLater (F := Ideal) x0 x2 x3 x4) (pieceFirst (F := Ideal) x0 x1 x2 x3 x4 (first i) (first_le i))
        ⟨(y 2 : ℕ) / 128 - 1, by omega⟩ ⟨(y 3 : ℕ) / 128, by omega⟩, mem_out _ _ (by dsimp only; omega) (by dsimp only; omega) y (by dsimp only; omega) (by dsimp only; omega)⟩

end Cert.AttnIdeal.Block
-- ==== Proof.AttnHost.lean ====
/- The arrays the host stages for the attention kernel, read at one element. -/
module

public import proofs.«01_k».proof.Proof.AttnBlock
public import proofs.«01_k».proof.Proof.Gen.AttnRefIdeal.Read
public import Idealize.ShloMosaic.Lib.Pipeline.Value
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AttnIdeal.Host

open Cert.AttnIdeal Cert.AttnIdeal.Gen Cert.Proof.Scalar

variable (m : (ℓ : Loc nD τ sig) → Buf (Elt Ideal) ℓ)

theorem two : Ideal.ofBits FTy.f32 1073741824#32 = ((2 : ℝ) : EReal) := by
  simp [Ideal.ofBits, Ideal.ieee]
  rw [← EReal.coe_mul]
  norm_num

theorem negInf : Ideal.ofBits FTy.f32 4286578688#32 = ⊥ := by simp [Ideal.ofBits, Ideal.ieee]

theorem query_at (c : Dev nD) (b : Fin 4) (r : Fin 16) (p : Fin 512) (l : Fin 3072) (hl : l.val < 1024) :
    (V m c main_v64 : Vec Ideal S4x16x512x3072 .bf16) (ix4 b r p l)
      = HMul.hMul (α := EReal) (m (c, Proc.tc.devRef main_arg0) (ix3 b ⟨p * 16 + r, by omega⟩ ⟨l, by omega⟩)) L := by
  unfold V
  simp only [List.flatten_cons, List.flatten_nil, List.append_nil, StableHlo.after_append]
  after_reads_at
  rw [dif_pos (by omega)]
  unfold StableHlo.upto
  after_reads_at
  rw [two, div_one_log_two]

theorem key_at (c : Dev nD) (b : Fin 4) (r : Fin 16) (p : Fin 512) (l : Fin 3072) (hl : 1024 ≤ l.val) (hl' : l.val < 2048) :
    (V m c main_v64 : Vec Ideal S4x16x512x3072 .bf16) (ix4 b r p l)
      = (m (c, Proc.tc.devRef main_arg1) (ix3 b ⟨p * 16 + r, by omega⟩ ⟨l - 1024, by omega⟩)) := by
  unfold V
  simp only [List.flatten_cons, List.flatten_nil, List.append_nil, StableHlo.after_append]
  after_reads_at
  rw [dif_neg (by omega), dif_pos (by omega)]
  unfold StableHlo.upto
  after_reads_at

theorem val_at (c : Dev nD) (b : Fin 4) (r : Fin 16) (p : Fin 512) (l : Fin 3072) (hl : 2048 ≤ l.val) :
    (V m c main_v64 : Vec Ideal S4x16x512x3072 .bf16) (ix4 b r p l)
      = (m (c, Proc.tc.devRef main_arg2) (ix3 b ⟨p * 16 + r, by omega⟩ ⟨l - 2048, by omega⟩)) := by
  unfold V
  simp only [List.flatten_cons, List.flatten_nil, List.append_nil, StableHlo.after_append]
  after_reads_at
  rw [dif_neg (by omega), dif_neg (by omega)]
  unfold StableHlo.upto
  after_reads_at
  refine congrArg (m (c, Proc.tc.devRef main_arg2)) ?_
  idx_ext <;> simp <;> omega

theorem po_at (c : Dev nD) (b : Fin 4) (r : Fin 16) (p : Fin 512) (l : Fin 1024) :
    (V m c main_v67 : Vec Ideal S4x16x512x1024 .bf16) (ix4 b r p l)
      = m (c, Proc.tc.devRef main_arg4) (ix3 b ⟨p * 16 + r, by omega⟩ l) := by
  unfold V
  simp only [List.flatten_cons, List.flatten_nil, List.append_nil, StableHlo.after_append]
  after_reads_at

/-- Looking a table up after scaling every entry by one number is looking it up and scaling what was found. -/
theorem gather_scaled (x : FVec Ideal S32x16 .f32) (y : FVec Ideal S_ .f32) (idx : IVec S128x256x1 32) (j : S128x256x16.Idx) :
    Host.gather gather_S32x16_S128x256x1_S128x256x16_2_0_n_n_0_2_116 (mulf x (broadcastInDim S32x16 ![] bcast_S_S32x16 y)) idx j
      = HMul.hMul (α := EReal) (Host.gather gather_S32x16_S128x256x1_S128x256x16_2_0_n_n_0_2_116 x idx j) (y ix0) := by
  unfold Host.gather
  pointwise []

open Cert.AttnRefIdeal.Read in
/-- The reference's mask, as the comparisons it is made of. -/
theorem allowed_at (n : Fin 4) (i : Fin 128) (k : Fin 256) :
    val_main_v75 (F := Ideal) (ix3 n i k) = IntOp.andi
      (IntOp.andi
        (IntOp.cmpi CmpIPredicate.sge (IntOp.subi (IntOp.addi 128#32 (BitVec.ofNat 32 i)) (BitVec.ofNat 32 k)) 0#32)
        (IntOp.cmpi CmpIPredicate.sle (IntOp.subi (IntOp.addi 128#32 (BitVec.ofNat 32 i)) (BitVec.ofNat 32 k)) 128#32))
      (IntOp.ori (IntOp.cmpi CmpIPredicate.sgt (BitVec.ofNat 32 n) 0#32) (IntOp.cmpi CmpIPredicate.sge (BitVec.ofNat 32 k) 128#32)) := by
  have e1 : val_main_c_1 (F := Ideal) ix0 = 128#32 := rfl
  have e2 : val_main_c_2 (F := Ideal) ix0 = 0#32 := rfl
  have e3 : val_main_c_3 (F := Ideal) ix0 = 128#32 := rfl
  have e4 : val_main_c_14 (F := Ideal) ix0 = 0#32 := rfl
  have e5 : val_main_c_15 (F := Ideal) ix0 = 128#32 := rfl
  pointwise [val_main_v75, val_main_v74, val_main_v73, val_main_v72, val_main_v71, val_main_v70, val_main_v69, val_main_v68, val_main_v67, val_main_v66, val_main_v65, val_main_v64, val_main_v63, val_main_v62, val_main_v28, val_main_v27, val_main_v26, val_main_v25, val_main_v24, val_main_v23, val_main_v22, val_main_v21, val_main_v20, val_main_v19, val_main_v18, val_main_v17, val_main_v16, val_main_v15]
  rw [e1, e2, e3, e4, e5]

/-- Choosing through the conjunction of two masks is choosing through one inside the other. -/
theorem select_and (a b : BitVec 1) (x y : EReal) : Scalar.select (IntOp.andi a b) x y = Scalar.select b (Scalar.select a x y) y := by
  have ha : a = 0#1 ∨ a = 1#1 := by
    rcases a with ⟨⟨v, hv⟩⟩
    have : v = 0 ∨ v = 1 := by omega
    rcases this with rfl | rfl
    · exact Or.inl rfl
    · exact Or.inr rfl
  have hb : b = 0#1 ∨ b = 1#1 := by
    rcases b with ⟨⟨v, hv⟩⟩
    have : v = 0 ∨ v = 1 := by omega
    rcases this with rfl | rfl
    · exact Or.inl rfl
    · exact Or.inr rfl
  rcases ha with rfl | rfl <;> rcases hb with rfl | rfl <;> simp [Scalar.select, IntOp.andi]

/-- Past the first block every key is there. -/
theorem later_mask (n : Fin 4) (hn : n ≠ 0) (z : BitVec 1) : IntOp.ori (IntOp.cmpi CmpIPredicate.sgt (BitVec.ofNat 32 n) 0#32) z = 1#1 := by
  have hz : z = 0#1 ∨ z = 1#1 := by
    rcases z with ⟨⟨v, hv⟩⟩
    have : v = 0 ∨ v = 1 := by omega
    rcases this with rfl | rfl
    · exact Or.inl rfl
    · exact Or.inr rfl
  have h : IntOp.cmpi CmpIPredicate.sgt (BitVec.ofNat 32 n) 0#32 = 1#1 := by
    revert n
    decide
  rw [h]
  rcases hz with rfl | rfl <;> rfl

/-- In the first block only its own keys are. -/
theorem first_mask (n : Fin 4) (hn : n = 0) (z : BitVec 1) : IntOp.ori (IntOp.cmpi CmpIPredicate.sgt (BitVec.ofNat 32 n) 0#32) z = z := by
  subst hn
  have h : IntOp.cmpi CmpIPredicate.sgt (BitVec.ofNat 32 (0 : Fin 4)) 0#32 = 0#1 := by decide
  rw [h]
  simp [IntOp.ori]

/-- The bias table the kernel reads for block `n`: the reference's bias in base two where it attends, `-∞` elsewhere. -/
theorem bias_at (c : Dev nD) (n : Fin 4) (h : Fin 16) (p : Fin 128) (l : Fin 256) :
    (V m c main_v56 : Vec Ideal S2x16x128x256 .f32) (ix4 (if n = 0 then 1 else 0) h p l)
      = Scalar.select (Cert.AttnRefIdeal.Read.val_main_v75 (F := Ideal) (ix3 n p l))
          (HMul.hMul (α := EReal) (Cert.AttnRefIdeal.Read.val_main_v57 (F := Ideal) (m (c, Proc.tc.devRef main_arg3)) (ix3 p l h)) L) ⊥ := by
  rw [allowed_at, select_and]
  generalize hf : (if n = 0 then 1 else 0 : Fin 2) = f
  have hG : ∀ (y : FVec Ideal S_ .f32) (idx : IVec S128x256x1 32), idx = Cert.AttnRefIdeal.Read.val_main_v56 (F := Ideal) → y ix0 = L →
      Host.gather gather_S32x16_S128x256x1_S128x256x16_2_0_n_n_0_2_116
        (mulf (m (c, Proc.tc.devRef main_arg3) : FVec Ideal S32x16 .f32) (broadcastInDim S32x16 ![] bcast_S_S32x16 y)) idx (ix3 p l h)
      = HMul.hMul (α := EReal) (Cert.AttnRefIdeal.Read.val_main_v57 (F := Ideal) (m (c, Proc.tc.devRef main_arg3)) (ix3 p l h)) L := by
    intro y idx hi hy
    rw [gather_scaled, hi, hy]
    rfl
  unfold V
  simp only [List.flatten_cons, List.flatten_nil, List.append_nil, StableHlo.after_append]
  after_reads_at
  generalize hT : Host.gather gather_S32x16_S128x256x1_S128x256x16_2_0_n_n_0_2_116 _ _ = T
  have hg := (congrFun hT (ix3 p l h)).symm.trans (hG _ _ rfl (by pointwise []; rw [two, div_one_log_two]))
  clear hT hG
  have hbot : (id (constant (F := Ideal) S_ FTy.f32 4286578688#32) ix0 : EReal) = ⊥ := negInf
  have select_one : ∀ x y : EReal, Scalar.select 1#1 x y = x := fun x y => by simp [Scalar.select]
  rw [hg]
  by_cases hn : n = 0
  · rw [first_mask n hn, ← hf, if_pos hn]
    refine (dif_neg (by simp)).trans ?_
    rw [hbot]
  · rw [later_mask n hn, ← hf, if_neg hn]
    refine (dif_pos (by simp)).trans ?_
    rw [hbot, select_one]

theorem pl_at (c : Dev nD) (b : Fin 4) (r : Fin 16) (p : Fin 512) (l : Fin 1024) :
    (V m c main_v76 : Vec Ideal S4x16x512x1024 .f32) (ix4 b r p l)
      = HMul.hMul (α := EReal) (m (c, Proc.tc.devRef main_arg5) (ix3 b ⟨p * 16 + r, by omega⟩ ⟨l / 64, by omega⟩)) L := by
  unfold V
  simp only [List.flatten_cons, List.flatten_nil, List.append_nil, StableHlo.after_append]
  after_reads_at
  rw [two, div_one_log_two]

end Cert.AttnIdeal.Host
-- ==== Proof.AttnRef.lean ====
/- The reference of one attention pattern read at one element: a softmax over the 256 keys of a block and its predecessor, mixed
   with the earlier pattern's output by the two log-sum-exps. -/
module

public import proofs.«01_k».proof.Proof.Gen.AttnRefIdeal.Read
public import proofs.«01_k».proof.Proof.Scalar
public import Idealize.ShloMosaic.Lib.Pointwise

@[expose] public section

set_option maxRecDepth 16384

noncomputable section

open Idealize.ShloMosaic Idealize.ShloMosaic.TcCoe Idealize.SL.Sem

namespace Cert.AttnRefIdeal.RowValue
open Cert.AttnRefIdeal Cert.AttnRefIdeal.Read Cert.Proof.Scalar

variable (x0 x1 x2 : Vec Ideal S4x8192x1024 .f32) (x3 : Vec Ideal S32x16 .f32) (x4 : Vec Ideal S4x8192x1024 .f32) (x5 : Vec Ideal S4x8192x16 .f32)

/-- The subsequence (batch, head, residue) as the reference numbers them. -/
abbrev seq (b : Fin 4) (h r : Fin 16) : Fin 1024 := ⟨b * 256 + h * 16 + r, by omega⟩

/-- The entry of a query, key or value array at position `p` of a subsequence. -/
abbrev entry (x : Vec Ideal S4x8192x1024 .f32) (b : Fin 4) (h r : Fin 16) (p : Fin 512) (d : Fin 64) : EReal :=
  x (ix3 b ⟨p * 16 + r, by omega⟩ ⟨h * 64 + d, by omega⟩)

/-- Position `i` of block `n`. -/
abbrev pos (n : Fin 4) (i : Fin 128) : Fin 512 := ⟨n * 128 + i, by omega⟩

/-- The key (or value) `k` of those block `n` looks at: the block before it, then the block itself; zero before the start. -/
def near (x : Vec Ideal S4x8192x1024 .f32) (b : Fin 4) (h r : Fin 16) (n : Fin 4) (k : Fin 256) (d : Fin 64) : EReal :=
  if n.val * 128 + k.val < 128 then 0 else entry x b h r ⟨n * 128 + k - 128, by omega⟩ d

theorem near_zero (x : Vec Ideal S4x8192x1024 .f32) (b : Fin 4) (h r : Fin 16) (n : Fin 4) (k : Fin 256) (d : Fin 64)
    (hk : n.val * 128 + k.val < 128) : near x b h r n k d = 0 := if_pos hk

theorem near_entry (x : Vec Ideal S4x8192x1024 .f32) (b : Fin 4) (h r : Fin 16) (n : Fin 4) (k : Fin 256) (d : Fin 64)
    (hk : ¬ n.val * 128 + k.val < 128) : near x b h r n k d = entry x b h r ⟨n * 128 + k - 128, by omega⟩ d := if_neg hk

/-- Whether query `i` of block `n` attends to key `k`. -/
abbrev allowed (n : Fin 4) (i : Fin 128) (k : Fin 256) : BitVec 1 := val_main_v75 (F := Ideal) (ix3 n i k)

theorem negInf : Ideal.ofBits FTy.f32 4286578688#32 = ⊥ := by simp [Ideal.ofBits, Ideal.ieee]

theorem zero : Ideal.ofBits FTy.f32 0#32 = 0 := by simp [Ideal.ofBits, Ideal.ieee]

theorem pad_zero : val_main_call0_v0 (F := Ideal) (Shape.Idx.first Gen.h_S_) = (0 : EReal) := by
  rw [val_main_call0_v0_apply]
  simp [FloatOps.sitofp]
  rfl

theorem pad_zero' : val_main_call1_v0 (F := Ideal) (Shape.Idx.first Gen.h_S_) = (0 : EReal) := by
  rw [val_main_call1_v0_apply]
  simp [FloatOps.sitofp]
  rfl

theorem queries_at (b : Fin 4) (h r : Fin 16) (n : Fin 4) (i : Fin 128) (d : Fin 64) :
    val_main_v2 (F := Ideal) x0 (ix4 (seq b h r) n i d) = entry x0 b h r (pos n i) d := by
  pointwise [val_main_v2, val_main_v1, val_main_v0]
  refine congrArg x0 ?_
  idx_ext <;> simp <;> omega

theorem keys_at (b : Fin 4) (h r : Fin 16) (n : Fin 4) (k : Fin 256) (d : Fin 64) :
    val_main_v8 (F := Ideal) x1 (ix4 (seq b h r) n k d) = near x1 b h r n k d := by
  pointwise [val_main_v8, val_main_v7, val_main_v6, val_main_v5, val_main_v4, val_main_v3]
  by_cases hk : n.val * 128 + k.val < 128
  · rw [dif_pos (by omega), dif_neg (by omega)]
    exact pad_zero.trans (near_zero x1 b h r n k d hk).symm
  · refine Eq.trans ?_ (near_entry x1 b h r n k d hk).symm
    by_cases hb : k.val < 128
    · rw [dif_pos hb, dif_pos (by omega)]
      refine congrArg x1 ?_
      idx_ext <;> simp <;> omega
    · rw [dif_neg hb]
      refine congrArg x1 ?_
      idx_ext <;> simp <;> omega

theorem values_at (b : Fin 4) (h r : Fin 16) (n : Fin 4) (k : Fin 256) (d : Fin 64) :
    val_main_v14 (F := Ideal) x2 (ix4 (seq b h r) n k d) = near x2 b h r n k d := by
  pointwise [val_main_v14, val_main_v13, val_main_v12, val_main_v11, val_main_v10, val_main_v9]
  by_cases hk : n.val * 128 + k.val < 128
  · rw [dif_pos (by omega), dif_neg (by omega)]
    exact pad_zero'.trans (near_zero x2 b h r n k d hk).symm
  · refine Eq.trans ?_ (near_entry x2 b h r n k d hk).symm
    by_cases hb : k.val < 128
    · rw [dif_pos hb, dif_pos (by omega)]
      refine congrArg x2 ?_
      idx_ext <;> simp <;> omega
    · rw [dif_neg hb]
      refine congrArg x2 ?_
      idx_ext <;> simp <;> omega

/-- The masked logit of query `i` of block `n` for key `k`. -/
def logit (b : Fin 4) (h r : Fin 16) (n : Fin 4) (i : Fin 128) (k : Fin 256) : EReal :=
  Scalar.select (allowed n i k)
    ((∑ d : Fin 64, entry x0 b h r (pos n i) d * near x1 b h r n k d) + val_main_v57 (F := Ideal) x3 (ix3 i k h)) ⊥

theorem mask_at (g : Fin 1024) (n : Fin 4) (i : Fin 128) (k : Fin 256) :
    val_main_call3_v1 (F := Ideal) (ix4 g n i k) = allowed n i k := by
  pointwise [val_main_call3_v1, val_main_v79]

theorem fill_at (g : Fin 1024) (n : Fin 4) (i : Fin 128) (k : Fin 256) :
    val_main_call3_v2 (F := Ideal) (ix4 g n i k) = (⊥ : EReal) := by
  pointwise [val_main_call3_v2, val_main_call3_v0, val_main_cst_16]
  exact negInf

theorem logits_at (b : Fin 4) (h r : Fin 16) (n : Fin 4) (i : Fin 128) (k : Fin 256) :
    val_main_v80 (F := Ideal) x0 x1 x3 (ix4 (seq b h r) n i k) = logit x0 x1 x3 b h r n i k := by
  pointwise [val_main_v80, val_main_v78, val_main_v77, val_main_v76, val_main_v61, val_main_v60, val_main_v59, val_main_v58]
  rw [mask_at, fill_at]
  simp only [queries_at, keys_at]
  unfold logit
  refine congrArg (fun z : EReal => Scalar.select (allowed n i k) ((∑ d : Fin 64, entry x0 b h r (pos n i) d * near x1 b h r n k d) + z) ⊥) ?_
  refine congrArg (val_main_v57 (F := Ideal) x3) ?_
  idx_ext <;> simp <;> omega

theorem max_at (b : Fin 4) (h r : Fin 16) (n : Fin 4) (i : Fin 128) :
    val_main_v81 (F := Ideal) x0 x1 x3 (ix3 (seq b h r) n i) = Finset.univ.fold max ⊥ (logit x0 x1 x3 b h r n i) := by
  have e : val_main_cst_17 (F := Ideal) (Shape.Idx.first Gen.h_S_) = (⊥ : EReal) := negInf
  pointwise [val_main_v81]
  rw [e]
  simp only [logits_at]

theorem weights_at (b : Fin 4) (h r : Fin 16) (n : Fin 4) (i : Fin 128) (k : Fin 256) :
    val_main_v85 (F := Ideal) x0 x1 x3 (ix4 (seq b h r) n i k) = weight (logit x0 x1 x3 b h r n i) k := by
  pointwise [val_main_v85, val_main_v84, val_main_v83, val_main_v82]
  rw [logits_at, max_at]
  rfl

theorem total_at (b : Fin 4) (h r : Fin 16) (n : Fin 4) (i : Fin 128) :
    val_main_v87 (F := Ideal) x0 x1 x3 (ix4 (seq b h r) n i 0) = ∑ k, weight (logit x0 x1 x3 b h r n i) k := by
  have e : val_main_cst_18 (F := Ideal) (Shape.Idx.first Gen.h_S_) = (0 : EReal) := zero
  pointwise [val_main_v87, val_main_v86]
  rw [e, zero_add]
  simp only [weights_at]

theorem out_at (b : Fin 4) (h r : Fin 16) (n : Fin 4) (i : Fin 128) (d : Fin 64) :
    val_main_v90 (F := Ideal) x0 x1 x2 x3 (ix4 (seq b h r) n i d)
      = Ideal.div (∑ k, weight (logit x0 x1 x3 b h r n i) k * near x2 b h r n k d) (∑ k, weight (logit x0 x1 x3 b h r n i) k) := by
  pointwise [val_main_v90, val_main_v89, val_main_v88]
  simp only [weights_at, values_at]
  refine congrArg (Ideal.div _) ?_
  exact total_at x0 x1 x3 b h r n i

theorem lse_at (b : Fin 4) (h r : Fin 16) (n : Fin 4) (i : Fin 128)  :
    val_main_v93 (F := Ideal) x0 x1 x3 (ix3 (seq b h r) n i) = lse (logit x0 x1 x3 b h r n i) := by
  have e : val_main_v82 (F := Ideal) x0 x1 x3 (ix4 (seq b h r) n i 0) = val_main_v81 (F := Ideal) x0 x1 x3 (ix3 (seq b h r) n i) := by
    pointwise [val_main_v82]
  have e1 : val_main_v93 (F := Ideal) x0 x1 x3 (ix3 (seq b h r) n i) = val_main_v92 (F := Ideal) x0 x1 x3 (ix4 (seq b h r) n i 0) := by
    pointwise [val_main_v93]
  rw [e1, val_main_v92_apply, val_main_v91_apply, e, max_at, total_at]
  rfl

theorem both_at (x : Fin 2) (b : Fin 4) (h r : Fin 16) (n : Fin 4) (i : Fin 128) :
    val_main_v105 (F := Ideal) x0 x1 x3 x5 (ix4 x (seq b h r) n i)
      = if x.val < 1 then (x5 (ix3 b ⟨(n * 128 + i) * 16 + r, by omega⟩ h) : EReal) else lse (logit x0 x1 x3 b h r n i) := by
  pointwise [val_main_v105, val_main_v104, val_main_v103, val_main_v102, val_main_v101, val_main_v100]
  by_cases hx : x.val < 1
  · rw [dif_pos hx, if_pos hx]
  · rw [dif_neg hx, if_neg hx]
    exact lse_at x0 x1 x3 b h r n i

theorem outs_at (x : Fin 2) (b : Fin 4) (h r : Fin 16) (n : Fin 4) (i : Fin 128) (d : Fin 64) :
    val_main_v99 (F := Ideal) x0 x1 x2 x3 x4 (ix5 x (seq b h r) n i d)
      = if x.val < 1 then entry x4 b h r (pos n i) d
        else Ideal.div (∑ k, weight (logit x0 x1 x3 b h r n i) k * near x2 b h r n k d) (∑ k, weight (logit x0 x1 x3 b h r n i) k) := by
  pointwise [val_main_v99, val_main_v98, val_main_v97, val_main_v96, val_main_v95, val_main_v94]
  by_cases hx : x.val < 1
  · rw [dif_pos hx, if_pos hx]
  · rw [dif_neg hx, if_neg hx]
    exact out_at x0 x1 x2 x3 b h r n i d

theorem max2_at (b : Fin 4) (h r : Fin 16) (n : Fin 4) (i : Fin 128) :
    val_main_v106 (F := Ideal) x0 x1 x3 x5 (ix3 (seq b h r) n i)
      = max (x5 (ix3 b ⟨(n * 128 + i) * 16 + r, by omega⟩ h) : EReal) (lse (logit x0 x1 x3 b h r n i)) := by
  have e : val_main_cst_19 (F := Ideal) (Shape.Idx.first Gen.h_S_) = (⊥ : EReal) := negInf
  pointwise [val_main_v106]
  rw [e]
  simp only [both_at]
  rw [show (Finset.univ : Finset (Fin 2)) = {0, 1} from rfl, Finset.fold_insert (by decide), Finset.fold_singleton]
  simp

theorem top_at (b : Fin 4) (h r : Fin 16) (n : Fin 4) (i : Fin 128) :
    val_main_v108 (F := Ideal) x0 x1 x3 x5 (ix3 (seq b h r) n i)
      = max (x5 (ix3 b ⟨(n * 128 + i) * 16 + r, by omega⟩ h) : EReal) (lse (logit x0 x1 x3 b h r n i)) := by
  have e : val_main_v107 (F := Ideal) (ix3 (seq b h r) n i) = (⊥ : EReal) := by
    rw [val_main_v107_apply]
    exact negInf
  pointwise [val_main_v108]
  rw [e, max2_at]
  simp

theorem parts_at (x : Fin 2) (b : Fin 4) (h r : Fin 16) (n : Fin 4) (i : Fin 128) :
    val_main_v112 (F := Ideal) x0 x1 x3 x5 (ix4 x (seq b h r) n i)
      = Ideal.exp ((if x.val < 1 then (x5 (ix3 b ⟨(n * 128 + i) * 16 + r, by omega⟩ h) : EReal) else lse (logit x0 x1 x3 b h r n i))
          - max (x5 (ix3 b ⟨(n * 128 + i) * 16 + r, by omega⟩ h) : EReal) (lse (logit x0 x1 x3 b h r n i))) := by
  pointwise [val_main_v112, val_main_v111, val_main_v110, val_main_v109]
  rw [both_at, top_at]

theorem shares_at (x : Fin 2) (b : Fin 4) (h r : Fin 16) (n : Fin 4) (i : Fin 128) :
    val_main_v116 (F := Ideal) x0 x1 x3 x5 (ix4 x (seq b h r) n i)
      = Ideal.div (val_main_v112 (F := Ideal) x0 x1 x3 x5 (ix4 x (seq b h r) n i))
          ((val_main_v112 (F := Ideal) x0 x1 x3 x5 (ix4 0 (seq b h r) n i) : EReal)
            + val_main_v112 (F := Ideal) x0 x1 x3 x5 (ix4 1 (seq b h r) n i)) := by
  have e : val_main_cst_21 (F := Ideal) (Shape.Idx.first Gen.h_S_) = (0 : EReal) := zero
  pointwise [val_main_v116, val_main_v115, val_main_v114, val_main_v113]
  rw [e, zero_add, Fin.sum_univ_two]

theorem result_at (b : Fin 4) (h r : Fin 16) (n : Fin 4) (i : Fin 128) (d : Fin 64) :
    val_main_v124 (F := Ideal) x0 x1 x2 x3 x4 x5 (ix4 b r (pos n i) ⟨h * 64 + d, by omega⟩)
      = merge (x5 (ix3 b ⟨(n * 128 + i) * 16 + r, by omega⟩ h) : EReal) (lse (logit x0 x1 x3 b h r n i)) (entry x4 b h r (pos n i) d)
          (Ideal.div (∑ k, weight (logit x0 x1 x3 b h r n i) k * near x2 b h r n k d) (∑ k, weight (logit x0 x1 x3 b h r n i) k)) := by
  have e : val_main_cst_22 (F := Ideal) (Shape.Idx.first Gen.h_S_) = (0 : EReal) := zero
  have e1 : val_main_v124 (F := Ideal) x0 x1 x2 x3 x4 x5 (ix4 b r (pos n i) ⟨h * 64 + d, by omega⟩)
      = val_main_v120 (F := Ideal) x0 x1 x2 x3 x4 x5 (ix4 (seq b h r) n i d) := by
    pointwise [val_main_v124, val_main_v123, val_main_v122, val_main_v121]
  have e2 : ∀ x : Fin 2, val_main_v119 (F := Ideal) x0 x1 x2 x3 x4 x5 (ix5 x (seq b h r) n i d)
      = (val_main_v116 (F := Ideal) x0 x1 x3 x5 (ix4 x (seq b h r) n i) : EReal)
        * val_main_v99 (F := Ideal) x0 x1 x2 x3 x4 (ix5 x (seq b h r) n i d) := fun x => by
    pointwise [val_main_v119, val_main_v118, val_main_v117]
  have e3 : val_main_v120 (F := Ideal) x0 x1 x2 x3 x4 x5 (ix4 (seq b h r) n i d)
      = (val_main_v119 (F := Ideal) x0 x1 x2 x3 x4 x5 (ix5 0 (seq b h r) n i d) : EReal)
        + val_main_v119 (F := Ideal) x0 x1 x2 x3 x4 x5 (ix5 1 (seq b h r) n i d) := by
    pointwise [val_main_v120]
    rw [e, zero_add, Fin.sum_univ_two]
  rw [e1, e3, e2, e2, shares_at, shares_at, outs_at, outs_at]
  simp only [parts_at]
  rfl

end Cert.AttnRefIdeal.RowValue
-- ==== Proof.AttnValue.lean ====
/- One query's row of the attention kernel is the reference's. -/
module

public import proofs.«01_k».proof.Proof.AttnHost
public import proofs.«01_k».proof.Proof.AttnRef
public import proofs.«01_k».proof.Proof.Gen.AttnIdeal.Value
public import proofs.«01_k».proof.Proof.Gen.AttnRefIdeal.Run

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen Cert.Proof.Scalar Cert.AttnIdeal.Unit Cert.AttnIdeal.Block
open Cert.AttnRefIdeal.RowValue

theorem bit_cases (a : BitVec 1) : a = 0#1 ∨ a = 1#1 := by
  rcases a with ⟨⟨v, hv⟩⟩
  have : v = 0 ∨ v = 1 := by omega
  rcases this with rfl | rfl
  · exact Or.inl rfl
  · exact Or.inr rfl

/-- No query attends to a key before the start of its sequence. -/
theorem allowed_start (n : Fin 4) (i : Fin 128) (k : Fin 256) (h : n.val * 128 + k.val < 128) : allowed n i k = 0#1 := by
  have hn : n = 0 := by apply Fin.ext; show n.val = 0; omega
  have hk : IntOp.cmpi CmpIPredicate.sge (BitVec.ofNat 32 k) 128#32 = 0#1 := by
    have : ∀ k : Fin 256, k.val < 128 → IntOp.cmpi CmpIPredicate.sge (BitVec.ofNat 32 k) 128#32 = 0#1 := by decide +kernel
    exact this k (by omega)
  show Cert.AttnRefIdeal.Read.val_main_v75 (F := Ideal) (ix3 n i k) = 0#1
  rw [Host.allowed_at, Host.first_mask n hn, hk]
  simp [IntOp.andi]

section Row

variable (x0 : Vec Ideal S1x1x512x3072 .bf16) (x1 : Vec Ideal S1x1x128x3072 .bf16) (x2 : Vec Ideal S2x16x128x256 .f32)
  (x3 : Vec Ideal S1x1x512x1024 .bf16) (x4 : Vec Ideal S1x1x512x1024 .f32)
  (A0 A1 A2 : Vec Ideal S4x8192x1024 .f32) (A3 : Vec Ideal S32x16 .f32) (A4 : Vec Ideal S4x8192x1024 .f32) (A5 : Vec Ideal S4x8192x16 .f32)
  (b : Fin 4) (r : Fin 16)

theorem window_at (n : Fin 4) (k : Fin 256) (col : Fin 3072) (h : ¬ n.val * 128 + k.val < 128) :
    window x0 x1 n k col = x0 (ix4 0 0 ⟨n * 128 + k - 128, by omega⟩ col) := by
  unfold window
  by_cases hn : (n : ℕ) = 0
  · rw [dif_pos hn, dif_neg (by omega)]
    refine congrArg x0 ?_
    idx_ext <;> simp <;> omega
  · rw [dif_neg hn]
    refine congrArg x0 ?_
    idx_ext <;> simp <;> omega

/-- The kernel's score is the reference's masked logit in base two. -/
theorem score_eq (hq : ∀ (p : Fin 512) (l : Fin 1024), x0 (ix4 0 0 p ⟨l, by omega⟩) = HMul.hMul (α := EReal) (A0 (ix3 b ⟨p * 16 + r, by omega⟩ l)) L)
    (hk : ∀ (p : Fin 512) (l : Fin 1024), x0 (ix4 0 0 p ⟨1024 + l, by omega⟩) = A1 (ix3 b ⟨p * 16 + r, by omega⟩ l))
    (hb : ∀ (n : Fin 4) (h : Fin 16) (i : Fin 128) (k : Fin 256), x2 (ix4 (if n = 0 then 1 else 0) h i k)
      = Scalar.select (allowed n i k) (HMul.hMul (α := EReal) (Cert.AttnRefIdeal.Read.val_main_v57 (F := Ideal) A3 (ix3 i k h)) L) ⊥)
    (n : Fin 4) (i : Fin 128) (k : Fin 256) (hp : Fin 8) (e : Fin 2) :
    (∑ d' : Fin 64, x0 (ix4 0 0 ⟨128 * n + i, by omega⟩ ⟨128 * hp + (64 * e + d'), by omega⟩)
          * window x0 x1 n k ⟨1024 + 128 * hp + (64 * e + d'), by omega⟩)
        + x2 (ix4 (if (n : ℕ) = 0 then 1 else 0) ⟨2 * hp + e, by omega⟩ i k)
      = logit A0 A1 A3 b ⟨2 * hp + e, by omega⟩ r n i k * L := by
  have hf : (if (n : ℕ) = 0 then 1 else 0 : Fin 2) = if n = 0 then 1 else 0 := by
    have : (n : ℕ) = 0 ↔ n = 0 := ⟨fun h => Fin.ext h, fun h => by rw [h]; rfl⟩
    simp only [this]
  rw [hf, hb]
  unfold logit
  rcases bit_cases (allowed n i k) with ha | ha
  · rw [ha]
    have s0 : ∀ x y : EReal, Scalar.select 0#1 x y = y := fun x y => by simp [Scalar.select]
    rw [s0, s0, bot_mul_L, EReal.add_bot]
  · have s1 : ∀ x y : EReal, Scalar.select 1#1 x y = x := fun x y => by simp [Scalar.select]
    have hs : ¬ n.val * 128 + k.val < 128 := fun h => by
      rw [allowed_start n i k h] at ha
      exact absurd ha (by decide)
    rw [ha, s1, s1, add_mul_L, sum_mul_L]
    refine congrArg (· + _) (Finset.sum_congr rfl fun d _ => ?_)
    rw [near_entry A1 b _ r n k d hs, window_at x0 x1 n k _ hs]
    have eq := hq ⟨n * 128 + i, by omega⟩ ⟨(2 * hp + e) * 64 + d, by omega⟩
    have ek := hk ⟨n * 128 + k - 128, by omega⟩ ⟨(2 * hp + e) * 64 + d, by omega⟩
    have iq : (ix4 0 0 ⟨128 * n + i, by omega⟩ ⟨128 * hp + (64 * e + d), by omega⟩ : S1x1x512x3072.Idx)
        = ix4 0 0 ⟨n * 128 + i, by omega⟩ ⟨(2 * hp + e) * 64 + d, by omega⟩ := by idx_ext <;> simp <;> omega
    have ik : (ix4 0 0 ⟨n * 128 + k - 128, by omega⟩ ⟨1024 + 128 * hp + (64 * e + d), by omega⟩ : S1x1x512x3072.Idx)
        = ix4 0 0 ⟨n * 128 + k - 128, by omega⟩ ⟨1024 + ((2 * hp + e) * 64 + d), by omega⟩ := by idx_ext <;> simp <;> omega
    rw [iq, ik]
    exact (congrArg₂ (fun x y : EReal => x * y) eq ek).trans (mul_right_comm _ _ _)

/-- One element of a grid point's block, from its input blocks' entries. -/
theorem value_eq (hq : ∀ (p : Fin 512) (l : Fin 1024), x0 (ix4 0 0 p ⟨l, by omega⟩) = HMul.hMul (α := EReal) (A0 (ix3 b ⟨p * 16 + r, by omega⟩ l)) L)
    (hk : ∀ (p : Fin 512) (l : Fin 1024), x0 (ix4 0 0 p ⟨1024 + l, by omega⟩) = A1 (ix3 b ⟨p * 16 + r, by omega⟩ l))
    (hv : ∀ (p : Fin 512) (l : Fin 1024), x0 (ix4 0 0 p ⟨2048 + l, by omega⟩) = A2 (ix3 b ⟨p * 16 + r, by omega⟩ l))
    (hb : ∀ (n : Fin 4) (h : Fin 16) (i : Fin 128) (k : Fin 256), x2 (ix4 (if n = 0 then 1 else 0) h i k)
      = Scalar.select (allowed n i k) (HMul.hMul (α := EReal) (Cert.AttnRefIdeal.Read.val_main_v57 (F := Ideal) A3 (ix3 i k h)) L) ⊥)
    (ho : ∀ (p : Fin 512) (l : Fin 1024), x3 (ix4 0 0 p l) = A4 (ix3 b ⟨p * 16 + r, by omega⟩ l))
    (hl : ∀ (p : Fin 512) (l : Fin 1024), x4 (ix4 0 0 p l)
      = HMul.hMul (α := EReal) (A5 (ix3 b ⟨p * 16 + r, by omega⟩ ⟨l / 64, by omega⟩)) L)
    (hfin : ∀ j, ∃ z : ℝ, A5 j = (z : EReal))
    (n : Fin 4) (i : Fin 128) (hp : Fin 8) (e : Fin 2) (d : Fin 64) :
    value x0 x1 x2 x3 x4 n i hp e d
      = Cert.AttnRefIdeal.Read.val_main_v124 (F := Ideal) A0 A1 A2 A3 A4 A5
          (ix4 b r (pos n i) ⟨(2 * hp + e) * 64 + d, by omega⟩) := by
  refine Eq.trans ?_ (result_at A0 A1 A2 A3 A4 A5 b ⟨2 * hp + e, by omega⟩ r n i d).symm
  have io : (ix4 0 0 ⟨128 * n + i, by omega⟩ ⟨128 * hp + (64 * e + d), by omega⟩ : S1x1x512x1024.Idx)
      = ix4 0 0 ⟨n * 128 + i, by omega⟩ ⟨(2 * hp + e) * 64 + d, by omega⟩ := by idx_ext <;> simp <;> omega
  have jl : (ix3 b ⟨(n * 128 + i) * 16 + r, by omega⟩ ⟨((2 * hp + e) * 64 + d) / 64, by omega⟩ : S4x8192x16.Idx)
      = ix3 b ⟨(n * 128 + i) * 16 + r, by omega⟩ ⟨2 * hp + e, by omega⟩ := by idx_ext <;> simp <;> omega
  have eo := ho ⟨n * 128 + i, by omega⟩ ⟨(2 * hp + e) * 64 + d, by omega⟩
  have el := (hl ⟨n * 128 + i, by omega⟩ ⟨(2 * hp + e) * 64 + d, by omega⟩).trans (congrArg (fun j => HMul.hMul (α := EReal) (A5 j) L) jl)
  unfold value
  refine (row_congr (fun k => score_eq x0 x1 x2 A0 A1 A3 b r hq hk hb n i k hp e) (fun k => rfl)
    ((congrArg x3 io).trans eo) ((congrArg x4 io).trans el)).trans ?_
  refine (row_scaled _ _ _ _ (hfin _)).trans ?_
  refine congrArg (fun z => merge _ _ _ (Ideal.div z _)) (Finset.sum_congr rfl fun k _ => ?_)
  by_cases hs : n.val * 128 + k.val < 128
  · have hw : weight (logit A0 A1 A3 b ⟨2 * hp + e, by omega⟩ r n i) k = 0 := by
      refine weight_of_bot ?_
      unfold logit
      rw [allowed_start n i k hs]
      simp [Scalar.select]
    rw [hw, zero_mul, zero_mul]
  · rw [near_entry A2 b _ r n k d hs, window_at x0 x1 n k _ hs]
    have iv : (ix4 0 0 ⟨n * 128 + k - 128, by omega⟩ ⟨2048 + 128 * hp + (64 * e + d), by omega⟩ : S1x1x512x3072.Idx)
        = ix4 0 0 ⟨n * 128 + k - 128, by omega⟩ ⟨2048 + ((2 * hp + e) * 64 + d), by omega⟩ := by idx_ext <;> simp <;> omega
    rw [iv]
    exact congrArg (fun z : EReal => _ * z) (hv ⟨n * 128 + k - 128, by omega⟩ ⟨(2 * hp + e) * 64 + d, by omega⟩)

end Row

end Cert.AttnIdeal.RefValue
-- ==== Proof.AttnGrid.lean ====
/- The attention kernel's grid: every point writes its block of the reference's result, and the blocks tile it. -/
module

public import proofs.«01_k».proof.Proof.AttnValue
public import proofs.«01_k».proof.Proof.Gen.AttnIdeal.Value
public import proofs.«01_k».proof.Proof.Gen.AttnRefIdeal.Run

@[expose] public section

set_option maxRecDepth 16384

noncomputable section

open Idealize.ShloMosaic Idealize.ShloMosaic.TcCoe Idealize.SL.Sem
open Idealize.ShloMosaic.Pipeline (Dat)

namespace Cert.AttnIdeal.RefValue

open Cert.AttnIdeal Cert.AttnIdeal.Gen Cert.Proof.Scalar Cert.AttnIdeal.Unit Cert.AttnIdeal.Block
open Cert.AttnRefIdeal.RowValue

variable (m : (ℓ : Loc nD τ sig) → Buf (Elt Ideal) ℓ) (ρ : Dev nD → PrngReg)

/-- The reference's result, at this program's arguments. -/
def goal (c : Dev nD) : Vec Ideal S4x16x512x1024 .bf16 :=
  Cert.AttnRefIdeal.Read.val_main_v124 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The earlier log-sum-exps are real numbers. -/
def Finite : Prop := ∀ (c : Dev nD) (j : S4x8192x16.Idx), ∃ z : ℝ, m ((c : Thread nD τ).loc main_arg5) j = (z : EReal)

theorem index_facts : ∀ t : Fin grid0.N,
    (win0_0.index t 0 = t.val / 16 ∧ win0_0.index t 1 = t.val % 16 ∧ win0_0.index t 2 = 0 ∧ win0_0.index t 3 = 0)
    ∧ (win0_2.index t 0 = 0 ∧ win0_2.index t 1 = 0 ∧ win0_2.index t 2 = 0 ∧ win0_2.index t 3 = 0)
    ∧ (win0_3.index t 0 = t.val / 16 ∧ win0_3.index t 1 = t.val % 16 ∧ win0_3.index t 2 = 0 ∧ win0_3.index t 3 = 0)
    ∧ (win0_4.index t 0 = t.val / 16 ∧ win0_4.index t 1 = t.val % 16 ∧ win0_4.index t 2 = 0 ∧ win0_4.index t 3 = 0)
    ∧ (win0_5.index t 0 = t.val / 16 ∧ win0_5.index t 1 = t.val % 16 ∧ win0_5.index t 2 = 0 ∧ win0_5.index t 3 = 0) := by
  decide +kernel

/-- An entry of the block of queries, keys and values. -/
theorem read_qkv (A : Vec Ideal S4x16x512x3072 .bf16) (t : Fin cfg0.N) (p : Fin 512) (l : Fin 3072) (j : S4x16x512x3072.Idx)
    (e : ((cfg0.win 0).blk t).view.emb (ix4 0 0 p l) = j) :
    (((cfg0.win 0).blk t).view.read (Elt Ideal) A : Vec Ideal S1x1x512x3072 .bf16) (ix4 0 0 p l) = A j := by
  subst e
  exact View.read_apply _ _

/-- An entry of the block of log-sum-exps. -/
theorem read_lse (A : Vec Ideal S4x16x512x1024 .f32) (t : Fin cfg0.N) (p : Fin 512) (l : Fin 1024) (j : S4x16x512x1024.Idx)
    (e : ((cfg0.win 4).blk t).view.emb (ix4 0 0 p l) = j) :
    (((cfg0.win 4).blk t).view.read (Elt Ideal) A : Vec Ideal S1x1x512x1024 .f32) (ix4 0 0 p l) = A j := by
  subst e
  exact View.read_apply _ _

/-- An entry of the output block. -/
theorem read_result (A : Vec Ideal S4x16x512x1024 .bf16) (t : Fin cfg0.N) (p : Fin 512) (l : Fin 1024) (j : S4x16x512x1024.Idx)
    (e : ((cfg0.win 5).blk t).view.emb (ix4 0 0 p l) = j) :
    (((cfg0.win 5).blk t).view.read (Elt Ideal) A : Vec Ideal S1x1x512x1024 .bf16) (ix4 0 0 p l) = A j := by
  subst e
  exact View.read_apply _ _

/-- The queries, keys and values of a grid point. -/
theorem block_qkv (c : Dev nD) (t : Fin cfg0.N) (h : t.val < 64) (p : Fin 512) (l : Fin 3072) :
    (iblk m c 0 t : Vec Ideal S1x1x512x3072 .bf16) (ix4 0 0 p l) = V m c main_v64 (ix4 ⟨t.val / 16, by omega⟩ ⟨t.val % 16, by omega⟩ p l) := by
  obtain ⟨⟨h0, h1, h2, h3⟩, _⟩ := index_facts t
  have e : ((cfg0.win 0).blk t).view.emb (ix4 0 0 p l) = (ix4 ⟨t.val / 16, by omega⟩ ⟨t.val % 16, by omega⟩ p l : S4x16x512x3072.Idx) := by
    funext a; apply Fin.ext
    match a with
    | ⟨0, _⟩ => show win0_0.index t 0 * 1 + 1 * 0 = t.val / 16; rw [h0]; omega
    | ⟨1, _⟩ => show win0_0.index t 1 * 1 + 1 * 0 = t.val % 16; rw [h1]; omega
    | ⟨2, _⟩ => show win0_0.index t 2 * 512 + 1 * p.val = p.val; rw [h2]; omega
    | ⟨3, _⟩ => show win0_0.index t 3 * 3072 + 1 * l.val = l.val; rw [h3]; omega
  unfold iblk
  exact read_qkv (V m c main_v64) t p l _ e

/-- The earlier output at a grid point. -/
theorem block_out (c : Dev nD) (t : Fin cfg0.N) (h : t.val < 64) (p : Fin 512) (l : Fin 1024) :
    (iblk m c 3 t : Vec Ideal S1x1x512x1024 .bf16) (ix4 0 0 p l) = V m c main_v67 (ix4 ⟨t.val / 16, by omega⟩ ⟨t.val % 16, by omega⟩ p l) := by
  obtain ⟨_, _, ⟨h0, h1, h2, h3⟩, _⟩ := index_facts t
  have e : ((cfg0.win 3).blk t).view.emb (ix4 0 0 p l) = (ix4 ⟨t.val / 16, by omega⟩ ⟨t.val % 16, by omega⟩ p l : S4x16x512x1024.Idx) := by
    funext a; apply Fin.ext
    match a with
    | ⟨0, _⟩ => show win0_3.index t 0 * 1 + 1 * 0 = t.val / 16; rw [h0]; omega
    | ⟨1, _⟩ => show win0_3.index t 1 * 1 + 1 * 0 = t.val % 16; rw [h1]; omega
    | ⟨2, _⟩ => show win0_3.index t 2 * 512 + 1 * p.val = p.val; rw [h2]; omega
    | ⟨3, _⟩ => show win0_3.index t 3 * 1024 + 1 * l.val = l.val; rw [h3]; omega
  unfold iblk
  generalize V m c = W
  exact congrArg (W main_v67) e

/-- The earlier log-sum-exps at a grid point, one per lane. -/
theorem block_lse (c : Dev nD) (t : Fin cfg0.N) (h : t.val < 64) (p : Fin 512) (l : Fin 1024) :
    (iblk m c 4 t : Vec Ideal S1x1x512x1024 .f32) (ix4 0 0 p l) = V m c main_v76 (ix4 ⟨t.val / 16, by omega⟩ ⟨t.val % 16, by omega⟩ p l) := by
  obtain ⟨_, _, _, ⟨h0, h1, h2, h3⟩, _⟩ := index_facts t
  have e : ((cfg0.win 4).blk t).view.emb (ix4 0 0 p l) = (ix4 ⟨t.val / 16, by omega⟩ ⟨t.val % 16, by omega⟩ p l : S4x16x512x1024.Idx) := by
    funext a; apply Fin.ext
    match a with
    | ⟨0, _⟩ => show win0_4.index t 0 * 1 + 1 * 0 = t.val / 16; rw [h0]; omega
    | ⟨1, _⟩ => show win0_4.index t 1 * 1 + 1 * 0 = t.val % 16; rw [h1]; omega
    | ⟨2, _⟩ => show win0_4.index t 2 * 512 + 1 * p.val = p.val; rw [h2]; omega
    | ⟨3, _⟩ => show win0_4.index t 3 * 1024 + 1 * l.val = l.val; rw [h3]; omega
  unfold iblk
  exact read_lse (V m c main_v76) t p l _ e

/-- The bias tables: every grid point reads all of them. -/
theorem block_bias (c : Dev nD) (t : Fin cfg0.N) (f : Fin 2) (h : Fin 16) (i : Fin 128) (k : Fin 256) :
    (iblk m c 2 t : Vec Ideal S2x16x128x256 .f32) (ix4 f h i k) = V m c main_v56 (ix4 f h i k) := by
  obtain ⟨_, ⟨h0, h1, h2, h3⟩, _⟩ := index_facts t
  have e : ((cfg0.win 2).blk t).view.emb (ix4 f h i k) = (ix4 f h i k : S2x16x128x256.Idx) := by
    funext a; apply Fin.ext
    match a with
    | ⟨0, _⟩ => show win0_2.index t 0 * 2 + 1 * f.val = f.val; rw [h0]; omega
    | ⟨1, _⟩ => show win0_2.index t 1 * 16 + 1 * h.val = h.val; rw [h1]; omega
    | ⟨2, _⟩ => show win0_2.index t 2 * 128 + 1 * i.val = i.val; rw [h2]; omega
    | ⟨3, _⟩ => show win0_2.index t 3 * 256 + 1 * k.val = k.val; rw [h3]; omega
  unfold iblk
  generalize V m c = W
  exact congrArg (W main_v56) e

/-- The queries of a grid point are the argument's, in base two. -/
theorem queries (c : Dev nD) (t : Fin cfg0.N) (h : t.val < 64) (p : Fin 512) (l : Fin 1024) :
    (iblk m c 0 t : Vec Ideal S1x1x512x3072 .bf16) (ix4 0 0 p ⟨l, by omega⟩)
      = HMul.hMul (α := EReal) (m (c, Proc.tc.devRef main_arg0) (ix3 ⟨t.val / 16, by omega⟩ ⟨p * 16 + t.val % 16, by omega⟩ l)) L :=
  (block_qkv m c t h p _).trans (Host.query_at m c _ _ p _ l.isLt)

/-- The keys of a grid point. -/
theorem keys (c : Dev nD) (t : Fin cfg0.N) (h : t.val < 64) (p : Fin 512) (l : Fin 1024) :
    (iblk m c 0 t : Vec Ideal S1x1x512x3072 .bf16) (ix4 0 0 p ⟨1024 + l, by omega⟩)
      = m (c, Proc.tc.devRef main_arg1) (ix3 ⟨t.val / 16, by omega⟩ ⟨p * 16 + t.val % 16, by omega⟩ l) := by
  refine (block_qkv m c t h p _).trans ((Host.key_at m c _ _ p _ (by simp) (by simp; omega)).trans ?_)
  refine congrArg (m (c, Proc.tc.devRef main_arg1)) ?_
  idx_ext <;> simp

/-- The values of a grid point. -/
theorem values (c : Dev nD) (t : Fin cfg0.N) (h : t.val < 64) (p : Fin 512) (l : Fin 1024) :
    (iblk m c 0 t : Vec Ideal S1x1x512x3072 .bf16) (ix4 0 0 p ⟨2048 + l, by omega⟩)
      = m (c, Proc.tc.devRef main_arg2) (ix3 ⟨t.val / 16, by omega⟩ ⟨p * 16 + t.val % 16, by omega⟩ l) := by
  refine (block_qkv m c t h p _).trans ((Host.val_at m c _ _ p _ (by simp)).trans ?_)
  refine congrArg (m (c, Proc.tc.devRef main_arg2)) ?_
  idx_ext <;> simp

/-- One element of what a grid point computes, from any blocks with the right entries. -/
theorem point (hfin : Finite m) (c : Dev nD) (b : Fin 4) (r : Fin 16) (x0 : Vec Ideal S1x1x512x3072 .bf16) (x1 : Vec Ideal S1x1x128x3072 .bf16)
    (x2 : Vec Ideal S2x16x128x256 .f32) (x3 : Vec Ideal S1x1x512x1024 .bf16) (x4 : Vec Ideal S1x1x512x1024 .f32)
    (hq : ∀ (p : Fin 512) (l : Fin 1024), x0 (ix4 0 0 p ⟨l, by omega⟩)
      = HMul.hMul (α := EReal) (m (c, Proc.tc.devRef main_arg0) (ix3 b ⟨p * 16 + r, by omega⟩ l)) L)
    (hk : ∀ (p : Fin 512) (l : Fin 1024), x0 (ix4 0 0 p ⟨1024 + l, by omega⟩) = m (c, Proc.tc.devRef main_arg1) (ix3 b ⟨p * 16 + r, by omega⟩ l))
    (hv : ∀ (p : Fin 512) (l : Fin 1024), x0 (ix4 0 0 p ⟨2048 + l, by omega⟩) = m (c, Proc.tc.devRef main_arg2) (ix3 b ⟨p * 16 + r, by omega⟩ l))
    (hb : ∀ (n : Fin 4) (h : Fin 16) (i : Fin 128) (k : Fin 256), x2 (ix4 (if n = 0 then 1 else 0) h i k)
      = Scalar.select (allowed n i k) (HMul.hMul (α := EReal)
          (Cert.AttnRefIdeal.Read.val_main_v57 (F := Ideal) (m (c, Proc.tc.devRef main_arg3)) (ix3 i k h)) L) ⊥)
    (ho : ∀ (p : Fin 512) (l : Fin 1024), x3 (ix4 0 0 p l) = m (c, Proc.tc.devRef main_arg4) (ix3 b ⟨p * 16 + r, by omega⟩ l))
    (hl : ∀ (p : Fin 512) (l : Fin 1024), x4 (ix4 0 0 p l)
      = HMul.hMul (α := EReal) (m (c, Proc.tc.devRef main_arg5) (ix3 b ⟨p * 16 + r, by omega⟩ ⟨l / 64, by omega⟩)) L)
    (n : Fin 4) (i : Fin 128) (hp : Fin 8) (e : Fin 2) (d : Fin 64) :
    whole x0 x1 x2 x3 x4 (ix4 0 0 ⟨128 * n + i, by omega⟩ ⟨128 * hp + (64 * e + d), by omega⟩)
      = goal m c (ix4 b r (pos n i) ⟨(2 * hp + e) * 64 + d, by omega⟩) :=
  (whole_at x0 x1 x2 x3 x4 n i hp e d).trans
    (value_eq x0 x1 x2 x3 x4 _ _ _ _ _ _ b r hq hk hv hb ho hl (hfin c) n i hp e d)

/-- The block a grid point computes, element by element. -/
theorem whole_eq (hfin : Finite m) (c : Dev nD) (t : Fin cfg0.N) (h : t.val < 64) (n : Fin 4) (i : Fin 128) (hp : Fin 8) (e : Fin 2) (d : Fin 64) :
    whole (iblk m c 0 t) (iblk m c 1 t) (iblk m c 2 t) (iblk m c 3 t) (iblk m c 4 t)
        (ix4 0 0 ⟨128 * n + i, by omega⟩ ⟨128 * hp + (64 * e + d), by omega⟩)
      = goal m c (ix4 ⟨t.val / 16, by omega⟩ ⟨t.val % 16, by omega⟩ (pos n i) ⟨(2 * hp + e) * 64 + d, by omega⟩) :=
  point m hfin c ⟨t.val / 16, by omega⟩ ⟨t.val % 16, by omega⟩ (iblk m c 0 t) (iblk m c 1 t) (iblk m c 2 t) (iblk m c 3 t) (iblk m c 4 t)
    (queries m c t h) (keys m c t h) (values m c t h)
    (fun n' hh i' k => (block_bias m c t _ hh i' k).trans (Host.bias_at m c n' hh i' k))
    (fun p l => (block_out m c t h p l).trans (Host.po_at m c _ _ p l))
    (fun p l => (block_lse m c t h p l).trans (Host.pl_at m c _ _ p l)) n i hp e d

/-- What a grid point writes back is its block of the reference's result. -/
theorem flushed_eq (hfin : Finite m) (c : Dev nD) (t : Fin cfg0.N) :
    (dats m 0 c).flushed 5 t = ((cfg0.win 5).blk t).view.read (Elt Ideal) (goal m c) := by
  have h : t.val < 64 := t.isLt
  obtain ⟨_, _, _, _, ⟨h0, h1, h2, h3⟩⟩ := index_facts t
  rw [Value.flushed5_A, out_eq]
  show whole (iblk m c 0 t) (iblk m c 1 t) (iblk m c 2 t) (iblk m c 3 t) (iblk m c 4 t) = _
  funext j
  obtain ⟨n, i, hp, e, d, rfl⟩ : ∃ (n : Fin 4) (i : Fin 128) (hp : Fin 8) (e : Fin 2) (d : Fin 64),
      j = ix4 0 0 ⟨128 * n + i, by omega⟩ ⟨128 * hp + (64 * e + d), by omega⟩ := by
    have j0 : (j 0 : ℕ) < 1 := (j 0).isLt
    have j1 : (j 1 : ℕ) < 1 := (j 1).isLt
    have j2 : (j 2 : ℕ) < 512 := (j 2).isLt
    have j3 : (j 3 : ℕ) < 1024 := (j 3).isLt
    refine ⟨⟨(j 2 : ℕ) / 128, by omega⟩, ⟨(j 2 : ℕ) % 128, by omega⟩, ⟨(j 3 : ℕ) / 128, by omega⟩, ⟨(j 3 : ℕ) % 128 / 64, by omega⟩,
      ⟨(j 3 : ℕ) % 64, by omega⟩, ?_⟩
    funext a; apply Fin.ext
    match a with
    | ⟨0, _⟩ => show (j 0 : ℕ) = 0; omega
    | ⟨1, _⟩ => show (j 1 : ℕ) = 0; omega
    | ⟨2, _⟩ => show (j 2 : ℕ) = 128 * ((j 2 : ℕ) / 128) + (j 2 : ℕ) % 128; omega
    | ⟨3, _⟩ => show (j 3 : ℕ) = 128 * ((j 3 : ℕ) / 128) + (64 * ((j 3 : ℕ) % 128 / 64) + (j 3 : ℕ) % 64); omega
  have e : ((cfg0.win 5).blk t).view.emb (ix4 0 0 ⟨128 * n + i, by omega⟩ ⟨128 * hp + (64 * e + d), by omega⟩)
      = (ix4 ⟨t.val / 16, by omega⟩ ⟨t.val % 16, by omega⟩ (pos n i) ⟨(2 * hp + e) * 64 + d, by omega⟩ : S4x16x512x1024.Idx) := by
    funext a; apply Fin.ext
    match a with
    | ⟨0, _⟩ => show win0_5.index t 0 * 1 + 1 * 0 = t.val / 16; rw [h0]; omega
    | ⟨1, _⟩ => show win0_5.index t 1 * 1 + 1 * 0 = t.val % 16; rw [h1]; omega
    | ⟨2, _⟩ => show win0_5.index t 2 * 512 + 1 * (128 * n.val + i.val) = n.val * 128 + i.val; rw [h2]; omega
    | ⟨3, _⟩ => show win0_5.index t 3 * 1024 + 1 * (128 * hp.val + (64 * e.val + d.val)) = (2 * hp.val + e.val) * 64 + d.val; rw [h3]; omega
  exact (whole_eq m hfin c t h n i hp _ d).trans (read_result (goal m c) t _ _ _ e).symm

/-- An index is in a point's block when its batch and residue are the point's. -/
theorem mem_blk (t : Fin cfg0.N) (i : S4x16x512x1024.Idx) (hi : (i 0 : Nat) = t.val / 16 ∧ (i 1 : Nat) = t.val % 16) :
    i ∈ ((cfg0.win 5).blk t).view.set := by
  show i ∈ ((View.whole main_v77).slice (win0_5.rect t)).set
  rw [View.set_slice_whole, Rect.mem_set_unit]
  obtain ⟨_, _, _, _, ⟨h0, h1, h2, h3⟩⟩ := index_facts t
  have hp : (i 2 : Nat) < 512 := (i 2).isLt
  have hl : (i 3 : Nat) < 1024 := (i 3).isLt
  obtain ⟨ha, hb⟩ := hi
  have e0 : win0_5.index t 0 * 1 ≤ (i 0 : Nat) ∧ (i 0 : Nat) < win0_5.index t 0 * 1 + 1 := by omega
  have e1 : win0_5.index t 1 * 1 ≤ (i 1 : Nat) ∧ (i 1 : Nat) < win0_5.index t 1 * 1 + 1 := by omega
  have e2 : win0_5.index t 2 * 512 ≤ (i 2 : Nat) ∧ (i 2 : Nat) < win0_5.index t 2 * 512 + 512 := by omega
  have e3 : win0_5.index t 3 * 1024 ≤ (i 3 : Nat) ∧ (i 3 : Nat) < win0_5.index t 3 * 1024 + 1024 := by omega
  intro a
  match a with
  | ⟨0, _⟩ => exact e0
  | ⟨1, _⟩ => exact e1
  | ⟨2, _⟩ => exact e2
  | ⟨3, _⟩ => exact e3

/-- The blocks tile the result. -/
theorem cover (i : S4x16x512x1024.Idx) :
    ∃ t : Fin cfg0.N, (cfg0.win 5).flush t = true ∧ i ∈ ((cfg0.win 5).blk t).view.set := by
  have h0 : (i 0 : Nat) < 4 := (i 0).isLt
  have h1 : (i 1 : Nat) < 16 := (i 1).isLt
  have hN : cfg0.N = 64 := N_0
  refine ⟨⟨(i 0 : Nat) * 16 + (i 1 : Nat), by omega⟩, flush0_5 _, mem_blk _ _ ?_⟩
  dsimp only
  omega

/-- So the result array ends at the reference's result. -/
theorem final (hfin : Finite m) (c : Dev nD) : (dats m 0 c).arrAt 5 cfg0.N = goal m c :=
  (dats m 0 c).arrAt_eq_of_cover 5 (goal m c) (fun t _ => flushed_eq m hfin c t) cover

/-- The run, read: the result array at the reference's result, the arguments unchanged. -/
theorem run (hfin : Finite m) : θ_run defs (onTc (τ := τ) (main (F := Ideal))) ⟨m, fun _ => 0, ρ⟩ fun r => ∀ c : Dev nD,
      r.2.mem ((c : Thread nD τ).loc main_v77) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1).trans (final m hfin c), (h c).2⟩) (Value.run_blocks m ρ)

end Cert.AttnIdeal.RefValue
-- ==== Proof.InScalar.lean ====
/-
  The scalar mathematics of the odd input projection over the extended reals: the silu written with a half-angle tanh is the
  quotient form, and the kernel's forget gate is the reference's log-add-exp divided by log 2.
-/
module

public import proofs.«01_k».proof.Proof.Scalar

@[expose] public section

noncomputable section

open Idealize.ShloMosaic Cert.Proof.Scalar

namespace Cert.Gate

/-- One half. -/
def half : EReal := ((1 / 2 : ℝ) : EReal)

/-- The real half-angle identity: half of `1 + tanh (x / 2)` is the logistic function. -/
theorem half_tanh (x : ℝ) : 1 / 2 * (1 + Real.tanh (1 / 2 * x)) = 1 / (1 + Real.exp (-x)) := by
  have e : Real.exp (-x) = (Real.exp (1 / 2 * x))⁻¹ * (Real.exp (1 / 2 * x))⁻¹ := by
    rw [← Real.exp_neg, ← Real.exp_add]; congr 1; ring
  have hp : 0 < Real.exp (1 / 2 * x) := Real.exp_pos _
  rw [Real.tanh_eq_sinh_div_cosh, Real.sinh_eq, Real.cosh_eq, e, Real.exp_neg]
  generalize Real.exp (1 / 2 * x) = y at hp
  have h2 : y * y + 1 ≠ 0 := by positivity
  have h3 : y + y⁻¹ ≠ 0 := by positivity
  field_simp
  ring

theorem log_one : Ideal.log 1 = 0 := by
  rw [← EReal.coe_one, log_coe, if_neg (by norm_num), Real.log_one]; rfl
theorem exp_top : Ideal.exp ⊤ = ⊤ := rfl
theorem exp_coe (r : ℝ) : Ideal.exp (r : EReal) = ((Real.exp r : ℝ) : EReal) := rfl
theorem tanh_coe (r : ℝ) : Ideal.tanh (r : EReal) = ((Real.tanh r : ℝ) : EReal) := rfl

theorem half_pos : (0 : EReal) < half := by unfold half; exact_mod_cast (by norm_num : (0 : ℝ) < 1 / 2)

/-- The quotient form of the logistic function on a real number. -/
theorem logistic_coe (x : ℝ) : Ideal.div 1 (1 + Ideal.exp (-(x : EReal))) = ((1 / (1 + Real.exp (-x)) : ℝ) : EReal) := by
  have hp : 0 < 1 + Real.exp (-x) := by positivity
  rw [← EReal.coe_neg, exp_coe, show (1 : EReal) + ((Real.exp (-x) : ℝ) : EReal) = ((1 + Real.exp (-x) : ℝ) : EReal) by push_cast; rfl,
    div_one_add hp, one_mul]

/-- The kernel's silu is the reference's, at a real number. -/
theorem silu_half {x : EReal} (h : ∃ r : ℝ, x = r) : half * x + half * x * Ideal.tanh (half * x) = x * Ideal.div 1 (1 + Ideal.exp (-x)) := by
  obtain ⟨r, rfl⟩ := h
  rw [logistic_coe]
  unfold half
  rw [← EReal.coe_mul, tanh_coe, ← EReal.coe_mul, ← EReal.coe_add, ← EReal.coe_mul]
  rw [← half_tanh]
  congr 1
  ring

/-- The log-add-exp of two numbers, as it is printed. -/
def lae (a b : EReal) : EReal := max a b + Ideal.log (1 + Ideal.exp (-(max (a - b) (-(a - b)))))

theorem lae_coe (a b : ℝ) : lae (a : EReal) (b : EReal) = ((Real.log (Real.exp a + Real.exp b) : ℝ) : EReal) := by
  have key : max a b + Real.log (1 + Real.exp (-(max (a - b) (-(a - b))))) = Real.log (Real.exp a + Real.exp b) := by
    rcases le_total a b with h | h
    · rw [max_eq_right h, max_eq_right (by linarith : a - b ≤ -(a - b))]
      have : Real.exp a + Real.exp b = Real.exp b * (1 + Real.exp (- -(a - b))) := by
        rw [mul_add, ← Real.exp_add]; ring_nf
      rw [this, Real.log_mul (Real.exp_pos _).ne' (by positivity), Real.log_exp]
    · rw [max_eq_left h, max_eq_left (by linarith : -(a - b) ≤ a - b)]
      have : Real.exp a + Real.exp b = Real.exp a * (1 + Real.exp (-(a - b))) := by
        rw [mul_add, ← Real.exp_add]; ring_nf
      rw [this, Real.log_mul (Real.exp_pos _).ne' (by positivity), Real.log_exp]
  unfold lae
  rw [← EReal.coe_sub, ← EReal.coe_neg, ← EReal.coe_strictMono.monotone.map_max, ← EReal.coe_strictMono.monotone.map_max, ← EReal.coe_neg, exp_coe,
    ← EReal.coe_one, ← EReal.coe_add, log_coe, if_neg (by push Not; positivity), ← EReal.coe_add, key]

theorem lae_bot (a : ℝ) : lae (a : EReal) ⊥ = a := by
  unfold lae
  simp [exp_bot, log_one, EReal.coe_sub_bot]

theorem lae_bot_left (b : ℝ) : lae ⊥ (b : EReal) = b := by
  unfold lae
  simp [exp_bot, log_one]

theorem lae_top_left (b : ℝ) : lae ⊤ (b : EReal) = ⊤ := by
  unfold lae
  simp [exp_bot, log_one, EReal.top_sub_coe]

/-- The kernel's forget gate, a logarithm of the lower bound plus the logistic share of the rest, is the reference's
    log-add-exp, both as binary logarithms. -/
theorem gate (b : ℝ) (h0 : 0 < b) (h1 : b < 1) (f : EReal) :
    Ideal.log (half * (1 + (b : EReal)) + half * (1 - (b : EReal)) * Ideal.tanh (half * f)) * L
      = Ideal.div (lae (Ideal.log (b : EReal)) (Ideal.log (1 + (-(b : EReal))) + (-(lae (-f) 0)))) (Ideal.log ((2 : ℝ) : EReal)) := by
  have h1' : 0 < 1 - b := by linarith
  have hb : Ideal.log (b : EReal) = ((Real.log b : ℝ) : EReal) := by rw [log_coe, if_neg (by linarith)]
  have hc : Ideal.log (1 + (-(b : EReal))) = ((Real.log (1 - b) : ℝ) : EReal) := by
    rw [show (1 : EReal) + (-(b : EReal)) = ((1 - b : ℝ) : EReal) by push_cast; rfl, log_coe, if_neg (by linarith)]
  have hm : half * (1 + (b : EReal)) = ((1 / 2 * (1 + b) : ℝ) : EReal) := by unfold half; push_cast; rfl
  have hr : half * (1 - (b : EReal)) = ((1 / 2 * (1 - b) : ℝ) : EReal) := by unfold half; push_cast; rfl
  have hl2 : Ideal.log ((2 : ℝ) : EReal) = ((Real.log 2 : ℝ) : EReal) := by rw [log_coe, if_neg (by norm_num)]
  rw [hl2, div_one_add log_two_pos, hb, hc, hm, hr,
    show ((1 / Real.log 2 : ℝ) : EReal) = L by unfold L; rw [one_div]]
  refine congrArg (· * L) ?_
  induction f using EReal.rec with
  | bot =>
    rw [EReal.mul_bot_of_pos half_pos, EReal.neg_bot, show lae ⊤ 0 = ⊤ from lae_top_left 0, EReal.neg_top, show ((Real.log (1 - b) : ℝ) : EReal) + ⊥ = ⊥ from rfl, lae_bot]
    show Ideal.log (((1 / 2 * (1 + b) : ℝ) : EReal) + ((1 / 2 * (1 - b) : ℝ) : EReal) * (-1)) = _
    rw [← EReal.coe_one, ← EReal.coe_neg, ← EReal.coe_mul, ← EReal.coe_add, show 1 / 2 * (1 + b) + 1 / 2 * (1 - b) * -1 = b by ring, hb]
  | top =>
    rw [EReal.mul_top_of_pos half_pos, EReal.neg_top, show lae ⊥ 0 = 0 from lae_bot_left 0, neg_zero, add_zero, lae_coe,
      Real.exp_log h0, Real.exp_log h1', show b + (1 - b) = 1 by ring]
    show Ideal.log (((1 / 2 * (1 + b) : ℝ) : EReal) + ((1 / 2 * (1 - b) : ℝ) : EReal) * 1) = _
    rw [← EReal.coe_one, ← EReal.coe_mul, ← EReal.coe_add, show 1 / 2 * (1 + b) + 1 / 2 * (1 - b) * 1 = 1 by ring, log_coe, if_neg (by norm_num)]
  | coe r =>
    have hs : 0 < 1 / (1 + Real.exp (-r)) := by positivity
    have hz : lae (-(r : EReal)) 0 = ((Real.log (Real.exp (-r) + 1) : ℝ) : EReal) := by
      rw [← EReal.coe_neg, ← EReal.coe_zero, lae_coe, Real.exp_zero]
    rw [hz, ← EReal.coe_neg, ← EReal.coe_add, lae_coe, Real.exp_log h0, Real.exp_add, Real.exp_log h1', Real.exp_neg, Real.exp_log (by positivity)]
    unfold half
    rw [← EReal.coe_mul, tanh_coe, ← EReal.coe_mul, ← EReal.coe_add]
    have e : 1 / 2 * (1 + b) + 1 / 2 * (1 - b) * Real.tanh (1 / 2 * r) = b + (1 - b) * (Real.exp (-r) + 1)⁻¹ := by
      have := half_tanh r
      rw [add_comm 1 (Real.exp (-r)), one_div (Real.exp (-r) + 1)] at this
      rw [← this]; ring
    rw [e, log_coe, if_neg]
    have : 0 < (1 - b) * (Real.exp (-r) + 1)⁻¹ := by positivity
    push Not
    linarith

end Cert.Gate
-- ==== Proof.InRef.lean ====
/-
  The odd input projection's reference, read at an index: the lower bound of a gate column is a real number strictly between
  zero and one, the projection of real inputs is real, and each quarter of the columns holds its own function of it.
-/
module

public import proofs.«01_k».proof.Proof.Gen.InProjRefIdeal.Read
public import proofs.«01_k».proof.Proof.InScalar
public import Idealize.ShloMosaic.Lib.Pointwise
public import Idealize.ShloMosaic.Lib.Claim

@[expose] public section

set_option maxRecDepth 16384

noncomputable section

open Idealize.ShloMosaic Cert.Gate Cert.Proof.Scalar

namespace Cert.InProjRefIdeal.RowValue

open Cert.InProjRefIdeal Cert.InProjRefIdeal.Gen Cert.InProjRefIdeal.Read

/-- A fold over two positions is two steps. -/
theorem fold_two {α : Type} {n : Nat} (hn : n = 2) (f : α → Fin n → α) (v : α) :
    (List.finRange n).foldl f v = f (f v (Fin.cast hn.symm 0)) (Fin.cast hn.symm 1) := by
  subst hn; rfl

/-- A window of two rows. -/
abbrev W : Shape := ⟨2, ![2, 1]⟩

/-- Its two positions are its two rows. -/
theorem pos_row (n : Fin 2) : W.rowMajor.symm (Fin.cast (by decide : 2 = W.numel) n) = (ix2 n 0 : W.Idx) := by
  rw [Equiv.symm_apply_eq]
  revert n; decide

/-- A running sum of two rows, at its first row. -/
theorem cumsum_first (x : FVec Ideal S2x2048 .f32) (v : FVec Ideal S_ .f32) (k : Fin 2048) :
    Host.reduceWindowAdd ![2, 1] ![1, 1] ![1, 0] ![0, 0] x v reduceWindows_S2x2048_S2x2048_w2s1p1_0_w1s1p0_0 h_S_ (ix2 0 k)
      = v (Shape.Idx.first h_S_) + v (Shape.Idx.first h_S_) + x (ix2 0 k) := by
  unfold Host.reduceWindowAdd
  show Ideal.hostReduceWindowAdd ![2, 1] ![1, 1] ![1, 0] ![0, 0] reduceWindows_S2x2048_S2x2048_w2s1p1_0_w1s1p0_0 x (v (Shape.Idx.first h_S_)) (ix2 0 k) = _
  unfold Ideal.hostReduceWindowAdd Host.reduceWindow
  refine (fold_two (by decide : W.numel = 2) _ _).trans ?_
  dsimp only
  rw [dif_neg, dif_pos]
  · refine congrArg₂ (· + ·) rfl (congrArg x ?_)
    funext a; apply Fin.ext
    have h1 : W.rowMajor.symm (Fin.cast (by decide : 2 = W.numel) 1) = (ix2 1 0 : W.Idx) := pos_row 1
    match a with
    | ⟨0, _⟩ => show 0 * 1 + (W.rowMajor.symm (Fin.cast (by decide : 2 = W.numel) 1) 0).val - 1 = 0; rw [h1]; rfl
    | ⟨1, _⟩ => show k.val * 1 + (W.rowMajor.symm (Fin.cast (by decide : 2 = W.numel) 1) 1).val - 0 = k.val; rw [h1]; show k.val * 1 + 0 - 0 = _; omega
  · have h1 : W.rowMajor.symm (Fin.cast (by decide : 2 = W.numel) 1) = (ix2 1 0 : W.Idx) := pos_row 1
    intro a
    match a with
    | ⟨0, _⟩ => show 1 ≤ 0 * 1 + (W.rowMajor.symm (Fin.cast (by decide : 2 = W.numel) 1) 0).val ∧ 0 * 1 + (W.rowMajor.symm (Fin.cast (by decide : 2 = W.numel) 1) 0).val - 1 < 2; rw [h1]; decide
    | ⟨1, _⟩ => show 0 ≤ k.val * 1 + (W.rowMajor.symm (Fin.cast (by decide : 2 = W.numel) 1) 1).val ∧ k.val * 1 + (W.rowMajor.symm (Fin.cast (by decide : 2 = W.numel) 1) 1).val - 0 < 2048; rw [h1]; show 0 ≤ k.val * 1 + 0 ∧ k.val * 1 + 0 - 0 < 2048; omega
  · intro h
    have h0 : W.rowMajor.symm (Fin.cast (by decide : 2 = W.numel) 0) = (ix2 0 0 : W.Idx) := pos_row 0
    have h2 : 1 ≤ 0 * 1 + (W.rowMajor.symm (Fin.cast (by decide : 2 = W.numel) 0) 0).val := (h 0).1
    rw [h0] at h2
    exact absurd h2 (by decide)

/-- A running sum of two rows, at its second row. -/
theorem cumsum_second (x : FVec Ideal S2x2048 .f32) (v : FVec Ideal S_ .f32) (k : Fin 2048) :
    Host.reduceWindowAdd ![2, 1] ![1, 1] ![1, 0] ![0, 0] x v reduceWindows_S2x2048_S2x2048_w2s1p1_0_w1s1p0_0 h_S_ (ix2 1 k)
      = v (Shape.Idx.first h_S_) + x (ix2 0 k) + x (ix2 1 k) := by
  unfold Host.reduceWindowAdd
  show Ideal.hostReduceWindowAdd ![2, 1] ![1, 1] ![1, 0] ![0, 0] reduceWindows_S2x2048_S2x2048_w2s1p1_0_w1s1p0_0 x (v (Shape.Idx.first h_S_)) (ix2 1 k) = _
  unfold Ideal.hostReduceWindowAdd Host.reduceWindow
  refine (fold_two (by decide : W.numel = 2) _ _).trans ?_
  dsimp only
  rw [dif_pos, dif_pos]
  · refine congrArg₂ (· + ·) (congrArg₂ (· + ·) rfl (congrArg x ?_)) (congrArg x ?_)
    · funext a; apply Fin.ext
      have h1 : W.rowMajor.symm (Fin.cast (by decide : 2 = W.numel) 0) = (ix2 0 0 : W.Idx) := pos_row 0
      match a with
      | ⟨0, _⟩ => show 1 * 1 + (W.rowMajor.symm (Fin.cast (by decide : 2 = W.numel) 0) 0).val - 1 = 0; rw [h1]; rfl
      | ⟨1, _⟩ => show k.val * 1 + (W.rowMajor.symm (Fin.cast (by decide : 2 = W.numel) 0) 1).val - 0 = k.val; rw [h1]; show k.val * 1 + 0 - 0 = _; omega
    · funext a; apply Fin.ext
      have h1 : W.rowMajor.symm (Fin.cast (by decide : 2 = W.numel) 1) = (ix2 1 0 : W.Idx) := pos_row 1
      match a with
      | ⟨0, _⟩ => show 1 * 1 + (W.rowMajor.symm (Fin.cast (by decide : 2 = W.numel) 1) 0).val - 1 = 1; rw [h1]; rfl
      | ⟨1, _⟩ => show k.val * 1 + (W.rowMajor.symm (Fin.cast (by decide : 2 = W.numel) 1) 1).val - 0 = k.val; rw [h1]; show k.val * 1 + 0 - 0 = _; omega
  · have h1 : W.rowMajor.symm (Fin.cast (by decide : 2 = W.numel) 1) = (ix2 1 0 : W.Idx) := pos_row 1
    intro a
    match a with
    | ⟨0, _⟩ => show 1 ≤ 1 * 1 + (W.rowMajor.symm (Fin.cast (by decide : 2 = W.numel) 1) 0).val ∧ 1 * 1 + (W.rowMajor.symm (Fin.cast (by decide : 2 = W.numel) 1) 0).val - 1 < 2; rw [h1]; decide
    | ⟨1, _⟩ => show 0 ≤ k.val * 1 + (W.rowMajor.symm (Fin.cast (by decide : 2 = W.numel) 1) 1).val ∧ k.val * 1 + (W.rowMajor.symm (Fin.cast (by decide : 2 = W.numel) 1) 1).val - 0 < 2048; rw [h1]; show 0 ≤ k.val * 1 + 0 ∧ k.val * 1 + 0 - 0 < 2048; omega
  · have h1 : W.rowMajor.symm (Fin.cast (by decide : 2 = W.numel) 0) = (ix2 0 0 : W.Idx) := pos_row 0
    intro a
    match a with
    | ⟨0, _⟩ => show 1 ≤ 1 * 1 + (W.rowMajor.symm (Fin.cast (by decide : 2 = W.numel) 0) 0).val ∧ 1 * 1 + (W.rowMajor.symm (Fin.cast (by decide : 2 = W.numel) 0) 0).val - 1 < 2; rw [h1]; decide
    | ⟨1, _⟩ => show 0 ≤ k.val * 1 + (W.rowMajor.symm (Fin.cast (by decide : 2 = W.numel) 0) 1).val ∧ k.val * 1 + (W.rowMajor.symm (Fin.cast (by decide : 2 = W.numel) 0) 1).val - 0 < 2048; rw [h1]; show 0 ≤ k.val * 1 + 0 ∧ k.val * 1 + 0 - 0 < 2048; omega

/-- A quotient of real numbers is real. -/
theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The constants' words, read. -/
theorem negInf' : (FloatOps.ofBits .f32 0xFF800000#32 : Ideal .f32) = (⊥ : EReal) := by
  show Ideal.ofBits FTy.f32 4286578688#32 = ⊥; simp [Ideal.ofBits, Ideal.ieee]
theorem zero' : (FloatOps.ofBits .f32 0x00000000#32 : Ideal .f32) = (0 : EReal) := by
  show Ideal.ofBits FTy.f32 0#32 = 0; simp [Ideal.ofBits, Ideal.ieee]

/-- The largest of two real rows is real. -/
theorem largest_real (x3 : FVec Ideal S2x2048 .f32) (u w : ℝ) (k : Fin 2048) (hu : x3 (ix2 0 k) = (u : EReal)) (hw : x3 (ix2 1 k) = (w : EReal)) :
    val_main_v2 (F := Ideal) x3 (ix1 k) = ((max u w : ℝ) : EReal) := by
  have e0 : val_main_cst (F := Ideal) (Shape.Idx.first h_S_) = (⊥ : EReal) := negInf'
  have e1 : ∀ j, val_main_cst_0 (F := Ideal) j = (⊥ : EReal) := fun _ => negInf'
  pointwise [val_main_v2, val_main_v1, val_main_v0]
  rw [e0, e1]
  rw [show (Finset.univ : Finset (Fin 2)) = {0, 1} from rfl, Finset.fold_insert (by decide), Finset.fold_singleton]
  refine (max_eq_right bot_le).trans ?_
  refine Eq.trans (congrArg₂ max hu (congrArg₂ max hw rfl)) ?_
  rw [max_eq_left (a := (w : EReal)) bot_le]
  exact (EReal.coe_strictMono.monotone.map_max).symm

/-- Each row's share, from real numbers. -/
theorem share_real (x3 : FVec Ideal S2x2048 .f32) (u w : ℝ) (k : Fin 2048) (hu : x3 (ix2 0 k) = (u : EReal)) (hw : x3 (ix2 1 k) = (w : EReal))
    (r : Fin 2) :
    val_main_v10 (F := Ideal) x3 (ix2 r k)
      = (((![Real.exp (u - max u w), Real.exp (w - max u w)] r) / (Real.exp (u - max u w) + Real.exp (w - max u w)) : ℝ) : EReal) := by
  have e0 : val_main_cst_1 (F := Ideal) (Shape.Idx.first h_S_) = (0 : EReal) := zero'
  have hm := largest_real x3 u w k hu hw
  pointwise [val_main_v10, val_main_v9, val_main_v8, val_main_v7, val_main_v6, val_main_v5, val_main_v4, val_main_v3]
  rw [e0, hm, zero_add, Fin.sum_univ_two, hu, hw, ← EReal.coe_sub, ← EReal.coe_sub, exp_coe, exp_coe, ← EReal.coe_add]
  have q0 : 0 < Real.exp (u - max u w) := Real.exp_pos _
  have q1 : 0 < Real.exp (w - max u w) := Real.exp_pos _
  have e : Ideal.exp (x3 (ix2 r k) - ((max u w : ℝ) : EReal)) = ((![Real.exp (u - max u w), Real.exp (w - max u w)] r : ℝ) : EReal) := by
    match r with
    | ⟨0, _⟩ => exact (congrArg (fun z => Ideal.exp (z - ((max u w : ℝ) : EReal))) hu).trans (by rw [← EReal.coe_sub, exp_coe]; rfl)
    | ⟨1, _⟩ => exact (congrArg (fun z => Ideal.exp (z - ((max u w : ℝ) : EReal))) hw).trans (by rw [← EReal.coe_sub, exp_coe]; rfl)
  rw [e]
  exact div_real _ (by positivity)

/-- The lower bound of a gate column is the second row's share: strictly between zero and one. -/
theorem bound_real (x3 : FVec Ideal S2x2048 .f32) (hx : ∀ j, ∃ z : ℝ, x3 j = (z : EReal)) (k : Fin 2048) :
    ∃ b : ℝ, 0 < b ∧ b < 1 ∧ val_main_v16 (F := Ideal) x3 (ix1 k) = (b : EReal) := by
  have hc0 := cumsum_first (val_main_v10 (F := Ideal) x3) (val_main_call0_call0_v0 (F := Ideal)) k
  have hc1 := cumsum_second (val_main_v10 (F := Ideal) x3) (val_main_call0_call0_v0 (F := Ideal)) k
  obtain ⟨u, hu⟩ := hx (ix2 0 k)
  obtain ⟨w, hw⟩ := hx (ix2 1 k)
  have hv : val_main_call0_call0_v0 (F := Ideal) (Shape.Idx.first h_S_) = (0 : EReal) := zero'
  rw [hv, share_real x3 u w k hu hw] at hc0
  rw [hv, share_real x3 u w k hu hw, share_real x3 u w k hu hw] at hc1
  have q0 : 0 < Real.exp (u - max u w) := Real.exp_pos _
  have q1 : 0 < Real.exp (w - max u w) := Real.exp_pos _
  refine ⟨Real.exp (w - max u w) / (Real.exp (u - max u w) + Real.exp (w - max u w)), by positivity, ?_, ?_⟩
  · rw [div_lt_one (by positivity)]; linarith
  · pointwise [val_main_v16, val_main_v15, val_main_v14, val_main_v13, val_main_v12]
    have a0 : val_main_v11 (F := Ideal) x3 (ix2 0 k) = _ := hc0
    have a1 : val_main_v11 (F := Ideal) x3 (ix2 1 k) = _ := hc1
    rw [a0, a1, zero_add, zero_add, zero_add, ← EReal.coe_add, ← EReal.coe_sub]
    refine congrArg _ ?_
    simp

/-- The width of a row, and the small positive number under the root. -/
theorem width : (FloatOps.ofBits .f32 0x44800000#32 : Ideal .f32) = ((1024 : ℝ) : EReal) := by
  show Ideal.ofBits FTy.f32 0x44800000#32 = _
  simp [Ideal.ofBits, Ideal.ieee, -EReal.coe_mul, ← EReal.coe_mul]
  norm_num
theorem eps : ∃ e : ℝ, 0 < e ∧ (FloatOps.ofBits .f32 0x358637BD#32 : Ideal .f32) = (e : EReal) := by
  show ∃ e : ℝ, 0 < e ∧ Ideal.ofBits FTy.f32 0x358637BD#32 = (e : EReal)
  simp [Ideal.ofBits, Ideal.ieee, -EReal.coe_mul, ← EReal.coe_mul]

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {n : ℕ} {f : Fin n → EReal} (h : ∀ i, IsReal (f i)) : IsReal (∑ i, f i) := by
  choose g hg using h
  exact ⟨∑ i, g i, by rw [Finset.sum_congr rfl fun i _ => hg i]; exact (map_sum (⟨⟨Real.toEReal, rfl⟩, EReal.coe_add⟩ : ℝ →+ EReal) g Finset.univ).symm⟩

/-- The reciprocal root of a mean of squares plus a positive real is real. -/
theorem scale_real {n : ℕ} {f : Fin n → EReal} (h : ∀ i, IsReal (f i)) {d e : ℝ} (hd : 0 < d) (he : 0 < e) :
    IsReal (Ideal.rsqrt (Ideal.div (∑ i, f i * f i) (d : EReal) + (e : EReal))) := by
  choose g hg using h
  have hs : ∑ i, f i * f i = ((∑ i, g i * g i : ℝ) : EReal) := by
    rw [Finset.sum_congr rfl fun i _ => by rw [hg i, ← EReal.coe_mul]]
    exact (map_sum (⟨⟨Real.toEReal, rfl⟩, EReal.coe_add⟩ : ℝ →+ EReal) (fun i => g i * g i) Finset.univ).symm
  rw [hs, div_real _ hd.ne', ← EReal.coe_add]
  have hp : 0 < (∑ i, g i * g i) / d + e :=
    add_pos_of_nonneg_of_pos (div_nonneg (Finset.sum_nonneg fun i _ => mul_self_nonneg _) hd.le) he
  refine ⟨(√((∑ i, g i * g i) / d + e))⁻¹, ?_⟩
  show (if _ < (0 : ℝ) then _ else _) = _
  rw [if_neg hp.not_gt, if_neg hp.ne']

/-- The projection, written out: a row scaled by the reciprocal root of its mean square, times the gain, times the weights. -/
theorem proj_at (x0 : FVec Ideal S4x8192x1024 .f32) (x1 : FVec Ideal S2x1024 .f32) (x2 : FVec Ideal S2x1024x8192 .f32) (b : Fin 4) (s c : Fin 8192) :
    val_main_v34 (F := Ideal) x0 x1 x2 (ix3 b s c) = ∑ k : Fin 1024,
      x0 (ix3 b s k) * Ideal.rsqrt (Ideal.div (∑ x : Fin 1024, x0 (ix3 b s x) * x0 (ix3 b s x)) (Ideal.ofBits FTy.f32 1149239296#32) + Ideal.ofBits FTy.f32 897988541#32)
        * x1 (ix2 1 k) * x2 (ix3 1 k c) := by
  have e2 : val_main_cst_2 (F := Ideal) (Shape.Idx.first h_S_) = (0 : EReal) := zero'
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17]
  rw [e2, zero_add]
  rfl

/-- A projected entry of real inputs is real. -/
theorem proj_real (x0 : FVec Ideal S4x8192x1024 .f32) (x1 : FVec Ideal S2x1024 .f32) (x2 : FVec Ideal S2x1024x8192 .f32)
    (h0 : ∀ j, IsReal (x0 j)) (h1 : ∀ j, IsReal (x1 j)) (h2 : ∀ j, IsReal (x2 j)) (b : Fin 4) (s c : Fin 8192) :
    IsReal (val_main_v34 (F := Ideal) x0 x1 x2 (ix3 b s c)) := by
  have e3 : Ideal.ofBits FTy.f32 1149239296#32 = ((1024 : ℝ) : EReal) := width
  obtain ⟨e, he, e4⟩ := eps
  have e4 : Ideal.ofBits FTy.f32 897988541#32 = (e : EReal) := e4
  rw [proj_at, e3, e4]
  have hs := scale_real (fun i => h0 (ix3 b s i)) (show (0 : ℝ) < 1024 by norm_num) he
  exact IsReal.sum fun x => (((h0 _).mul hs).mul (h1 _)).mul (h2 _)

section Columns

variable (x0 : FVec Ideal S4x8192x1024 .f32) (x1 : FVec Ideal S2x1024 .f32) (x2 : FVec Ideal S2x1024x8192 .f32) (x3 : FVec Ideal S2x2048 .f32)

theorem one' : (FloatOps.ofBits .f32 0x3F800000#32 : Ideal .f32) = (1 : EReal) := by
  show Ideal.ofBits FTy.f32 0x3F800000#32 = _
  simp [Ideal.ofBits, Ideal.ieee, -EReal.coe_mul, ← EReal.coe_mul]
  norm_num
theorem two' : (FloatOps.ofBits .f32 0x40000000#32 : Ideal .f32) = ((2 : ℝ) : EReal) := by
  show Ideal.ofBits FTy.f32 0x40000000#32 = _
  simp [Ideal.ofBits, Ideal.ieee, -EReal.coe_mul, ← EReal.coe_mul]
  norm_num

/-- An extended real is not unequal to itself. -/
theorem same_cmp (x : Ideal .f32) : FloatOps.cmpf .une x x = 0#1 := by
  show Ideal.cmp .une x x = _
  simp [Ideal.cmp]

/-- The columns of the queries. -/
theorem silu_q (b : Fin 4) (s : Fin 8192) (k : Fin 2048) :
    val_main_v60 (F := Ideal) x0 x1 x2 (ix3 b s k)
      = val_main_v34 (F := Ideal) x0 x1 x2 (ix3 b s ⟨k.val, by omega⟩)
        * Ideal.div 1 (1 + Ideal.exp (-(val_main_v34 (F := Ideal) x0 x1 x2 (ix3 b s ⟨k.val, by omega⟩)))) := by
  have e : ∀ j, val_main_call2_cst (F := Ideal) j = (1 : EReal) := fun _ => one'
  have e' : ∀ j, val_main_call2_cst_0 (F := Ideal) j = (1 : EReal) := fun _ => one'
  pointwise [val_main_v60, val_main_v35, val_main_call2_v0, val_main_call2_v1, val_main_call2_v2, val_main_call2_v3, val_main_call2_v4, val_main_call2_v5]
  rw [e, e']

theorem silu_z (b : Fin 4) (s : Fin 8192) (k : Fin 2048) :
    val_main_v64 (F := Ideal) x0 x1 x2 (ix3 b s k)
      = val_main_v34 (F := Ideal) x0 x1 x2 (ix3 b s ⟨6144 + k.val, by omega⟩)
        * Ideal.div 1 (1 + Ideal.exp (-(val_main_v34 (F := Ideal) x0 x1 x2 (ix3 b s ⟨6144 + k.val, by omega⟩)))) := by
  have e : ∀ j, val_main_call3_cst (F := Ideal) j = (1 : EReal) := fun _ => one'
  have e' : ∀ j, val_main_call3_cst_0 (F := Ideal) j = (1 : EReal) := fun _ => one'
  pointwise [val_main_v64, val_main_v38, val_main_call3_v0, val_main_call3_v1, val_main_call3_v2, val_main_call3_v3, val_main_call3_v4, val_main_call3_v5]
  rw [e, e']

/-- The columns of the gate. -/
theorem gate_f (b : Fin 4) (s : Fin 8192) (k : Fin 2048) :
    val_main_v63 (F := Ideal) x0 x1 x2 x3 (ix3 b s k)
      = Ideal.div (lae (Ideal.log (val_main_v16 (F := Ideal) x3 (ix1 k)))
          (Ideal.log (1 + -(val_main_v16 (F := Ideal) x3 (ix1 k)))
            + -(lae (-(val_main_v34 (F := Ideal) x0 x1 x2 (ix3 b s ⟨2048 + k.val, by omega⟩))) 0)))
          (Ideal.log ((2 : ℝ) : EReal)) := by
  have e5 : ∀ j, val_main_cst_5 (F := Ideal) j = ((2 : ℝ) : EReal) := fun _ => two'
  have ec : ∀ j, val_main_call1_call0_cst (F := Ideal) j = (0 : EReal) := fun _ => zero'
  have n : val_main_v42 (F := Ideal) x0 x1 x2 (ix3 b s k) = -(lae (-(val_main_v34 (F := Ideal) x0 x1 x2 (ix3 b s ⟨2048 + k.val, by omega⟩))) 0) := by
    pointwise [val_main_v42, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_v0, val_main_v36]
    rw [ec, if_neg (not_not_intro rfl)]
    rfl
  pointwise [val_main_v63, val_main_v62, val_main_v61, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v41, val_main_v40, val_main_v39]
  rw [e5, if_neg (not_not_intro rfl), n]
  rfl

/-- A row of the projection. -/
def proj (r : Fin 32768) (c : Fin 8192) : EReal :=
  val_main_v34 (F := Ideal) x0 x1 x2 (ix3 ⟨r.val / 8192, by omega⟩ ⟨r.val % 8192, by omega⟩ c)

/-- The written array, by quarters of its columns. -/
theorem at_column (r : Fin 32768) (c : Fin 8192) :
    val_main_v67 (F := Ideal) x0 x1 x2 x3 (ix2 r c)
      = (if h : c.val < 2048 then val_main_v60 (F := Ideal) x0 x1 x2 (ix3 ⟨r.val / 8192, by omega⟩ ⟨r.val % 8192, by omega⟩ ⟨c.val, h⟩)
        else if h : c.val - 2048 < 2048 then
          val_main_v63 (F := Ideal) x0 x1 x2 x3 (ix3 ⟨r.val / 8192, by omega⟩ ⟨r.val % 8192, by omega⟩ ⟨c.val - 2048, h⟩)
        else if h : c.val - 2048 - 2048 < 2048 then
          val_main_v34 (F := Ideal) x0 x1 x2 (ix3 ⟨r.val / 8192, by omega⟩ ⟨r.val % 8192, by omega⟩ ⟨4096 + (c.val - 2048 - 2048), by omega⟩)
        else val_main_v64 (F := Ideal) x0 x1 x2 (ix3 ⟨r.val / 8192, by omega⟩ ⟨r.val % 8192, by omega⟩ ⟨c.val - 2048 - 2048 - 2048, by omega⟩) : EReal) := by
  pointwise [val_main_v67, val_main_v66, val_main_v65, val_main_v37]

theorem col_i (r : Fin 32768) (c : Fin 8192) (h4 : 4096 ≤ c.val) (h6 : c.val < 6144) :
    val_main_v67 (F := Ideal) x0 x1 x2 x3 (ix2 r c) = proj x0 x1 x2 r c := by
  rw [at_column, dif_neg (by omega), dif_neg (by omega), dif_pos (by omega)]
  unfold proj
  exact congrArg (fun k => val_main_v34 (F := Ideal) x0 x1 x2 (ix3 _ _ k)) (Fin.ext (by show 4096 + (c.val - 2048 - 2048) = c.val; omega))

variable (h0 : ∀ j, IsReal (x0 j)) (h1 : ∀ j, IsReal (x1 j)) (h2 : ∀ j, IsReal (x2 j)) (h3 : ∀ j, IsReal (x3 j))

include h0 h1 h2 in
theorem col_q (r : Fin 32768) (c : Fin 8192) (hc : c.val < 2048) :
    val_main_v67 (F := Ideal) x0 x1 x2 x3 (ix2 r c)
      = half * proj x0 x1 x2 r c + half * proj x0 x1 x2 r c * Ideal.tanh (half * proj x0 x1 x2 r c) := by
  rw [at_column, dif_pos hc, silu_q]
  exact (silu_half (proj_real x0 x1 x2 h0 h1 h2 _ _ _)).symm

include h0 h1 h2 in
theorem col_z (r : Fin 32768) (c : Fin 8192) (hc : 6144 ≤ c.val) :
    val_main_v67 (F := Ideal) x0 x1 x2 x3 (ix2 r c)
      = half * proj x0 x1 x2 r c + half * proj x0 x1 x2 r c * Ideal.tanh (half * proj x0 x1 x2 r c) := by
  rw [at_column, dif_neg (by omega), dif_neg (by omega), dif_neg (by omega), silu_z]
  have e : (⟨6144 + (c.val - 2048 - 2048 - 2048), by omega⟩ : Fin 8192) = c := Fin.ext (by show 6144 + (c.val - 2048 - 2048 - 2048) = c.val; omega)
  refine Eq.trans ?_ (silu_half (proj_real x0 x1 x2 h0 h1 h2 _ _ _)).symm
  exact congrArg (fun k => val_main_v34 (F := Ideal) x0 x1 x2 (ix3 _ _ k) * Ideal.div 1 (1 + Ideal.exp (-(val_main_v34 (F := Ideal) x0 x1 x2 (ix3 _ _ k))))) e

include h3 in
theorem col_f (r : Fin 32768) (c : Fin 8192) (hc : 2048 ≤ c.val) (hc' : c.val < 4096) :
    val_main_v67 (F := Ideal) x0 x1 x2 x3 (ix2 r c)
      = Ideal.log (half * (1 + val_main_v16 (F := Ideal) x3 (ix1 ⟨c.val - 2048, by omega⟩))
          + half * (1 - val_main_v16 (F := Ideal) x3 (ix1 ⟨c.val - 2048, by omega⟩)) * Ideal.tanh (half * proj x0 x1 x2 r c)) * L := by
  obtain ⟨b, hb0, hb1, hb⟩ := bound_real x3 h3 ⟨c.val - 2048, by omega⟩
  rw [at_column, dif_neg (by omega), dif_pos (by omega), gate_f, hb, gate b hb0 hb1]
  have e : (⟨2048 + (c.val - 2048), by omega⟩ : Fin 8192) = c := Fin.ext (by show 2048 + (c.val - 2048) = c.val; omega)
  unfold proj
  exact congrArg (fun k => Ideal.div (lae (Ideal.log (b : EReal)) (Ideal.log (1 + -(b : EReal)) + -(lae (-(val_main_v34 (F := Ideal) x0 x1 x2 (ix3 _ _ k))) 0))) (Ideal.log ((2 : ℝ) : EReal))) e

end Columns

end Cert.InProjRefIdeal.RowValue
-- ==== Proof.InHost.lean ====
/-
  The odd input projection's prepared arrays: what the launch finds in each window's array, from the four arguments.
-/
module

public import proofs.«01_k».proof.Proof.Gen.InProjIdeal.Frame
public import proofs.«01_k».proof.Proof.InRef
public import Idealize.ShloMosaic.Lib.StableHlo.ReadAt
public import Idealize.ShloMosaic.Lib.Routing.OpsSet
public import Idealize.ShloMosaic.Lib.Routing.OpsOne
public import Idealize.ShloMosaic.Lib.Routing.OpsPair
public import Idealize.ShloMosaic.Lib.Pointwise
public import Idealize.ShloMosaic.Lib.Claim

@[expose] public section

set_option maxRecDepth 16384

noncomputable section

open Idealize.ShloMosaic Idealize.ShloMosaic.TcCoe Cert.Gate
open Idealize.ShloMosaic.Routing
open Cert.InProjRefIdeal.Read (val_main_v16)

namespace Cert.InProjIdeal.HostValue

open Cert.InProjIdeal Cert.InProjIdeal.Gen

variable (m : (ℓ : Loc nD τ sig) → Buf (Elt Ideal) ℓ) (c : Dev nD)

/-- The two scattered rows' index: row 0, column 2048. -/
def place : IVec S2 32 :=
  concatenate S2 0 [⟨S1, broadcastInDim S1 ![] bcast_S_S1 (constantI S_ 32 0#32)⟩, ⟨S1, broadcastInDim S1 ![] bcast_S_S1 (constantI S_ 32 2048#32)⟩]
    concatenates_S1_S1_S2_d0

/-- A row of ones with `u` written over its gate columns. -/
def row (u : FVec Ideal S2048 .f32) : FVec Ideal S1x8192 .f32 :=
  Host.scatter scatter_S1x8192_S2_S2048_0_0_01_0 (fun _ b => b)
    (broadcastInDim S1x8192 ![] bcast_S_S1x8192 (constant (F := Ideal) S_ .f32 0x3F800000#32)) place u

/-- A number over the gate's columns. -/
def fill (w : BitVec 32) : FVec Ideal S2048 .f32 := broadcastInDim S2048 ![] bcast_S_S2048 (constant (F := Ideal) S_ .f32 w)

/-- The rows of `x`, the batch and the position as one axis. -/
theorem rows_x (r : Fin 32768) (k : Fin 1024) : (V m c main_v0 : FVec Ideal S32768x1024 .f32) (ix2 r k)
    = (m ((c : Thread nD τ).loc main_arg0) : FVec Ideal S4x8192x1024 .f32) (ix3 ⟨r.val / 8192, by omega⟩ ⟨r.val % 8192, by omega⟩ k) := by
  unfold V
  simp only [List.flatten_cons, List.flatten_nil, List.append_nil, StableHlo.after_append]
  after_reads_at

theorem weights : V m c main_v39 = (m ((c : Thread nD τ).loc main_arg2) : FVec Ideal S2x1024x8192 .f32) := by
  unfold V
  simp only [List.flatten_cons, List.flatten_nil, List.append_nil, StableHlo.after_append]
  after_reads_at
  rfl

/-- The gain's row is the second of the two layers'. -/
theorem gain (k : Fin 1024) : (V m c main_v40 : FVec Ideal S1x1024 .f32) (ix2 0 k) = (m ((c : Thread nD τ).loc main_arg1) : FVec Ideal S2x1024 .f32) (ix2 1 k) := by
  unfold V
  simp only [List.flatten_cons, List.flatten_nil, List.append_nil, StableHlo.after_append]
  after_reads_at

/-- The lower bounds: the difference of the running sum's two rows. -/
theorem bounds (x3 : FVec Ideal S2x2048 .f32) : (fun i => Cert.InProjRefIdeal.Read.val_main_v11 (F := Ideal) x3 (ix2 1 (i 0)) - Cert.InProjRefIdeal.Read.val_main_v11 (F := Ideal) x3 (ix2 0 (i 0)))
    = val_main_v16 (F := Ideal) x3 := by
  funext i
  obtain ⟨k, rfl⟩ : ∃ k : Fin 2048, i = ix1 k := ⟨i 0, eq_ix1 i⟩
  pointwise [Cert.InProjRefIdeal.Read.val_main_v16, Cert.InProjRefIdeal.Read.val_main_v15, Cert.InProjRefIdeal.Read.val_main_v14, Cert.InProjRefIdeal.Read.val_main_v13, Cert.InProjRefIdeal.Read.val_main_v12]

/-- The scatter at an index made of the two words is the row. -/
theorem row_of (a b : IVec S1 32) (ha : a = broadcastInDim S1 ![] bcast_S_S1 (constantI S_ 32 0#32)) (hb : b = broadcastInDim S1 ![] bcast_S_S1 (constantI S_ 32 2048#32))
    (u : FVec Ideal S2048 .f32) :
    Host.scatter scatter_S1x8192_S2_S2048_0_0_01_0 (fun _ b => b) (broadcastInDim S1x8192 ![] bcast_S_S1x8192 (constant (F := Ideal) S_ .f32 0x3F800000#32))
      (concatenate S2 0 [⟨S1, a⟩, ⟨S1, b⟩] concatenates_S1_S1_S2_d0) u = row u := by
  subst ha hb; rfl

theorem mid : V m c main_v26 = row (mulf (fill 0x3F000000#32) (addf (fill 0x3F800000#32) (val_main_v16 (F := Ideal) (m ((c : Thread nD τ).loc main_arg3))))) := by
  unfold V
  simp only [List.flatten_cons, List.flatten_nil, List.append_nil, StableHlo.after_append]
  after_reads_at
  refine (row_of _ _ ?_ ?_ _).trans ?_
  · unfold StableHlo.upto
    after_reads_at
  · unfold StableHlo.upto
    after_reads_at
  exact congrArg (fun z => row (mulf (fill 0x3F000000#32) (addf (fill 0x3F800000#32) z))) (bounds (m ((c : Thread nD τ).loc main_arg3)))

theorem halfrow : V m c main_v36 = row (mulf (fill 0x3F000000#32) (subf (fill 0x3F800000#32) (val_main_v16 (F := Ideal) (m ((c : Thread nD τ).loc main_arg3))))) := by
  unfold V
  simp only [List.flatten_cons, List.flatten_nil, List.append_nil, StableHlo.after_append]
  after_reads_at
  refine (row_of _ _ ?_ ?_ _).trans ?_
  · unfold StableHlo.upto
    after_reads_at
  · unfold StableHlo.upto
    after_reads_at
  exact congrArg (fun z => row (mulf (fill 0x3F000000#32) (subf (fill 0x3F800000#32) z))) (bounds (m ((c : Thread nD τ).loc main_arg3)))

/-- Update `k` lands at column `2048 + k` of the only row. -/
theorem lands (k : Fin 2048) (q : Fin 8192) :
    scatter_S1x8192_S2_S2048_0_0_01_0.resultIdx? (ix1 k) place = some (ix2 0 q) ↔ 2048 + k.val = q.val := by
  have hwin0 : scatter_S1x8192_S2_S2048_0_0_01_0.window (ix1 k) 0 = 0 := by
    unfold ScatterDims.window
    rw [dif_neg (by decide)]
  have hwin1 : scatter_S1x8192_S2_S2048_0_0_01_0.window (ix1 k) 1 = k.val := by
    unfold ScatterDims.window
    rw [dif_pos (by decide)]
    exact congrArg (fun t => ((ix1 k : S2048.Idx) t).val) (Subsingleton.elim (α := Fin 1) _ 0)
  have p0 : (place (ix1 0)).toInt = 0 := by
    pointwise [place]
    decide
  have p1 : (place (ix1 1)).toInt = 2048 := by
    pointwise [place]
    decide
  refine (resultIdx?_ix2 _ _ _ _ _).trans ?_
  rw [start_pair scatter_S1x8192_S2_S2048_0_0_01_0 rfl rfl place (ix1 k) 0, start_pair scatter_S1x8192_S2_S2048_0_0_01_0 rfl rfl place (ix1 k) 1, hwin0, hwin1]
  show (place (ix1 0)).toInt + ((0 : Nat) : Int) = ((0 : Nat) : Int) ∧ (place (ix1 1)).toInt + (k.val : Int) = (q.val : Int) ↔ _
  rw [p0, p1]
  omega

/-- A row of ones, read at a gate column. -/
theorem row_at (u : FVec Ideal S2048 .f32) (q : Fin 8192) (h : 2048 ≤ q.val) (h' : q.val < 4096) : row u (ix2 0 q) = u (ix1 ⟨q.val - 2048, by omega⟩) := by
  unfold row
  refine scatter_set_hit _ _ _ _ _ _ (fun k hk => ?_) (ix1 ⟨q.val - 2048, by omega⟩) ((lands _ _).2 (by show 2048 + (q.val - 2048) = q.val; omega))
  obtain ⟨k, rfl⟩ : ∃ a : Fin 2048, k = ix1 a := ⟨k 0, eq_ix1 k⟩
  have := (lands k q).1 hk
  exact congrArg u (congrArg ix1 (Fin.ext (by show k.val = q.val - 2048; omega)))

end Cert.InProjIdeal.HostValue
-- ==== Proof.InBlock.lean ====
/-
  One grid point of the odd input projection: the eight column tiles it writes, read as one function of the row and the column.
-/
module

public import proofs.«01_k».proof.Proof.Gen.InProjIdeal.Frame
public import proofs.«01_k».proof.Proof.InScalar
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

open Idealize.ShloMosaic Cert.Gate Cert.Proof.Scalar Cert.InProjIdeal Cert.InProjIdeal.Gen

namespace Cert.InProjIdeal.BlockValue

/-- The half the kernel writes. -/
theorem half_word : Ideal.ofBits FTy.f32 1056964608#32 = half := by
  unfold half
  simp [Ideal.ofBits, Ideal.ieee, -EReal.coe_mul, ← EReal.coe_mul]
  norm_num

/-- The normalised row. -/
def normed (x0 : FVec Ideal S512x1024 .f32) (x1 : FVec Ideal S1x1024 .f32) (r : Fin 512) (k : Fin 1024) : EReal :=
  x0 (ix2 r k) * Ideal.rsqrt (Ideal.div (∑ x : Fin 1024, x0 (ix2 r x) * x0 (ix2 r x)) (Ideal.ofBits FTy.f32 1149239296#32) + Ideal.ofBits FTy.f32 897988541#32)
    * x1 (ix2 0 k)

/-- Its product with a column of the weights. -/
def dotAt (x0 : FVec Ideal S512x1024 .f32) (x1 : FVec Ideal S1x1024 .f32) (x2 : FVec Ideal S1x1024x8192 .bf16) (r : Fin 512) (q : Fin 8192) : EReal :=
  ∑ k : Fin 1024, normed x0 x1 r k * x2 (ix3 0 k q)

/-- The two functions of it the kernel writes. -/
def siluT (p : EReal) : EReal := half * p + half * p * Ideal.tanh (half * p)
def gateT (a b p : EReal) : EReal := Ideal.log (a + b * Ideal.tanh (half * p)) * L

/-- The whole row block. -/
def blockAt (x0 : FVec Ideal S512x1024 .f32) (x1 : FVec Ideal S1x1024 .f32) (x2 : FVec Ideal S1x1024x8192 .bf16) (x3 x4 : FVec Ideal S1x8192 .f32)
    (r : Fin 512) (q : Fin 8192) : EReal :=
  if q.val < 2048 then siluT (dotAt x0 x1 x2 r q)
  else if q.val < 4096 then gateT (x3 (ix2 0 q)) (x4 (ix2 0 q)) (dotAt x0 x1 x2 r q)
  else if q.val < 6144 then dotAt x0 x1 x2 r q
  else siluT (dotAt x0 x1 x2 r q)

section Pays

variable (x0 : FVec Ideal S512x1024 .f32) (x1 : FVec Ideal S1x1024 .f32) (w : FVec Ideal S1x1024x1024 .bf16) (a b : FVec Ideal S1x1024 .f32)
  (n : FVec Ideal S512x1024 .bf16) (r : Fin 512) (l : Fin 1024)

theorem pay2 : k0_pay2 (F := Ideal) x0 x1 (ix2 r l) = normed x0 x1 r l := by
  pointwise [k0_pay2, normed]

theorem pay3 : k0_pay3 (F := Ideal) x0 x1 w (ix2 r l) = siluT (∑ k : Fin 1024, normed x0 x1 r k * w (ix3 0 k l)) := by
  pointwise [k0_pay3]
  simp only [pay2, half_word]
  rfl

theorem pay4 : k0_pay4 (F := Ideal) x0 x1 w (ix2 r l) = siluT (∑ k : Fin 1024, normed x0 x1 r k * w (ix3 0 k l)) := by
  pointwise [k0_pay4]
  simp only [pay2, half_word]
  rfl

theorem pay5 : k0_pay5 (F := Ideal) n a b w (ix2 r l) = gateT (a (ix2 0 l)) (b (ix2 0 l)) (∑ k : Fin 1024, n (ix2 r k) * w (ix3 0 k l)) := by
  pointwise [k0_pay5]
  simp only [half_word]
  rfl

theorem pay6 : k0_pay7 (k0_pay6 (F := Ideal) n a b w) (ix2 r l) = gateT (a (ix2 0 l)) (b (ix2 0 l)) (∑ k : Fin 1024, n (ix2 r k) * w (ix3 0 k l)) := by
  pointwise [k0_pay7, k0_pay6]
  simp only [half_word]
  rfl

theorem pay8 : k0_pay8 (F := Ideal) n w (ix2 r l) = ∑ k : Fin 1024, n (ix2 r k) * w (ix3 0 k l) := by
  pointwise [k0_pay8]

theorem pay9 : k0_pay9 (F := Ideal) n w (ix2 r l) = ∑ k : Fin 1024, n (ix2 r k) * w (ix3 0 k l) := by
  pointwise [k0_pay9]

theorem pay10 : k0_pay10 (F := Ideal) n w (ix2 r l) = siluT (∑ k : Fin 1024, n (ix2 r k) * w (ix3 0 k l)) := by
  pointwise [k0_pay10]
  simp only [half_word]
  rfl

theorem pay11 : k0_pay1 (k0_pay11 (F := Ideal) n w) (ix2 r l) = siluT (∑ k : Fin 1024, n (ix2 r k) * w (ix3 0 k l)) := by
  pointwise [k0_pay1, k0_pay11]
  simp only [half_word]
  rfl

end Pays

theorem zero2 : (![0, 0] : Fin 2 → Nat) = fun _ => 0 := funext fun a => by fin_cases a <;> rfl

/-- A tile of the weights' columns. -/
theorem ld_w (x2 : Vec Ideal S1x1024x8192 .bf16) (off : Nat) (inb : ∀ a, (![0, 0, off] : Fin 3 → Nat) a + S1x1024x1024.size a ≤ S1x1024x8192.size a) (k l : Fin 1024) (q : Fin 8192) (h : q.val = off + l.val) :
    (View.ld (x2 : Vec Ideal S1x1024x8192 .bf16) (Rect.unit (s := S1x1024x8192) ![0, 0, off] S1x1024x1024.size inb) : Vec Ideal S1x1024x1024 .bf16) (ix3 0 k l) = x2 (ix3 0 k q) := by
  refine View.ld_unit_apply_of x2 _ _ inb _ (ix3 0 k q) ?_
  intro a
  match a with
  | ⟨0, _⟩ => rfl
  | ⟨1, _⟩ => show k.val = 0 + k.val; omega
  | ⟨2, _⟩ => exact h

/-- A tile of a row's columns. -/
theorem ld_r (x3 : Vec Ideal S1x8192 .f32) (off : Nat) (inb : ∀ a, (![0, off] : Fin 2 → Nat) a + S1x1024.size a ≤ S1x8192.size a) (l : Fin 1024) (q : Fin 8192) (h : q.val = off + l.val) :
    (View.ld (x3 : Vec Ideal S1x8192 .f32) (Rect.unit (s := S1x8192) ![0, off] S1x1024.size inb) : Vec Ideal S1x1024 .f32) (ix2 0 l) = x3 (ix2 0 q) := by
  refine View.ld_unit_apply_of x3 _ _ inb _ (ix2 0 q) ?_
  intro a
  match a with
  | ⟨0, _⟩ => rfl
  | ⟨1, _⟩ => exact h

section Tiles

variable (x0 : Vec Ideal S512x1024 .f32) (x1 : Vec Ideal S1x1024 .f32) (x2 : Vec Ideal S1x1024x8192 .bf16) (x3 x4 : Vec Ideal S1x8192 .f32)
  (x5 : Vec Ideal S256x256 .bf16)

/-- The product over a tile of the weights is the product at the tile's column. -/
theorem dot_tile (off : Nat) (inb : ∀ a, (![0, 0, off] : Fin 3 → Nat) a + S1x1024x1024.size a ≤ S1x1024x8192.size a) (r : Fin 512) (l : Fin 1024) (q : Fin 8192) (h : q.val = off + l.val) :
    ∑ k : Fin 1024, normed x0 x1 r k * (View.ld (x2 : Vec Ideal S1x1024x8192 .bf16) (Rect.unit (s := S1x1024x8192) ![0, 0, off] S1x1024x1024.size inb) : Vec Ideal S1x1024x1024 .bf16) (ix3 0 k l)
      = dotAt x0 x1 x2 r q :=
  Finset.sum_congr rfl fun k _ => congrArg (normed x0 x1 r k * ·) (ld_w x2 off inb k l q h)

/-- The normalised rows, shared by the later tiles. -/
theorem shared (r : Fin 512) (k : Fin 1024) : k0_pay12 (F := Ideal) x0 x1 x2 x3 x4 x5 (ix2 r k) = normed x0 x1 r k := by
  unfold k0_pay12
  rw [View.ld_unit_zero zero2, View.ld_unit_zero zero2]
  exact pay2 x0 x1 r k

theorem dot_shared (off : Nat) (inb : ∀ a, (![0, 0, off] : Fin 3 → Nat) a + S1x1024x1024.size a ≤ S1x1024x8192.size a) (r : Fin 512) (l : Fin 1024) (q : Fin 8192) (h : q.val = off + l.val) :
    ∑ k : Fin 1024, k0_pay12 (F := Ideal) x0 x1 x2 x3 x4 x5 (ix2 r k) * (View.ld (x2 : Vec Ideal S1x1024x8192 .bf16) (Rect.unit (s := S1x1024x8192) ![0, 0, off] S1x1024x1024.size inb) : Vec Ideal S1x1024x1024 .bf16) (ix3 0 k l)
      = dotAt x0 x1 x2 r q :=
  Finset.sum_congr rfl fun k _ => congrArg₂ (· * ·) (shared x0 x1 x2 x3 x4 x5 r k) (ld_w x2 off inb k l q h)

/-- A tile's local index is the row and the column less the tile's first. -/
theorem local_ix (off : Nat) (r : Fin 512) (q : Fin 8192) (x : S512x1024.Idx) (h : ∀ a, ((ix2 r q : S512x8192.Idx) a : Nat) = (![0, off] : Fin 2 → Nat) a + x a) :
    ∃ l : Fin 1024, x = ix2 r l ∧ q.val = off + l.val := by
  obtain ⟨r', l, rfl⟩ : ∃ (r' : Fin 512) (l : Fin 1024), x = ix2 r' l := ⟨x 0, x 1, eq_ix2 x⟩
  have h0 : r.val = 0 + r'.val := h 0
  have h1 : q.val = off + l.val := h 1
  have : r' = r := Fin.ext (by omega)
  subst this
  exact ⟨l, rfl, h1⟩

/-- The block a grid point writes. -/
theorem out_at (r : Fin 512) (q : Fin 8192) : out0_6 (F := Ideal) x0 x1 x2 x3 x4 x5 (ix2 r q) = blockAt x0 x1 x2 x3 x4 r q := by
  unfold out0_6
  rw [View.ld_unit_zero zero2, View.ld_unit_zero zero2]
  refine View.canon_eq_of_allAt _ _ _ (cover0_6 _ _ _ _ _ _ _ _ _) ?_
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨l, rfl, h⟩ := local_ix 7168 r q x hx
    refine (pay11 _ _ r l).trans ?_
    unfold blockAt
    rw [if_neg (by omega), if_neg (by omega), if_neg (by omega)]
    exact congrArg siluT (dot_shared x0 x1 x2 x3 x4 x5 7168 _ r l q h)
  · obtain ⟨l, rfl, h⟩ := local_ix 6144 r q x hx
    refine (pay10 _ _ r l).trans ?_
    unfold blockAt
    rw [if_neg (by omega), if_neg (by omega), if_neg (by omega)]
    exact congrArg siluT (dot_shared x0 x1 x2 x3 x4 x5 6144 _ r l q h)
  · obtain ⟨l, rfl, h⟩ := local_ix 5120 r q x hx
    refine (pay9 _ _ r l).trans ?_
    unfold blockAt
    rw [if_neg (by omega), if_neg (by omega), if_pos (by omega)]
    exact dot_shared x0 x1 x2 x3 x4 x5 5120 _ r l q h
  · obtain ⟨l, rfl, h⟩ := local_ix 4096 r q x hx
    refine (pay8 _ _ r l).trans ?_
    unfold blockAt
    rw [if_neg (by omega), if_neg (by omega), if_pos (by omega)]
    exact dot_shared x0 x1 x2 x3 x4 x5 4096 _ r l q h
  · obtain ⟨l, rfl, h⟩ := local_ix 3072 r q x hx
    refine (pay6 _ _ _ _ r l).trans ?_
    unfold blockAt
    rw [if_neg (by omega), if_pos (by omega), ld_r x3 3072 _ l q h, ld_r x4 3072 _ l q h]
    exact congrArg (gateT _ _) (dot_shared x0 x1 x2 x3 x4 x5 3072 _ r l q h)
  · obtain ⟨l, rfl, h⟩ := local_ix 2048 r q x hx
    refine (pay5 _ _ _ _ r l).trans ?_
    unfold blockAt
    rw [if_neg (by omega), if_pos (by omega), ld_r x3 2048 _ l q h, ld_r x4 2048 _ l q h]
    exact congrArg (gateT _ _) (dot_shared x0 x1 x2 x3 x4 x5 2048 _ r l q h)
  · obtain ⟨l, rfl, h⟩ := local_ix 1024 r q x hx
    refine (pay4 _ _ _ r l).trans ?_
    unfold blockAt
    rw [if_pos (by omega)]
    exact congrArg siluT (dot_tile x0 x1 x2 1024 _ r l q h)
  · obtain ⟨l, rfl, h⟩ := local_ix 0 r q x hx
    refine (pay3 _ _ _ r l).trans ?_
    unfold blockAt
    rw [if_pos (by omega)]
    exact congrArg siluT (dot_tile x0 x1 x2 0 _ r l q h)

end Tiles

end Cert.InProjIdeal.BlockValue
-- ==== Proof.InValue.lean ====
/-
  The odd input projection's value: on finite arguments the array its kernel leaves is the reference's, row block by row block.
-/
module

public import proofs.«01_k».proof.Proof.Gen.InProjIdeal.Value
public import proofs.«01_k».proof.Proof.InRef
public import proofs.«01_k».proof.Proof.InHost
public import proofs.«01_k».proof.Proof.InBlock

@[expose] public section

set_option maxRecDepth 16384

noncomputable section

open Idealize.ShloMosaic Idealize.ShloMosaic.TcCoe Idealize.SL.Sem Cert.Gate Cert.Proof.Scalar
open Idealize.ShloMosaic.Pipeline (Dat)
open Cert.InProjRefIdeal.RowValue (IsReal proj)

namespace Cert.InProjIdeal.RefValue

open Cert.InProjIdeal Cert.InProjIdeal.Gen Cert.InProjIdeal.HostValue Cert.InProjIdeal.BlockValue

variable (m : (ℓ : Loc nD τ sig) → Buf (Elt Ideal) ℓ) (ρ : Dev nD → PrngReg)

/-- Device `c`'s four arguments. -/
abbrev A0 (c : Dev nD) : FVec Ideal S4x8192x1024 .f32 := m ((c : Thread nD τ).loc main_arg0)
abbrev A1 (c : Dev nD) : FVec Ideal S2x1024 .f32 := m ((c : Thread nD τ).loc main_arg1)
abbrev A2 (c : Dev nD) : FVec Ideal S2x1024x8192 .f32 := m ((c : Thread nD τ).loc main_arg2)
abbrev A3 (c : Dev nD) : FVec Ideal S2x2048 .f32 := m ((c : Thread nD τ).loc main_arg3)

/-- Every argument holds real numbers. -/
def Finite : Prop := ∀ c : Dev nD, (∀ j, IsReal (A0 m c j)) ∧ (∀ j, IsReal (A1 m c j)) ∧ (∀ j, IsReal (A2 m c j)) ∧ ∀ j, IsReal (A3 m c j)

/-- The reference's result on device `c`'s arguments: what the result array is shown to hold. -/
abbrev goal (c : Dev nD) : Buf (Elt Ideal) ((c : Thread nD τ).loc main_v41) :=
  Cert.InProjRefIdeal.Read.val_main_v67 (F := Ideal) (A0 m c) (A1 m c) (A2 m c) (A3 m c)

/-- Where each window's block lies at a grid point: the row blocks move with the point, the others are fixed, the weights' at
    the second of the two stacked layers. -/
theorem index_facts : ∀ t : Fin grid0.N,
    (win0_0.index t 0 = t.val ∧ win0_0.index t 1 = 0)
    ∧ (win0_1.index t 0 = 0 ∧ win0_1.index t 1 = 0)
    ∧ (win0_2.index t 0 = 1 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_6.index t 0 = t.val ∧ win0_6.index t 1 = 0) := by decide +kernel

/-! A block read at an index is its array read where the block lies. -/

theorem read_x (A : Vec Ideal S32768x1024 .f32) (t : Fin cfg0.N) (i : S512x1024.Idx) (j : S32768x1024.Idx) (e : ((cfg0.win 0).blk t).view.emb i = j) :
    (((cfg0.win 0).blk t).view.read (Elt Ideal) A : Vec Ideal S512x1024 .f32) i = A j := by subst e; exact View.read_apply _ _
theorem read_g (A : Vec Ideal S1x1024 .f32) (t : Fin cfg0.N) (i : S1x1024.Idx) (j : S1x1024.Idx) (e : ((cfg0.win 1).blk t).view.emb i = j) :
    (((cfg0.win 1).blk t).view.read (Elt Ideal) A : Vec Ideal S1x1024 .f32) i = A j := by subst e; exact View.read_apply _ _
theorem read_w (A : Vec Ideal S2x1024x8192 .bf16) (t : Fin cfg0.N) (i : S1x1024x8192.Idx) (j : S2x1024x8192.Idx) (e : ((cfg0.win 2).blk t).view.emb i = j) :
    (((cfg0.win 2).blk t).view.read (Elt Ideal) A : Vec Ideal S1x1024x8192 .bf16) i = A j := by subst e; exact View.read_apply _ _
theorem read_m (A : Vec Ideal S1x8192 .f32) (t : Fin cfg0.N) (i : S1x8192.Idx) (j : S1x8192.Idx) (e : ((cfg0.win 3).blk t).view.emb i = j) :
    (((cfg0.win 3).blk t).view.read (Elt Ideal) A : Vec Ideal S1x8192 .f32) i = A j := by subst e; exact View.read_apply _ _
theorem read_h (A : Vec Ideal S1x8192 .f32) (t : Fin cfg0.N) (i : S1x8192.Idx) (j : S1x8192.Idx) (e : ((cfg0.win 4).blk t).view.emb i = j) :
    (((cfg0.win 4).blk t).view.read (Elt Ideal) A : Vec Ideal S1x8192 .f32) i = A j := by subst e; exact View.read_apply _ _
theorem read_o (A : Vec Ideal S32768x8192 .bf16) (t : Fin cfg0.N) (i : S512x8192.Idx) (j : S32768x8192.Idx) (e : ((cfg0.win 6).blk t).view.emb i = j) :
    (((cfg0.win 6).blk t).view.read (Elt Ideal) A : Vec Ideal S512x8192 .bf16) i = A j := by subst e; exact View.read_apply _ _

theorem emb_x (t : Fin cfg0.N) (h : t.val < 64) (r : Fin 512) (k : Fin 1024) :
    ((cfg0.win 0).blk t).view.emb (ix2 r k) = (ix2 (⟨t.val * 512 + r.val, by omega⟩ : Fin 32768) k : S32768x1024.Idx) := by
  obtain ⟨⟨h0, h1⟩, _⟩ := index_facts t
  funext a; apply Fin.ext
  match a with
  | ⟨0, _⟩ => show win0_0.index t 0 * 512 + 1 * r.val = t.val * 512 + r.val; rw [h0]; omega
  | ⟨1, _⟩ => show win0_0.index t 1 * 1024 + 1 * k.val = k.val; rw [h1]; omega

theorem emb_g (t : Fin cfg0.N) (k : Fin 1024) : ((cfg0.win 1).blk t).view.emb (ix2 0 k) = (ix2 0 k : S1x1024.Idx) := by
  obtain ⟨_, ⟨h0, h1⟩, _⟩ := index_facts t
  funext a; apply Fin.ext
  match a with
  | ⟨0, _⟩ => show win0_1.index t 0 * 1 + 1 * 0 = 0; rw [h0]
  | ⟨1, _⟩ => show win0_1.index t 1 * 1024 + 1 * k.val = k.val; rw [h1]; omega

theorem emb_w (t : Fin cfg0.N) (k : Fin 1024) (q : Fin 8192) : ((cfg0.win 2).blk t).view.emb (ix3 0 k q) = (ix3 1 k q : S2x1024x8192.Idx) := by
  obtain ⟨_, _, ⟨h0, h1, h2⟩, _⟩ := index_facts t
  funext a; apply Fin.ext
  match a with
  | ⟨0, _⟩ => show win0_2.index t 0 * 1 + 1 * 0 = 1; rw [h0]
  | ⟨1, _⟩ => show win0_2.index t 1 * 1024 + 1 * k.val = k.val; rw [h1]; omega
  | ⟨2, _⟩ => show win0_2.index t 2 * 8192 + 1 * q.val = q.val; rw [h2]; omega

theorem emb_m (t : Fin cfg0.N) (q : Fin 8192) : ((cfg0.win 3).blk t).view.emb (ix2 0 q) = (ix2 0 q : S1x8192.Idx) := by
  obtain ⟨_, _, _, ⟨h0, h1⟩, _⟩ := index_facts t
  funext a; apply Fin.ext
  match a with
  | ⟨0, _⟩ => show win0_3.index t 0 * 1 + 1 * 0 = 0; rw [h0]
  | ⟨1, _⟩ => show win0_3.index t 1 * 8192 + 1 * q.val = q.val; rw [h1]; omega

theorem emb_h (t : Fin cfg0.N) (q : Fin 8192) : ((cfg0.win 4).blk t).view.emb (ix2 0 q) = (ix2 0 q : S1x8192.Idx) := by
  obtain ⟨_, _, _, _, ⟨h0, h1⟩, _⟩ := index_facts t
  funext a; apply Fin.ext
  match a with
  | ⟨0, _⟩ => show win0_4.index t 0 * 1 + 1 * 0 = 0; rw [h0]
  | ⟨1, _⟩ => show win0_4.index t 1 * 8192 + 1 * q.val = q.val; rw [h1]; omega

theorem emb_o (t : Fin cfg0.N) (h : t.val < 64) (r : Fin 512) (q : Fin 8192) :
    ((cfg0.win 6).blk t).view.emb (ix2 r q) = (ix2 (⟨t.val * 512 + r.val, by omega⟩ : Fin 32768) q : S32768x8192.Idx) := by
  obtain ⟨_, _, _, _, _, ⟨h0, h1⟩⟩ := index_facts t
  funext a; apply Fin.ext
  match a with
  | ⟨0, _⟩ => show win0_6.index t 0 * 512 + 1 * r.val = t.val * 512 + r.val; rw [h0]; omega
  | ⟨1, _⟩ => show win0_6.index t 1 * 8192 + 1 * q.val = q.val; rw [h1]; omega

/-- The blocks a grid point finds, from the arguments. -/
theorem block_x (c : Dev nD) (t : Fin cfg0.N) (h : t.val < 64) (r : Fin 512) (k : Fin 1024) :
    (iblk m c 0 t : Vec Ideal S512x1024 .f32) (ix2 r k)
      = A0 m c (ix3 ⟨(t.val * 512 + r.val) / 8192, by omega⟩ ⟨(t.val * 512 + r.val) % 8192, by omega⟩ k) := by
  unfold iblk
  exact (read_x (V m c main_v0) t _ _ (emb_x t h r k)).trans (rows_x m c _ k)

theorem block_g (c : Dev nD) (t : Fin cfg0.N) (k : Fin 1024) : (iblk m c 1 t : Vec Ideal S1x1024 .f32) (ix2 0 k) = A1 m c (ix2 1 k) := by
  unfold iblk
  exact (read_g (V m c main_v40) t _ _ (emb_g t k)).trans (gain m c k)

theorem block_w (c : Dev nD) (t : Fin cfg0.N) (k : Fin 1024) (q : Fin 8192) :
    (iblk m c 2 t : Vec Ideal S1x1024x8192 .bf16) (ix3 0 k q) = A2 m c (ix3 1 k q) := by
  unfold iblk
  exact (read_w (V m c main_v39) t _ _ (emb_w t k q)).trans (congrFun (weights m c) _)

theorem block_m (c : Dev nD) (t : Fin cfg0.N) (q : Fin 8192) (h : 2048 ≤ q.val) (h' : q.val < 4096) :
    (iblk m c 3 t : Vec Ideal S1x8192 .f32) (ix2 0 q)
      = half * (1 + Cert.InProjRefIdeal.Read.val_main_v16 (F := Ideal) (A3 m c) (ix1 ⟨q.val - 2048, by omega⟩)) := by
  unfold iblk
  refine (read_m (V m c main_v26) t _ _ (emb_m t q)).trans ((congrFun (mid m c) _).trans ((row_at _ q h h').trans ?_))
  pointwise [fill]
  rw [half_word]

theorem block_h (c : Dev nD) (t : Fin cfg0.N) (q : Fin 8192) (h : 2048 ≤ q.val) (h' : q.val < 4096) :
    (iblk m c 4 t : Vec Ideal S1x8192 .f32) (ix2 0 q)
      = half * (1 - Cert.InProjRefIdeal.Read.val_main_v16 (F := Ideal) (A3 m c) (ix1 ⟨q.val - 2048, by omega⟩)) := by
  unfold iblk
  refine (read_h (V m c main_v36) t _ _ (emb_h t q)).trans ((congrFun (halfrow m c) _).trans ((row_at _ q h h').trans ?_))
  pointwise [fill]
  rw [half_word]

/-- The reference's projection, written out. -/
theorem proj_eq (x0 : FVec Ideal S4x8192x1024 .f32) (x1 : FVec Ideal S2x1024 .f32) (x2 : FVec Ideal S2x1024x8192 .f32) (r : Fin 32768) (q : Fin 8192) :
    proj x0 x1 x2 r q = ∑ k : Fin 1024,
      x0 (ix3 ⟨r.val / 8192, by omega⟩ ⟨r.val % 8192, by omega⟩ k)
        * Ideal.rsqrt (Ideal.div (∑ x : Fin 1024, x0 (ix3 ⟨r.val / 8192, by omega⟩ ⟨r.val % 8192, by omega⟩ x) * x0 (ix3 ⟨r.val / 8192, by omega⟩ ⟨r.val % 8192, by omega⟩ x))
            (Ideal.ofBits FTy.f32 1149239296#32) + Ideal.ofBits FTy.f32 897988541#32)
        * x1 (ix2 1 k) * x2 (ix3 1 k q) :=
  Cert.InProjRefIdeal.RowValue.proj_at x0 x1 x2 _ _ q

/-- The kernel's product on blocks that hold the arguments' entries. -/
theorem dot_of (X : FVec Ideal S512x1024 .f32) (G : FVec Ideal S1x1024 .f32) (W : FVec Ideal S1x1024x8192 .bf16)
    (x0 : FVec Ideal S4x8192x1024 .f32) (x1 : FVec Ideal S2x1024 .f32) (x2 : FVec Ideal S2x1024x8192 .f32) (r : Fin 512) (n : Fin 32768) (q : Fin 8192)
    (hX : ∀ k, X (ix2 r k) = x0 (ix3 ⟨n.val / 8192, by omega⟩ ⟨n.val % 8192, by omega⟩ k)) (hG : ∀ k, G (ix2 0 k) = x1 (ix2 1 k))
    (hW : ∀ k, W (ix3 0 k q) = x2 (ix3 1 k q)) : dotAt X G W r q = proj x0 x1 x2 n q := by
  rw [proj_eq]
  unfold dotAt normed
  simp only [hX, hG, hW]

/-- The kernel's product at a grid point is the reference's projection of its row. -/
theorem dot_eq (c : Dev nD) (t : Fin cfg0.N) (h : t.val < 64) (r : Fin 512) (q : Fin 8192) :
    dotAt (iblk m c 0 t) (iblk m c 1 t) (iblk m c 2 t) r q = proj (A0 m c) (A1 m c) (A2 m c) ⟨t.val * 512 + r.val, by omega⟩ q :=
  dot_of _ _ _ _ _ _ r _ q (fun k => block_x m c t h r k) (fun k => block_g m c t k) (fun k => block_w m c t k q)

/-- The block on blocks that hold the arguments' entries is the reference's rows. -/
theorem block_of (X : FVec Ideal S512x1024 .f32) (G : FVec Ideal S1x1024 .f32) (W : FVec Ideal S1x1024x8192 .bf16) (M H : FVec Ideal S1x8192 .f32)
    (x0 : FVec Ideal S4x8192x1024 .f32) (x1 : FVec Ideal S2x1024 .f32) (x2 : FVec Ideal S2x1024x8192 .f32) (x3 : FVec Ideal S2x2048 .f32)
    (f0 : ∀ j, IsReal (x0 j)) (f1 : ∀ j, IsReal (x1 j)) (f2 : ∀ j, IsReal (x2 j)) (f3 : ∀ j, IsReal (x3 j))
    (r : Fin 512) (n : Fin 32768) (q : Fin 8192) (hd : dotAt X G W r q = proj x0 x1 x2 n q)
    (hM : ∀ (h : 2048 ≤ q.val) (h' : q.val < 4096), M (ix2 0 q) = half * (1 + Cert.InProjRefIdeal.Read.val_main_v16 (F := Ideal) x3 (ix1 ⟨q.val - 2048, by omega⟩)))
    (hH : ∀ (h : 2048 ≤ q.val) (h' : q.val < 4096), H (ix2 0 q) = half * (1 - Cert.InProjRefIdeal.Read.val_main_v16 (F := Ideal) x3 (ix1 ⟨q.val - 2048, by omega⟩))) :
    blockAt X G W M H r q = Cert.InProjRefIdeal.Read.val_main_v67 (F := Ideal) x0 x1 x2 x3 (ix2 n q) := by
  unfold blockAt
  rw [hd]
  by_cases h1 : q.val < 2048
  · rw [if_pos h1]
    exact (Cert.InProjRefIdeal.RowValue.col_q x0 x1 x2 x3 f0 f1 f2 n q h1).symm
  rw [if_neg h1]
  by_cases h2 : q.val < 4096
  · rw [if_pos h2, hM (by omega) h2, hH (by omega) h2]
    exact (Cert.InProjRefIdeal.RowValue.col_f x0 x1 x2 x3 f3 n q (by omega) h2).symm
  rw [if_neg h2]
  by_cases h3 : q.val < 6144
  · rw [if_pos h3]
    exact (Cert.InProjRefIdeal.RowValue.col_i x0 x1 x2 x3 n q (by omega) h3).symm
  rw [if_neg h3]
  exact (Cert.InProjRefIdeal.RowValue.col_z x0 x1 x2 x3 f0 f1 f2 n q (by omega)).symm

/-- What a grid point writes back is its row block of the reference's result. -/
theorem flushed_eq (hfin : Finite m) (c : Dev nD) (t : Fin cfg0.N) :
    (dats m 0 c).flushed 6 t = ((cfg0.win 6).blk t).view.read (Elt Ideal) (goal m c) := by
  have h : t.val < 64 := t.isLt
  obtain ⟨f0, f1, f2, f3⟩ := hfin c
  rw [Value.flushed6]
  show out0_6 (iblk m c 0 t) (iblk m c 1 t) (iblk m c 2 t) (iblk m c 3 t) (iblk m c 4 t) (iblk m c 5 t) = _
  funext j
  obtain ⟨r, q, rfl⟩ : ∃ (r : Fin 512) (q : Fin 8192), j = ix2 r q := ⟨j 0, j 1, eq_ix2 j⟩
  refine (out_at _ _ _ _ _ _ r q).trans (Eq.trans ?_ (read_o (goal m c) t _ _ (emb_o t h r q)).symm)
  exact block_of _ _ _ _ _ (A0 m c) (A1 m c) (A2 m c) (A3 m c) f0 f1 f2 f3 r _ q (dot_eq m c t h r q) (block_m m c t q) (block_h m c t q)

/-- An index is in a point's block when its row is one of the point's 512 rows. -/
theorem mem_blk (t : Fin cfg0.N) (i : S32768x8192.Idx) (hi : t.val * 512 ≤ (i 0 : Nat) ∧ (i 0 : Nat) < t.val * 512 + 512) :
    i ∈ ((cfg0.win 6).blk t).view.set := by
  show i ∈ ((View.whole main_v41).slice (win0_6.rect t)).set
  rw [View.set_slice_whole, Rect.mem_set_unit]
  obtain ⟨_, _, _, _, _, ⟨h0, h1⟩⟩ := index_facts t
  have hl : (i 1 : Nat) < 8192 := (i 1).isLt
  have e0 : win0_6.index t 0 * 512 ≤ (i 0 : Nat) ∧ (i 0 : Nat) < win0_6.index t 0 * 512 + 512 := by
    obtain ⟨ha, hb⟩ := hi
    omega
  have e1 : win0_6.index t 1 * 8192 ≤ (i 1 : Nat) ∧ (i 1 : Nat) < win0_6.index t 1 * 8192 + 8192 := by omega
  intro a
  match a with
  | ⟨0, _⟩ => exact e0
  | ⟨1, _⟩ => exact e1

/-- The row blocks tile the result. -/
theorem cover (i : S32768x8192.Idx) :
    ∃ t : Fin cfg0.N, (cfg0.win 6).flush t = true ∧ i ∈ ((cfg0.win 6).blk t).view.set := by
  have h0 : (i 0 : Nat) < 32768 := (i 0).isLt
  have hN : cfg0.N = 64 := N_0
  refine ⟨⟨(i 0 : Nat) / 512, by omega⟩, flush0_6 _, mem_blk _ _ ?_⟩
  dsimp only
  omega

/-- So the result array ends at the reference's result. -/
theorem final (hfin : Finite m) (c : Dev nD) : (dats m 0 c).arrAt 6 cfg0.N = goal m c :=
  (dats m 0 c).arrAt_eq_of_cover 6 (goal m c) (fun t _ => flushed_eq m hfin c t) cover

/-- The run, read: the result array at the reference's result, the arguments unchanged. -/
theorem run (hfin : Finite m) : θ_run defs (onTc (τ := τ) (main (F := Ideal))) ⟨m, fun _ => 0, ρ⟩ fun r => ∀ c : Dev nD,
      r.2.mem ((c : Thread nD τ).loc main_v41) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m hfin c), (h c).2⟩) (Value.run_blocks m ρ)

end Cert.InProjIdeal.RefValue
-- ==== Proof.EvenRef.lean ====
/-
  The even input projection's reference, read at an index: the projection of real inputs is real, and each sixth of the columns
  holds its own function of it.
-/
module

public import proofs.«01_k».proof.Proof.Gen.EvenProjRefIdeal.Read
public import proofs.«01_k».proof.Proof.InRef
public import Idealize.ShloMosaic.Lib.Pointwise
public import Idealize.ShloMosaic.Lib.Claim

@[expose] public section

set_option maxRecDepth 16384

noncomputable section

open Idealize.ShloMosaic Cert.Gate Cert.Proof.Scalar
open Cert.InProjRefIdeal.RowValue (IsReal div_real scale_real width eps zero' one' two')

namespace Cert.EvenProjRefIdeal.RowValue

open Cert.EvenProjRefIdeal Cert.EvenProjRefIdeal.Gen Cert.EvenProjRefIdeal.Read

/-- A head's width. -/
theorem width64 : (FloatOps.ofBits .f32 0x42800000#32 : Ideal .f32) = ((64 : ℝ) : EReal) := by
  show Ideal.ofBits FTy.f32 0x42800000#32 = _
  simp [Ideal.ofBits, Ideal.ieee, -EReal.coe_mul, ← EReal.coe_mul]
  norm_num

variable (x0 : FVec Ideal S4x8192x1024 .f32) (x1 : FVec Ideal S2x1024 .f32) (x2 : FVec Ideal S2x1024x8192 .f32) (x3 x4 : FVec Ideal S2x64 .f32)

/-- The projection, written out: a row scaled by the reciprocal root of its mean square, times the gain, times the weights. -/
theorem proj_at (b : Fin 4) (s c : Fin 8192) :
    val_main_v17 (F := Ideal) x0 x1 x2 (ix3 b s c) = ∑ k : Fin 1024,
      x0 (ix3 b s k) * Ideal.rsqrt (Ideal.div (∑ x : Fin 1024, x0 (ix3 b s x) * x0 (ix3 b s x)) (Ideal.ofBits FTy.f32 1149239296#32) + Ideal.ofBits FTy.f32 897988541#32)
        * x1 (ix2 1 k) * x2 (ix3 1 k c) := by
  have e2 : val_main_cst (F := Ideal) (Shape.Idx.first h_S_) = (0 : EReal) := zero'
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rw [e2, zero_add]
  rfl

/-- A row of the projection. -/
def proj (r : Fin 32768) (c : Fin 8192) : EReal :=
  val_main_v17 (F := Ideal) x0 x1 x2 (ix3 ⟨r.val / 8192, by omega⟩ ⟨r.val % 8192, by omega⟩ c)

/-- A projected entry of real inputs is real. -/
theorem proj_real (h0 : ∀ j, IsReal (x0 j)) (h1 : ∀ j, IsReal (x1 j)) (h2 : ∀ j, IsReal (x2 j)) (r : Fin 32768) (c : Fin 8192) :
    IsReal (proj x0 x1 x2 r c) := by
  have e3 : Ideal.ofBits FTy.f32 1149239296#32 = ((1024 : ℝ) : EReal) := width
  obtain ⟨e, he, e4⟩ := eps
  have e4 : Ideal.ofBits FTy.f32 897988541#32 = (e : EReal) := e4
  unfold proj
  rw [proj_at, e3, e4]
  have hs := scale_real (fun i => h0 (ix3 ⟨r.val / 8192, by omega⟩ ⟨r.val % 8192, by omega⟩ i)) (show (0 : ℝ) < 1024 by norm_num) he
  exact IsReal.sum fun x => (((h0 _).mul hs).mul (h1 _)).mul (h2 _)

/-- The reciprocal root of a head's mean square. -/
def rootOf (y : Fin 64 → EReal) : EReal :=
  Ideal.rsqrt (Ideal.div (∑ x : Fin 64, y x * y x) ((64 : ℝ) : EReal) + Ideal.ofBits FTy.f32 897988541#32)

/-- The queries: a normalised head, times its gain, scaled by an eighth, in units of log 2. -/
theorem q_at (b : Fin 4) (s : Fin 8192) (k : Fin 1024) :
    val_main_v47 (F := Ideal) x0 x1 x2 x3 (ix3 b s k)
      = Ideal.div (val_main_v17 (F := Ideal) x0 x1 x2 (ix3 b s ⟨3072 + k.val, by omega⟩)
          * rootOf (fun x => val_main_v17 (F := Ideal) x0 x1 x2 (ix3 b s ⟨3072 + (k.val / 64 * 64 + x.val), by omega⟩))
          * x3 (ix2 1 ⟨k.val % 64, by omega⟩) * Ideal.ofBits FTy.f32 0x3E000000#32) (Ideal.log ((2 : ℝ) : EReal)) := by
  have e2 : val_main_cst_2 (F := Ideal) (Shape.Idx.first h_S_) = (0 : EReal) := zero'
  have e3 : ∀ j, val_main_cst_3 (F := Ideal) j = ((64 : ℝ) : EReal) := fun _ => width64
  have e4 : ∀ j, val_main_cst_4 (F := Ideal) j = Ideal.ofBits FTy.f32 897988541#32 := fun _ => rfl
  have e5 : ∀ j, val_main_cst_5 (F := Ideal) j = Ideal.ofBits FTy.f32 0x3E000000#32 := fun _ => rfl
  have e6 : ∀ j, val_main_cst_6 (F := Ideal) j = ((2 : ℝ) : EReal) := fun _ => two'
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v21]
  rw [e2, e3, e4, e5, e6, zero_add]
  rfl

/-- The keys: a normalised head, times its gain. -/
theorem k_at (b : Fin 4) (s : Fin 8192) (k : Fin 1024) :
    val_main_v64 (F := Ideal) x0 x1 x2 x4 (ix3 b s k)
      = val_main_v17 (F := Ideal) x0 x1 x2 (ix3 b s ⟨4096 + k.val, by omega⟩)
          * rootOf (fun x => val_main_v17 (F := Ideal) x0 x1 x2 (ix3 b s ⟨4096 + (k.val / 64 * 64 + x.val), by omega⟩))
          * x4 (ix2 1 ⟨k.val % 64, by omega⟩) := by
  have e2 : val_main_cst_7 (F := Ideal) (Shape.Idx.first h_S_) = (0 : EReal) := zero'
  have e3 : ∀ j, val_main_cst_8 (F := Ideal) j = ((64 : ℝ) : EReal) := fun _ => width64
  have e4 : ∀ j, val_main_cst_9 (F := Ideal) j = Ideal.ofBits FTy.f32 897988541#32 := fun _ => rfl
  pointwise [val_main_v64, val_main_v63, val_main_v62, val_main_v61, val_main_v60, val_main_v59, val_main_v58, val_main_v57, val_main_v56, val_main_v55, val_main_v54, val_main_v53, val_main_v52, val_main_v51, val_main_v50, val_main_v49, val_main_v48, val_main_v22]
  rw [e2, e3, e4, zero_add]
  rfl

/-- The gates. -/
theorem silu_at (b : Fin 4) (s : Fin 8192) (k : Fin 2048) :
    val_main_v65 (F := Ideal) x0 x1 x2 (ix3 b s k)
      = val_main_v17 (F := Ideal) x0 x1 x2 (ix3 b s ⟨6144 + k.val, by omega⟩)
        * Ideal.div 1 (1 + Ideal.exp (-(val_main_v17 (F := Ideal) x0 x1 x2 (ix3 b s ⟨6144 + k.val, by omega⟩)))) := by
  have e : ∀ j, val_main_call0_cst (F := Ideal) j = (1 : EReal) := fun _ => one'
  have e' : ∀ j, val_main_call0_cst_0 (F := Ideal) j = (1 : EReal) := fun _ => one'
  pointwise [val_main_v65, val_main_v24, val_main_call0_v0, val_main_call0_v1, val_main_call0_v2, val_main_call0_v3, val_main_call0_v4, val_main_call0_v5]
  rw [e, e']

/-- The written array, by sixths of its columns. -/
theorem at_column (r : Fin 32768) (c : Fin 6144) :
    val_main_v71 (F := Ideal) x0 x1 x2 x3 x4 (ix2 r c)
      = (if h : c.val < 1024 then val_main_v47 (F := Ideal) x0 x1 x2 x3 (ix3 ⟨r.val / 8192, by omega⟩ ⟨r.val % 8192, by omega⟩ ⟨c.val, h⟩)
        else if h : c.val - 1024 < 1024 then val_main_v64 (F := Ideal) x0 x1 x2 x4 (ix3 ⟨r.val / 8192, by omega⟩ ⟨r.val % 8192, by omega⟩ ⟨c.val - 1024, h⟩)
        else if h : c.val - 1024 - 1024 < 1024 then proj x0 x1 x2 r ⟨5120 + (c.val - 1024 - 1024), by omega⟩
        else if h : c.val - 1024 - 1024 - 1024 < 1024 then
          proj x0 x1 x2 r ⟨c.val - 1024 - 1024 - 1024, by omega⟩
            * val_main_v65 (F := Ideal) x0 x1 x2 (ix3 ⟨r.val / 8192, by omega⟩ ⟨r.val % 8192, by omega⟩ ⟨c.val - 1024 - 1024 - 1024, by omega⟩)
        else if h : c.val - 1024 - 1024 - 1024 - 1024 < 1024 then
          proj x0 x1 x2 r ⟨1024 + (c.val - 1024 - 1024 - 1024 - 1024), by omega⟩ * proj x0 x1 x2 r ⟨2048 + (c.val - 1024 - 1024 - 1024 - 1024), by omega⟩
        else val_main_v65 (F := Ideal) x0 x1 x2 (ix3 ⟨r.val / 8192, by omega⟩ ⟨r.val % 8192, by omega⟩ ⟨1024 + (c.val - 1024 - 1024 - 1024 - 1024 - 1024), by omega⟩) : EReal) := by
  unfold proj
  pointwise [val_main_v71, val_main_v70, val_main_v69, val_main_v68, val_main_v67, val_main_v66, val_main_v25, val_main_v23, val_main_v18, val_main_v19, val_main_v20]

/-- Equal columns hold equal entries. -/
theorem proj_col {r : Fin 32768} {c c' : Fin 8192} (h : c.val = c'.val) : proj x0 x1 x2 r c = proj x0 x1 x2 r c' := congrArg _ (Fin.ext h)

theorem col_q (r : Fin 32768) (c : Fin 6144) (hc : c.val < 1024) :
    val_main_v71 (F := Ideal) x0 x1 x2 x3 x4 (ix2 r c)
      = proj x0 x1 x2 r ⟨c.val + 3072, by omega⟩ * rootOf (fun x => proj x0 x1 x2 r ⟨(c.val + 3072) / 64 * 64 + x.val, by omega⟩)
        * (x3 (ix2 1 ⟨c.val % 64, by omega⟩) * (Ideal.ofBits FTy.f32 0x3E000000#32 * Ideal.div 1 (Ideal.log ((2 : ℝ) : EReal)))) := by
  have hl2 : Ideal.log ((2 : ℝ) : EReal) = ((Real.log 2 : ℝ) : EReal) := by rw [log_coe, if_neg (by norm_num)]
  rw [at_column, dif_pos hc, q_at, hl2, div_one_add log_two_pos, div_one_add log_two_pos, one_mul, mul_assoc, mul_assoc, mul_assoc]
  rw [← mul_assoc]
  refine congrArg₂ (· * ·) (congrArg₂ (· * ·) (proj_col x0 x1 x2 (by dsimp only; omega)) (congrArg rootOf (funext fun x => proj_col x0 x1 x2 (by dsimp only; omega)))) rfl

theorem col_k (r : Fin 32768) (c : Fin 6144) (hc : 1024 ≤ c.val) (hc' : c.val < 2048) :
    val_main_v71 (F := Ideal) x0 x1 x2 x3 x4 (ix2 r c)
      = proj x0 x1 x2 r ⟨c.val + 3072, by omega⟩ * rootOf (fun x => proj x0 x1 x2 r ⟨(c.val + 3072) / 64 * 64 + x.val, by omega⟩)
        * x4 (ix2 1 ⟨c.val % 64, by omega⟩) := by
  rw [at_column, dif_neg (by omega), dif_pos (by omega), k_at]
  refine congrArg₂ (· * ·) (congrArg₂ (· * ·) (proj_col x0 x1 x2 (by dsimp only; omega)) (congrArg rootOf (funext fun x => proj_col x0 x1 x2 (by dsimp only; omega)))) ?_
  exact congrArg (fun k => x4 (ix2 1 k)) (Fin.ext (by dsimp only; omega))

theorem col_v (r : Fin 32768) (c : Fin 6144) (hc : 2048 ≤ c.val) (hc' : c.val < 3072) :
    val_main_v71 (F := Ideal) x0 x1 x2 x3 x4 (ix2 r c) = proj x0 x1 x2 r ⟨c.val + 3072, by omega⟩ := by
  rw [at_column, dif_neg (by omega), dif_neg (by omega), dif_pos (by omega)]
  exact proj_col x0 x1 x2 (by dsimp only; omega)

theorem col_u (r : Fin 32768) (c : Fin 6144) (hc : 4096 ≤ c.val) (hc' : c.val < 5120) :
    val_main_v71 (F := Ideal) x0 x1 x2 x3 x4 (ix2 r c) = proj x0 x1 x2 r ⟨c.val - 3072, by omega⟩ * proj x0 x1 x2 r ⟨c.val - 2048, by omega⟩ := by
  rw [at_column, dif_neg (by omega), dif_neg (by omega), dif_neg (by omega), dif_neg (by omega), dif_pos (by omega)]
  exact congrArg₂ (· * ·) (proj_col x0 x1 x2 (by dsimp only; omega)) (proj_col x0 x1 x2 (by dsimp only; omega))

variable (h0 : ∀ j, IsReal (x0 j)) (h1 : ∀ j, IsReal (x1 j)) (h2 : ∀ j, IsReal (x2 j))

include h0 h1 h2 in
/-- A gate is the kernel's half-angle silu of its projection. -/
theorem gate_at (r : Fin 32768) (k : Fin 2048) (p : Fin 8192) (hp : p.val = 6144 + k.val) :
    val_main_v65 (F := Ideal) x0 x1 x2 (ix3 ⟨r.val / 8192, by omega⟩ ⟨r.val % 8192, by omega⟩ k)
      = half * proj x0 x1 x2 r p + half * proj x0 x1 x2 r p * Ideal.tanh (half * proj x0 x1 x2 r p) := by
  rw [silu_at]
  have e : p = ⟨6144 + k.val, by omega⟩ := Fin.ext hp
  rw [e]
  exact (silu_half (proj_real x0 x1 x2 h0 h1 h2 r _)).symm

include h0 h1 h2 in
theorem col_g (r : Fin 32768) (c : Fin 6144) (hc : 3072 ≤ c.val) (hc' : c.val < 4096) (p : Fin 8192) (hp : p.val = c.val + 3072) :
    val_main_v71 (F := Ideal) x0 x1 x2 x3 x4 (ix2 r c)
      = proj x0 x1 x2 r ⟨c.val - 3072, by omega⟩ * (half * proj x0 x1 x2 r p + half * proj x0 x1 x2 r p * Ideal.tanh (half * proj x0 x1 x2 r p)) := by
  rw [at_column, dif_neg (by omega), dif_neg (by omega), dif_neg (by omega), dif_pos (by omega), gate_at x0 x1 x2 h0 h1 h2 r _ p (by dsimp only; omega)]
  exact congrArg (· * _) (proj_col x0 x1 x2 (by dsimp only; omega))

include h0 h1 h2 in
theorem col_z (r : Fin 32768) (c : Fin 6144) (hc : 5120 ≤ c.val) (p : Fin 8192) (hp : p.val = c.val + 2048) :
    val_main_v71 (F := Ideal) x0 x1 x2 x3 x4 (ix2 r c)
      = half * proj x0 x1 x2 r p + half * proj x0 x1 x2 r p * Ideal.tanh (half * proj x0 x1 x2 r p) := by
  rw [at_column, dif_neg (by omega), dif_neg (by omega), dif_neg (by omega), dif_neg (by omega), dif_neg (by omega), gate_at x0 x1 x2 h0 h1 h2 r _ p (by dsimp only; omega)]

end Cert.EvenProjRefIdeal.RowValue
-- ==== Proof.EvenScalar.lean ====
/-
  The mean of a head's squares, as a product with a matrix that holds 1/64 within a head and zero across heads.
-/
module

public import proofs.«01_k».proof.Proof.InRef

@[expose] public section

noncomputable section

open Idealize.ShloMosaic Cert.Gate Cert.Proof.Scalar
open Cert.InProjRefIdeal.RowValue (IsReal div_real)

namespace Cert.HeadMean

/-- A sum over 256 columns that keeps one head of 64 is the head's sum. -/
theorem sum_head (g : Fin 256 → ℝ) (l : Fin 256) :
    ∑ k : Fin 256, g k * (if k.val / 64 = l.val / 64 then 1 / 64 else 0) = (∑ x : Fin 64, g ⟨l.val / 64 * 64 + x.val, by omega⟩) / 64 := by
  rw [← Equiv.sum_comp (finProdFinEquiv (m := 4) (n := 64)) (fun k : Fin 256 => g k * (if k.val / 64 = l.val / 64 then 1 / 64 else 0)), Fintype.sum_prod_type]
  rw [Finset.sum_eq_single (⟨l.val / 64, by omega⟩ : Fin 4)]
  · rw [Finset.sum_div]
    refine Finset.sum_congr rfl fun x _ => ?_
    have hv : (finProdFinEquiv ((⟨l.val / 64, by omega⟩ : Fin 4), x) : Fin (4 * 64)).val = x.val + 64 * (l.val / 64) := rfl
    have hg : g (finProdFinEquiv ((⟨l.val / 64, by omega⟩ : Fin 4), x)) = g ⟨l.val / 64 * 64 + x.val, by omega⟩ :=
      congrArg g (Fin.ext (by refine hv.trans ?_; dsimp only; omega))
    rw [if_pos (by rw [hv]; omega), hg]
    ring
  · intro a _ ha
    refine Finset.sum_eq_zero fun x _ => ?_
    have hv : (finProdFinEquiv (a, x) : Fin (4 * 64)).val = x.val + 64 * a.val := rfl
    have : a.val ≠ l.val / 64 := fun e => ha (Fin.ext e)
    rw [if_neg (by rw [hv]; omega), mul_zero]
  · intro h; exact absurd (Finset.mem_univ _) h

theorem sum_coe {n : ℕ} (g : Fin n → ℝ) : ∑ i, (g i : EReal) = ((∑ i, g i : ℝ) : EReal) :=
  (map_sum (⟨⟨Real.toEReal, rfl⟩, EReal.coe_add⟩ : ℝ →+ EReal) g Finset.univ).symm

/-- The kernel's mean of squares of a head is the reference's, on real entries. -/
theorem head_mean (y : Fin 256 → EReal) (hy : ∀ k, IsReal (y k)) (B : Fin 256 → EReal) (l : Fin 256)
    (hB : ∀ k : Fin 256, B k = if k.val / 64 = l.val / 64 then ((1 / 64 : ℝ) : EReal) else 0) :
    ∑ k : Fin 256, y k * y k * B k
      = Ideal.div (∑ x : Fin 64, y ⟨l.val / 64 * 64 + x.val, by omega⟩ * y ⟨l.val / 64 * 64 + x.val, by omega⟩) ((64 : ℝ) : EReal) := by
  choose g hg using hy
  have e : ∀ k : Fin 256, y k * y k * B k = ((g k * g k * (if k.val / 64 = l.val / 64 then 1 / 64 else 0) : ℝ) : EReal) := by
    intro k
    rw [hB, hg]
    split_ifs
    · rw [← EReal.coe_mul, ← EReal.coe_mul]
    · rw [mul_zero, mul_zero]; rfl
  have e' : ∀ k : Fin 256, y k * y k = ((g k * g k : ℝ) : EReal) := fun k => by rw [hg, EReal.coe_mul]
  simp only [e]
  simp only [e']
  rw [sum_coe, sum_coe, div_real _ (by norm_num)]
  exact congrArg _ (sum_head (fun k => g k * g k) l)

end Cert.HeadMean
-- ==== Proof.EvenHost.lean ====
/-
  The even input projection's prepared arrays: what the launch finds in each window's array, from the five arguments.
-/
module

public import proofs.«01_k».proof.Proof.Gen.EvenProjIdeal.Frame
public import proofs.«01_k».proof.Proof.EvenScalar
public import Idealize.ShloMosaic.Lib.StableHlo.ReadAt
public import Idealize.ShloMosaic.Lib.Routing.OpsSet
public import Idealize.ShloMosaic.Lib.Routing.OpsOne
public import Idealize.ShloMosaic.Lib.Routing.OpsPair
public import Idealize.ShloMosaic.Lib.Pointwise
public import Idealize.ShloMosaic.Lib.Claim

@[expose] public section

set_option maxRecDepth 16384

noncomputable section

open Idealize.ShloMosaic Idealize.ShloMosaic.TcCoe Cert.Gate
open Idealize.ShloMosaic.Routing
open Cert.InProjRefIdeal.RowValue (two')

namespace Cert.EvenProjIdeal.HostValue

open Cert.EvenProjIdeal Cert.EvenProjIdeal.Gen

variable (m : (ℓ : Loc nD τ sig) → Buf (Elt Ideal) ℓ) (c : Dev nD)

/-- The arguments the prepared arrays read. -/
abbrev gq : FVec Ideal S2x64 .f32 := m ((c : Thread nD τ).loc main_arg3)
abbrev gk : FVec Ideal S2x64 .f32 := m ((c : Thread nD τ).loc main_arg4)

/-- A scattered row's index: row 0, column `w`. -/
def place (w : BitVec 32) : IVec S2 32 :=
  concatenate S2 0 [⟨S1, broadcastInDim S1 ![] bcast_S_S1 (constantI S_ 32 0#32)⟩, ⟨S1, broadcastInDim S1 ![] bcast_S_S1 (constantI S_ 32 w)⟩]
    concatenates_S1_S1_S2_d0

/-- A row with `u` written over the 1024 columns from `w` on. -/
def put (w : BitVec 32) (o : FVec Ideal S1x8192 .f32) (u : FVec Ideal S1024 .f32) : FVec Ideal S1x8192 .f32 :=
  Host.scatter scatter_S1x8192_S2_S1024_0_0_01_0 (fun _ b => b) o (place w) u

/-- The second layer's gain of a head, repeated over the sixteen heads. -/
def tiled (A : FVec Ideal S2x64 .f32) : FVec Ideal S1024 .f32 :=
  shapeCast S1024 (broadcastInDim S16x64 ![0, 1] bcast_S1x64_S16x64_0_1 (shapeCast S1x64 (shapeCast S64 (extractStridedSlice S1x64 ![1, 0] A slices_S2x64_S1x64_1_0) shapeCasts_S1x64_S64) shapeCasts_S64_S1x64)) shapeCasts_S16x64_S1024

/-- The queries' scale: an eighth over log 2. -/
def qscale : FVec Ideal S1024 .f32 :=
  broadcastInDim S1024 ![] bcast_S_S1024 (mulf (constant (F := Ideal) S_ .f32 0x3E000000#32) (Host.divf (constant (F := Ideal) S_ .f32 0x3F800000#32) (Host.log (constant (F := Ideal) S_ .f32 0x40000000#32))))

/-- The rows of `x`, the batch and the position as one axis. -/
theorem rows_x (r : Fin 32768) (k : Fin 1024) : (V m c main_v0 : FVec Ideal S32768x1024 .f32) (ix2 r k)
    = (m ((c : Thread nD τ).loc main_arg0) : FVec Ideal S4x8192x1024 .f32) (ix3 ⟨r.val / 8192, by omega⟩ ⟨r.val % 8192, by omega⟩ k) := by
  unfold V
  after_reads_at

theorem weights : V m c main_v27 = (m ((c : Thread nD τ).loc main_arg2) : FVec Ideal S2x1024x8192 .f32) := by
  unfold V
  after_reads_at
  rfl

/-- The gain's row is the second of the two layers'. -/
theorem gain (k : Fin 1024) : (V m c main_v70 : FVec Ideal S1x1024 .f32) (ix2 0 k) = (m ((c : Thread nD τ).loc main_arg1) : FVec Ideal S2x1024 .f32) (ix2 1 k) := by
  unfold V
  after_reads_at

/-- The scatter at an index made of the two words is the row. -/
theorem put_of (w : BitVec 32) (a b : IVec S1 32) (o o' : FVec Ideal S1x8192 .f32) (u u' : FVec Ideal S1024 .f32)
    (ha : a = broadcastInDim S1 ![] bcast_S_S1 (constantI S_ 32 0#32)) (hb : b = broadcastInDim S1 ![] bcast_S_S1 (constantI S_ 32 w))
    (ho : o = o') (hu : u = u') :
    Host.scatter scatter_S1x8192_S2_S1024_0_0_01_0 (fun _ b => b) o (concatenate S2 0 [⟨S1, a⟩, ⟨S1, b⟩] concatenates_S1_S1_S2_d0) u = put w o' u' := by
  subst ha hb ho hu; rfl

/-- A row of ones. -/
def ones : FVec Ideal S1x8192 .f32 := broadcastInDim S1x8192 ![] bcast_S_S1x8192 (constant (F := Ideal) S_ .f32 0x3F800000#32)

theorem tiled_at (A : FVec Ideal S2x64 .f32) (k : Fin 1024) : tiled A (ix1 k) = A (ix2 1 ⟨k.val % 64, by omega⟩) := by
  pointwise [tiled]

theorem colscale : V m c main_v24 = put 4096#32 (put 3072#32 ones (mulf (tiled (gq m c)) qscale)) (tiled (gk m c)) := by
  unfold V
  after_reads_at
  refine put_of _ _ _ _ _ _ _ ?_ ?_ (put_of _ _ _ _ _ _ _ ?_ ?_ rfl ?_) ?_
  · unfold StableHlo.upto
    after_reads_at
  · unfold StableHlo.upto
    after_reads_at
  · unfold StableHlo.upto
    after_reads_at
  · unfold StableHlo.upto
    after_reads_at
  · refine congrArg₂ mulf (funext fun i => ?_) rfl
    obtain ⟨k, rfl⟩ : ∃ k : Fin 1024, i = ix1 k := ⟨i 0, eq_ix1 i⟩
    exact (tiled_at (gq m c) k).symm
  · funext i
    obtain ⟨k, rfl⟩ : ∃ k : Fin 1024, i = ix1 k := ⟨i 0, eq_ix1 i⟩
    exact (tiled_at (gk m c) k).symm

/-- Update `k` lands at column `w + k` of the only row. -/
theorem lands (w : BitVec 32) (n : Nat) (hw : w.toInt = n) (k : Fin 1024) (q : Fin 8192) :
    scatter_S1x8192_S2_S1024_0_0_01_0.resultIdx? (ix1 k) (place w) = some (ix2 0 q) ↔ n + k.val = q.val := by
  have hwin0 : scatter_S1x8192_S2_S1024_0_0_01_0.window (ix1 k) 0 = 0 := by
    unfold ScatterDims.window
    rw [dif_neg (by decide)]
  have hwin1 : scatter_S1x8192_S2_S1024_0_0_01_0.window (ix1 k) 1 = k.val := by
    unfold ScatterDims.window
    rw [dif_pos (by decide)]
    exact congrArg (fun t => ((ix1 k : S1024.Idx) t).val) (Subsingleton.elim (α := Fin 1) _ 0)
  have p0 : (place w (ix1 0)).toInt = 0 := by
    pointwise [place]
    decide
  have p1 : (place w (ix1 1)).toInt = n := by
    pointwise [place]
    exact hw
  refine (resultIdx?_ix2 _ _ _ _ _).trans ?_
  rw [start_pair scatter_S1x8192_S2_S1024_0_0_01_0 rfl rfl (place w) (ix1 k) 0, start_pair scatter_S1x8192_S2_S1024_0_0_01_0 rfl rfl (place w) (ix1 k) 1, hwin0, hwin1]
  show (place w (ix1 0)).toInt + ((0 : Nat) : Int) = ((0 : Nat) : Int) ∧ (place w (ix1 1)).toInt + (k.val : Int) = (q.val : Int) ↔ _
  rw [p0, p1]
  omega

/-- A row written over, read at a written column. -/
theorem put_hit (w : BitVec 32) (n : Nat) (hw : w.toInt = n) (o : FVec Ideal S1x8192 .f32) (u : FVec Ideal S1024 .f32) (q : Fin 8192) (h : n ≤ q.val) (h' : q.val < n + 1024) :
    put w o u (ix2 0 q) = u (ix1 ⟨q.val - n, by omega⟩) := by
  unfold put
  refine scatter_set_hit _ _ _ _ _ _ (fun k hk => ?_) (ix1 ⟨q.val - n, by omega⟩) ((lands w n hw _ _).2 (by show n + (q.val - n) = q.val; omega))
  obtain ⟨k, rfl⟩ : ∃ a : Fin 1024, k = ix1 a := ⟨k 0, eq_ix1 k⟩
  have := (lands w n hw k q).1 hk
  exact congrArg u (congrArg ix1 (Fin.ext (by show k.val = q.val - n; omega)))

/-- A row written over, read before the written columns. -/
theorem put_miss (w : BitVec 32) (n : Nat) (hw : w.toInt = n) (o : FVec Ideal S1x8192 .f32) (u : FVec Ideal S1024 .f32) (q : Fin 8192) (h : q.val < n) :
    put w o u (ix2 0 q) = o (ix2 0 q) := by
  unfold put
  refine scatter_set_miss _ _ _ _ _ (fun k hk => ?_)
  obtain ⟨k, rfl⟩ : ∃ a : Fin 1024, k = ix1 a := ⟨k 0, eq_ix1 k⟩
  have := (lands w n hw k q).1 hk
  omega

theorem qscale_at (k : Fin 1024) : qscale (ix1 k) = Ideal.ofBits FTy.f32 0x3E000000#32 * Ideal.div 1 (Ideal.log ((2 : ℝ) : EReal)) := by
  rw [← two', ← Cert.InProjRefIdeal.RowValue.one']
  pointwise [qscale]

/-- The column scale over the query columns and over the key columns. -/
theorem colscale_q (q : Fin 8192) (h : 3072 ≤ q.val) (h' : q.val < 4096) : (V m c main_v24 : FVec Ideal S1x8192 .f32) (ix2 0 q)
    = gq m c (ix2 1 ⟨q.val % 64, by omega⟩)
      * (Ideal.ofBits FTy.f32 0x3E000000#32 * Ideal.div 1 (Ideal.log ((2 : ℝ) : EReal))) := by
  refine (congrFun (colscale m c) _).trans ?_
  rw [put_miss _ 4096 rfl _ _ _ h', put_hit _ 3072 rfl _ _ _ h (by omega)]
  show tiled _ (ix1 _) * qscale (ix1 _) = _
  rw [tiled_at, qscale_at]
  exact congrArg (fun k => gq m c (ix2 1 k) * (Ideal.ofBits FTy.f32 0x3E000000#32 * Ideal.div 1 (Ideal.log ((2 : ℝ) : EReal)))) (Fin.ext (by dsimp only; omega))

theorem colscale_k (q : Fin 8192) (h : 4096 ≤ q.val) (h' : q.val < 5120) : (V m c main_v24 : FVec Ideal S1x8192 .f32) (ix2 0 q)
    = gk m c (ix2 1 ⟨q.val % 64, by omega⟩) := by
  refine (congrFun (colscale m c) _).trans ?_
  rw [put_hit _ 4096 rfl _ _ _ h (by omega), tiled_at]
  exact congrArg (fun k => gk m c (ix2 1 k)) (Fin.ext (by dsimp only; omega))

/-- A column's head, as the words divide. -/
theorem head_word : ∀ k : Fin 256, IntOp.divsi ArithUnit.host (BitVec.ofNat 32 k.val) 64#32 = BitVec.ofNat 32 (k.val / 64) := by decide

/-- Two columns' heads are the same word when they are the same head. -/
theorem same_head (k l : Fin 256) : IntOp.cmpi CmpIPredicate.eq (BitVec.ofNat 32 (k.val / 64)) (BitVec.ofNat 32 (l.val / 64)) = if k.val / 64 = l.val / 64 then 1#1 else 0#1 := by
  have hk : k.val / 64 < 4 := by omega
  have hl : l.val / 64 < 4 := by omega
  generalize k.val / 64 = a at *
  generalize l.val / 64 = b at *
  have : ∀ a b : Fin 4, IntOp.cmpi CmpIPredicate.eq (BitVec.ofNat 32 a.val) (BitVec.ofNat 32 b.val) = if a.val = b.val then 1#1 else 0#1 := by decide
  exact this ⟨a, hk⟩ ⟨b, hl⟩

theorem word64 : Ideal.ofBits FTy.f32 1115684864#32 = ((64 : ℝ) : EReal) := by
  simp [Ideal.ofBits, Ideal.ieee, -EReal.coe_mul, ← EReal.coe_mul]
  norm_num

/-- The head-mean matrix. -/
theorem means (k l : Fin 256) : (V m c main_v39 : FVec Ideal S256x256 .bf16) (ix2 k l) = if k.val / 64 = l.val / 64 then ((1 / 64 : ℝ) : EReal) else 0 := by
  unfold V
  after_reads_at
  rw [head_word, head_word, same_head, word64]
  split_ifs
  · show Ideal.div (((1#1).toNat : ℝ) : EReal) _ = _
    rw [Cert.InProjRefIdeal.RowValue.div_real _ (by norm_num)]
    norm_num
  · show Ideal.div (((0#1).toNat : ℝ) : EReal) _ = _
    rw [Cert.InProjRefIdeal.RowValue.div_real _ (by norm_num)]
    norm_num

end Cert.EvenProjIdeal.HostValue
-- ==== Proof.EvenBlock.lean ====
/-
  One grid point of the even input projection: the six column tiles it writes, read as one function of the row and the column.
-/
module

public import proofs.«01_k».proof.Proof.Gen.EvenProjIdeal.Frame
public import proofs.«01_k».proof.Proof.InScalar
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

open Idealize.ShloMosaic Cert.Gate Cert.Proof.Scalar Cert.EvenProjIdeal Cert.EvenProjIdeal.Gen

namespace Cert.EvenProjIdeal.BlockValue

/-- The half the kernel writes. -/
theorem half_word : Ideal.ofBits FTy.f32 1056964608#32 = half := by
  unfold half
  simp [Ideal.ofBits, Ideal.ieee, -EReal.coe_mul, ← EReal.coe_mul]
  norm_num

/-- The normalised row. -/
def normed (x0 : FVec Ideal S256x1024 .f32) (x1 : FVec Ideal S1x1024 .f32) (r : Fin 256) (k : Fin 1024) : EReal :=
  x0 (ix2 r k) * Ideal.rsqrt (Ideal.div (∑ x : Fin 1024, x0 (ix2 r x) * x0 (ix2 r x)) (Ideal.ofBits FTy.f32 1149239296#32) + Ideal.ofBits FTy.f32 897988541#32)
    * x1 (ix2 0 k)

/-- Its product with a column of the weights. -/
def dotAt (x0 : FVec Ideal S256x1024 .f32) (x1 : FVec Ideal S1x1024 .f32) (x2 : FVec Ideal S1x1024x8192 .bf16) (r : Fin 256) (q : Fin 8192) : EReal :=
  ∑ k : Fin 1024, normed x0 x1 r k * x2 (ix3 0 k q)

/-- The silu the kernel writes. -/
def siluT (p : EReal) : EReal := half * p + half * p * Ideal.tanh (half * p)

/-- A column of one slab of 256 scaled by the reciprocal root of its head's mean square, times its gain; the head's mean is a product
    with a column of the matrix `B`. -/
def slabAt (y : Fin 256 → EReal) (B : FVec Ideal S256x256 .bf16) (g : EReal) (l : Fin 256) : EReal :=
  y l * Ideal.rsqrt ((∑ k : Fin 256, y k * y k * B (ix2 k l)) + Ideal.ofBits FTy.f32 897988541#32) * g

/-- A column of a normalised head. -/
def headAt (x0 : FVec Ideal S256x1024 .f32) (x1 : FVec Ideal S1x1024 .f32) (x2 : FVec Ideal S1x1024x8192 .bf16) (x3 : FVec Ideal S1x8192 .f32)
    (x5 : FVec Ideal S256x256 .bf16) (r : Fin 256) (p : Fin 8192) : EReal :=
  slabAt (fun k => dotAt x0 x1 x2 r ⟨p.val / 256 * 256 + k.val, by omega⟩) x5 (x3 (ix2 0 p)) ⟨p.val % 256, by omega⟩

/-- The whole row block. -/
def blockAt (x0 : FVec Ideal S256x1024 .f32) (x1 : FVec Ideal S1x1024 .f32) (x2 : FVec Ideal S1x1024x8192 .bf16) (x3 : FVec Ideal S1x8192 .f32)
    (x5 : FVec Ideal S256x256 .bf16) (r : Fin 256) (q : Fin 6144) : EReal :=
  if h2048 : q.val < 2048 then headAt x0 x1 x2 x3 x5 r ⟨q.val + 3072, by omega⟩
  else if h3072 : q.val < 3072 then dotAt x0 x1 x2 r ⟨q.val + 3072, by omega⟩
  else if h4096 : q.val < 4096 then dotAt x0 x1 x2 r ⟨q.val - 3072, by omega⟩ * siluT (dotAt x0 x1 x2 r ⟨q.val + 3072, by omega⟩)
  else if h5120 : q.val < 5120 then dotAt x0 x1 x2 r ⟨q.val - 3072, by omega⟩ * dotAt x0 x1 x2 r ⟨q.val - 2048, by omega⟩
  else siluT (dotAt x0 x1 x2 r ⟨q.val + 2048, by omega⟩)

section Pays

variable (x0 : FVec Ideal S256x1024 .f32) (x1 : FVec Ideal S1x1024 .f32) (w w' : FVec Ideal S1x1024x1024 .bf16)
  (n : FVec Ideal S256x1024 .bf16) (r : Fin 256) (l : Fin 1024)

theorem pay3 : k0_pay3 (F := Ideal) x0 x1 (ix2 r l) = normed x0 x1 r l := by
  pointwise [k0_pay3, normed]

theorem pay4 : k0_pay4 (F := Ideal) x0 x1 w (ix2 r l) = ∑ k : Fin 1024, normed x0 x1 r k * w (ix3 0 k l) := by
  pointwise [k0_pay4]
  simp only [pay3]

theorem pay34 : k0_pay34 (F := Ideal) n w (ix2 r l) = ∑ k : Fin 1024, n (ix2 r k) * w (ix3 0 k l) := by
  pointwise [k0_pay34]

theorem pay63 : k0_pay63 (F := Ideal) n w (ix2 r l) = ∑ k : Fin 1024, n (ix2 r k) * w (ix3 0 k l) := by
  pointwise [k0_pay63]

theorem pay89 : k0_pay89 (F := Ideal) n w w' (ix2 r l)
    = (∑ k : Fin 1024, n (ix2 r k) * w (ix3 0 k l)) * siluT (∑ k : Fin 1024, n (ix2 r k) * w' (ix3 0 k l)) := by
  pointwise [k0_pay89]
  simp only [half_word]
  rfl

theorem pay1 : k0_pay1 (F := Ideal) n (k0_pay90 n w) w' (ix2 r l)
    = (∑ k : Fin 1024, n (ix2 r k) * w (ix3 0 k l)) * (∑ k : Fin 1024, n (ix2 r k) * w' (ix3 0 k l)) := by
  pointwise [k0_pay1, k0_pay90]

theorem pay2 : k0_pay2 (F := Ideal) n w (ix2 r l) = siluT (∑ k : Fin 1024, n (ix2 r k) * w (ix3 0 k l)) := by
  pointwise [k0_pay2]
  simp only [half_word]
  rfl

variable (B : FVec Ideal S256x256 .bf16) (c0 c1 c2 c3 : FVec Ideal S1x256 .f32)

/-- The four slabs of a tile of heads. -/
def slabs (a : FVec Ideal S256x1024 .f32) : EReal :=
  if h : l.val < 256 then slabAt (fun k => a (ix2 r ⟨k.val, by omega⟩)) B (c0 (ix2 0 ⟨l.val, h⟩)) ⟨l.val, h⟩
  else if h : l.val - 256 < 256 then slabAt (fun k => a (ix2 r ⟨256 + k.val, by omega⟩)) B (c1 (ix2 0 ⟨l.val - 256, h⟩)) ⟨l.val - 256, h⟩
  else if h : l.val - 256 - 256 < 256 then slabAt (fun k => a (ix2 r ⟨512 + k.val, by omega⟩)) B (c2 (ix2 0 ⟨l.val - 256 - 256, h⟩)) ⟨l.val - 256 - 256, h⟩
  else slabAt (fun k => a (ix2 r ⟨768 + k.val, by omega⟩)) B (c3 (ix2 0 ⟨l.val - 256 - 256 - 256, by omega⟩)) ⟨l.val - 256 - 256 - 256, by omega⟩

theorem pay9 : k0_pay9 (F := Ideal) (k0_pay4 x0 x1 w) (k0_pay5 x0 x1 w B c0) (k0_pay6 x0 x1 w) (k0_pay7 x0 x1 w) (k0_pay8 B) (constant S256x256 .f32 0x00000000#32) c1 B c2 B c3 (ix2 r l)
    = slabs r l B c0 c1 c2 c3 (k0_pay4 x0 x1 w) := by
  pointwise [k0_pay9, k0_pay5, k0_pay6, k0_pay7, k0_pay8, slabs, slabAt]

theorem pay38 : k0_pay38 (F := Ideal) (k0_pay34 n w) (k0_pay35 n w B c0) (k0_pay36 n w B c1) (k0_pay37 n w) B c2 B c3 (ix2 r l)
    = slabs r l B c0 c1 c2 c3 (k0_pay34 n w) := by
  pointwise [k0_pay38, k0_pay35, k0_pay36, k0_pay37, slabs, slabAt]

end Pays

theorem zero2 : (![0, 0] : Fin 2 → Nat) = fun _ => 0 := funext fun a => by fin_cases a <;> rfl

/-- A tile of the weights' columns. -/
theorem ld_w (x2 : Vec Ideal S1x1024x8192 .bf16) (off : Nat) (inb : ∀ a, (![0, 0, off] : Fin 3 → Nat) a + S1x1024x1024.size a ≤ S1x1024x8192.size a) (k l : Fin 1024) (q : Fin 8192) (h : q.val = off + l.val) :
    (View.ld (x2 : Vec Ideal S1x1024x8192 .bf16) (Rect.unit (s := S1x1024x8192) ![0, 0, off] S1x1024x1024.size inb) : Vec Ideal S1x1024x1024 .bf16) (ix3 0 k l) = x2 (ix3 0 k q) := by
  refine View.ld_unit_apply_of x2 _ _ inb _ (ix3 0 k q) ?_
  intro a
  match a with
  | ⟨0, _⟩ => rfl
  | ⟨1, _⟩ => show k.val = 0 + k.val; omega
  | ⟨2, _⟩ => exact h

/-- A slab of a row's columns. -/
theorem ld_r (x3 : Vec Ideal S1x8192 .f32) (off : Nat) (inb : ∀ a, (![0, off] : Fin 2 → Nat) a + S1x256.size a ≤ S1x8192.size a) (l : Fin 256) (q : Fin 8192) (h : q.val = off + l.val) :
    (View.ld (x3 : Vec Ideal S1x8192 .f32) (Rect.unit (s := S1x8192) ![0, off] S1x256.size inb) : Vec Ideal S1x256 .f32) (ix2 0 l) = x3 (ix2 0 q) := by
  refine View.ld_unit_apply_of x3 _ _ inb _ (ix2 0 q) ?_
  intro a
  match a with
  | ⟨0, _⟩ => rfl
  | ⟨1, _⟩ => exact h

section Tiles

variable (x0 : Vec Ideal S256x1024 .f32) (x1 : Vec Ideal S1x1024 .f32) (x2 : Vec Ideal S1x1024x8192 .bf16) (x3 x4 : Vec Ideal S1x8192 .f32)
  (x5 x6 x7 : Vec Ideal S256x256 .bf16)

/-- The product over a tile of the weights is the product at the tile's column. -/
theorem dot_tile (n : FVec Ideal S256x1024 .bf16) (hn : ∀ r k, n (ix2 r k) = normed x0 x1 r k)
    (off : Nat) (inb : ∀ a, (![0, 0, off] : Fin 3 → Nat) a + S1x1024x1024.size a ≤ S1x1024x8192.size a) (r : Fin 256) (l : Fin 1024) (q : Fin 8192) (h : q.val = off + l.val) :
    ∑ k : Fin 1024, n (ix2 r k) * (View.ld (x2 : Vec Ideal S1x1024x8192 .bf16) (Rect.unit (s := S1x1024x8192) ![0, 0, off] S1x1024x1024.size inb) : Vec Ideal S1x1024x1024 .bf16) (ix3 0 k l)
      = dotAt x0 x1 x2 r q :=
  Finset.sum_congr rfl fun k _ => congrArg₂ (· * ·) (hn r k) (ld_w x2 off inb k l q h)

/-- The normalised rows, shared by the tiles. -/
theorem shared (r : Fin 256) (k : Fin 1024) : k0_pay92 (F := Ideal) x0 x1 x2 x3 x4 x5 x6 x7 (ix2 r k) = normed x0 x1 r k := by
  unfold k0_pay92
  rw [View.ld_unit_zero zero2, View.ld_unit_zero zero2]
  exact pay3 x0 x1 r k

/-- A tile's local index is the row and the column less the tile's first. -/
theorem local_ix (off : Nat) (r : Fin 256) (q : Fin 6144) (x : S256x1024.Idx) (h : ∀ a, ((ix2 r q : S256x6144.Idx) a : Nat) = (![0, off] : Fin 2 → Nat) a + x a) :
    ∃ l : Fin 1024, x = ix2 r l ∧ q.val = off + l.val := by
  obtain ⟨r', l, rfl⟩ : ∃ (r' : Fin 256) (l : Fin 1024), x = ix2 r' l := ⟨x 0, x 1, eq_ix2 x⟩
  have h0 : r.val = 0 + r'.val := h 0
  have h1 : q.val = off + l.val := h 1
  have : r' = r := Fin.ext (by omega)
  subst this
  exact ⟨l, rfl, h1⟩

/-- The four slabs of a tile are its heads, when the tile holds the products of its columns. -/
theorem slabs_eq (a : FVec Ideal S256x1024 .f32) (B : FVec Ideal S256x256 .bf16) (c0 c1 c2 c3 : FVec Ideal S1x256 .f32) (off : Nat) (ho : off % 256 = 0) (hb : off + 1024 ≤ 8192) (r : Fin 256) (l : Fin 1024)
    (q : Fin 8192) (h : q.val = off + l.val) (ha : ∀ (l' : Fin 1024) (q' : Fin 8192), q'.val = off + l'.val → a (ix2 r l') = dotAt x0 x1 x2 r q')
    (h0 : ∀ (l' : Fin 256) (q' : Fin 8192), q'.val = off + l'.val → c0 (ix2 0 l') = x3 (ix2 0 q'))
    (h1 : ∀ (l' : Fin 256) (q' : Fin 8192), q'.val = off + 256 + l'.val → c1 (ix2 0 l') = x3 (ix2 0 q'))
    (h2 : ∀ (l' : Fin 256) (q' : Fin 8192), q'.val = off + 512 + l'.val → c2 (ix2 0 l') = x3 (ix2 0 q'))
    (h3 : ∀ (l' : Fin 256) (q' : Fin 8192), q'.val = off + 768 + l'.val → c3 (ix2 0 l') = x3 (ix2 0 q')) :
    slabs r l B c0 c1 c2 c3 a = headAt x0 x1 x2 x3 B r q := by
  unfold slabs headAt
  have key : ∀ (y : Fin 256 → EReal) (g : EReal) (l' : Fin 256), (∀ k : Fin 256, y k = dotAt x0 x1 x2 r ⟨q.val / 256 * 256 + k.val, by omega⟩) → g = x3 (ix2 0 q) → l'.val = q.val % 256 →
      slabAt y B g l' = slabAt (fun k => dotAt x0 x1 x2 r ⟨q.val / 256 * 256 + k.val, by omega⟩) B (x3 (ix2 0 q)) ⟨q.val % 256, by omega⟩ := by
    intro y g l' hy hg hl
    obtain rfl : y = fun k => dotAt x0 x1 x2 r ⟨q.val / 256 * 256 + k.val, by omega⟩ := funext hy
    subst hg
    exact congrArg _ (Fin.ext hl)
  split_ifs with d0 d1 d2
  · exact key _ _ _ (fun k => ha _ _ (by dsimp only; omega)) (h0 _ _ (by dsimp only; omega)) (by dsimp only; omega)
  · exact key _ _ _ (fun k => ha _ _ (by dsimp only; omega)) (h1 _ _ (by dsimp only; omega)) (by dsimp only; omega)
  · exact key _ _ _ (fun k => ha _ _ (by dsimp only; omega)) (h2 _ _ (by dsimp only; omega)) (by dsimp only; omega)
  · exact key _ _ _ (fun k => ha _ _ (by dsimp only; omega)) (h3 _ _ (by dsimp only; omega)) (by dsimp only; omega)

/-- The tile of the queries. -/
theorem tile_q (r : Fin 256) (l : Fin 1024) (q : Fin 8192) (h : q.val = 3072 + l.val) :
    k0_pay9 (F := Ideal) (k0_pay93 x0 x1 x2 x3 x4 x5 x6 x7) (k0_pay94 x0 x1 x2 x3 x4 x5 x6 x7) (k0_pay95 x0 x1 x2 x3 x4 x5 x6 x7) (k0_pay96 x0 x1 x2 x3 x4 x5 x6 x7) (k0_pay97 x0 x1 x2 x3 x4 x5 x6 x7) (k0_pay91 x0 x1 x2 x3 x4 x5 x6 x7) (View.ld x3 r0_5) (View.ld x5 r0_3) (View.ld x3 r0_6) (View.ld x5 r0_3) (View.ld x3 r0_7) (ix2 r l)
      = headAt x0 x1 x2 x3 x5 r q := by
  unfold k0_pay93 k0_pay94 k0_pay95 k0_pay96 k0_pay97 k0_pay91
  rw [View.ld_unit_zero zero2, View.ld_unit_zero zero2, View.ld_unit_zero zero2]
  refine (pay9 _ _ _ r l _ _ _ _ _).trans ?_
  refine slabs_eq x0 x1 x2 x3 _ _ _ _ _ _ 3072 (by norm_num) (by norm_num) r l q h (fun l' q' h' => ?_) (fun l' q' h' => ld_r x3 3072 _ l' q' h') (fun l' q' h' => ld_r x3 3328 _ l' q' h')
    (fun l' q' h' => ld_r x3 3584 _ l' q' h') (fun l' q' h' => ld_r x3 3840 _ l' q' h')
  refine (pay4 _ _ _ r l').trans ?_
  exact Finset.sum_congr rfl fun k _ => congrArg (normed x0 x1 r k * ·) (ld_w x2 3072 _ k l' q' h')

/-- The tile of the keys. -/
theorem tile_k (r : Fin 256) (l : Fin 1024) (q : Fin 8192) (h : q.val = 4096 + l.val) :
    k0_pay38 (F := Ideal) (k0_pay100 x0 x1 x2 x3 x4 x5 x6 x7) (k0_pay101 x0 x1 x2 x3 x4 x5 x6 x7) (k0_pay102 x0 x1 x2 x3 x4 x5 x6 x7) (k0_pay103 x0 x1 x2 x3 x4 x5 x6 x7) (View.ld x5 r0_3) (View.ld x3 r0_32) (View.ld x5 r0_3) (View.ld x3 r0_33) (ix2 r l)
      = headAt x0 x1 x2 x3 x5 r q := by
  unfold k0_pay100 k0_pay101 k0_pay102 k0_pay103
  rw [View.ld_unit_zero zero2]
  refine (pay38 _ _ r l _ _ _ _ _).trans ?_
  refine slabs_eq x0 x1 x2 x3 _ _ _ _ _ _ 4096 (by norm_num) (by norm_num) r l q h (fun l' q' h' => ?_) (fun l' q' h' => ld_r x3 4096 _ l' q' h') (fun l' q' h' => ld_r x3 4352 _ l' q' h')
    (fun l' q' h' => ld_r x3 4608 _ l' q' h') (fun l' q' h' => ld_r x3 4864 _ l' q' h')
  refine (pay34 _ _ r l').trans ?_
  exact dot_tile x0 x1 x2 _ (shared x0 x1 x2 x3 x4 x5 x6 x7) 4096 _ r l' q' h'

/-- The block a grid point writes. -/
theorem out_at (r : Fin 256) (q : Fin 6144) : out0_8 (F := Ideal) x0 x1 x2 x3 x4 x5 x6 x7 (ix2 r q) = blockAt x0 x1 x2 x3 x5 r q := by
  have hs := shared x0 x1 x2 x3 x4 x5 x6 x7
  unfold out0_8
  refine View.canon_eq_of_allAt _ _ _ (cover0_8 _ _ _ _ _ _ _) ?_
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨l, rfl, h⟩ := local_ix 5120 r q x hx
    refine (pay2 _ _ r l).trans ?_
    unfold blockAt
    rw [dif_neg (by omega), dif_neg (by omega), dif_neg (by omega), dif_neg (by omega)]
    exact congrArg siluT (dot_tile x0 x1 x2 _ hs 7168 _ r l _ (by dsimp only; omega))
  · obtain ⟨l, rfl, h⟩ := local_ix 4096 r q x hx
    refine (pay1 _ _ _ r l).trans ?_
    unfold blockAt
    rw [dif_neg (by omega), dif_neg (by omega), dif_neg (by omega), dif_pos (by omega)]
    exact congrArg₂ (· * ·) (dot_tile x0 x1 x2 _ hs 1024 _ r l _ (by dsimp only; omega)) (dot_tile x0 x1 x2 _ hs 2048 _ r l _ (by dsimp only; omega))
  · obtain ⟨l, rfl, h⟩ := local_ix 3072 r q x hx
    refine (pay89 _ _ _ r l).trans ?_
    unfold blockAt
    rw [dif_neg (by omega), dif_neg (by omega), dif_pos (by omega)]
    exact congrArg₂ (· * ·) (dot_tile x0 x1 x2 _ hs 0 _ r l _ (by dsimp only; omega)) (congrArg siluT (dot_tile x0 x1 x2 _ hs 6144 _ r l _ (by dsimp only; omega)))
  · obtain ⟨l, rfl, h⟩ := local_ix 2048 r q x hx
    refine (pay63 _ _ r l).trans ?_
    unfold blockAt
    rw [dif_neg (by omega), dif_pos (by omega)]
    exact dot_tile x0 x1 x2 _ hs 5120 _ r l _ (by dsimp only; omega)
  · obtain ⟨l, rfl, h⟩ := local_ix 1024 r q x hx
    refine (tile_k x0 x1 x2 x3 x4 x5 x6 x7 r l ⟨q.val + 3072, by omega⟩ (by dsimp only; omega)).trans ?_
    unfold blockAt
    rw [dif_pos (by omega)]
  · obtain ⟨l, rfl, h⟩ := local_ix 0 r q x hx
    refine (tile_q x0 x1 x2 x3 x4 x5 x6 x7 r l ⟨q.val + 3072, by omega⟩ (by dsimp only; omega)).trans ?_
    unfold blockAt
    rw [dif_pos (by omega)]

end Tiles

end Cert.EvenProjIdeal.BlockValue
-- ==== Proof.EvenValue.lean ====
/-
  The even input projection's value: on finite arguments the array its kernel leaves is the reference's, row block by row block.
-/
module

public import proofs.«01_k».proof.Proof.Gen.EvenProjIdeal.Value
public import proofs.«01_k».proof.Proof.EvenRef
public import proofs.«01_k».proof.Proof.EvenHost
public import proofs.«01_k».proof.Proof.EvenBlock

@[expose] public section

set_option maxRecDepth 16384

noncomputable section

open Idealize.ShloMosaic Idealize.ShloMosaic.TcCoe Idealize.SL.Sem Cert.Gate Cert.Proof.Scalar
open Idealize.ShloMosaic.Pipeline (Dat)
open Cert.InProjRefIdeal.RowValue (IsReal)
open Cert.EvenProjRefIdeal.RowValue (proj rootOf)

namespace Cert.EvenProjIdeal.RefValue

open Cert.EvenProjIdeal Cert.EvenProjIdeal.Gen Cert.EvenProjIdeal.HostValue Cert.EvenProjIdeal.BlockValue

variable (m : (ℓ : Loc nD τ sig) → Buf (Elt Ideal) ℓ) (ρ : Dev nD → PrngReg)

/-- Device `c`'s five arguments. -/
abbrev A0 (c : Dev nD) : FVec Ideal S4x8192x1024 .f32 := m ((c : Thread nD τ).loc main_arg0)
abbrev A1 (c : Dev nD) : FVec Ideal S2x1024 .f32 := m ((c : Thread nD τ).loc main_arg1)
abbrev A2 (c : Dev nD) : FVec Ideal S2x1024x8192 .f32 := m ((c : Thread nD τ).loc main_arg2)
abbrev A3 (c : Dev nD) : FVec Ideal S2x64 .f32 := m ((c : Thread nD τ).loc main_arg3)
abbrev A4 (c : Dev nD) : FVec Ideal S2x64 .f32 := m ((c : Thread nD τ).loc main_arg4)

/-- The activations, the row gain and the weights hold real numbers. -/
def Finite : Prop := ∀ c : Dev nD, (∀ j, IsReal (A0 m c j)) ∧ (∀ j, IsReal (A1 m c j)) ∧ ∀ j, IsReal (A2 m c j)

/-- The reference's result on device `c`'s arguments: what the result array is shown to hold. -/
abbrev goal (c : Dev nD) : Buf (Elt Ideal) ((c : Thread nD τ).loc main_v71_0) :=
  Cert.EvenProjRefIdeal.Read.val_main_v71 (F := Ideal) (A0 m c) (A1 m c) (A2 m c) (A3 m c) (A4 m c)

/-- Where each window's block lies at a grid point: the row blocks move with the point, the others are fixed, the weights' at
    the second of the two stacked layers. -/
theorem index_facts : ∀ t : Fin grid0.N,
    (win0_0.index t 0 = t.val ∧ win0_0.index t 1 = 0)
    ∧ (win0_1.index t 0 = 0 ∧ win0_1.index t 1 = 0)
    ∧ (win0_2.index t 0 = 1 ∧ win0_2.index t 1 = 0 ∧ win0_2.index t 2 = 0)
    ∧ (win0_3.index t 0 = 0 ∧ win0_3.index t 1 = 0)
    ∧ (win0_5.index t 0 = 0 ∧ win0_5.index t 1 = 0)
    ∧ (win0_8.index t 0 = t.val ∧ win0_8.index t 1 = 0) := by decide +kernel

/-! A block read at an index is its array read where the block lies. -/

theorem read_x (A : Vec Ideal S32768x1024 .f32) (t : Fin cfg0.N) (i : S256x1024.Idx) (j : S32768x1024.Idx) (e : ((cfg0.win 0).blk t).view.emb i = j) :
    (((cfg0.win 0).blk t).view.read (Elt Ideal) A : Vec Ideal S256x1024 .f32) i = A j := by subst e; exact View.read_apply _ _
theorem read_g (A : Vec Ideal S1x1024 .f32) (t : Fin cfg0.N) (i : S1x1024.Idx) (j : S1x1024.Idx) (e : ((cfg0.win 1).blk t).view.emb i = j) :
    (((cfg0.win 1).blk t).view.read (Elt Ideal) A : Vec Ideal S1x1024 .f32) i = A j := by subst e; exact View.read_apply _ _
theorem read_w (A : Vec Ideal S2x1024x8192 .bf16) (t : Fin cfg0.N) (i : S1x1024x8192.Idx) (j : S2x1024x8192.Idx) (e : ((cfg0.win 2).blk t).view.emb i = j) :
    (((cfg0.win 2).blk t).view.read (Elt Ideal) A : Vec Ideal S1x1024x8192 .bf16) i = A j := by subst e; exact View.read_apply _ _
theorem read_m (A : Vec Ideal S1x8192 .f32) (t : Fin cfg0.N) (i : S1x8192.Idx) (j : S1x8192.Idx) (e : ((cfg0.win 3).blk t).view.emb i = j) :
    (((cfg0.win 3).blk t).view.read (Elt Ideal) A : Vec Ideal S1x8192 .f32) i = A j := by subst e; exact View.read_apply _ _
theorem read_h (A : Vec Ideal S256x256 .bf16) (t : Fin cfg0.N) (i : S256x256.Idx) (j : S256x256.Idx) (e : ((cfg0.win 5).blk t).view.emb i = j) :
    (((cfg0.win 5).blk t).view.read (Elt Ideal) A : Vec Ideal S256x256 .bf16) i = A j := by subst e; exact View.read_apply _ _
theorem read_o (A : Vec Ideal S32768x6144 .bf16) (t : Fin cfg0.N) (i : S256x6144.Idx) (j : S32768x6144.Idx) (e : ((cfg0.win 8).blk t).view.emb i = j) :
    (((cfg0.win 8).blk t).view.read (Elt Ideal) A : Vec Ideal S256x6144 .bf16) i = A j := by subst e; exact View.read_apply _ _

theorem emb_x (t : Fin cfg0.N) (h : t.val < 128) (r : Fin 256) (k : Fin 1024) :
    ((cfg0.win 0).blk t).view.emb (ix2 r k) = (ix2 (⟨t.val * 256 + r.val, by omega⟩ : Fin 32768) k : S32768x1024.Idx) := by
  obtain ⟨⟨h0, h1⟩, _⟩ := index_facts t
  funext a; apply Fin.ext
  match a with
  | ⟨0, _⟩ => show win0_0.index t 0 * 256 + 1 * r.val = t.val * 256 + r.val; rw [h0]; omega
  | ⟨1, _⟩ => show win0_0.index t 1 * 1024 + 1 * k.val = k.val; rw [h1]; omega

theorem emb_g (t : Fin cfg0.N) (k : Fin 1024) : ((cfg0.win 1).blk t).view.emb (ix2 0 k) = (ix2 0 k : S1x1024.Idx) := by
  obtain ⟨_, ⟨h0, h1⟩, _⟩ := index_facts t
  funext a; apply Fin.ext
  match a with
  | ⟨0, _⟩ => show win0_1.index t 0 * 1 + 1 * 0 = 0; rw [h0]
  | ⟨1, _⟩ => show win0_1.index t 1 * 1024 + 1 * k.val = k.val; rw [h1]; omega

theorem emb_w (t : Fin cfg0.N) (k : Fin 1024) (q : Fin 8192) : ((cfg0.win 2).blk t).view.emb (ix3 0 k q) = (ix3 1 k q : S2x1024x8192.Idx) := by
  obtain ⟨_, _, ⟨h0, h1, h2⟩, _⟩ := index_facts t
  funext a; apply Fin.ext
  match a with
  | ⟨0, _⟩ => show win0_2.index t 0 * 1 + 1 * 0 = 1; rw [h0]
  | ⟨1, _⟩ => show win0_2.index t 1 * 1024 + 1 * k.val = k.val; rw [h1]; omega
  | ⟨2, _⟩ => show win0_2.index t 2 * 8192 + 1 * q.val = q.val; rw [h2]; omega

theorem emb_m (t : Fin cfg0.N) (q : Fin 8192) : ((cfg0.win 3).blk t).view.emb (ix2 0 q) = (ix2 0 q : S1x8192.Idx) := by
  obtain ⟨_, _, _, ⟨h0, h1⟩, _⟩ := index_facts t
  funext a; apply Fin.ext
  match a with
  | ⟨0, _⟩ => show win0_3.index t 0 * 1 + 1 * 0 = 0; rw [h0]
  | ⟨1, _⟩ => show win0_3.index t 1 * 8192 + 1 * q.val = q.val; rw [h1]; omega

theorem emb_h (t : Fin cfg0.N) (k l : Fin 256) : ((cfg0.win 5).blk t).view.emb (ix2 k l) = (ix2 k l : S256x256.Idx) := by
  obtain ⟨_, _, _, _, ⟨h0, h1⟩, _⟩ := index_facts t
  funext a; apply Fin.ext
  match a with
  | ⟨0, _⟩ => show win0_5.index t 0 * 256 + 1 * k.val = k.val; rw [h0]; omega
  | ⟨1, _⟩ => show win0_5.index t 1 * 256 + 1 * l.val = l.val; rw [h1]; omega

theorem emb_o (t : Fin cfg0.N) (h : t.val < 128) (r : Fin 256) (q : Fin 6144) :
    ((cfg0.win 8).blk t).view.emb (ix2 r q) = (ix2 (⟨t.val * 256 + r.val, by omega⟩ : Fin 32768) q : S32768x6144.Idx) := by
  obtain ⟨_, _, _, _, _, ⟨h0, h1⟩⟩ := index_facts t
  funext a; apply Fin.ext
  match a with
  | ⟨0, _⟩ => show win0_8.index t 0 * 256 + 1 * r.val = t.val * 256 + r.val; rw [h0]; omega
  | ⟨1, _⟩ => show win0_8.index t 1 * 6144 + 1 * q.val = q.val; rw [h1]; omega

/-- The blocks a grid point finds, from the arguments. -/
theorem block_x (c : Dev nD) (t : Fin cfg0.N) (h : t.val < 128) (r : Fin 256) (k : Fin 1024) :
    (iblk m c 0 t : Vec Ideal S256x1024 .f32) (ix2 r k)
      = A0 m c (ix3 ⟨(t.val * 256 + r.val) / 8192, by omega⟩ ⟨(t.val * 256 + r.val) % 8192, by omega⟩ k) := by
  unfold iblk
  exact (read_x (V m c main_v0) t _ _ (emb_x t h r k)).trans (rows_x m c _ k)

theorem block_g (c : Dev nD) (t : Fin cfg0.N) (k : Fin 1024) : (iblk m c 1 t : Vec Ideal S1x1024 .f32) (ix2 0 k) = A1 m c (ix2 1 k) := by
  unfold iblk
  exact (read_g (V m c main_v70) t _ _ (emb_g t k)).trans (gain m c k)

theorem block_w (c : Dev nD) (t : Fin cfg0.N) (k : Fin 1024) (q : Fin 8192) :
    (iblk m c 2 t : Vec Ideal S1x1024x8192 .bf16) (ix3 0 k q) = A2 m c (ix3 1 k q) := by
  unfold iblk
  exact (read_w (V m c main_v27) t _ _ (emb_w t k q)).trans (congrFun (weights m c) _)

theorem block_q (c : Dev nD) (t : Fin cfg0.N) (q : Fin 8192) (h : 3072 ≤ q.val) (h' : q.val < 4096) :
    (iblk m c 3 t : Vec Ideal S1x8192 .f32) (ix2 0 q)
      = A3 m c (ix2 1 ⟨q.val % 64, by omega⟩) * (Ideal.ofBits FTy.f32 0x3E000000#32 * Ideal.div 1 (Ideal.log ((2 : ℝ) : EReal))) := by
  unfold iblk
  exact (read_m (V m c main_v24) t _ _ (emb_m t q)).trans (colscale_q m c q h h')

theorem block_k (c : Dev nD) (t : Fin cfg0.N) (q : Fin 8192) (h : 4096 ≤ q.val) (h' : q.val < 5120) :
    (iblk m c 3 t : Vec Ideal S1x8192 .f32) (ix2 0 q) = A4 m c (ix2 1 ⟨q.val % 64, by omega⟩) := by
  unfold iblk
  exact (read_m (V m c main_v24) t _ _ (emb_m t q)).trans (colscale_k m c q h h')

theorem block_b (c : Dev nD) (t : Fin cfg0.N) (k l : Fin 256) :
    (iblk m c 5 t : Vec Ideal S256x256 .bf16) (ix2 k l) = if k.val / 64 = l.val / 64 then ((1 / 64 : ℝ) : EReal) else 0 := by
  unfold iblk
  exact (read_h (V m c main_v39) t _ _ (emb_h t k l)).trans (means m c k l)

/-- The reference's projection, written out. -/
theorem proj_eq (x0 : FVec Ideal S4x8192x1024 .f32) (x1 : FVec Ideal S2x1024 .f32) (x2 : FVec Ideal S2x1024x8192 .f32) (r : Fin 32768) (q : Fin 8192) :
    proj x0 x1 x2 r q = ∑ k : Fin 1024,
      x0 (ix3 ⟨r.val / 8192, by omega⟩ ⟨r.val % 8192, by omega⟩ k)
        * Ideal.rsqrt (Ideal.div (∑ x : Fin 1024, x0 (ix3 ⟨r.val / 8192, by omega⟩ ⟨r.val % 8192, by omega⟩ x) * x0 (ix3 ⟨r.val / 8192, by omega⟩ ⟨r.val % 8192, by omega⟩ x))
            (Ideal.ofBits FTy.f32 1149239296#32) + Ideal.ofBits FTy.f32 897988541#32)
        * x1 (ix2 1 k) * x2 (ix3 1 k q) :=
  Cert.EvenProjRefIdeal.RowValue.proj_at x0 x1 x2 _ _ q

/-- The kernel's product on blocks that hold the arguments' entries. -/
theorem dot_of (X : FVec Ideal S256x1024 .f32) (G : FVec Ideal S1x1024 .f32) (W : FVec Ideal S1x1024x8192 .bf16)
    (x0 : FVec Ideal S4x8192x1024 .f32) (x1 : FVec Ideal S2x1024 .f32) (x2 : FVec Ideal S2x1024x8192 .f32) (r : Fin 256) (n : Fin 32768) (q : Fin 8192)
    (hX : ∀ k, X (ix2 r k) = x0 (ix3 ⟨n.val / 8192, by omega⟩ ⟨n.val % 8192, by omega⟩ k)) (hG : ∀ k, G (ix2 0 k) = x1 (ix2 1 k))
    (hW : ∀ k, W (ix3 0 k q) = x2 (ix3 1 k q)) : dotAt X G W r q = proj x0 x1 x2 n q := by
  rw [proj_eq]
  unfold dotAt normed
  simp only [hX, hG, hW]

/-- The kernel's product at a grid point is the reference's projection of its row. -/
theorem dot_eq (c : Dev nD) (t : Fin cfg0.N) (h : t.val < 128) (r : Fin 256) (q : Fin 8192) :
    dotAt (iblk m c 0 t) (iblk m c 1 t) (iblk m c 2 t) r q = proj (A0 m c) (A1 m c) (A2 m c) ⟨t.val * 256 + r.val, by omega⟩ q :=
  dot_of _ _ _ _ _ _ r _ q (fun k => block_x m c t h r k) (fun k => block_g m c t k) (fun k => block_w m c t k q)

/-- The kernel's normalised head is the reference's. -/
theorem head_of (X : FVec Ideal S256x1024 .f32) (G : FVec Ideal S1x1024 .f32) (W : FVec Ideal S1x1024x8192 .bf16) (M : FVec Ideal S1x8192 .f32) (B : FVec Ideal S256x256 .bf16)
    (x0 : FVec Ideal S4x8192x1024 .f32) (x1 : FVec Ideal S2x1024 .f32) (x2 : FVec Ideal S2x1024x8192 .f32)
    (f0 : ∀ j, IsReal (x0 j)) (f1 : ∀ j, IsReal (x1 j)) (f2 : ∀ j, IsReal (x2 j)) (r : Fin 256) (n : Fin 32768) (p : Fin 8192)
    (hd : ∀ q, dotAt X G W r q = proj x0 x1 x2 n q) (hB : ∀ k l : Fin 256, B (ix2 k l) = if k.val / 64 = l.val / 64 then ((1 / 64 : ℝ) : EReal) else 0) :
    headAt X G W M B r p = proj x0 x1 x2 n p * rootOf (fun x => proj x0 x1 x2 n ⟨p.val / 64 * 64 + x.val, by omega⟩) * M (ix2 0 p) := by
  unfold headAt slabAt
  simp only [hd]
  rw [Cert.HeadMean.head_mean (fun k : Fin 256 => proj x0 x1 x2 n ⟨p.val / 256 * 256 + k.val, by omega⟩)
    (fun k => Cert.EvenProjRefIdeal.RowValue.proj_real x0 x1 x2 f0 f1 f2 n _) (fun k => B (ix2 k ⟨p.val % 256, by omega⟩)) ⟨p.val % 256, by omega⟩ (fun k => hB k _)]
  unfold rootOf
  have e : ∀ x : Fin 64, proj x0 x1 x2 n ⟨p.val / 256 * 256 + (p.val % 256 / 64 * 64 + x.val), by omega⟩ = proj x0 x1 x2 n ⟨p.val / 64 * 64 + x.val, by omega⟩ :=
    fun x => Cert.EvenProjRefIdeal.RowValue.proj_col x0 x1 x2 (by dsimp only; omega)
  simp only [e]
  rw [Cert.EvenProjRefIdeal.RowValue.proj_col x0 x1 x2 (c := ⟨p.val / 256 * 256 + p.val % 256, by omega⟩) (c' := p) (by dsimp only; omega)]

/-- The block on blocks that hold the arguments' entries is the reference's rows. -/
theorem block_of (X : FVec Ideal S256x1024 .f32) (G : FVec Ideal S1x1024 .f32) (W : FVec Ideal S1x1024x8192 .bf16) (M : FVec Ideal S1x8192 .f32) (B : FVec Ideal S256x256 .bf16)
    (x0 : FVec Ideal S4x8192x1024 .f32) (x1 : FVec Ideal S2x1024 .f32) (x2 : FVec Ideal S2x1024x8192 .f32) (x3 x4 : FVec Ideal S2x64 .f32)
    (f0 : ∀ j, IsReal (x0 j)) (f1 : ∀ j, IsReal (x1 j)) (f2 : ∀ j, IsReal (x2 j))
    (r : Fin 256) (n : Fin 32768) (q : Fin 6144) (hd : ∀ q, dotAt X G W r q = proj x0 x1 x2 n q)
    (hB : ∀ k l : Fin 256, B (ix2 k l) = if k.val / 64 = l.val / 64 then ((1 / 64 : ℝ) : EReal) else 0)
    (hQ : ∀ p : Fin 8192, 3072 ≤ p.val → p.val < 4096 → M (ix2 0 p)
      = x3 (ix2 1 ⟨p.val % 64, by omega⟩) * (Ideal.ofBits FTy.f32 0x3E000000#32 * Ideal.div 1 (Ideal.log ((2 : ℝ) : EReal))))
    (hK : ∀ p : Fin 8192, 4096 ≤ p.val → p.val < 5120 → M (ix2 0 p) = x4 (ix2 1 ⟨p.val % 64, by omega⟩)) :
    blockAt X G W M B r q = Cert.EvenProjRefIdeal.Read.val_main_v71 (F := Ideal) x0 x1 x2 x3 x4 (ix2 n q) := by
  unfold blockAt
  by_cases h1 : q.val < 2048
  · rw [dif_pos h1, head_of X G W M B x0 x1 x2 f0 f1 f2 r n _ hd hB]
    by_cases h0 : q.val < 1024
    · rw [hQ _ (by dsimp only; omega) (by dsimp only; omega), Cert.EvenProjRefIdeal.RowValue.col_q x0 x1 x2 x3 x4 n q h0]
      exact congrArg (fun k => _ * (x3 (ix2 1 k) * _)) (Fin.ext (by dsimp only; omega))
    · rw [hK _ (by dsimp only; omega) (by dsimp only; omega), Cert.EvenProjRefIdeal.RowValue.col_k x0 x1 x2 x3 x4 n q (by omega) h1]
      exact congrArg (fun k => _ * x4 (ix2 1 k)) (Fin.ext (by dsimp only; omega))
  rw [dif_neg h1]
  by_cases h2 : q.val < 3072
  · rw [dif_pos h2, hd]
    exact (Cert.EvenProjRefIdeal.RowValue.col_v x0 x1 x2 x3 x4 n q (by omega) h2).symm
  rw [dif_neg h2]
  by_cases h3 : q.val < 4096
  · rw [dif_pos h3, hd, hd]
    exact (Cert.EvenProjRefIdeal.RowValue.col_g x0 x1 x2 x3 x4 f0 f1 f2 n q (by omega) h3 _ rfl).symm
  rw [dif_neg h3]
  by_cases h4 : q.val < 5120
  · rw [dif_pos h4, hd, hd]
    exact (Cert.EvenProjRefIdeal.RowValue.col_u x0 x1 x2 x3 x4 n q (by omega) h4).symm
  rw [dif_neg h4, hd]
  exact (Cert.EvenProjRefIdeal.RowValue.col_z x0 x1 x2 x3 x4 f0 f1 f2 n q (by omega) _ rfl).symm

/-- What a grid point writes back is its row block of the reference's result. -/
theorem flushed_eq (hfin : Finite m) (c : Dev nD) (t : Fin cfg0.N) :
    (dats m 0 c).flushed 8 t = ((cfg0.win 8).blk t).view.read (Elt Ideal) (goal m c) := by
  have h : t.val < 128 := t.isLt
  obtain ⟨f0, f1, f2⟩ := hfin c
  rw [Value.flushed8]
  show out0_8 (iblk m c 0 t) (iblk m c 1 t) (iblk m c 2 t) (iblk m c 3 t) (iblk m c 4 t) (iblk m c 5 t) (iblk m c 6 t) (iblk m c 7 t) = _
  funext j
  obtain ⟨r, q, rfl⟩ : ∃ (r : Fin 256) (q : Fin 6144), j = ix2 r q := ⟨j 0, j 1, eq_ix2 j⟩
  refine (out_at _ _ _ _ _ _ _ _ r q).trans (Eq.trans ?_ (read_o (goal m c) t _ _ (emb_o t h r q)).symm)
  exact block_of _ _ _ _ _ (A0 m c) (A1 m c) (A2 m c) (A3 m c) (A4 m c) f0 f1 f2 r _ q (dot_eq m c t h r) (block_b m c t) (block_q m c t) (block_k m c t)

/-- An index is in a point's block when its row is one of the point's 256 rows. -/
theorem mem_blk (t : Fin cfg0.N) (i : S32768x6144.Idx) (hi : t.val * 256 ≤ (i 0 : Nat) ∧ (i 0 : Nat) < t.val * 256 + 256) :
    i ∈ ((cfg0.win 8).blk t).view.set := by
  show i ∈ ((View.whole main_v71_0).slice (win0_8.rect t)).set
  rw [View.set_slice_whole, Rect.mem_set_unit]
  obtain ⟨_, _, _, _, _, ⟨h0, h1⟩⟩ := index_facts t
  have hl : (i 1 : Nat) < 6144 := (i 1).isLt
  have e0 : win0_8.index t 0 * 256 ≤ (i 0 : Nat) ∧ (i 0 : Nat) < win0_8.index t 0 * 256 + 256 := by
    obtain ⟨ha, hb⟩ := hi
    omega
  have e1 : win0_8.index t 1 * 6144 ≤ (i 1 : Nat) ∧ (i 1 : Nat) < win0_8.index t 1 * 6144 + 6144 := by omega
  intro a
  match a with
  | ⟨0, _⟩ => exact e0
  | ⟨1, _⟩ => exact e1

/-- The row blocks tile the result. -/
theorem cover (i : S32768x6144.Idx) :
    ∃ t : Fin cfg0.N, (cfg0.win 8).flush t = true ∧ i ∈ ((cfg0.win 8).blk t).view.set := by
  have h0 : (i 0 : Nat) < 32768 := (i 0).isLt
  have hN : cfg0.N = 128 := N_0
  refine ⟨⟨(i 0 : Nat) / 256, by omega⟩, flush0_8 _, mem_blk _ _ ?_⟩
  dsimp only
  omega

/-- So the result array ends at the reference's result. -/
theorem final (hfin : Finite m) (c : Dev nD) : (dats m 0 c).arrAt 8 cfg0.N = goal m c :=
  (dats m 0 c).arrAt_eq_of_cover 8 (goal m c) (fun t _ => flushed_eq m hfin c t) cover

/-- The run, read: the result array at the reference's result, the arguments unchanged. -/
theorem run (hfin : Finite m) : θ_run defs (onTc (τ := τ) (main (F := Ideal))) ⟨m, fun _ => 0, ρ⟩ fun r => ∀ c : Dev nD,
      r.2.mem ((c : Thread nD τ).loc main_v71_0) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m hfin c), (h c).2.2.2⟩) (Value.run_blocks m ρ)

end Cert.EvenProjIdeal.RefValue
-- ==== Proof.FirstRef.lean ====
/-
  The first odd input projection's reference, read at an index: the lower bound of a gate column is
  zero, the projection of real inputs is real, and each quarter of the columns holds its own function of it.
-/
module

public import proofs.«01_k».proof.Proof.Gen.FirstProjRefIdeal.Read
public import proofs.«01_k».proof.Proof.InRef
public import Idealize.ShloMosaic.Lib.Pointwise
public import Idealize.ShloMosaic.Lib.Claim

@[expose] public section

set_option maxRecDepth 16384

noncomputable section

open Idealize.ShloMosaic Cert.Gate Cert.Proof.Scalar

open Cert.InProjRefIdeal.RowValue (IsReal div_real scale_real width eps zero' one' two' negInf' fold_two W pos_row)

namespace Cert.FirstProjRefIdeal.RowValue

open Cert.FirstProjRefIdeal Cert.FirstProjRefIdeal.Gen Cert.FirstProjRefIdeal.Read

/-- The kernel's forget gate where the lower bound is zero. -/
def gateZ (p : EReal) : EReal := (min p 0 - Ideal.log (1 + Ideal.exp (0 - max p (-p)))) * L

/-- The reference's log-add-exp with the lower bound zero is the kernel's logarithm of the logistic function. -/
theorem gate_zero {f : EReal} (hf : ∃ r : ℝ, f = r) :
    Ideal.div (lae (Ideal.log 0) (Ideal.log (1 + -(0 : EReal)) + -(lae (-f) 0))) (Ideal.log ((2 : ℝ) : EReal)) = gateZ f := by
  obtain ⟨r, rfl⟩ := hf
  have hl2 : Ideal.log ((2 : ℝ) : EReal) = ((Real.log 2 : ℝ) : EReal) := by rw [log_coe, if_neg (by norm_num)]
  have hz : lae (-(r : EReal)) 0 = ((Real.log (Real.exp (-r) + 1) : ℝ) : EReal) := by
    rw [← EReal.coe_neg, ← EReal.coe_zero, lae_coe, Real.exp_zero]
  have h0 : Ideal.log (0 : EReal) = ⊥ := by rw [← EReal.coe_zero, log_coe, if_pos le_rfl]
  unfold gateZ
  rw [hl2, div_one_add log_two_pos, show ((1 / Real.log 2 : ℝ) : EReal) = L by unfold L; rw [one_div]]
  refine congrArg (· * L) ?_
  rw [neg_zero, add_zero, log_one, zero_add, h0, hz, ← EReal.coe_neg, lae_bot_left, zero_sub, ← EReal.coe_zero, ← EReal.coe_neg,
    ← EReal.coe_strictMono.monotone.map_max, ← EReal.coe_strictMono.monotone.map_min, ← EReal.coe_neg, exp_coe, ← EReal.coe_one, ← EReal.coe_add, log_coe,
    if_neg (by push Not; positivity), ← EReal.coe_sub]
  refine congrArg _ ?_
  rcases le_total r 0 with h | h
  · rw [min_eq_left h, max_eq_right (by linarith), neg_neg]
    have : Real.exp (-r) + 1 = Real.exp (-r) * (1 + Real.exp r) := by rw [mul_add, ← Real.exp_add]; simp
    rw [this, Real.log_mul (Real.exp_pos _).ne' (by positivity), Real.log_exp]; ring
  · rw [min_eq_right h, max_eq_left (by linarith), add_comm]; ring

/-- A running sum of two rows, at its first row. -/
theorem cumsum_first (x : FVec Ideal S2x2048 .f32) (v : FVec Ideal S_ .f32) (k : Fin 2048) :
    Host.reduceWindowAdd ![2, 1] ![1, 1] ![1, 0] ![0, 0] x v reduceWindows_S2x2048_S2x2048_w2s1p1_0_w1s1p0_0 h_S_ (ix2 0 k)
      = v (Shape.Idx.first h_S_) + v (Shape.Idx.first h_S_) + x (ix2 0 k) := by
  unfold Host.reduceWindowAdd
  show Ideal.hostReduceWindowAdd ![2, 1] ![1, 1] ![1, 0] ![0, 0] reduceWindows_S2x2048_S2x2048_w2s1p1_0_w1s1p0_0 x (v (Shape.Idx.first h_S_)) (ix2 0 k) = _
  unfold Ideal.hostReduceWindowAdd Host.reduceWindow
  refine (fold_two (by decide : W.numel = 2) _ _).trans ?_
  dsimp only
  rw [dif_neg, dif_pos]
  · refine congrArg₂ (· + ·) rfl (congrArg x ?_)
    funext a; apply Fin.ext
    have h1 : W.rowMajor.symm (Fin.cast (by decide : 2 = W.numel) 1) = (ix2 1 0 : W.Idx) := pos_row 1
    match a with
    | ⟨0, _⟩ => show 0 * 1 + (W.rowMajor.symm (Fin.cast (by decide : 2 = W.numel) 1) 0).val - 1 = 0; rw [h1]; rfl
    | ⟨1, _⟩ => show k.val * 1 + (W.rowMajor.symm (Fin.cast (by decide : 2 = W.numel) 1) 1).val - 0 = k.val; rw [h1]; show k.val * 1 + 0 - 0 = _; omega
  · have h1 : W.rowMajor.symm (Fin.cast (by decide : 2 = W.numel) 1) = (ix2 1 0 : W.Idx) := pos_row 1
    intro a
    match a with
    | ⟨0, _⟩ => show 1 ≤ 0 * 1 + (W.rowMajor.symm (Fin.cast (by decide : 2 = W.numel) 1) 0).val ∧ 0 * 1 + (W.rowMajor.symm (Fin.cast (by decide : 2 = W.numel) 1) 0).val - 1 < 2; rw [h1]; decide
    | ⟨1, _⟩ => show 0 ≤ k.val * 1 + (W.rowMajor.symm (Fin.cast (by decide : 2 = W.numel) 1) 1).val ∧ k.val * 1 + (W.rowMajor.symm (Fin.cast (by decide : 2 = W.numel) 1) 1).val - 0 < 2048; rw [h1]; show 0 ≤ k.val * 1 + 0 ∧ k.val * 1 + 0 - 0 < 2048; omega
  · intro h
    have h0 : W.rowMajor.symm (Fin.cast (by decide : 2 = W.numel) 0) = (ix2 0 0 : W.Idx) := pos_row 0
    have h2 : 1 ≤ 0 * 1 + (W.rowMajor.symm (Fin.cast (by decide : 2 = W.numel) 0) 0).val := (h 0).1
    rw [h0] at h2
    exact absurd h2 (by decide)

/-- The largest of two real rows is real. -/
theorem largest_real (x3 : FVec Ideal S2x2048 .f32) (u w : ℝ) (k : Fin 2048) (hu : x3 (ix2 0 k) = (u : EReal)) (hw : x3 (ix2 1 k) = (w : EReal)) :
    val_main_v2 (F := Ideal) x3 (ix1 k) = ((max u w : ℝ) : EReal) := by
  have e0 : val_main_cst (F := Ideal) (Shape.Idx.first h_S_) = (⊥ : EReal) := negInf'
  have e1 : ∀ j, val_main_cst_0 (F := Ideal) j = (⊥ : EReal) := fun _ => negInf'
  pointwise [val_main_v2, val_main_v1, val_main_v0]
  rw [e0, e1]
  rw [show (Finset.univ : Finset (Fin 2)) = {0, 1} from rfl, Finset.fold_insert (by decide), Finset.fold_singleton]
  refine (max_eq_right bot_le).trans ?_
  refine Eq.trans (congrArg₂ max hu (congrArg₂ max hw rfl)) ?_
  rw [max_eq_left (a := (w : EReal)) bot_le]
  exact (EReal.coe_strictMono.monotone.map_max).symm

/-- Each row's share, from real numbers. -/
theorem share_real (x3 : FVec Ideal S2x2048 .f32) (u w : ℝ) (k : Fin 2048) (hu : x3 (ix2 0 k) = (u : EReal)) (hw : x3 (ix2 1 k) = (w : EReal))
    (r : Fin 2) :
    val_main_v10 (F := Ideal) x3 (ix2 r k)
      = (((![Real.exp (u - max u w), Real.exp (w - max u w)] r) / (Real.exp (u - max u w) + Real.exp (w - max u w)) : ℝ) : EReal) := by
  have e0 : val_main_cst_1 (F := Ideal) (Shape.Idx.first h_S_) = (0 : EReal) := zero'
  have hm := largest_real x3 u w k hu hw
  pointwise [val_main_v10, val_main_v9, val_main_v8, val_main_v7, val_main_v6, val_main_v5, val_main_v4, val_main_v3]
  rw [e0, hm, zero_add, Fin.sum_univ_two, hu, hw, ← EReal.coe_sub, ← EReal.coe_sub, exp_coe, exp_coe, ← EReal.coe_add]
  have q0 : 0 < Real.exp (u - max u w) := Real.exp_pos _
  have q1 : 0 < Real.exp (w - max u w) := Real.exp_pos _
  have e : Ideal.exp (x3 (ix2 r k) - ((max u w : ℝ) : EReal)) = ((![Real.exp (u - max u w), Real.exp (w - max u w)] r : ℝ) : EReal) := by
    match r with
    | ⟨0, _⟩ => exact (congrArg (fun z => Ideal.exp (z - ((max u w : ℝ) : EReal))) hu).trans (by rw [← EReal.coe_sub, exp_coe]; rfl)
    | ⟨1, _⟩ => exact (congrArg (fun z => Ideal.exp (z - ((max u w : ℝ) : EReal))) hw).trans (by rw [← EReal.coe_sub, exp_coe]; rfl)
  rw [e]
  exact div_real _ (by positivity)

/-- The lower bound of a gate column is the first row of the running sum less itself: zero. -/
theorem bound_zero (x3 : FVec Ideal S2x2048 .f32) (hx : ∀ j, ∃ z : ℝ, x3 j = (z : EReal)) (k : Fin 2048) :
    val_main_v16 (F := Ideal) x3 (ix1 k) = 0 := by
  have hc0 := cumsum_first (val_main_v10 (F := Ideal) x3) (val_main_call0_call0_v0 (F := Ideal)) k
  obtain ⟨u, hu⟩ := hx (ix2 0 k)
  obtain ⟨w, hw⟩ := hx (ix2 1 k)
  have hv : val_main_call0_call0_v0 (F := Ideal) (Shape.Idx.first h_S_) = (0 : EReal) := zero'
  rw [hv, share_real x3 u w k hu hw] at hc0
  pointwise [val_main_v16, val_main_v15, val_main_v14, val_main_v13, val_main_v12]
  have a0 : val_main_v11 (F := Ideal) x3 (ix2 0 k) = _ := hc0
  rw [a0, zero_add, zero_add, ← EReal.coe_sub, sub_self]
  rfl

/-- The projection, written out: a row scaled by the reciprocal root of its mean square, times the gain, times the weights. -/
theorem proj_at (x0 : FVec Ideal S4x8192x1024 .f32) (x1 : FVec Ideal S2x1024 .f32) (x2 : FVec Ideal S2x1024x8192 .f32) (b : Fin 4) (s c : Fin 8192) :
    val_main_v34 (F := Ideal) x0 x1 x2 (ix3 b s c) = ∑ k : Fin 1024,
      x0 (ix3 b s k) * Ideal.rsqrt (Ideal.div (∑ x : Fin 1024, x0 (ix3 b s x) * x0 (ix3 b s x)) (Ideal.ofBits FTy.f32 1149239296#32) + Ideal.ofBits FTy.f32 897988541#32)
        * x1 (ix2 0 k) * x2 (ix3 0 k c) := by
  have e2 : val_main_cst_2 (F := Ideal) (Shape.Idx.first h_S_) = (0 : EReal) := zero'
  pointwise [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17]
  rw [e2, zero_add]
  rfl

/-- A projected entry of real inputs is real. -/
theorem proj_real (x0 : FVec Ideal S4x8192x1024 .f32) (x1 : FVec Ideal S2x1024 .f32) (x2 : FVec Ideal S2x1024x8192 .f32)
    (h0 : ∀ j, IsReal (x0 j)) (h1 : ∀ j, IsReal (x1 j)) (h2 : ∀ j, IsReal (x2 j)) (b : Fin 4) (s c : Fin 8192) :
    IsReal (val_main_v34 (F := Ideal) x0 x1 x2 (ix3 b s c)) := by
  have e3 : Ideal.ofBits FTy.f32 1149239296#32 = ((1024 : ℝ) : EReal) := width
  obtain ⟨e, he, e4⟩ := eps
  have e4 : Ideal.ofBits FTy.f32 897988541#32 = (e : EReal) := e4
  rw [proj_at, e3, e4]
  have hs := scale_real (fun i => h0 (ix3 b s i)) (show (0 : ℝ) < 1024 by norm_num) he
  exact IsReal.sum fun x => (((h0 _).mul hs).mul (h1 _)).mul (h2 _)

section Columns

variable (x0 : FVec Ideal S4x8192x1024 .f32) (x1 : FVec Ideal S2x1024 .f32) (x2 : FVec Ideal S2x1024x8192 .f32) (x3 : FVec Ideal S2x2048 .f32)

/-- An extended real is not unequal to itself. -/
theorem same_cmp (x : Ideal .f32) : FloatOps.cmpf .une x x = 0#1 := by
  show Ideal.cmp .une x x = _
  simp [Ideal.cmp]

/-- The columns of the queries. -/
theorem silu_q (b : Fin 4) (s : Fin 8192) (k : Fin 2048) :
    val_main_v60 (F := Ideal) x0 x1 x2 (ix3 b s k)
      = val_main_v34 (F := Ideal) x0 x1 x2 (ix3 b s ⟨k.val, by omega⟩)
        * Ideal.div 1 (1 + Ideal.exp (-(val_main_v34 (F := Ideal) x0 x1 x2 (ix3 b s ⟨k.val, by omega⟩)))) := by
  have e : ∀ j, val_main_call2_cst (F := Ideal) j = (1 : EReal) := fun _ => one'
  have e' : ∀ j, val_main_call2_cst_0 (F := Ideal) j = (1 : EReal) := fun _ => one'
  pointwise [val_main_v60, val_main_v35, val_main_call2_v0, val_main_call2_v1, val_main_call2_v2, val_main_call2_v3, val_main_call2_v4, val_main_call2_v5]
  rw [e, e']

theorem silu_z (b : Fin 4) (s : Fin 8192) (k : Fin 2048) :
    val_main_v64 (F := Ideal) x0 x1 x2 (ix3 b s k)
      = val_main_v34 (F := Ideal) x0 x1 x2 (ix3 b s ⟨6144 + k.val, by omega⟩)
        * Ideal.div 1 (1 + Ideal.exp (-(val_main_v34 (F := Ideal) x0 x1 x2 (ix3 b s ⟨6144 + k.val, by omega⟩)))) := by
  have e : ∀ j, val_main_call3_cst (F := Ideal) j = (1 : EReal) := fun _ => one'
  have e' : ∀ j, val_main_call3_cst_0 (F := Ideal) j = (1 : EReal) := fun _ => one'
  pointwise [val_main_v64, val_main_v38, val_main_call3_v0, val_main_call3_v1, val_main_call3_v2, val_main_call3_v3, val_main_call3_v4, val_main_call3_v5]
  rw [e, e']

/-- The columns of the gate. -/
theorem gate_f (b : Fin 4) (s : Fin 8192) (k : Fin 2048) :
    val_main_v63 (F := Ideal) x0 x1 x2 x3 (ix3 b s k)
      = Ideal.div (lae (Ideal.log (val_main_v16 (F := Ideal) x3 (ix1 k)))
          (Ideal.log (1 + -(val_main_v16 (F := Ideal) x3 (ix1 k)))
            + -(lae (-(val_main_v34 (F := Ideal) x0 x1 x2 (ix3 b s ⟨2048 + k.val, by omega⟩))) 0)))
          (Ideal.log ((2 : ℝ) : EReal)) := by
  have e5 : ∀ j, val_main_cst_5 (F := Ideal) j = ((2 : ℝ) : EReal) := fun _ => two'
  have ec : ∀ j, val_main_call1_call0_cst (F := Ideal) j = (0 : EReal) := fun _ => zero'
  have n : val_main_v42 (F := Ideal) x0 x1 x2 (ix3 b s k) = -(lae (-(val_main_v34 (F := Ideal) x0 x1 x2 (ix3 b s ⟨2048 + k.val, by omega⟩))) 0) := by
    pointwise [val_main_v42, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_v0, val_main_v36]
    rw [ec, if_neg (not_not_intro rfl)]
    rfl
  pointwise [val_main_v63, val_main_v62, val_main_v61, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v41, val_main_v40, val_main_v39]
  rw [e5, if_neg (not_not_intro rfl), n]
  rfl

/-- A row of the projection. -/
def proj (r : Fin 32768) (c : Fin 8192) : EReal :=
  val_main_v34 (F := Ideal) x0 x1 x2 (ix3 ⟨r.val / 8192, by omega⟩ ⟨r.val % 8192, by omega⟩ c)

/-- The written array, by quarters of its columns. -/
theorem at_column (r : Fin 32768) (c : Fin 8192) :
    val_main_v67 (F := Ideal) x0 x1 x2 x3 (ix2 r c)
      = (if h : c.val < 2048 then val_main_v60 (F := Ideal) x0 x1 x2 (ix3 ⟨r.val / 8192, by omega⟩ ⟨r.val % 8192, by omega⟩ ⟨c.val, h⟩)
        else if h : c.val - 2048 < 2048 then
          val_main_v63 (F := Ideal) x0 x1 x2 x3 (ix3 ⟨r.val / 8192, by omega⟩ ⟨r.val % 8192, by omega⟩ ⟨c.val - 2048, h⟩)
        else if h : c.val - 2048 - 2048 < 2048 then
          val_main_v34 (F := Ideal) x0 x1 x2 (ix3 ⟨r.val / 8192, by omega⟩ ⟨r.val % 8192, by omega⟩ ⟨4096 + (c.val - 2048 - 2048), by omega⟩)
        else val_main_v64 (F := Ideal) x0 x1 x2 (ix3 ⟨r.val / 8192, by omega⟩ ⟨r.val % 8192, by omega⟩ ⟨c.val - 2048 - 2048 - 2048, by omega⟩) : EReal) := by
  pointwise [val_main_v67, val_main_v66, val_main_v65, val_main_v37]

theorem col_i (r : Fin 32768) (c : Fin 8192) (h4 : 4096 ≤ c.val) (h6 : c.val < 6144) :
    val_main_v67 (F := Ideal) x0 x1 x2 x3 (ix2 r c) = proj x0 x1 x2 r c := by
  rw [at_column, dif_neg (by omega), dif_neg (by omega), dif_pos (by omega)]
  unfold proj
  exact congrArg (fun k => val_main_v34 (F := Ideal) x0 x1 x2 (ix3 _ _ k)) (Fin.ext (by show 4096 + (c.val - 2048 - 2048) = c.val; omega))

variable (h0 : ∀ j, IsReal (x0 j)) (h1 : ∀ j, IsReal (x1 j)) (h2 : ∀ j, IsReal (x2 j)) (h3 : ∀ j, IsReal (x3 j))

include h0 h1 h2 in
theorem col_q (r : Fin 32768) (c : Fin 8192) (hc : c.val < 2048) :
    val_main_v67 (F := Ideal) x0 x1 x2 x3 (ix2 r c)
      = half * proj x0 x1 x2 r c + half * proj x0 x1 x2 r c * Ideal.tanh (half * proj x0 x1 x2 r c) := by
  rw [at_column, dif_pos hc, silu_q]
  exact (silu_half (proj_real x0 x1 x2 h0 h1 h2 _ _ _)).symm

include h0 h1 h2 in
theorem col_z (r : Fin 32768) (c : Fin 8192) (hc : 6144 ≤ c.val) :
    val_main_v67 (F := Ideal) x0 x1 x2 x3 (ix2 r c)
      = half * proj x0 x1 x2 r c + half * proj x0 x1 x2 r c * Ideal.tanh (half * proj x0 x1 x2 r c) := by
  rw [at_column, dif_neg (by omega), dif_neg (by omega), dif_neg (by omega), silu_z]
  have e : (⟨6144 + (c.val - 2048 - 2048 - 2048), by omega⟩ : Fin 8192) = c := Fin.ext (by show 6144 + (c.val - 2048 - 2048 - 2048) = c.val; omega)
  refine Eq.trans ?_ (silu_half (proj_real x0 x1 x2 h0 h1 h2 _ _ _)).symm
  exact congrArg (fun k => val_main_v34 (F := Ideal) x0 x1 x2 (ix3 _ _ k) * Ideal.div 1 (1 + Ideal.exp (-(val_main_v34 (F := Ideal) x0 x1 x2 (ix3 _ _ k))))) e

include h0 h1 h2 h3 in
theorem col_f (r : Fin 32768) (c : Fin 8192) (hc : 2048 ≤ c.val) (hc' : c.val < 4096) :
    val_main_v67 (F := Ideal) x0 x1 x2 x3 (ix2 r c) = gateZ (proj x0 x1 x2 r c) := by
  rw [at_column, dif_neg (by omega), dif_pos (by omega), gate_f, bound_zero x3 h3, gate_zero (proj_real x0 x1 x2 h0 h1 h2 _ _ _)]
  have e : (⟨2048 + (c.val - 2048), by omega⟩ : Fin 8192) = c := Fin.ext (by show 2048 + (c.val - 2048) = c.val; omega)
  unfold proj
  exact congrArg (fun k => gateZ (val_main_v34 (F := Ideal) x0 x1 x2 (ix3 _ _ k))) e

end Columns

end Cert.FirstProjRefIdeal.RowValue
-- ==== Proof.FirstHost.lean ====
/-
  The first odd input projection's prepared arrays: what the launch finds in the windows' arrays, from the arguments.
-/
module

public import proofs.«01_k».proof.Proof.Gen.FirstProjIdeal.Frame
public import proofs.«01_k».proof.Proof.FirstRef
public import Idealize.ShloMosaic.Lib.StableHlo.ReadAt
public import Idealize.ShloMosaic.Lib.Routing.OpsSet
public import Idealize.ShloMosaic.Lib.Routing.OpsOne
public import Idealize.ShloMosaic.Lib.Routing.OpsPair
public import Idealize.ShloMosaic.Lib.Pointwise
public import Idealize.ShloMosaic.Lib.Claim

@[expose] public section

set_option maxRecDepth 16384

noncomputable section

open Idealize.ShloMosaic Idealize.ShloMosaic.TcCoe Cert.Gate
open Idealize.ShloMosaic.Routing

namespace Cert.FirstProjIdeal.HostValue

open Cert.FirstProjIdeal Cert.FirstProjIdeal.Gen

variable (m : (ℓ : Loc nD τ sig) → Buf (Elt Ideal) ℓ) (c : Dev nD)

/-- The rows of `x`, the batch and the position as one axis. -/
theorem rows_x (r : Fin 32768) (k : Fin 1024) : (V m c main_v0 : FVec Ideal S32768x1024 .f32) (ix2 r k)
    = (m ((c : Thread nD τ).loc main_arg0) : FVec Ideal S4x8192x1024 .f32) (ix3 ⟨r.val / 8192, by omega⟩ ⟨r.val % 8192, by omega⟩ k) := by
  unfold V
  simp only [List.flatten_cons, List.flatten_nil, List.append_nil, StableHlo.after_append]
  after_reads_at

theorem weights : V m c main_v39 = (m ((c : Thread nD τ).loc main_arg2) : FVec Ideal S2x1024x8192 .f32) := by
  unfold V
  simp only [List.flatten_cons, List.flatten_nil, List.append_nil, StableHlo.after_append]
  after_reads_at
  rfl

/-- The gain's row is the first of the two layers'. -/
theorem gain (k : Fin 1024) : (V m c main_v40 : FVec Ideal S1x1024 .f32) (ix2 0 k) = (m ((c : Thread nD τ).loc main_arg1) : FVec Ideal S2x1024 .f32) (ix2 0 k) := by
  unfold V
  simp only [List.flatten_cons, List.flatten_nil, List.append_nil, StableHlo.after_append]
  after_reads_at

end Cert.FirstProjIdeal.HostValue
-- ==== Proof.FirstBlock.lean ====
/-
  One grid point of the first odd input projection: the eight column tiles it writes, read as one function of the row and the column.
-/
module

public import proofs.«01_k».proof.Proof.Gen.FirstProjIdeal.Frame
public import proofs.«01_k».proof.Proof.FirstRef
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

open Cert.FirstProjRefIdeal.RowValue (gateZ)
open Idealize.ShloMosaic Cert.Gate Cert.Proof.Scalar Cert.FirstProjIdeal Cert.FirstProjIdeal.Gen

namespace Cert.FirstProjIdeal.BlockValue

/-- The half the kernel writes. -/
theorem half_word : Ideal.ofBits FTy.f32 1056964608#32 = half := by
  unfold half
  simp [Ideal.ofBits, Ideal.ieee, -EReal.coe_mul, ← EReal.coe_mul]
  norm_num

/-- The normalised row. -/
def normed (x0 : FVec Ideal S512x1024 .f32) (x1 : FVec Ideal S1x1024 .f32) (r : Fin 512) (k : Fin 1024) : EReal :=
  x0 (ix2 r k) * Ideal.rsqrt (Ideal.div (∑ x : Fin 1024, x0 (ix2 r x) * x0 (ix2 r x)) (Ideal.ofBits FTy.f32 1149239296#32) + Ideal.ofBits FTy.f32 897988541#32)
    * x1 (ix2 0 k)

/-- Its product with a column of the weights. -/
def dotAt (x0 : FVec Ideal S512x1024 .f32) (x1 : FVec Ideal S1x1024 .f32) (x2 : FVec Ideal S1x1024x8192 .bf16) (r : Fin 512) (q : Fin 8192) : EReal :=
  ∑ k : Fin 1024, normed x0 x1 r k * x2 (ix3 0 k q)

/-- The silu the kernel writes. -/
def siluT (p : EReal) : EReal := half * p + half * p * Ideal.tanh (half * p)

/-- The whole row block. -/
def blockAt (x0 : FVec Ideal S512x1024 .f32) (x1 : FVec Ideal S1x1024 .f32) (x2 : FVec Ideal S1x1024x8192 .bf16)
    (r : Fin 512) (q : Fin 8192) : EReal :=
  if q.val < 2048 then siluT (dotAt x0 x1 x2 r q)
  else if q.val < 4096 then gateZ (dotAt x0 x1 x2 r q)
  else if q.val < 6144 then dotAt x0 x1 x2 r q
  else siluT (dotAt x0 x1 x2 r q)

section Pays

variable (x0 : FVec Ideal S512x1024 .f32) (x1 : FVec Ideal S1x1024 .f32) (w : FVec Ideal S1x1024x1024 .bf16)
  (n : FVec Ideal S512x1024 .bf16) (r : Fin 512) (l : Fin 1024)

theorem pay5 : k0_pay5 (F := Ideal) x0 x1 (ix2 r l) = normed x0 x1 r l := by
  pointwise [k0_pay5, normed]

theorem pay6 : k0_pay6 (F := Ideal) x0 x1 w (ix2 r l) = siluT (∑ k : Fin 1024, normed x0 x1 r k * w (ix3 0 k l)) := by
  pointwise [k0_pay6]
  simp only [pay5, half_word]
  rfl

theorem pay7 : k0_pay7 (F := Ideal) x0 x1 w (ix2 r l) = siluT (∑ k : Fin 1024, normed x0 x1 r k * w (ix3 0 k l)) := by
  pointwise [k0_pay7]
  simp only [pay5, half_word]
  rfl

theorem pay8 : k0_pay8 (F := Ideal) n w (ix2 r l) = gateZ (∑ k : Fin 1024, n (ix2 r k) * w (ix3 0 k l)) := by
  pointwise [k0_pay8]
  rfl

theorem pay9 : k0_pay9 (F := Ideal) n w (ix2 r l) = gateZ (∑ k : Fin 1024, n (ix2 r k) * w (ix3 0 k l)) := by
  pointwise [k0_pay9]
  rfl

theorem pay1 : k0_pay1 (F := Ideal) n w (ix2 r l) = ∑ k : Fin 1024, n (ix2 r k) * w (ix3 0 k l) := by
  pointwise [k0_pay1]

theorem pay2 : k0_pay2 (F := Ideal) n w (ix2 r l) = ∑ k : Fin 1024, n (ix2 r k) * w (ix3 0 k l) := by
  pointwise [k0_pay2]

theorem pay3 : k0_pay3 (F := Ideal) n w (ix2 r l) = siluT (∑ k : Fin 1024, n (ix2 r k) * w (ix3 0 k l)) := by
  pointwise [k0_pay3]
  simp only [half_word]
  rfl

theorem pay4 : k0_pay4 (F := Ideal) n w (ix2 r l) = siluT (∑ k : Fin 1024, n (ix2 r k) * w (ix3 0 k l)) := by
  pointwise [k0_pay4]
  simp only [half_word]
  rfl

end Pays

theorem zero2 : (![0, 0] : Fin 2 → Nat) = fun _ => 0 := funext fun a => by fin_cases a <;> rfl

/-- A tile of the weights' columns. -/
theorem ld_w (x2 : Vec Ideal S1x1024x8192 .bf16) (off : Nat) (inb : ∀ a, (![0, 0, off] : Fin 3 → Nat) a + S1x1024x1024.size a ≤ S1x1024x8192.size a) (k l : Fin 1024) (q : Fin 8192) (h : q.val = off + l.val) :
    (View.ld (x2 : Vec Ideal S1x1024x8192 .bf16) (Rect.unit (s := S1x1024x8192) ![0, 0, off] S1x1024x1024.size inb) : Vec Ideal S1x1024x1024 .bf16) (ix3 0 k l) = x2 (ix3 0 k q) := by
  refine View.ld_unit_apply_of x2 _ _ inb _ (ix3 0 k q) ?_
  intro a
  match a with
  | ⟨0, _⟩ => rfl
  | ⟨1, _⟩ => show k.val = 0 + k.val; omega
  | ⟨2, _⟩ => exact h

section Tiles

variable (x0 : Vec Ideal S512x1024 .f32) (x1 : Vec Ideal S1x1024 .f32) (x2 : Vec Ideal S1x1024x8192 .bf16) (x3 x4 : Vec Ideal S1x8192 .f32)
  (x5 : Vec Ideal S256x256 .bf16)

/-- The product over a tile of the weights is the product at the tile's column. -/
theorem dot_tile (off : Nat) (inb : ∀ a, (![0, 0, off] : Fin 3 → Nat) a + S1x1024x1024.size a ≤ S1x1024x8192.size a) (r : Fin 512) (l : Fin 1024) (q : Fin 8192) (h : q.val = off + l.val) :
    ∑ k : Fin 1024, normed x0 x1 r k * (View.ld (x2 : Vec Ideal S1x1024x8192 .bf16) (Rect.unit (s := S1x1024x8192) ![0, 0, off] S1x1024x1024.size inb) : Vec Ideal S1x1024x1024 .bf16) (ix3 0 k l)
      = dotAt x0 x1 x2 r q :=
  Finset.sum_congr rfl fun k _ => congrArg (normed x0 x1 r k * ·) (ld_w x2 off inb k l q h)

/-- The normalised rows, shared by the later tiles. -/
theorem shared (r : Fin 512) (k : Fin 1024) : k0_pay10 (F := Ideal) x0 x1 x2 x3 x4 x5 (ix2 r k) = normed x0 x1 r k := by
  unfold k0_pay10
  rw [View.ld_unit_zero zero2, View.ld_unit_zero zero2]
  exact pay5 x0 x1 r k

theorem dot_shared (off : Nat) (inb : ∀ a, (![0, 0, off] : Fin 3 → Nat) a + S1x1024x1024.size a ≤ S1x1024x8192.size a) (r : Fin 512) (l : Fin 1024) (q : Fin 8192) (h : q.val = off + l.val) :
    ∑ k : Fin 1024, k0_pay10 (F := Ideal) x0 x1 x2 x3 x4 x5 (ix2 r k) * (View.ld (x2 : Vec Ideal S1x1024x8192 .bf16) (Rect.unit (s := S1x1024x8192) ![0, 0, off] S1x1024x1024.size inb) : Vec Ideal S1x1024x1024 .bf16) (ix3 0 k l)
      = dotAt x0 x1 x2 r q :=
  Finset.sum_congr rfl fun k _ => congrArg₂ (· * ·) (shared x0 x1 x2 x3 x4 x5 r k) (ld_w x2 off inb k l q h)

/-- A tile's local index is the row and the column less the tile's first. -/
theorem local_ix (off : Nat) (r : Fin 512) (q : Fin 8192) (x : S512x1024.Idx) (h : ∀ a, ((ix2 r q : S512x8192.Idx) a : Nat) = (![0, off] : Fin 2 → Nat) a + x a) :
    ∃ l : Fin 1024, x = ix2 r l ∧ q.val = off + l.val := by
  obtain ⟨r', l, rfl⟩ : ∃ (r' : Fin 512) (l : Fin 1024), x = ix2 r' l := ⟨x 0, x 1, eq_ix2 x⟩
  have h0 : r.val = 0 + r'.val := h 0
  have h1 : q.val = off + l.val := h 1
  have : r' = r := Fin.ext (by omega)
  subst this
  exact ⟨l, rfl, h1⟩

/-- The block a grid point writes. -/
theorem out_at (r : Fin 512) (q : Fin 8192) : out0_6 (F := Ideal) x0 x1 x2 x3 x4 x5 (ix2 r q) = blockAt x0 x1 x2 r q := by
  unfold out0_6
  rw [View.ld_unit_zero zero2, View.ld_unit_zero zero2]
  refine View.canon_eq_of_allAt _ _ _ (cover0_6 _ _ _ _ _ _ _ _ _) ?_
  refine View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <|
    View.allAt_cons_unit _ _ _ _ _ (fun x hx => ?_) <| View.allAt_cons_unit _ _ _ _ _ (fun x hx => ?_) <| View.allAt_nil _ _
  · obtain ⟨l, rfl, h⟩ := local_ix 7168 r q x hx
    refine (pay4 _ _ r l).trans ?_
    unfold blockAt
    rw [if_neg (by omega), if_neg (by omega), if_neg (by omega)]
    exact congrArg siluT (dot_shared x0 x1 x2 x3 x4 x5 7168 _ r l q h)
  · obtain ⟨l, rfl, h⟩ := local_ix 6144 r q x hx
    refine (pay3 _ _ r l).trans ?_
    unfold blockAt
    rw [if_neg (by omega), if_neg (by omega), if_neg (by omega)]
    exact congrArg siluT (dot_shared x0 x1 x2 x3 x4 x5 6144 _ r l q h)
  · obtain ⟨l, rfl, h⟩ := local_ix 5120 r q x hx
    refine (pay2 _ _ r l).trans ?_
    unfold blockAt
    rw [if_neg (by omega), if_neg (by omega), if_pos (by omega)]
    exact dot_shared x0 x1 x2 x3 x4 x5 5120 _ r l q h
  · obtain ⟨l, rfl, h⟩ := local_ix 4096 r q x hx
    refine (pay1 _ _ r l).trans ?_
    unfold blockAt
    rw [if_neg (by omega), if_neg (by omega), if_pos (by omega)]
    exact dot_shared x0 x1 x2 x3 x4 x5 4096 _ r l q h
  · obtain ⟨l, rfl, h⟩ := local_ix 3072 r q x hx
    refine (pay9 _ _ r l).trans ?_
    unfold blockAt
    rw [if_neg (by omega), if_pos (by omega)]
    exact congrArg gateZ (dot_shared x0 x1 x2 x3 x4 x5 3072 _ r l q h)
  · obtain ⟨l, rfl, h⟩ := local_ix 2048 r q x hx
    refine (pay8 _ _ r l).trans ?_
    unfold blockAt
    rw [if_neg (by omega), if_pos (by omega)]
    exact congrArg gateZ (dot_shared x0 x1 x2 x3 x4 x5 2048 _ r l q h)
  · obtain ⟨l, rfl, h⟩ := local_ix 1024 r q x hx
    refine (pay7 _ _ _ r l).trans ?_
    unfold blockAt
    rw [if_pos (by omega)]
    exact congrArg siluT (dot_tile x0 x1 x2 1024 _ r l q h)
  · obtain ⟨l, rfl, h⟩ := local_ix 0 r q x hx
    refine (pay6 _ _ _ r l).trans ?_
    unfold blockAt
    rw [if_pos (by omega)]
    exact congrArg siluT (dot_tile x0 x1 x2 0 _ r l q h)

end Tiles

end Cert.FirstProjIdeal.BlockValue
-- ==== Proof.FirstValue.lean ====
/-
  The first odd input projection's value: on finite arguments the array its kernel leaves is the reference's, row block by row block.
-/
module

public import proofs.«01_k».proof.Proof.Gen.FirstProjIdeal.Value
public import proofs.«01_k».proof.Proof.FirstRef
public import proofs.«01_k».proof.Proof.FirstHost
public import proofs.«01_k».proof.Proof.FirstBlock

@[expose] public section

set_option maxRecDepth 16384

noncomputable section

open Idealize.ShloMosaic Idealize.ShloMosaic.TcCoe Idealize.SL.Sem Cert.Gate Cert.Proof.Scalar
open Idealize.ShloMosaic.Pipeline (Dat)
open Cert.InProjRefIdeal.RowValue (IsReal)
open Cert.FirstProjRefIdeal.RowValue (proj)

namespace Cert.FirstProjIdeal.RefValue

open Cert.FirstProjIdeal Cert.FirstProjIdeal.Gen Cert.FirstProjIdeal.HostValue Cert.FirstProjIdeal.BlockValue

variable (m : (ℓ : Loc nD τ sig) → Buf (Elt Ideal) ℓ) (ρ : Dev nD → PrngReg)

/-- Device `c`'s four arguments. -/
abbrev A0 (c : Dev nD) : FVec Ideal S4x8192x1024 .f32 := m ((c : Thread nD τ).loc main_arg0)
abbrev A1 (c : Dev nD) : FVec Ideal S2x1024 .f32 := m ((c : Thread nD τ).loc main_arg1)
abbrev A2 (c : Dev nD) : FVec Ideal S2x1024x8192 .f32 := m ((c : Thread nD τ).loc main_arg2)
abbrev A3 (c : Dev nD) : FVec Ideal S2x2048 .f32 := m ((c : Thread nD τ).loc main_arg3)

/-- Every argument holds real numbers. -/
def Finite : Prop := ∀ c : Dev nD, (∀ j, IsReal (A0 m c j)) ∧ (∀ j, IsReal (A1 m c j)) ∧ (∀ j, IsReal (A2 m c j)) ∧ ∀ j, IsReal (A3 m c j)

/-- The reference's result on device `c`'s arguments: what the result array is shown to hold. -/
abbrev goal (c : Dev nD) : Buf (Elt Ideal) ((c : Thread nD τ).loc main_v41) :=
  Cert.FirstProjRefIdeal.Read.val_main_v67 (F := Ideal) (A0 m c) (A1 m c) (A2 m c) (A3 m c)

/-- Where each window's block lies at a grid point: the row blocks move with the point, the others are fixed, the weights' at
    the first of the two stacked layers. -/
theorem index_facts : ∀ t : Fin grid0.N,
    (win0_0.index t 0 = t.val ∧ win0_0.index t 1 = 0)
    ∧ (win0_1.index t 0 = 0 ∧ win0_1.index t 1 = 0)
    ∧ (win0_2.index t 0 = 0 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_6.index t 0 = t.val ∧ win0_6.index t 1 = 0) := by decide +kernel

/-! A block read at an index is its array read where the block lies. -/

theorem read_x (A : Vec Ideal S32768x1024 .f32) (t : Fin cfg0.N) (i : S512x1024.Idx) (j : S32768x1024.Idx) (e : ((cfg0.win 0).blk t).view.emb i = j) :
    (((cfg0.win 0).blk t).view.read (Elt Ideal) A : Vec Ideal S512x1024 .f32) i = A j := by subst e; exact View.read_apply _ _
theorem read_g (A : Vec Ideal S1x1024 .f32) (t : Fin cfg0.N) (i : S1x1024.Idx) (j : S1x1024.Idx) (e : ((cfg0.win 1).blk t).view.emb i = j) :
    (((cfg0.win 1).blk t).view.read (Elt Ideal) A : Vec Ideal S1x1024 .f32) i = A j := by subst e; exact View.read_apply _ _
theorem read_w (A : Vec Ideal S2x1024x8192 .bf16) (t : Fin cfg0.N) (i : S1x1024x8192.Idx) (j : S2x1024x8192.Idx) (e : ((cfg0.win 2).blk t).view.emb i = j) :
    (((cfg0.win 2).blk t).view.read (Elt Ideal) A : Vec Ideal S1x1024x8192 .bf16) i = A j := by subst e; exact View.read_apply _ _
theorem read_o (A : Vec Ideal S32768x8192 .bf16) (t : Fin cfg0.N) (i : S512x8192.Idx) (j : S32768x8192.Idx) (e : ((cfg0.win 6).blk t).view.emb i = j) :
    (((cfg0.win 6).blk t).view.read (Elt Ideal) A : Vec Ideal S512x8192 .bf16) i = A j := by subst e; exact View.read_apply _ _

theorem emb_x (t : Fin cfg0.N) (h : t.val < 64) (r : Fin 512) (k : Fin 1024) :
    ((cfg0.win 0).blk t).view.emb (ix2 r k) = (ix2 (⟨t.val * 512 + r.val, by omega⟩ : Fin 32768) k : S32768x1024.Idx) := by
  obtain ⟨⟨h0, h1⟩, _⟩ := index_facts t
  funext a; apply Fin.ext
  match a with
  | ⟨0, _⟩ => show win0_0.index t 0 * 512 + 1 * r.val = t.val * 512 + r.val; rw [h0]; omega
  | ⟨1, _⟩ => show win0_0.index t 1 * 1024 + 1 * k.val = k.val; rw [h1]; omega

theorem emb_g (t : Fin cfg0.N) (k : Fin 1024) : ((cfg0.win 1).blk t).view.emb (ix2 0 k) = (ix2 0 k : S1x1024.Idx) := by
  obtain ⟨_, ⟨h0, h1⟩, _⟩ := index_facts t
  funext a; apply Fin.ext
  match a with
  | ⟨0, _⟩ => show win0_1.index t 0 * 1 + 1 * 0 = 0; rw [h0]
  | ⟨1, _⟩ => show win0_1.index t 1 * 1024 + 1 * k.val = k.val; rw [h1]; omega

theorem emb_w (t : Fin cfg0.N) (k : Fin 1024) (q : Fin 8192) : ((cfg0.win 2).blk t).view.emb (ix3 0 k q) = (ix3 0 k q : S2x1024x8192.Idx) := by
  obtain ⟨_, _, ⟨h0, h1, h2⟩, _⟩ := index_facts t
  funext a; apply Fin.ext
  match a with
  | ⟨0, _⟩ => show win0_2.index t 0 * 1 + 1 * 0 = 0; rw [h0]
  | ⟨1, _⟩ => show win0_2.index t 1 * 1024 + 1 * k.val = k.val; rw [h1]; omega
  | ⟨2, _⟩ => show win0_2.index t 2 * 8192 + 1 * q.val = q.val; rw [h2]; omega

theorem emb_o (t : Fin cfg0.N) (h : t.val < 64) (r : Fin 512) (q : Fin 8192) :
    ((cfg0.win 6).blk t).view.emb (ix2 r q) = (ix2 (⟨t.val * 512 + r.val, by omega⟩ : Fin 32768) q : S32768x8192.Idx) := by
  obtain ⟨_, _, _, _, _, ⟨h0, h1⟩⟩ := index_facts t
  funext a; apply Fin.ext
  match a with
  | ⟨0, _⟩ => show win0_6.index t 0 * 512 + 1 * r.val = t.val * 512 + r.val; rw [h0]; omega
  | ⟨1, _⟩ => show win0_6.index t 1 * 8192 + 1 * q.val = q.val; rw [h1]; omega

/-- The blocks a grid point finds, from the arguments. -/
theorem block_x (c : Dev nD) (t : Fin cfg0.N) (h : t.val < 64) (r : Fin 512) (k : Fin 1024) :
    (iblk m c 0 t : Vec Ideal S512x1024 .f32) (ix2 r k)
      = A0 m c (ix3 ⟨(t.val * 512 + r.val) / 8192, by omega⟩ ⟨(t.val * 512 + r.val) % 8192, by omega⟩ k) := by
  unfold iblk
  exact (read_x (V m c main_v0) t _ _ (emb_x t h r k)).trans (rows_x m c _ k)

theorem block_g (c : Dev nD) (t : Fin cfg0.N) (k : Fin 1024) : (iblk m c 1 t : Vec Ideal S1x1024 .f32) (ix2 0 k) = A1 m c (ix2 0 k) := by
  unfold iblk
  exact (read_g (V m c main_v40) t _ _ (emb_g t k)).trans (gain m c k)

theorem block_w (c : Dev nD) (t : Fin cfg0.N) (k : Fin 1024) (q : Fin 8192) :
    (iblk m c 2 t : Vec Ideal S1x1024x8192 .bf16) (ix3 0 k q) = A2 m c (ix3 0 k q) := by
  unfold iblk
  exact (read_w (V m c main_v39) t _ _ (emb_w t k q)).trans (congrFun (weights m c) _)

/-- The reference's projection, written out. -/
theorem proj_eq (x0 : FVec Ideal S4x8192x1024 .f32) (x1 : FVec Ideal S2x1024 .f32) (x2 : FVec Ideal S2x1024x8192 .f32) (r : Fin 32768) (q : Fin 8192) :
    proj x0 x1 x2 r q = ∑ k : Fin 1024,
      x0 (ix3 ⟨r.val / 8192, by omega⟩ ⟨r.val % 8192, by omega⟩ k)
        * Ideal.rsqrt (Ideal.div (∑ x : Fin 1024, x0 (ix3 ⟨r.val / 8192, by omega⟩ ⟨r.val % 8192, by omega⟩ x) * x0 (ix3 ⟨r.val / 8192, by omega⟩ ⟨r.val % 8192, by omega⟩ x))
            (Ideal.ofBits FTy.f32 1149239296#32) + Ideal.ofBits FTy.f32 897988541#32)
        * x1 (ix2 0 k) * x2 (ix3 0 k q) :=
  Cert.FirstProjRefIdeal.RowValue.proj_at x0 x1 x2 _ _ q

/-- The kernel's product on blocks that hold the arguments' entries. -/
theorem dot_of (X : FVec Ideal S512x1024 .f32) (G : FVec Ideal S1x1024 .f32) (W : FVec Ideal S1x1024x8192 .bf16)
    (x0 : FVec Ideal S4x8192x1024 .f32) (x1 : FVec Ideal S2x1024 .f32) (x2 : FVec Ideal S2x1024x8192 .f32) (r : Fin 512) (n : Fin 32768) (q : Fin 8192)
    (hX : ∀ k, X (ix2 r k) = x0 (ix3 ⟨n.val / 8192, by omega⟩ ⟨n.val % 8192, by omega⟩ k)) (hG : ∀ k, G (ix2 0 k) = x1 (ix2 0 k))
    (hW : ∀ k, W (ix3 0 k q) = x2 (ix3 0 k q)) : dotAt X G W r q = proj x0 x1 x2 n q := by
  rw [proj_eq]
  unfold dotAt normed
  simp only [hX, hG, hW]

/-- The kernel's product at a grid point is the reference's projection of its row. -/
theorem dot_eq (c : Dev nD) (t : Fin cfg0.N) (h : t.val < 64) (r : Fin 512) (q : Fin 8192) :
    dotAt (iblk m c 0 t) (iblk m c 1 t) (iblk m c 2 t) r q = proj (A0 m c) (A1 m c) (A2 m c) ⟨t.val * 512 + r.val, by omega⟩ q :=
  dot_of _ _ _ _ _ _ r _ q (fun k => block_x m c t h r k) (fun k => block_g m c t k) (fun k => block_w m c t k q)

/-- The block on blocks that hold the arguments' entries is the reference's rows. -/
theorem block_of (X : FVec Ideal S512x1024 .f32) (G : FVec Ideal S1x1024 .f32) (W : FVec Ideal S1x1024x8192 .bf16)
    (x0 : FVec Ideal S4x8192x1024 .f32) (x1 : FVec Ideal S2x1024 .f32) (x2 : FVec Ideal S2x1024x8192 .f32) (x3 : FVec Ideal S2x2048 .f32)
    (f0 : ∀ j, IsReal (x0 j)) (f1 : ∀ j, IsReal (x1 j)) (f2 : ∀ j, IsReal (x2 j)) (f3 : ∀ j, IsReal (x3 j))
    (r : Fin 512) (n : Fin 32768) (q : Fin 8192) (hd : dotAt X G W r q = proj x0 x1 x2 n q) :
    blockAt X G W r q = Cert.FirstProjRefIdeal.Read.val_main_v67 (F := Ideal) x0 x1 x2 x3 (ix2 n q) := by
  unfold blockAt
  rw [hd]
  by_cases h1 : q.val < 2048
  · rw [if_pos h1]
    exact (Cert.FirstProjRefIdeal.RowValue.col_q x0 x1 x2 x3 f0 f1 f2 n q h1).symm
  rw [if_neg h1]
  by_cases h2 : q.val < 4096
  · rw [if_pos h2]
    exact (Cert.FirstProjRefIdeal.RowValue.col_f x0 x1 x2 x3 f0 f1 f2 f3 n q (by omega) h2).symm
  rw [if_neg h2]
  by_cases h3 : q.val < 6144
  · rw [if_pos h3]
    exact (Cert.FirstProjRefIdeal.RowValue.col_i x0 x1 x2 x3 n q (by omega) h3).symm
  rw [if_neg h3]
  exact (Cert.FirstProjRefIdeal.RowValue.col_z x0 x1 x2 x3 f0 f1 f2 n q (by omega)).symm

/-- What a grid point writes back is its row block of the reference's result. -/
theorem flushed_eq (hfin : Finite m) (c : Dev nD) (t : Fin cfg0.N) :
    (dats m 0 c).flushed 6 t = ((cfg0.win 6).blk t).view.read (Elt Ideal) (goal m c) := by
  have h : t.val < 64 := t.isLt
  obtain ⟨f0, f1, f2, f3⟩ := hfin c
  rw [Value.flushed6]
  show out0_6 (iblk m c 0 t) (iblk m c 1 t) (iblk m c 2 t) (iblk m c 3 t) (iblk m c 4 t) (iblk m c 5 t) = _
  funext j
  obtain ⟨r, q, rfl⟩ : ∃ (r : Fin 512) (q : Fin 8192), j = ix2 r q := ⟨j 0, j 1, eq_ix2 j⟩
  refine (out_at _ _ _ _ _ _ r q).trans (Eq.trans ?_ (read_o (goal m c) t _ _ (emb_o t h r q)).symm)
  exact block_of _ _ _ (A0 m c) (A1 m c) (A2 m c) (A3 m c) f0 f1 f2 f3 r _ q (dot_eq m c t h r q)

/-- An index is in a point's block when its row is one of the point's 512 rows. -/
theorem mem_blk (t : Fin cfg0.N) (i : S32768x8192.Idx) (hi : t.val * 512 ≤ (i 0 : Nat) ∧ (i 0 : Nat) < t.val * 512 + 512) :
    i ∈ ((cfg0.win 6).blk t).view.set := by
  show i ∈ ((View.whole main_v41).slice (win0_6.rect t)).set
  rw [View.set_slice_whole, Rect.mem_set_unit]
  obtain ⟨_, _, _, _, _, ⟨h0, h1⟩⟩ := index_facts t
  have hl : (i 1 : Nat) < 8192 := (i 1).isLt
  have e0 : win0_6.index t 0 * 512 ≤ (i 0 : Nat) ∧ (i 0 : Nat) < win0_6.index t 0 * 512 + 512 := by
    obtain ⟨ha, hb⟩ := hi
    omega
  have e1 : win0_6.index t 1 * 8192 ≤ (i 1 : Nat) ∧ (i 1 : Nat) < win0_6.index t 1 * 8192 + 8192 := by omega
  intro a
  match a with
  | ⟨0, _⟩ => exact e0
  | ⟨1, _⟩ => exact e1

/-- The row blocks tile the result. -/
theorem cover (i : S32768x8192.Idx) :
    ∃ t : Fin cfg0.N, (cfg0.win 6).flush t = true ∧ i ∈ ((cfg0.win 6).blk t).view.set := by
  have h0 : (i 0 : Nat) < 32768 := (i 0).isLt
  have hN : cfg0.N = 64 := N_0
  refine ⟨⟨(i 0 : Nat) / 512, by omega⟩, flush0_6 _, mem_blk _ _ ?_⟩
  dsimp only
  omega

/-- So the result array ends at the reference's result. -/
theorem final (hfin : Finite m) (c : Dev nD) : (dats m 0 c).arrAt 6 cfg0.N = goal m c :=
  (dats m 0 c).arrAt_eq_of_cover 6 (goal m c) (fun t _ => flushed_eq m hfin c t) cover

/-- The run, read: the result array at the reference's result, the arguments unchanged. -/
theorem run (hfin : Finite m) : θ_run defs (onTc (τ := τ) (main (F := Ideal))) ⟨m, fun _ => 0, ρ⟩ fun r => ∀ c : Dev nD,
      r.2.mem ((c : Thread nD τ).loc main_v41) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m hfin c), (h c).2⟩) (Value.run_blocks m ρ)

end Cert.FirstProjIdeal.RefValue
-- ==== Proof.ConvRef.lean ====
/-
  The even output projection's reference, read at an index: the short convolution and the attention, each gated, times their halves
  of the weights' rows, onto the residual stream.
-/
module

public import proofs.«01_k».proof.Proof.Gen.EvenOutRefIdeal.Read
public import proofs.«01_k».proof.Proof.InScalar
public import Idealize.ShloMosaic.Lib.Pointwise
public import Idealize.ShloMosaic.Lib.Claim

@[expose] public section

set_option maxRecDepth 16384

noncomputable section

open Idealize.ShloMosaic

namespace Cert.EvenOutRefIdeal.RowValue

open Cert.EvenOutRefIdeal Cert.EvenOutRefIdeal.Gen Cert.EvenOutRefIdeal.Read

variable (x0 : FVec Ideal S32768x6144 .f32) (x1 : FVec Ideal S4x16x512x1024 .f32) (x2 : FVec Ideal S2x3x1024 .f32) (x3 : FVec Ideal S2x2048x1024 .f32) (x4 : FVec Ideal S4x8192x1024 .f32)

/-- The convolved column `s` rows before row `n`; nothing before a sequence's start. -/
def before (s : ℕ) (n : Fin 32768) (k : Fin 1024) : EReal :=
  if s ≤ n.val % 8192 then x0 (ix2 ⟨n.val - s, by omega⟩ ⟨4096 + k.val, by omega⟩) else 0

/-- The short convolution, gated. -/
def conv (n : Fin 32768) (k : Fin 1024) : EReal :=
  x0 (ix2 n ⟨3072 + k.val, by omega⟩)
    * (x2 (ix3 1 0 k) * before x0 2 n k + x2 (ix3 1 1 k) * before x0 1 n k + x2 (ix3 1 2 k) * x0 (ix2 n ⟨4096 + k.val, by omega⟩))

/-- The attention's row, gated: a residue class of sixteen holds every sixteenth row. -/
def attn (n : Fin 32768) (k : Fin 1024) : EReal :=
  x1 (ix4 ⟨n.val / 8192, by omega⟩ ⟨n.val % 8192 % 16, by omega⟩ ⟨n.val % 8192 / 16, by omega⟩ k) * x0 (ix2 n ⟨5120 + k.val, by omega⟩)

theorem shifted (b : Fin 4) (s : Fin 8194) (k : Fin 1024) : val_main_v5 (F := Ideal) x0 (ix3 b s k)
    = if h : 2 ≤ s.val ∧ s.val - 2 < 8192 then x0 (ix2 ⟨b.val * 8192 + (s.val - 2), by omega⟩ ⟨3072 + (1024 + k.val), by omega⟩)
      else val_main_call0_v0 (F := Ideal) (Shape.Idx.first h_S_) := by
  pointwise [val_main_v5, val_main_v3, val_main_v1, val_main_v0]

/-- The padding is zero. -/
theorem pad_zero : val_main_call0_v0 (F := Ideal) (Shape.Idx.first h_S_) = 0 := by
  show ((BitVec.toInt 0#32 : ℝ) : EReal) = 0
  simp

/-- The padded column is the one before, by two less the shift. -/
theorem shifted_eq (s : ℕ) (hs : s ≤ 2) (n : Fin 32768) (k : Fin 1024) (t : Fin 8194) (ht : t.val + s = n.val % 8192 + 2) :
    val_main_v5 (F := Ideal) x0 (ix3 ⟨n.val / 8192, by omega⟩ t k) = before x0 s n k := by
  rw [shifted, pad_zero]
  unfold before
  by_cases h : s ≤ n.val % 8192
  · rw [if_pos h, dif_pos (by omega)]
    refine congrArg₂ (fun a b => x0 (ix2 a b)) (Fin.ext ?_) (Fin.ext ?_)
    · show n.val / 8192 * 8192 + (t.val - 2) = n.val - s; omega
    · show 3072 + (1024 + k.val) = 4096 + k.val; omega
  · rw [if_neg h, dif_neg (by omega)]

theorem conv_at (b : Fin 4) (s : Fin 8192) (k : Fin 1024) : val_main_v27 (F := Ideal) x0 x2 (ix3 b s k)
    = x0 (ix2 ⟨b.val * 8192 + s.val, by omega⟩ ⟨3072 + k.val, by omega⟩)
      * (x2 (ix3 1 0 k) * val_main_v5 (F := Ideal) x0 (ix3 b ⟨s.val, by omega⟩ k) + x2 (ix3 1 1 k) * val_main_v5 (F := Ideal) x0 (ix3 b ⟨1 + s.val, by omega⟩ k)
        + x2 (ix3 1 2 k) * x0 (ix2 ⟨b.val * 8192 + s.val, by omega⟩ ⟨3072 + (1024 + k.val), by omega⟩)) := by
  pointwise [val_main_v27, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v3, val_main_v2, val_main_v1, val_main_v0]

theorem conv_eq (n : Fin 32768) (k : Fin 1024) :
    val_main_v27 (F := Ideal) x0 x2 (ix3 ⟨n.val / 8192, by omega⟩ ⟨n.val % 8192, by omega⟩ k) = conv x0 x2 n k := by
  rw [conv_at, shifted_eq x0 2 (by omega) n k _ rfl, shifted_eq x0 1 (by omega) n k _ (by dsimp only; omega)]
  unfold conv
  have e0 : (⟨n.val / 8192 * 8192 + n.val % 8192, by omega⟩ : Fin 32768) = n := Fin.ext (by show n.val / 8192 * 8192 + n.val % 8192 = n.val; omega)
  have e1 : (⟨3072 + (1024 + k.val), by omega⟩ : Fin 6144) = ⟨4096 + k.val, by omega⟩ := Fin.ext (by show 3072 + (1024 + k.val) = 4096 + k.val; omega)
  dsimp only
  rw [e0, e1]

theorem attn_at (b : Fin 4) (s : Fin 8192) (k : Fin 1024) : val_main_v28 (F := Ideal) x0 x1 (ix3 b s k)
    = x1 (ix4 b ⟨s.val % 16, by omega⟩ ⟨s.val / 16, by omega⟩ k) * x0 (ix2 ⟨b.val * 8192 + s.val, by omega⟩ ⟨3072 + (2048 + k.val), by omega⟩) := by
  pointwise [val_main_v28, val_main_v26, val_main_v25, val_main_v4, val_main_v1, val_main_v0]

theorem attn_eq (n : Fin 32768) (k : Fin 1024) :
    val_main_v28 (F := Ideal) x0 x1 (ix3 ⟨n.val / 8192, by omega⟩ ⟨n.val % 8192, by omega⟩ k) = attn x0 x1 n k := by
  rw [attn_at]
  unfold attn
  refine congrArg₂ (· * ·) rfl (congrArg₂ (fun a b => x0 (ix2 a b)) (Fin.ext ?_) (Fin.ext ?_))
  · show n.val / 8192 * 8192 + n.val % 8192 = n.val; omega
  · show 3072 + (2048 + k.val) = 5120 + k.val; omega

/-- The written array. -/
theorem at_entry (n : Fin 32768) (q : Fin 1024) : val_main_v34 (F := Ideal) x0 x1 x2 x3 x4 (ix2 n q)
    = x4 (ix3 ⟨n.val / 8192, by omega⟩ ⟨n.val % 8192, by omega⟩ q)
      + (∑ k : Fin 1024, conv x0 x2 n k * x3 (ix3 1 ⟨k.val, by omega⟩ q) + ∑ k : Fin 1024, attn x0 x1 n k * x3 (ix3 1 ⟨1024 + k.val, by omega⟩ q)) := by
  pointwise [val_main_v34, val_main_v33, val_main_v32, val_main_v31, val_main_v30, val_main_v29]
  simp only [conv_eq, attn_eq]

end Cert.EvenOutRefIdeal.RowValue
-- ==== Proof.ConvHost.lean ====
/-
  The even output projection's prepared arrays and the blocks its grid points find, from the arguments.
-/
module

public import proofs.«01_k».proof.Proof.Gen.EvenOutIdeal.Value
public import proofs.«01_k».proof.Proof.InScalar
public import Idealize.ShloMosaic.Lib.StableHlo.ReadAt
public import Idealize.ShloMosaic.Lib.Routing.OpsSet
public import Idealize.ShloMosaic.Lib.Routing.OpsOne
public import Idealize.ShloMosaic.Lib.Routing.OpsPair
public import Idealize.ShloMosaic.Lib.Pointwise
public import Idealize.ShloMosaic.Lib.Claim

@[expose] public section

set_option maxRecDepth 16384

noncomputable section

open Idealize.ShloMosaic Idealize.ShloMosaic.TcCoe
open Idealize.ShloMosaic.Routing

namespace Cert.EvenOutIdeal.HostValue

open Cert.EvenOutIdeal Cert.EvenOutIdeal.Gen

variable (m : (ℓ : Loc nD τ sig) → Buf (Elt Ideal) ℓ) (c : Dev nD)

/-- Device `c`'s five arguments. -/
abbrev A0 : FVec Ideal S32768x6144 .f32 := m ((c : Thread nD τ).loc main_arg0)
abbrev A1 : FVec Ideal S4x16x512x1024 .f32 := m ((c : Thread nD τ).loc main_arg1)
abbrev A2 : FVec Ideal S2x3x1024 .f32 := m ((c : Thread nD τ).loc main_arg2)
abbrev A3 : FVec Ideal S2x2048x1024 .f32 := m ((c : Thread nD τ).loc main_arg3)
abbrev A4 : FVec Ideal S4x8192x1024 .f32 := m ((c : Thread nD τ).loc main_arg4)

theorem rows_x (r : Fin 32768) (k : Fin 1024) : (V m c main_v0 : FVec Ideal S32768x1024 .f32) (ix2 r k)
    = A4 m c (ix3 ⟨r.val / 8192, by omega⟩ ⟨r.val % 8192, by omega⟩ k) := by
  unfold V
  after_reads_at

theorem rows_proj : V m c main_v1 = A0 m c := by
  unfold V
  after_reads_at
  rfl

theorem rows_attn : V m c main_v2 = A1 m c := by
  unfold V
  after_reads_at
  rfl

theorem taps (j : Fin 3) (k : Fin 1024) : (V m c main_v4 : FVec Ideal S3x1024 .f32) (ix2 j k) = A2 m c (ix3 1 j k) := by
  unfold V
  after_reads_at

theorem weights : V m c main_v5 = A3 m c := by
  unfold V
  after_reads_at
  rfl

/-- Where each window's block lies at a grid point. -/
theorem index_facts : ∀ t : Fin grid0.N,
    (win0_0.index t 0 = t.val ∧ win0_0.index t 1 = 3)
    ∧ (win0_1.index t 0 = t.val ∧ win0_1.index t 1 = 4)
    ∧ (win0_2.index t 0 = t.val ∧ win0_2.index t 1 = 5)
    ∧ (win0_3.index t 0 = t.val / 16 ∧ win0_3.index t 1 = 0 ∧ win0_3.index t 2 = t.val % 16 ∧ win0_3.index t 3 = 0)
    ∧ (win0_4.index t 0 = t.val * 64 - 1 ∧ win0_4.index t 1 = 4)
    ∧ (win0_5.index t 0 = 0 ∧ win0_5.index t 1 = 0)
    ∧ (win0_6.index t 0 = 1 ∧ win0_6.index t 1 = 0 ∧ win0_6.index t 2 = 0)
    ∧ (win0_7.index t 0 = t.val ∧ win0_7.index t 1 = 0)
    ∧ (win0_8.index t 0 = t.val ∧ win0_8.index t 1 = 0) := by decide +kernel

/-! A block read at an index is its array read where the block lies. -/

theorem read_0 (A : Vec Ideal S32768x6144 .bf16) (t : Fin cfg0.N) (i : S512x1024.Idx) (j : S32768x6144.Idx) (e : ((cfg0.win 0).blk t).view.emb i = j) :
    (((cfg0.win 0).blk t).view.read (Elt Ideal) A : Vec Ideal S512x1024 .bf16) i = A j := by subst e; exact View.read_apply _ _
theorem read_1 (A : Vec Ideal S32768x6144 .bf16) (t : Fin cfg0.N) (i : S512x1024.Idx) (j : S32768x6144.Idx) (e : ((cfg0.win 1).blk t).view.emb i = j) :
    (((cfg0.win 1).blk t).view.read (Elt Ideal) A : Vec Ideal S512x1024 .bf16) i = A j := by subst e; exact View.read_apply _ _
theorem read_2 (A : Vec Ideal S32768x6144 .bf16) (t : Fin cfg0.N) (i : S512x1024.Idx) (j : S32768x6144.Idx) (e : ((cfg0.win 2).blk t).view.emb i = j) :
    (((cfg0.win 2).blk t).view.read (Elt Ideal) A : Vec Ideal S512x1024 .bf16) i = A j := by subst e; exact View.read_apply _ _
theorem read_3 (A : Vec Ideal S4x16x512x1024 .bf16) (t : Fin cfg0.N) (i : S1x16x32x1024.Idx) (j : S4x16x512x1024.Idx) (e : ((cfg0.win 3).blk t).view.emb i = j) :
    (((cfg0.win 3).blk t).view.read (Elt Ideal) A : Vec Ideal S1x16x32x1024 .bf16) i = A j := by subst e; exact View.read_apply _ _
theorem read_4 (A : Vec Ideal S32768x6144 .bf16) (t : Fin cfg0.N) (i : S8x1024.Idx) (j : S32768x6144.Idx) (e : ((cfg0.win 4).blk t).view.emb i = j) :
    (((cfg0.win 4).blk t).view.read (Elt Ideal) A : Vec Ideal S8x1024 .bf16) i = A j := by subst e; exact View.read_apply _ _
theorem read_5 (A : Vec Ideal S3x1024 .f32) (t : Fin cfg0.N) (i : S3x1024.Idx) (j : S3x1024.Idx) (e : ((cfg0.win 5).blk t).view.emb i = j) :
    (((cfg0.win 5).blk t).view.read (Elt Ideal) A : Vec Ideal S3x1024 .f32) i = A j := by subst e; exact View.read_apply _ _
theorem read_6 (A : Vec Ideal S2x2048x1024 .bf16) (t : Fin cfg0.N) (i : S1x2048x1024.Idx) (j : S2x2048x1024.Idx) (e : ((cfg0.win 6).blk t).view.emb i = j) :
    (((cfg0.win 6).blk t).view.read (Elt Ideal) A : Vec Ideal S1x2048x1024 .bf16) i = A j := by subst e; exact View.read_apply _ _
theorem read_7 (A : Vec Ideal S32768x1024 .f32) (t : Fin cfg0.N) (i : S512x1024.Idx) (j : S32768x1024.Idx) (e : ((cfg0.win 7).blk t).view.emb i = j) :
    (((cfg0.win 7).blk t).view.read (Elt Ideal) A : Vec Ideal S512x1024 .f32) i = A j := by subst e; exact View.read_apply _ _
theorem read_8 (A : Vec Ideal S32768x1024 .f32) (t : Fin cfg0.N) (i : S512x1024.Idx) (j : S32768x1024.Idx) (e : ((cfg0.win 8).blk t).view.emb i = j) :
    (((cfg0.win 8).blk t).view.read (Elt Ideal) A : Vec Ideal S512x1024 .f32) i = A j := by subst e; exact View.read_apply _ _

variable (t : Fin cfg0.N) (ht : t.val < 64)

theorem emb_0 (r : Fin 512) (k : Fin 1024) : ((cfg0.win 0).blk t).view.emb (ix2 r k)
    = (ix2 (⟨t.val * 512 + r.val, by omega⟩ : Fin 32768) ⟨3072 + k.val, by omega⟩ : S32768x6144.Idx) := by
  obtain ⟨⟨h0, h1⟩, _⟩ := index_facts t
  funext a; apply Fin.ext
  match a with
  | ⟨0, _⟩ => show win0_0.index t 0 * 512 + 1 * r.val = t.val * 512 + r.val; rw [h0]; omega
  | ⟨1, _⟩ => show win0_0.index t 1 * 1024 + 1 * k.val = 3072 + k.val; rw [h1]; omega

theorem emb_1 (r : Fin 512) (k : Fin 1024) : ((cfg0.win 1).blk t).view.emb (ix2 r k)
    = (ix2 (⟨t.val * 512 + r.val, by omega⟩ : Fin 32768) ⟨4096 + k.val, by omega⟩ : S32768x6144.Idx) := by
  obtain ⟨_, ⟨h0, h1⟩, _⟩ := index_facts t
  funext a; apply Fin.ext
  match a with
  | ⟨0, _⟩ => show win0_1.index t 0 * 512 + 1 * r.val = t.val * 512 + r.val; rw [h0]; omega
  | ⟨1, _⟩ => show win0_1.index t 1 * 1024 + 1 * k.val = 4096 + k.val; rw [h1]; omega

theorem emb_2 (r : Fin 512) (k : Fin 1024) : ((cfg0.win 2).blk t).view.emb (ix2 r k)
    = (ix2 (⟨t.val * 512 + r.val, by omega⟩ : Fin 32768) ⟨5120 + k.val, by omega⟩ : S32768x6144.Idx) := by
  obtain ⟨_, _, ⟨h0, h1⟩, _⟩ := index_facts t
  funext a; apply Fin.ext
  match a with
  | ⟨0, _⟩ => show win0_2.index t 0 * 512 + 1 * r.val = t.val * 512 + r.val; rw [h0]; omega
  | ⟨1, _⟩ => show win0_2.index t 1 * 1024 + 1 * k.val = 5120 + k.val; rw [h1]; omega

theorem emb_3 (ρ : Fin 16) (p : Fin 32) (k : Fin 1024) : ((cfg0.win 3).blk t).view.emb (ix4 0 ρ p k)
    = (ix4 (⟨t.val / 16, by omega⟩ : Fin 4) ρ ⟨t.val % 16 * 32 + p.val, by omega⟩ k : S4x16x512x1024.Idx) := by
  obtain ⟨_, _, _, ⟨h0, h1, h2, h3⟩, _⟩ := index_facts t
  funext a; apply Fin.ext
  match a with
  | ⟨0, _⟩ => show win0_3.index t 0 * 1 + 1 * 0 = t.val / 16; rw [h0]; omega
  | ⟨1, _⟩ => show win0_3.index t 1 * 16 + 1 * ρ.val = ρ.val; rw [h1]; omega
  | ⟨2, _⟩ => show win0_3.index t 2 * 32 + 1 * p.val = t.val % 16 * 32 + p.val; rw [h2]; omega
  | ⟨3, _⟩ => show win0_3.index t 3 * 1024 + 1 * k.val = k.val; rw [h3]; omega

theorem emb_4 (r : Fin 8) (k : Fin 1024) : ((cfg0.win 4).blk t).view.emb (ix2 r k)
    = (ix2 (⟨(t.val * 64 - 1) * 8 + r.val, by omega⟩ : Fin 32768) ⟨4096 + k.val, by omega⟩ : S32768x6144.Idx) := by
  obtain ⟨_, _, _, _, ⟨h0, h1⟩, _⟩ := index_facts t
  funext a; apply Fin.ext
  match a with
  | ⟨0, _⟩ => show win0_4.index t 0 * 8 + 1 * r.val = (t.val * 64 - 1) * 8 + r.val; rw [h0]; omega
  | ⟨1, _⟩ => show win0_4.index t 1 * 1024 + 1 * k.val = 4096 + k.val; rw [h1]; omega

theorem emb_5 (r : Fin 3) (k : Fin 1024) : ((cfg0.win 5).blk t).view.emb (ix2 r k) = (ix2 r k : S3x1024.Idx) := by
  obtain ⟨_, _, _, _, _, ⟨h0, h1⟩, _⟩ := index_facts t
  funext a; apply Fin.ext
  match a with
  | ⟨0, _⟩ => show win0_5.index t 0 * 3 + 1 * r.val = r.val; rw [h0]; omega
  | ⟨1, _⟩ => show win0_5.index t 1 * 1024 + 1 * k.val = k.val; rw [h1]; omega

theorem emb_6 (k : Fin 2048) (q : Fin 1024) : ((cfg0.win 6).blk t).view.emb (ix3 0 k q) = (ix3 1 k q : S2x2048x1024.Idx) := by
  obtain ⟨_, _, _, _, _, _, ⟨h0, h1, h2⟩, _⟩ := index_facts t
  funext a; apply Fin.ext
  match a with
  | ⟨0, _⟩ => show win0_6.index t 0 * 1 + 1 * 0 = 1; rw [h0]
  | ⟨1, _⟩ => show win0_6.index t 1 * 2048 + 1 * k.val = k.val; rw [h1]; omega
  | ⟨2, _⟩ => show win0_6.index t 2 * 1024 + 1 * q.val = q.val; rw [h2]; omega

theorem emb_7 (r : Fin 512) (q : Fin 1024) : ((cfg0.win 7).blk t).view.emb (ix2 r q)
    = (ix2 (⟨t.val * 512 + r.val, by omega⟩ : Fin 32768) q : S32768x1024.Idx) := by
  obtain ⟨_, _, _, _, _, _, _, ⟨h0, h1⟩, _⟩ := index_facts t
  funext a; apply Fin.ext
  match a with
  | ⟨0, _⟩ => show win0_7.index t 0 * 512 + 1 * r.val = t.val * 512 + r.val; rw [h0]; omega
  | ⟨1, _⟩ => show win0_7.index t 1 * 1024 + 1 * q.val = q.val; rw [h1]; omega

theorem emb_8 (r : Fin 512) (q : Fin 1024) : ((cfg0.win 8).blk t).view.emb (ix2 r q)
    = (ix2 (⟨t.val * 512 + r.val, by omega⟩ : Fin 32768) q : S32768x1024.Idx) := by
  obtain ⟨_, _, _, _, _, _, _, _, ⟨h0, h1⟩⟩ := index_facts t
  funext a; apply Fin.ext
  match a with
  | ⟨0, _⟩ => show win0_8.index t 0 * 512 + 1 * r.val = t.val * 512 + r.val; rw [h0]; omega
  | ⟨1, _⟩ => show win0_8.index t 1 * 1024 + 1 * q.val = q.val; rw [h1]; omega

/-! The blocks a grid point finds, from the arguments. -/

theorem block_0 (r : Fin 512) (k : Fin 1024) : (iblk m c 0 t : Vec Ideal S512x1024 .bf16) (ix2 r k)
    = A0 m c (ix2 ⟨t.val * 512 + r.val, by omega⟩ ⟨3072 + k.val, by omega⟩) := by
  unfold iblk
  exact (read_0 (V m c main_v1) t _ _ (emb_0 t ht r k)).trans (congrFun (rows_proj m c) _)

theorem block_1 (r : Fin 512) (k : Fin 1024) : (iblk m c 1 t : Vec Ideal S512x1024 .bf16) (ix2 r k)
    = A0 m c (ix2 ⟨t.val * 512 + r.val, by omega⟩ ⟨4096 + k.val, by omega⟩) := by
  unfold iblk
  exact (read_1 (V m c main_v1) t _ _ (emb_1 t ht r k)).trans (congrFun (rows_proj m c) _)

theorem block_2 (r : Fin 512) (k : Fin 1024) : (iblk m c 2 t : Vec Ideal S512x1024 .bf16) (ix2 r k)
    = A0 m c (ix2 ⟨t.val * 512 + r.val, by omega⟩ ⟨5120 + k.val, by omega⟩) := by
  unfold iblk
  exact (read_2 (V m c main_v1) t _ _ (emb_2 t ht r k)).trans (congrFun (rows_proj m c) _)

theorem block_3 (ρ : Fin 16) (p : Fin 32) (k : Fin 1024) : (iblk m c 3 t : Vec Ideal S1x16x32x1024 .bf16) (ix4 0 ρ p k)
    = A1 m c (ix4 ⟨t.val / 16, by omega⟩ ρ ⟨t.val % 16 * 32 + p.val, by omega⟩ k) := by
  unfold iblk
  exact (read_3 (V m c main_v2) t _ _ (emb_3 t ht ρ p k)).trans (congrFun (rows_attn m c) _)

theorem block_4 (r : Fin 8) (k : Fin 1024) : (iblk m c 4 t : Vec Ideal S8x1024 .bf16) (ix2 r k)
    = A0 m c (ix2 ⟨(t.val * 64 - 1) * 8 + r.val, by omega⟩ ⟨4096 + k.val, by omega⟩) := by
  unfold iblk
  exact (read_4 (V m c main_v1) t _ _ (emb_4 t ht r k)).trans (congrFun (rows_proj m c) _)

theorem block_5 (r : Fin 3) (k : Fin 1024) : (iblk m c 5 t : Vec Ideal S3x1024 .f32) (ix2 r k) = A2 m c (ix3 1 r k) := by
  unfold iblk
  exact (read_5 (V m c main_v4) t _ _ (emb_5 t r k)).trans (taps m c r k)

theorem block_6 (k : Fin 2048) (q : Fin 1024) : (iblk m c 6 t : Vec Ideal S1x2048x1024 .bf16) (ix3 0 k q) = A3 m c (ix3 1 k q) := by
  unfold iblk
  exact (read_6 (V m c main_v5) t _ _ (emb_6 t k q)).trans (congrFun (weights m c) _)

theorem block_7 (r : Fin 512) (q : Fin 1024) : (iblk m c 7 t : Vec Ideal S512x1024 .f32) (ix2 r q)
    = A4 m c (ix3 ⟨(t.val * 512 + r.val) / 8192, by omega⟩ ⟨(t.val * 512 + r.val) % 8192, by omega⟩ q) := by
  unfold iblk
  exact (read_7 (V m c main_v0) t _ _ (emb_7 t ht r q)).trans (rows_x m c _ q)

end Cert.EvenOutIdeal.HostValue
-- ==== Proof.ConvSlab.lean ====
/-
  The scratch of the even output projection: row ρ of every class of sixteen rows, a slab of 128 columns at a time, is stored with
  row stride sixteen; a whole slab read back holds, at row r, the attention block's residue r mod 16 at position r / 16.
-/
module

public import proofs.«01_k».proof.Proof.Gen.EvenOutIdeal.Frame
public import proofs.«01_k».proof.Proof.InScalar
public import Idealize.ShloMosaic.Lib.Pointwise
public import Idealize.ShloMosaic.Lib.Claim
public import Idealize.ShloMosaic.Lib.Pipeline.Value
public import Idealize.ShloMosaic.Lib.Pipeline.ValueKit.Tiles

@[expose] public section

set_option maxRecDepth 16384

noncomputable section

open Idealize.ShloMosaic Cert.EvenOutIdeal Cert.EvenOutIdeal.Gen

namespace Cert.EvenOutIdeal.BlockValue

/-- A load from a whole buffer holds the buffer's contents at the load's index. -/
theorem load_at {s : Shape} {e : EltTy} (A : Memref sig .tc .vmem s e) (hA : A.IsWhole) (x : Vec Ideal s e) (B : LoadRect s) (j : B.shape.Idx) (i : s.Idx)
    (h : B.idx j = i) : View.readAt (Elt Ideal) A.view B (hA.unread x) j = x i := by
  subst h
  rw [View.readAt_apply, hA.read_unread]

/-- The rectangle of the `j`-th store: slab `j / 16`, rows `j % 16`, `j % 16 + 16`, …. -/
def rowRect (j : ℕ) : Rect S8x512x128 where
  off := ![j / 16 % 8, j % 16, 0]
  size := S1x32x128.size
  stride := ![1, 16, 1]
  inb a := by
    match a with
    | ⟨0, _⟩ => exact Or.inr (show j / 16 % 8 + 1 * (1 - 1) < 8 by omega)
    | ⟨1, _⟩ => exact Or.inr (show j % 16 + 16 * (32 - 1) < 512 by omega)
    | ⟨2, _⟩ => exact Or.inr (show 0 + 1 * (128 - 1) < 128 by omega)
  stride_pos := spos_1_16_1

theorem src_inb (j : ℕ) : ∀ a : Fin 4, (![0, j % 16, 0, 128 * (j / 16 % 8)] : Fin 4 → ℕ) a + S1x1x32x128.size a ≤ S1x16x32x1024.size a := by
  intro a
  match a with
  | ⟨0, _⟩ => exact (show 0 + 1 ≤ 1 by omega)
  | ⟨1, _⟩ => exact (show j % 16 + 1 ≤ 16 by omega)
  | ⟨2, _⟩ => exact (show 0 + 32 ≤ 32 by omega)
  | ⟨3, _⟩ => exact (show 128 * (j / 16 % 8) + 128 ≤ 1024 by omega)

section Slab

variable (A : Memref sig .tc .vmem S1x16x32x1024 .bf16) (hA : A.IsWhole) (x : FVec Ideal S1x16x32x1024 .bf16)

/-- What the `j`-th store holds. -/
def row (j : ℕ) : View.Piece (Elt Ideal) S8x512x128 .f32 :=
  ⟨rowRect j, k0_pay3 (F := Ideal) (View.readAt (Elt Ideal) A.view (Rect.unit (s := S1x16x32x1024) ![0, j % 16, 0, 128 * (j / 16 % 8)] S1x1x32x128.size (src_inb j)).toLoadRect (hA.unread x))⟩

/-- The first `n` stores, the last of them first. -/
def rows : ℕ → List (View.Piece (Elt Ideal) S8x512x128 .f32)
  | 0 => []
  | n + 1 => row A hA x n :: rows n

theorem mem_rows (n j : ℕ) (h : j < n) : row A hA x j ∈ rows A hA x n := by
  induction n with
  | zero => omega
  | succ n ih =>
    rcases Nat.lt_succ_iff_lt_or_eq.mp h with h | rfl
    · exact List.mem_cons_of_mem _ (ih h)
    · exact List.mem_cons_self

theorem of_mem_rows (n : ℕ) (p) (h : p ∈ rows A hA x n) : ∃ j, p = row A hA x j := by
  induction n with
  | zero => simp [rows] at h
  | succ n ih =>
    rcases List.mem_cons.mp h with h | h
    · exact ⟨n, h⟩
    · exact ih h

/-- The slab's contents. -/
def slab (y : S8x512x128.Idx) : EReal :=
  x (ix4 0 ⟨(y 1).val % 16, by omega⟩ ⟨(y 1).val / 16, by have h : (y 1).val < 512 := (y 1).isLt; omega⟩
    ⟨128 * (y 0).val + (y 2).val, by have h : (y 0).val < 8 := (y 0).isLt; have h' : (y 2).val < 128 := (y 2).isLt; omega⟩)

theorem pay3_at (v : FVec Ideal S1x1x32x128 .bf16) (y : S1x32x128.Idx) : k0_pay3 (F := Ideal) v y = v (ix4 0 0 (y 1) (y 2)) := by
  pointwise [k0_pay3]

theorem src_idx (j : ℕ) (p : Fin 32) (q : Fin 128) :
    (Rect.unit (s := S1x16x32x1024) ![0, j % 16, 0, 128 * (j / 16 % 8)] S1x1x32x128.size (src_inb j)).toLoadRect.idx (ix4 0 0 p q : S1x1x32x128.Idx)
      = (ix4 0 ⟨j % 16, by omega⟩ p ⟨128 * (j / 16 % 8) + q.val, by have h := q.isLt; omega⟩ : S1x16x32x1024.Idx) := by
  funext a
  match a with
  | ⟨0, _⟩ => exact Fin.ext (show 0 + 1 * 0 = 0 by omega)
  | ⟨1, _⟩ => exact Fin.ext (show j % 16 + 1 * 0 = j % 16 by omega)
  | ⟨2, _⟩ => exact Fin.ext (show 0 + 1 * p.val = p.val by omega)
  | ⟨3, _⟩ => exact Fin.ext (show 128 * (j / 16 % 8) + 1 * q.val = 128 * (j / 16 % 8) + q.val by omega)

theorem slab_at (a : Fin 8) (b : Fin 512) (l : Fin 128) :
    slab x (ix3 a b l) = x (ix4 0 ⟨b.val % 16, by omega⟩ ⟨b.val / 16, by have h := b.isLt; omega⟩ ⟨128 * a.val + l.val, by have h := a.isLt; have h' := l.isLt; omega⟩) := rfl

theorem dst_idx (j : ℕ) (y : S1x32x128.Idx) : (rowRect j).emb y
    = (ix3 ⟨j / 16 % 8, by omega⟩ ⟨j % 16 + 16 * (y 1).val, by have h : (y 1).val < 32 := (y 1).isLt; omega⟩ (y 2) : S8x512x128.Idx) := by
  have h0 : (y 0).val < 1 := (y 0).isLt
  funext a
  match a with
  | ⟨0, _⟩ => exact Fin.ext (show j / 16 % 8 + 1 * (y 0).val = j / 16 % 8 by omega)
  | ⟨1, _⟩ => rfl
  | ⟨2, _⟩ => exact Fin.ext (show 0 + 1 * (y 2).val = (y 2).val by omega)

theorem row_val (j : ℕ) (y : S1x32x128.Idx) :
    k0_pay3 (F := Ideal) (View.readAt (Elt Ideal) A.view (Rect.unit (s := S1x16x32x1024) ![0, j % 16, 0, 128 * (j / 16 % 8)] S1x1x32x128.size (src_inb j)).toLoadRect (hA.unread x)) y
      = slab x ((rowRect j).emb y) := by
  have h1 : (y 1).val < 32 := (y 1).isLt
  have e1 : (⟨(j % 16 + 16 * (y 1).val) % 16, by omega⟩ : Fin 16) = ⟨j % 16, by omega⟩ := Fin.ext (by show (j % 16 + 16 * (y 1).val) % 16 = j % 16; omega)
  have e2 : (⟨(j % 16 + 16 * (y 1).val) / 16, by omega⟩ : Fin 32) = y 1 := Fin.ext (by show (j % 16 + 16 * (y 1).val) / 16 = (y 1).val; omega)
  have e3 : slab x ((rowRect j).emb y) = x (ix4 0 ⟨j % 16, by omega⟩ (y 1) ⟨128 * (j / 16 % 8) + (y 2).val, by have h : (y 2).val < 128 := (y 2).isLt; omega⟩) := by
    refine (congrArg (slab x) (dst_idx j y)).trans ((slab_at x _ _ _).trans ?_)
    rw [e1, e2]
  rw [e3]
  exact (pay3_at _ y).trans (load_at A hA x _ _ _ (src_idx j (y 1) (y 2)))

theorem row_slab (j : ℕ) (y : (row A hA x j).1.shape.Idx) : (row A hA x j).2 y = slab x ((row A hA x j).1.emb y) := row_val A hA x j y

/-- A slab read back after all its rows are stored. -/
theorem read_slab (B : Memref sig .tc .vmem S8x512x128 .f32) (n : ℕ) (R : LoadRect S8x512x128) (y : R.shape.Idx) (h : (R.idx y 0).val * 16 + 16 ≤ n) :
    B.view.readCov (rows A hA x n) R y = slab x (R.idx y) := by
  rw [View.readCov_eq_canon']
  refine View.canon_apply_of_pieces (Val := Elt Ideal) (S := S8x512x128) (e := .f32) (slab x) _ (fun p hp z => ?_) _ ?_
  · obtain ⟨j, rfl⟩ := of_mem_rows A hA x n p hp
    exact row_slab A hA x j z
  · have h0 : (R.idx y 0).val < 8 := (R.idx y 0).isLt
    have h1 : (R.idx y 1).val < 512 := (R.idx y 1).isLt
    have h2 : (R.idx y 2).val < 128 := (R.idx y 2).isLt
    refine ⟨_, mem_rows A hA x n (16 * (R.idx y 0).val + (R.idx y 1).val % 16) (by omega), ?_⟩
    rw [LoadRect.mem_set]
    intro a
    match a with
    | ⟨0, _⟩ => exact ⟨0, Nat.one_pos, show (R.idx y 0).val = (16 * (R.idx y 0).val + (R.idx y 1).val % 16) / 16 % 8 + 1 * 0 by omega⟩
    | ⟨1, _⟩ => exact ⟨(R.idx y 1).val / 16, show (R.idx y 1).val / 16 < 32 by omega, show (R.idx y 1).val = (16 * (R.idx y 0).val + (R.idx y 1).val % 16) % 16 + 16 * ((R.idx y 1).val / 16) by omega⟩
    | ⟨2, _⟩ => exact ⟨(R.idx y 2).val, h2, show (R.idx y 2).val = 0 + 1 * (R.idx y 2).val by omega⟩

variable (c : Dev nD)

theorem stored_32 : kernelRun0_A.sl.HS0_32 (F := Ideal) c A hA x = rows A hA x 32 := rfl
theorem stored_64 : kernelRun0_A.sl.HS0_64 (F := Ideal) c A hA x = rows A hA x 64 := rfl
theorem stored_96 : kernelRun0_A.sl.HS0_96 (F := Ideal) c A hA x = rows A hA x 96 := rfl
theorem stored_128 : kernelRun0_A.sl.HS0_128 (F := Ideal) c A hA x = rows A hA x 128 := rfl

end Slab

end Cert.EvenOutIdeal.BlockValue
-- ==== Proof.ConvBlock.lean ====
/-
  One grid point of the even output projection: the convolution's tiles and the attention's, each 256 columns of the product's
  contracted axis, and the row block they sum to.
-/
module

public import proofs.«01_k».proof.Proof.ConvSlab

@[expose] public section

set_option maxRecDepth 16384

noncomputable section

open Idealize.ShloMosaic Cert.EvenOutIdeal Cert.EvenOutIdeal.Gen

namespace Cert.EvenOutIdeal.BlockValue

/-- The row `s` before row `r`: of the block, or of the eight rows before it (nothing, at a sequence's start). -/
def past (bt : BitVec 1) {n : ℕ} (u : Fin 512 → Fin n → EReal) (h : Fin 8 → Fin n → EReal) (s : ℕ) (r : Fin 512) (l : Fin n) : EReal :=
  if s ≤ r.val then u ⟨r.val - s, by omega⟩ l else if bt = 1#1 then 0 else h ⟨(r.val + 8 - s) % 8, by omega⟩ l

/-- The convolution, gated. -/
def conv (bt : BitVec 1) {n : ℕ} (g u : Fin 512 → Fin n → EReal) (h : Fin 8 → Fin n → EReal) (w : Fin 3 → Fin n → EReal) (r : Fin 512) (l : Fin n) : EReal :=
  g r l * (w 0 l * past bt u h 2 r l + w 1 l * past bt u h 1 r l + w 2 l * u r l)

theorem row_number (i : Fin 8) (l : Fin 256) : kernelRun0_A.sl.v833 (ix2 i l) = BitVec.ofNat 32 i.val := by
  pointwise [kernelRun0_A.sl.v833]

theorem sel_one (i : Fin 8) (l : Fin 256) (a b : EReal) :
    Scalar.select (IntOp.cmpi CmpIPredicate.sge (kernelRun0_A.sl.v833 (ix2 i l)) 1#32) a b = if 1 ≤ i.val then a else b := by
  rw [row_number]
  unfold Scalar.select
  fin_cases i <;> rfl

theorem sel_two (i : Fin 8) (l : Fin 256) (a b : EReal) :
    Scalar.select (IntOp.cmpi CmpIPredicate.sge (kernelRun0_A.sl.v833 (ix2 i l)) 2#32) a b = if 2 ≤ i.val then a else b := by
  rw [row_number]
  unfold Scalar.select
  fin_cases i <;> rfl

/-- The two pieces of a shifted column are `past`. -/
theorem past_one (bt : BitVec 1) (u : FVec Ideal S512x256 .bf16) (h : FVec Ideal S8x256 .bf16) (r : Fin 512) (l : Fin 256) :
    (if p : r.val < 8 then
        Scalar.select (IntOp.cmpi CmpIPredicate.sge (kernelRun0_A.sl.v833 (ix2 ⟨r.val, p⟩ l)) 1#32)
          (u (ix2 ⟨(r.val + 512 - 1) % 512, by omega⟩ l)) (Scalar.select bt 0 (h (ix2 ⟨(r.val + 8 - 1) % 8, by omega⟩ l)))
      else u (ix2 ⟨(8 + (r.val - 8) + 512 - 1) % 512, by omega⟩ l))
      = past bt (fun a b => u (ix2 a b)) (fun a b => h (ix2 a b)) 1 r l := by
  unfold past
  split
  · rw [sel_one]
    split
    · rename_i hr hs
      have hs' : 1 ≤ r.val := hs
      exact congrArg (fun a => u (ix2 a l)) (Fin.ext (by show (r.val + 512 - 1) % 512 = r.val - 1; omega))
    · rfl
  · rw [if_pos (by omega)]
    exact congrArg (fun a => u (ix2 a l)) (Fin.ext (by show (8 + (r.val - 8) + 512 - 1) % 512 = r.val - 1; omega))

theorem past_two (bt : BitVec 1) (u : FVec Ideal S512x256 .bf16) (h : FVec Ideal S8x256 .bf16) (r : Fin 512) (l : Fin 256) :
    (if p : r.val < 8 then
        Scalar.select (IntOp.cmpi CmpIPredicate.sge (kernelRun0_A.sl.v833 (ix2 ⟨r.val, p⟩ l)) 2#32)
          (u (ix2 ⟨(r.val + 512 - 2) % 512, by omega⟩ l)) (Scalar.select bt 0 (h (ix2 ⟨(r.val + 8 - 2) % 8, by omega⟩ l)))
      else u (ix2 ⟨(8 + (r.val - 8) + 512 - 2) % 512, by omega⟩ l))
      = past bt (fun a b => u (ix2 a b)) (fun a b => h (ix2 a b)) 2 r l := by
  unfold past
  split
  · rw [sel_two]
    split
    · rename_i hr hs
      have hs' : 2 ≤ r.val := hs
      exact congrArg (fun a => u (ix2 a l)) (Fin.ext (by show (r.val + 512 - 2) % 512 = r.val - 2; omega))
    · rfl
  · rw [if_pos (by omega)]
    exact congrArg (fun a => u (ix2 a l)) (Fin.ext (by show (8 + (r.val - 8) + 512 - 2) % 512 = r.val - 2; omega))

section Tiles

variable (bt : BitVec 1) (g u : FVec Ideal S512x256 .bf16) (h : FVec Ideal S8x256 .bf16) (w0 w1 w2 : FVec Ideal S1x256 .f32)
  (w : FVec Ideal S1x256x1024 .bf16) (acc : FVec Ideal S512x1024 .f32) (r : Fin 512) (q : Fin 1024)

/-- The convolution on a tile. -/
def convT (r : Fin 512) (l : Fin 256) : EReal :=
  conv bt (fun a b => g (ix2 a b)) (fun a b => u (ix2 a b)) (fun a b => h (ix2 a b)) ![fun b => w0 (ix2 0 b), fun b => w1 (ix2 0 b), fun b => w2 (ix2 0 b)] r l

theorem conv_0 : k0_pay152 (F := Ideal) acc (k0_pay151 bt kernelRun0_A.sl.v833 (k0_pay150 u) h w0 w1 w2 g) w (ix2 r q)
    = acc (ix2 r q) + ∑ l : Fin 256, convT bt g u h w0 w1 w2 r l * w (ix3 0 l q) := by
  pointwise [k0_pay152, k0_pay151, k0_pay150]
  simp only [past_one, past_two]
  rfl

theorem conv_1 : k0_pay156 (F := Ideal) acc (k0_pay154 bt kernelRun0_A.sl.v833 u h w0 w1) (k0_pay155 u w2) g w (ix2 r q)
    = acc (ix2 r q) + ∑ l : Fin 256, convT bt g u h w0 w1 w2 r l * w (ix3 0 l q) := by
  pointwise [k0_pay156, k0_pay155, k0_pay154, k0_pay153]
  simp only [past_one, past_two]
  rfl

theorem conv_2 : k0_pay161 (F := Ideal) acc (k0_pay157 u) (k0_pay159 bt kernelRun0_A.sl.v833 u h) (k0_pay160 bt kernelRun0_A.sl.v833 u h w0) w1 w2 g w (ix2 r q)
    = acc (ix2 r q) + ∑ l : Fin 256, convT bt g u h w0 w1 w2 r l * w (ix3 0 l q) := by
  pointwise [k0_pay161, k0_pay160, k0_pay159, k0_pay158, k0_pay157]
  simp only [past_one, past_two]
  rfl

theorem conv_3 : k0_pay1 (F := Ideal) acc (k0_pay168 (k0_pay162 u) (k0_pay165 bt kernelRun0_A.sl.v833 u h) (k0_pay166 bt kernelRun0_A.sl.v833 u h) (k0_pay167 u) w0 w1 w2) g w (ix2 r q)
    = acc (ix2 r q) + ∑ l : Fin 256, convT bt g u h w0 w1 w2 r l * w (ix3 0 l q) := by
  pointwise [k0_pay1, k0_pay168, k0_pay167, k0_pay166, k0_pay165, k0_pay164, k0_pay163, k0_pay162]
  simp only [past_one, past_two]
  rfl

variable (a b : FVec Ideal S1x512x128 .f32) (z : FVec Ideal S512x256 .bf16)

/-- The attention on a tile of two slabs. -/
def attnT : EReal :=
  ∑ l : Fin 128, a (ix3 0 r l) * z (ix2 r ⟨l.val, by omega⟩) * w (ix3 0 ⟨l.val, by omega⟩ q)
    + ∑ l : Fin 128, b (ix3 0 r l) * z (ix2 r ⟨128 + l.val, by omega⟩) * w (ix3 0 ⟨128 + l.val, by omega⟩ q)

theorem attn_0 : k0_pay38 (F := Ideal) acc a b z w (ix2 r q) = acc (ix2 r q) + attnT w r q a b z := by
  pointwise [k0_pay38]
  rfl

theorem attn_1 : k0_pay75 (F := Ideal) acc a b z w (ix2 r q) = acc (ix2 r q) + attnT w r q a b z := by
  pointwise [k0_pay75]
  rfl

theorem attn_2 : k0_pay112 (F := Ideal) acc a b z w (ix2 r q) = acc (ix2 r q) + attnT w r q a b z := by
  pointwise [k0_pay112]
  rfl

theorem attn_3 : k0_pay149 (F := Ideal) acc a b z w (ix2 r q) = acc (ix2 r q) + attnT w r q a b z := by
  pointwise [k0_pay149]
  rfl

theorem start (x : FVec Ideal S512x1024 .f32) : k0_pay2 (F := Ideal) x (ix2 r q) = x (ix2 r q) := by
  pointwise [k0_pay2]

end Tiles

/-- A sum over 1024 in quarters. -/
theorem sum_quarters (f : Fin 1024 → EReal) :
    ∑ k : Fin 1024, f k = (∑ l : Fin 256, f ⟨l.val, by omega⟩) + (∑ l : Fin 256, f ⟨256 + l.val, by omega⟩)
      + (∑ l : Fin 256, f ⟨512 + l.val, by omega⟩) + (∑ l : Fin 256, f ⟨768 + l.val, by omega⟩) := by
  rw [show (∑ k : Fin 1024, f k) = ∑ k : Fin (768 + 256), f k from rfl, Fin.sum_univ_add]
  refine congrArg₂ (· + ·) ?_ rfl
  rw [show (∑ k : Fin 768, f (Fin.castAdd 256 k)) = ∑ k : Fin (512 + 256), f (Fin.castAdd 256 k) from rfl, Fin.sum_univ_add]
  refine congrArg₂ (· + ·) ?_ rfl
  rw [show (∑ k : Fin 512, f (Fin.castAdd 256 (Fin.castAdd 256 k))) = ∑ k : Fin (256 + 256), f (Fin.castAdd 256 (Fin.castAdd 256 k)) from rfl, Fin.sum_univ_add]
  rfl

/-- A sum over 256 in halves. -/
theorem sum_halves (f : Fin 256 → EReal) :
    ∑ k : Fin 256, f k = (∑ l : Fin 128, f ⟨l.val, by omega⟩) + (∑ l : Fin 128, f ⟨128 + l.val, by omega⟩) := by
  rw [show (∑ k : Fin 256, f k) = ∑ k : Fin (128 + 128), f k from rfl, Fin.sum_univ_add]
  rfl

/-! The whole block. -/

theorem zero2 : (![0, 0] : Fin 2 → Nat) = fun _ => 0 := funext fun a => by fin_cases a <;> rfl

section Loads

/-- A rectangle of a matrix, loaded. -/
theorem load2 {s0 s1 t0 t1 : ℕ} {e : EltTy} (A : Memref sig .tc .vmem ⟨2, ![s0, s1]⟩ e) (hA : A.IsWhole) (x : Vec Ideal ⟨2, ![s0, s1]⟩ e) (o0 o1 : ℕ)
    (inb : ∀ a, (![o0, o1] : Fin 2 → ℕ) a + (![t0, t1] : Fin 2 → ℕ) a ≤ (⟨2, ![s0, s1]⟩ : Shape).size a) (r : Fin t0) (l : Fin t1) (i : Fin s0) (j : Fin s1)
    (hi : i.val = o0 + r.val) (hj : j.val = o1 + l.val) :
    View.readAt (Elt Ideal) A.view (Rect.unit (s := ⟨2, ![s0, s1]⟩) ![o0, o1] ![t0, t1] inb).toLoadRect (hA.unread x) (ix2 r l) = x (ix2 i j) := by
  refine load_at A hA x _ _ _ ?_
  funext a; apply Fin.ext
  match a with
  | ⟨0, _⟩ => exact (show o0 + 1 * r.val = i.val by omega)
  | ⟨1, _⟩ => exact (show o1 + 1 * l.val = j.val by omega)

/-- Rows of the weights, loaded. -/
theorem load3 {s1 s2 t1 t2 : ℕ} {e : EltTy} (A : Memref sig .tc .vmem ⟨3, ![1, s1, s2]⟩ e) (hA : A.IsWhole) (x : Vec Ideal ⟨3, ![1, s1, s2]⟩ e) (o1 o2 : ℕ)
    (inb : ∀ a, (![0, o1, o2] : Fin 3 → ℕ) a + (![1, t1, t2] : Fin 3 → ℕ) a ≤ (⟨3, ![1, s1, s2]⟩ : Shape).size a) (r : Fin t1) (l : Fin t2) (i : Fin s1) (j : Fin s2)
    (hi : i.val = o1 + r.val) (hj : j.val = o2 + l.val) :
    View.readAt (Elt Ideal) A.view (Rect.unit (s := ⟨3, ![1, s1, s2]⟩) ![0, o1, o2] ![1, t1, t2] inb).toLoadRect (hA.unread x) (ix3 0 r l) = x (ix3 0 i j) := by
  refine load_at A hA x _ _ _ ?_
  funext a; apply Fin.ext
  match a with
  | ⟨0, _⟩ => rfl
  | ⟨1, _⟩ => exact (show o1 + 1 * r.val = i.val by omega)
  | ⟨2, _⟩ => exact (show o2 + 1 * l.val = j.val by omega)

/-- A slab of the scratch, read back. -/
theorem load_slab (B : Memref sig .tc .vmem S8x512x128 .f32) (A : Memref sig .tc .vmem S1x16x32x1024 .bf16) (hA : A.IsWhole) (x : FVec Ideal S1x16x32x1024 .bf16)
    (n k : ℕ) (hk : k < 8) (hn : k * 16 + 16 ≤ n) (inb : ∀ a, (![k, 0, 0] : Fin 3 → ℕ) a + S1x512x128.size a ≤ S8x512x128.size a) (r : Fin 512) (l : Fin 128)
    (j : Fin 1024) (hj : j.val = 128 * k + l.val) :
    B.view.readCov (rows A hA x n) (Rect.unit (s := S8x512x128) ![k, 0, 0] S1x512x128.size inb).toLoadRect (ix3 0 r l)
      = x (ix4 0 ⟨r.val % 16, by omega⟩ ⟨r.val / 16, by omega⟩ j) := by
  have e : (Rect.unit (s := S8x512x128) ![k, 0, 0] S1x512x128.size inb).toLoadRect.idx (ix3 0 r l) = (ix3 ⟨k, hk⟩ r l : S8x512x128.Idx) := by
    funext a; apply Fin.ext
    match a with
    | ⟨0, _⟩ => rfl
    | ⟨1, _⟩ => exact (show 0 + 1 * r.val = r.val by omega)
    | ⟨2, _⟩ => exact (show 0 + 1 * l.val = l.val by omega)
  refine (read_slab A hA x B n _ _ ?_).trans ?_
  · rw [e]; exact hn
  · rw [e]
    refine (slab_at x _ _ _).trans (congrArg (fun b => x (ix4 0 _ _ b)) (Fin.ext hj.symm))

end Loads

section Whole

variable (bt : BitVec 1) (x0 x1 x2 : FVec Ideal S512x1024 .bf16) (x3 : FVec Ideal S1x16x32x1024 .bf16) (x4 : FVec Ideal S8x1024 .bf16)
  (x5 : FVec Ideal S3x1024 .f32) (x6 : FVec Ideal S1x2048x1024 .bf16) (x7 : FVec Ideal S512x1024 .f32) (r : Fin 512) (q : Fin 1024)

/-- The convolution of a grid point's blocks. -/
def cval (r : Fin 512) (k : Fin 1024) : EReal :=
  conv bt (fun a b => x0 (ix2 a b)) (fun a b => x1 (ix2 a b)) (fun a b => x4 (ix2 a b)) (fun j b => x5 (ix2 j b)) r k

/-- The attention of a grid point's blocks. -/
def aval (r : Fin 512) (k : Fin 1024) : EReal :=
  x3 (ix4 0 ⟨r.val % 16, by omega⟩ ⟨r.val / 16, by omega⟩ k) * x2 (ix2 r k)

/-- A term of each half of the product. -/
def cterm (k : Fin 1024) : EReal := cval bt x0 x1 x4 x5 r k * x6 (ix3 0 ⟨k.val, by omega⟩ q)
def aterm (k : Fin 1024) : EReal := aval x2 x3 r k * x6 (ix3 0 ⟨1024 + k.val, by omega⟩ q)

/-- The row block a grid point writes. -/
def blockAt : EReal := x7 (ix2 r q) + (∑ k : Fin 1024, cterm bt x0 x1 x4 x5 x6 r q k + ∑ k : Fin 1024, aterm x2 x3 x6 r q k)

/-- A tile of the convolution's half. -/
theorem conv_tile (o : ℕ) (ho : o + 256 ≤ 1024) (g u : FVec Ideal S512x256 .bf16) (h : FVec Ideal S8x256 .bf16) (w0 w1 w2 : FVec Ideal S1x256 .f32)
    (w : FVec Ideal S1x256x1024 .bf16)
    (hg : ∀ a (l : Fin 256), g (ix2 a l) = x0 (ix2 a ⟨o + l.val, by omega⟩)) (hu : ∀ a (l : Fin 256), u (ix2 a l) = x1 (ix2 a ⟨o + l.val, by omega⟩))
    (hh : ∀ a (l : Fin 256), h (ix2 a l) = x4 (ix2 a ⟨o + l.val, by omega⟩))
    (h0 : ∀ l : Fin 256, w0 (ix2 0 l) = x5 (ix2 0 ⟨o + l.val, by omega⟩)) (h1 : ∀ l : Fin 256, w1 (ix2 0 l) = x5 (ix2 1 ⟨o + l.val, by omega⟩))
    (h2 : ∀ l : Fin 256, w2 (ix2 0 l) = x5 (ix2 2 ⟨o + l.val, by omega⟩)) (hw : ∀ l : Fin 256, w (ix3 0 l q) = x6 (ix3 0 ⟨o + l.val, by omega⟩ q)) :
    ∑ l : Fin 256, convT bt g u h w0 w1 w2 r l * w (ix3 0 l q) = ∑ l : Fin 256, cterm bt x0 x1 x4 x5 x6 r q ⟨o + l.val, by omega⟩ := by
  refine Finset.sum_congr rfl fun l _ => ?_
  unfold convT cterm cval conv past
  simp only [Matrix.cons_val_zero, Matrix.cons_val_one, Matrix.cons_val, hg, hu, hh, h0, h1, h2, hw]

/-- A tile of the attention's half. -/
theorem attn_tile (o : ℕ) (ho : o + 256 ≤ 1024) (a b : FVec Ideal S1x512x128 .f32) (z : FVec Ideal S512x256 .bf16) (w : FVec Ideal S1x256x1024 .bf16)
    (ha : ∀ l : Fin 128, a (ix3 0 r l) = x3 (ix4 0 ⟨r.val % 16, by omega⟩ ⟨r.val / 16, by omega⟩ ⟨o + l.val, by omega⟩))
    (hb : ∀ l : Fin 128, b (ix3 0 r l) = x3 (ix4 0 ⟨r.val % 16, by omega⟩ ⟨r.val / 16, by omega⟩ ⟨o + (128 + l.val), by omega⟩))
    (hz : ∀ l : Fin 256, z (ix2 r l) = x2 (ix2 r ⟨o + l.val, by omega⟩)) (hw : ∀ l : Fin 256, w (ix3 0 l q) = x6 (ix3 0 ⟨1024 + (o + l.val), by omega⟩ q)) :
    attnT w r q a b z = ∑ l : Fin 256, aterm x2 x3 x6 r q ⟨o + l.val, by omega⟩ := by
  rw [sum_halves]
  unfold attnT aterm aval
  simp only [ha, hb, hz, hw]

/-- The halves' tiles, in the order the kernel adds them. -/
theorem add_tiles (x : EReal) (C A : Fin 1024 → EReal) :
    x + (∑ l : Fin 256, A ⟨0 + l.val, by omega⟩) + (∑ l : Fin 256, A ⟨256 + l.val, by omega⟩) + (∑ l : Fin 256, A ⟨512 + l.val, by omega⟩) + (∑ l : Fin 256, A ⟨768 + l.val, by omega⟩)
      + (∑ l : Fin 256, C ⟨0 + l.val, by omega⟩) + (∑ l : Fin 256, C ⟨256 + l.val, by omega⟩) + (∑ l : Fin 256, C ⟨512 + l.val, by omega⟩) + (∑ l : Fin 256, C ⟨768 + l.val, by omega⟩)
      = x + (∑ k : Fin 1024, C k + ∑ k : Fin 1024, A k) := by
  rw [sum_quarters C, sum_quarters A]
  have e : ∀ f : Fin 1024 → EReal, (∑ l : Fin 256, f ⟨0 + l.val, by omega⟩) = ∑ l : Fin 256, f ⟨l.val, by omega⟩ :=
    fun f => Finset.sum_congr rfl fun l _ => congrArg f (Fin.ext (Nat.zero_add _))
  rw [e C, e A]
  ac_rfl

end Whole

section Point

variable (c : Dev nD) (i : grid0.Coords) (arg1 : Memref sig .tc .vmem S512x1024 .bf16) (harg1 : arg1.IsWhole)
  (arg2 : Memref sig .tc .vmem S512x1024 .bf16) (harg2 : arg2.IsWhole) (arg3 : Memref sig .tc .vmem S512x1024 .bf16) (harg3 : arg3.IsWhole)
  (arg4 : Memref sig .tc .vmem S1x16x32x1024 .bf16) (harg4 : arg4.IsWhole) (arg5 : Memref sig .tc .vmem S8x1024 .bf16) (harg5 : arg5.IsWhole)
  (arg6 : Memref sig .tc .vmem S3x1024 .f32) (harg6 : arg6.IsWhole) (arg7 : Memref sig .tc .vmem S1x2048x1024 .bf16) (harg7 : arg7.IsWhole)
  (arg8 : Memref sig .tc .vmem S512x1024 .f32) (harg8 : arg8.IsWhole) (arg9 : Memref sig .tc .vmem S512x1024 .f32) (harg9 : arg9.IsWhole)
  (arg10 : Memref sig .tc .vmem S8x512x128 .f32) (harg10 : arg10.IsWhole)
  (x0 x1 x2 : FVec Ideal S512x1024 .bf16) (x3 : FVec Ideal S1x16x32x1024 .bf16) (x4 : FVec Ideal S8x1024 .bf16)
  (x5 : FVec Ideal S3x1024 .f32) (x6 : FVec Ideal S1x2048x1024 .bf16) (x7 : FVec Ideal S512x1024 .f32) (r : Fin 512) (q : Fin 1024)

theorem acc_a0 : kernelRun0_A.sl.r_6 (F := Ideal) c arg3 harg3 arg4 harg4 arg7 harg7 arg8 harg8 arg10 x2 x3 x6 x7 (ix2 r q)
    = x7 (ix2 r q) + ∑ l : Fin 256, aterm x2 x3 x6 r q ⟨0 + l.val, by omega⟩ := by
  unfold kernelRun0_A.sl.r_6
  refine (attn_0 _ _ r q _ _ _).trans (congrArg₂ (· + ·) ?_ (attn_tile x2 x3 x6 r q 0 (by omega) _ _ _ _ (fun l => ?_) (fun l => ?_) (fun l => ?_) fun l => ?_))
  · unfold kernelRun0_A.sl.r
    exact (start r q _).trans (load2 arg8 harg8 x7 0 0 _ r q r q (by omega) (by omega))
  · unfold kernelRun0_A.sl.v194
    rw [stored_32]
    exact load_slab arg10 arg4 harg4 x3 32 0 (by omega) (by omega) _ r l _ (by dsimp only)
  · unfold kernelRun0_A.sl.v196
    rw [stored_32]
    exact load_slab arg10 arg4 harg4 x3 32 1 (by omega) (by omega) _ r l _ (by dsimp only; omega)
  · exact load2 arg3 harg3 x2 0 0 _ r l r _ (by omega) (by dsimp only)
  · exact load3 arg7 harg7 x6 1024 0 _ l q _ q (by dsimp only; omega) (by omega)

theorem acc_a1 : kernelRun0_A.sl.r_11 (F := Ideal) c arg3 harg3 arg4 harg4 arg7 harg7 arg8 harg8 arg10 x2 x3 x6 x7 (ix2 r q)
    = kernelRun0_A.sl.r_6 (F := Ideal) c arg3 harg3 arg4 harg4 arg7 harg7 arg8 harg8 arg10 x2 x3 x6 x7 (ix2 r q) + ∑ l : Fin 256, aterm x2 x3 x6 r q ⟨256 + l.val, by omega⟩ := by
  unfold kernelRun0_A.sl.r_11
  refine (attn_1 _ _ r q _ _ _).trans (congrArg₂ (· + ·) ?_ (attn_tile x2 x3 x6 r q 256 (by omega) _ _ _ _ (fun l => ?_) (fun l => ?_) (fun l => ?_) fun l => ?_))
  · rfl
  · unfold kernelRun0_A.sl.v399
    rw [stored_64]
    exact load_slab arg10 arg4 harg4 x3 64 2 (by omega) (by omega) _ r l _ (by dsimp only)
  · unfold kernelRun0_A.sl.v401
    rw [stored_64]
    exact load_slab arg10 arg4 harg4 x3 64 3 (by omega) (by omega) _ r l _ (by dsimp only; omega)
  · exact load2 arg3 harg3 x2 0 256 _ r l r _ (by omega) (by dsimp only)
  · exact load3 arg7 harg7 x6 1280 0 _ l q _ q (by dsimp only; omega) (by omega)

theorem acc_a2 : kernelRun0_A.sl.r_18 (F := Ideal) c arg3 harg3 arg4 harg4 arg7 harg7 arg8 harg8 arg10 x2 x3 x6 x7 (ix2 r q)
    = kernelRun0_A.sl.r_11 (F := Ideal) c arg3 harg3 arg4 harg4 arg7 harg7 arg8 harg8 arg10 x2 x3 x6 x7 (ix2 r q) + ∑ l : Fin 256, aterm x2 x3 x6 r q ⟨512 + l.val, by omega⟩ := by
  unfold kernelRun0_A.sl.r_18
  refine (attn_2 _ _ r q _ _ _).trans (congrArg₂ (· + ·) ?_ (attn_tile x2 x3 x6 r q 512 (by omega) _ _ _ _ (fun l => ?_) (fun l => ?_) (fun l => ?_) fun l => ?_))
  · rfl
  · unfold kernelRun0_A.sl.v604
    rw [stored_96]
    exact load_slab arg10 arg4 harg4 x3 96 4 (by omega) (by omega) _ r l _ (by dsimp only)
  · unfold kernelRun0_A.sl.v606
    rw [stored_96]
    exact load_slab arg10 arg4 harg4 x3 96 5 (by omega) (by omega) _ r l _ (by dsimp only; omega)
  · exact load2 arg3 harg3 x2 0 512 _ r l r _ (by omega) (by dsimp only)
  · exact load3 arg7 harg7 x6 1536 0 _ l q _ q (by dsimp only; omega) (by omega)

theorem acc_a3 : kernelRun0_A.sl.r_23 (F := Ideal) c arg3 harg3 arg4 harg4 arg7 harg7 arg8 harg8 arg10 x2 x3 x6 x7 (ix2 r q)
    = kernelRun0_A.sl.r_18 (F := Ideal) c arg3 harg3 arg4 harg4 arg7 harg7 arg8 harg8 arg10 x2 x3 x6 x7 (ix2 r q) + ∑ l : Fin 256, aterm x2 x3 x6 r q ⟨768 + l.val, by omega⟩ := by
  unfold kernelRun0_A.sl.r_23
  refine (attn_3 _ _ r q _ _ _).trans (congrArg₂ (· + ·) ?_ (attn_tile x2 x3 x6 r q 768 (by omega) _ _ _ _ (fun l => ?_) (fun l => ?_) (fun l => ?_) fun l => ?_))
  · rfl
  · unfold kernelRun0_A.sl.v809
    rw [stored_128]
    exact load_slab arg10 arg4 harg4 x3 128 6 (by omega) (by omega) _ r l _ (by dsimp only)
  · unfold kernelRun0_A.sl.v811
    rw [stored_128]
    exact load_slab arg10 arg4 harg4 x3 128 7 (by omega) (by omega) _ r l _ (by dsimp only; omega)
  · exact load2 arg3 harg3 x2 0 768 _ r l r _ (by omega) (by dsimp only)
  · exact load3 arg7 harg7 x6 1792 0 _ l q _ q (by dsimp only; omega) (by omega)

theorem acc_c0 : kernelRun0_A.sl.r_26 (F := Ideal) c i arg1 harg1 arg2 harg2 arg3 harg3 arg4 harg4 arg5 harg5 arg6 harg6 arg7 harg7 arg8 harg8 arg10 x0 x1 x2 x3 x4 x5 x6 x7 (ix2 r q)
    = kernelRun0_A.sl.r_23 (F := Ideal) c arg3 harg3 arg4 harg4 arg7 harg7 arg8 harg8 arg10 x2 x3 x6 x7 (ix2 r q) + ∑ l : Fin 256, cterm (kernelRun0_A.sl.v832 i) x0 x1 x4 x5 x6 r q ⟨0 + l.val, by omega⟩ := by
  unfold kernelRun0_A.sl.r_26 kernelRun0_A.sl.r_25 kernelRun0_A.sl.r_24
  refine (conv_0 (kernelRun0_A.sl.v832 i) _ _ _ _ _ _ _ _ r q).trans (congrArg₂ (· + ·) rfl
    (conv_tile (kernelRun0_A.sl.v832 i) x0 x1 x4 x5 x6 r q 0 (by omega) _ _ _ _ _ _ _ (fun a l => ?_) (fun a l => ?_) (fun a l => ?_) (fun l => ?_) (fun l => ?_) (fun l => ?_) fun l => ?_))
  · exact load2 arg1 harg1 x0 0 0 _ a l a _ (by omega) (by dsimp only)
  · exact load2 arg2 harg2 x1 0 0 _ a l a _ (by omega) (by dsimp only)
  · exact load2 arg5 harg5 x4 0 0 _ a l a _ (by omega) (by dsimp only)
  · exact load2 arg6 harg6 x5 0 0 _ 0 l 0 _ rfl (by dsimp only)
  · exact load2 arg6 harg6 x5 1 0 _ 0 l 1 _ rfl (by dsimp only)
  · exact load2 arg6 harg6 x5 2 0 _ 0 l 2 _ rfl (by dsimp only)
  · exact load3 arg7 harg7 x6 0 0 _ l q _ q (by dsimp only) (by omega)

theorem acc_c1 : kernelRun0_A.sl.r_29 (F := Ideal) c i arg1 harg1 arg2 harg2 arg3 harg3 arg4 harg4 arg5 harg5 arg6 harg6 arg7 harg7 arg8 harg8 arg10 x0 x1 x2 x3 x4 x5 x6 x7 (ix2 r q)
    = kernelRun0_A.sl.r_26 (F := Ideal) c i arg1 harg1 arg2 harg2 arg3 harg3 arg4 harg4 arg5 harg5 arg6 harg6 arg7 harg7 arg8 harg8 arg10 x0 x1 x2 x3 x4 x5 x6 x7 (ix2 r q) + ∑ l : Fin 256, cterm (kernelRun0_A.sl.v832 i) x0 x1 x4 x5 x6 r q ⟨256 + l.val, by omega⟩ := by
  unfold kernelRun0_A.sl.r_29 kernelRun0_A.sl.r_28 kernelRun0_A.sl.r_27
  refine (conv_1 (kernelRun0_A.sl.v832 i) _ _ _ _ _ _ _ _ r q).trans (congrArg₂ (· + ·) rfl
    (conv_tile (kernelRun0_A.sl.v832 i) x0 x1 x4 x5 x6 r q 256 (by omega) _ _ _ _ _ _ _ (fun a l => ?_) (fun a l => ?_) (fun a l => ?_) (fun l => ?_) (fun l => ?_) (fun l => ?_) fun l => ?_))
  · exact load2 arg1 harg1 x0 0 256 _ a l a _ (by omega) (by dsimp only)
  · exact load2 arg2 harg2 x1 0 256 _ a l a _ (by omega) (by dsimp only)
  · exact load2 arg5 harg5 x4 0 256 _ a l a _ (by omega) (by dsimp only)
  · exact load2 arg6 harg6 x5 0 256 _ 0 l 0 _ rfl (by dsimp only)
  · exact load2 arg6 harg6 x5 1 256 _ 0 l 1 _ rfl (by dsimp only)
  · exact load2 arg6 harg6 x5 2 256 _ 0 l 2 _ rfl (by dsimp only)
  · exact load3 arg7 harg7 x6 256 0 _ l q _ q (by dsimp only) (by omega)

theorem acc_c2 : kernelRun0_A.sl.r_34 (F := Ideal) c i arg1 harg1 arg2 harg2 arg3 harg3 arg4 harg4 arg5 harg5 arg6 harg6 arg7 harg7 arg8 harg8 arg10 x0 x1 x2 x3 x4 x5 x6 x7 (ix2 r q)
    = kernelRun0_A.sl.r_29 (F := Ideal) c i arg1 harg1 arg2 harg2 arg3 harg3 arg4 harg4 arg5 harg5 arg6 harg6 arg7 harg7 arg8 harg8 arg10 x0 x1 x2 x3 x4 x5 x6 x7 (ix2 r q) + ∑ l : Fin 256, cterm (kernelRun0_A.sl.v832 i) x0 x1 x4 x5 x6 r q ⟨512 + l.val, by omega⟩ := by
  unfold kernelRun0_A.sl.r_34 kernelRun0_A.sl.r_33 kernelRun0_A.sl.r_32 kernelRun0_A.sl.r_31 kernelRun0_A.sl.r_30
  refine (conv_2 (kernelRun0_A.sl.v832 i) _ _ _ _ _ _ _ _ r q).trans (congrArg₂ (· + ·) rfl
    (conv_tile (kernelRun0_A.sl.v832 i) x0 x1 x4 x5 x6 r q 512 (by omega) _ _ _ _ _ _ _ (fun a l => ?_) (fun a l => ?_) (fun a l => ?_) (fun l => ?_) (fun l => ?_) (fun l => ?_) fun l => ?_))
  · exact load2 arg1 harg1 x0 0 512 _ a l a _ (by omega) (by dsimp only)
  · exact load2 arg2 harg2 x1 0 512 _ a l a _ (by omega) (by dsimp only)
  · exact load2 arg5 harg5 x4 0 512 _ a l a _ (by omega) (by dsimp only)
  · exact load2 arg6 harg6 x5 0 512 _ 0 l 0 _ rfl (by dsimp only)
  · exact load2 arg6 harg6 x5 1 512 _ 0 l 1 _ rfl (by dsimp only)
  · exact load2 arg6 harg6 x5 2 512 _ 0 l 2 _ rfl (by dsimp only)
  · exact load3 arg7 harg7 x6 512 0 _ l q _ q (by dsimp only) (by omega)

theorem acc_c3 : k0_pay1 (F := Ideal) (kernelRun0_A.sl.r_34 (F := Ideal) c i arg1 harg1 arg2 harg2 arg3 harg3 arg4 harg4 arg5 harg5 arg6 harg6 arg7 harg7 arg8 harg8 arg10 x0 x1 x2 x3 x4 x5 x6 x7) (kernelRun0_A.sl.r_39 c i arg2 harg2 arg5 harg5 arg6 harg6 x1 x4 x5) (kernelRun0_A.sl.r_40 c arg1 harg1 x0)
      (View.readAt (Elt Ideal) arg7.view (Rect.unit (s := S1x2048x1024) ![0, 768, 0] S1x256x1024.size inb_S1x2048x1024_S1x256x1024_0_768_0).toLoadRect (harg7.unread x6)) (ix2 r q)
    = kernelRun0_A.sl.r_34 (F := Ideal) c i arg1 harg1 arg2 harg2 arg3 harg3 arg4 harg4 arg5 harg5 arg6 harg6 arg7 harg7 arg8 harg8 arg10 x0 x1 x2 x3 x4 x5 x6 x7 (ix2 r q) + ∑ l : Fin 256, cterm (kernelRun0_A.sl.v832 i) x0 x1 x4 x5 x6 r q ⟨768 + l.val, by omega⟩ := by
  unfold kernelRun0_A.sl.r_40 kernelRun0_A.sl.r_39 kernelRun0_A.sl.r_38 kernelRun0_A.sl.r_37 kernelRun0_A.sl.r_36 kernelRun0_A.sl.r_35
  refine (conv_3 (kernelRun0_A.sl.v832 i) _ _ _ _ _ _ _ _ r q).trans (congrArg₂ (· + ·) rfl
    (conv_tile (kernelRun0_A.sl.v832 i) x0 x1 x4 x5 x6 r q 768 (by omega) _ _ _ _ _ _ _ (fun a l => ?_) (fun a l => ?_) (fun a l => ?_) (fun l => ?_) (fun l => ?_) (fun l => ?_) fun l => ?_))
  · exact load2 arg1 harg1 x0 0 768 _ a l a _ (by omega) (by dsimp only)
  · exact load2 arg2 harg2 x1 0 768 _ a l a _ (by omega) (by dsimp only)
  · exact load2 arg5 harg5 x4 0 768 _ a l a _ (by omega) (by dsimp only)
  · exact load2 arg6 harg6 x5 0 768 _ 0 l 0 _ rfl (by dsimp only)
  · exact load2 arg6 harg6 x5 1 768 _ 0 l 1 _ rfl (by dsimp only)
  · exact load2 arg6 harg6 x5 2 768 _ 0 l 2 _ rfl (by dsimp only)
  · exact load3 arg7 harg7 x6 768 0 _ l q _ q (by dsimp only) (by omega)

theorem out_at :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 r q)
      = blockAt (kernelRun0_A.sl.v832 i) x0 x1 x2 x3 x4 x5 x6 x7 r q := by
  unfold out0_A_8 kernelRun0_A
  rw [View.read_writes_junk_eq_canon, View.canon_unit_zero zero2]
  refine (acc_c3 c i arg1 harg1 arg2 harg2 arg3 harg3 arg4 harg4 arg5 harg5 arg6 harg6 arg7 harg7 arg8 harg8 arg10 x0 x1 x2 x3 x4 x5 x6 x7 r q).trans ?_
  rw [acc_c2, acc_c1, acc_c0, acc_a3, acc_a2, acc_a1, acc_a0]
  exact add_tiles _ (cterm (kernelRun0_A.sl.v832 i) x0 x1 x4 x5 x6 r q) (aterm x2 x3 x6 r q)

end Point

end Cert.EvenOutIdeal.BlockValue
-- ==== Proof.ConvValue.lean ====
/-
  The even output projection's value: the array its kernel leaves is the reference's, row block by row block.
-/
module

public import proofs.«01_k».proof.Proof.Gen.EvenOutIdeal.Value
public import proofs.«01_k».proof.Proof.ConvRef
public import proofs.«01_k».proof.Proof.ConvHost
public import proofs.«01_k».proof.Proof.ConvBlock

@[expose] public section

set_option maxRecDepth 16384

noncomputable section

open Idealize.ShloMosaic Idealize.ShloMosaic.TcCoe Idealize.SL.Sem
open Idealize.ShloMosaic.Pipeline (Dat)

namespace Cert.EvenOutIdeal.RefValue

open Cert.EvenOutIdeal Cert.EvenOutIdeal.Gen Cert.EvenOutIdeal.HostValue Cert.EvenOutIdeal.BlockValue

variable (m : (ℓ : Loc nD τ sig) → Buf (Elt Ideal) ℓ) (ρ : Dev nD → PrngReg)

/-- The reference's result on device `c`'s arguments: what the result array is shown to hold. -/
abbrev goal (c : Dev nD) : Buf (Elt Ideal) ((c : Thread nD τ).loc main_v6) :=
  Cert.EvenOutRefIdeal.Read.val_main_v34 (F := Ideal) (A0 m c) (A1 m c) (A2 m c) (A3 m c) (A4 m c)

/-- The kernel's test of a sequence's first row block, decided over the grid's points. -/
theorem first_block : ∀ t : Fin grid0.N, (kernelRun0_A.sl.v832 (grid0.coords t) = 1#1) ↔ t.val % 16 = 0 := by decide +kernel

section Blocks

variable (x0 x1 x2 : FVec Ideal S512x1024 .bf16) (x3 : FVec Ideal S1x16x32x1024 .bf16) (x4 : FVec Ideal S8x1024 .bf16)
  (x5 : FVec Ideal S3x1024 .f32) (x6 : FVec Ideal S1x2048x1024 .bf16) (x7 : FVec Ideal S512x1024 .f32)
  (a0 : FVec Ideal S32768x6144 .f32) (a1 : FVec Ideal S4x16x512x1024 .f32) (a2 : FVec Ideal S2x3x1024 .f32) (a3 : FVec Ideal S2x2048x1024 .f32)
  (a4 : FVec Ideal S4x8192x1024 .f32) (bt : BitVec 1) (t : ℕ) (ht : t < 64) (r : Fin 512) (q : Fin 1024)

/-- A row before: in the block, in the eight rows before it, or before the sequence. -/
theorem past_of (hb : bt = 1#1 ↔ t % 16 = 0) (s : ℕ) (hs : s ≤ 2) (k : Fin 1024)
    (h1 : ∀ a, x1 (ix2 a k) = a0 (ix2 ⟨t * 512 + a.val, by omega⟩ ⟨4096 + k.val, by omega⟩))
    (h4 : ∀ a, x4 (ix2 a k) = a0 (ix2 ⟨(t * 64 - 1) * 8 + a.val, by omega⟩ ⟨4096 + k.val, by omega⟩)) :
    past bt (fun a b => x1 (ix2 a b)) (fun a b => x4 (ix2 a b)) s r k = Cert.EvenOutRefIdeal.RowValue.before a0 s ⟨t * 512 + r.val, by omega⟩ k := by
  unfold past Cert.EvenOutRefIdeal.RowValue.before
  dsimp only
  by_cases hr : s ≤ r.val
  · rw [if_pos hr, if_pos (by omega), h1]
    exact congrArg (fun n => a0 (ix2 n _)) (Fin.ext (by show t * 512 + (r.val - s) = t * 512 + r.val - s; omega))
  · rw [if_neg hr]
    by_cases hf : t % 16 = 0
    · rw [if_pos (hb.mpr hf), if_neg (by omega)]
    · rw [if_neg (fun h => hf (hb.mp h)), if_pos (by omega), h4]
      exact congrArg (fun n => a0 (ix2 n _)) (Fin.ext (by show (t * 64 - 1) * 8 + (r.val + 8 - s) % 8 = t * 512 + r.val - s; omega))

/-- The row block on blocks that hold the arguments' entries is the reference's rows. -/
theorem block_of (hb : bt = 1#1 ↔ t % 16 = 0)
    (h0 : ∀ k, x0 (ix2 r k) = a0 (ix2 ⟨t * 512 + r.val, by omega⟩ ⟨3072 + k.val, by omega⟩))
    (h1 : ∀ a k, x1 (ix2 a k) = a0 (ix2 ⟨t * 512 + a.val, by omega⟩ ⟨4096 + k.val, by omega⟩))
    (h2 : ∀ k, x2 (ix2 r k) = a0 (ix2 ⟨t * 512 + r.val, by omega⟩ ⟨5120 + k.val, by omega⟩))
    (h3 : ∀ ρ p k, x3 (ix4 0 ρ p k) = a1 (ix4 ⟨t / 16, by omega⟩ ρ ⟨t % 16 * 32 + p.val, by omega⟩ k))
    (h4 : ∀ a k, x4 (ix2 a k) = a0 (ix2 ⟨(t * 64 - 1) * 8 + a.val, by omega⟩ ⟨4096 + k.val, by omega⟩))
    (h5 : ∀ j k, x5 (ix2 j k) = a2 (ix3 1 j k)) (h6 : ∀ k, x6 (ix3 0 k q) = a3 (ix3 1 k q))
    (h7 : x7 (ix2 r q) = a4 (ix3 ⟨(t * 512 + r.val) / 8192, by omega⟩ ⟨(t * 512 + r.val) % 8192, by omega⟩ q)) :
    blockAt bt x0 x1 x2 x3 x4 x5 x6 x7 r q
      = Cert.EvenOutRefIdeal.Read.val_main_v34 (F := Ideal) a0 a1 a2 a3 a4 (ix2 ⟨t * 512 + r.val, by omega⟩ q) := by
  rw [Cert.EvenOutRefIdeal.RowValue.at_entry]
  unfold blockAt
  refine congrArg₂ (· + ·) h7 (congrArg₂ (· + ·) (Finset.sum_congr rfl fun k _ => ?_) (Finset.sum_congr rfl fun k _ => ?_))
  · unfold cterm
    refine congrArg₂ (· * ·) ?_ (h6 _)
    unfold cval BlockValue.conv Cert.EvenOutRefIdeal.RowValue.conv
    rw [past_of x1 x4 a0 bt t ht r hb 2 (by omega) k (fun a => h1 a k) (fun a => h4 a k), past_of x1 x4 a0 bt t ht r hb 1 (by omega) k (fun a => h1 a k) (fun a => h4 a k)]
    dsimp only
    rw [h0, h1, h5, h5, h5]
  · unfold aterm
    refine congrArg₂ (· * ·) ?_ (h6 _)
    unfold aval Cert.EvenOutRefIdeal.RowValue.attn
    rw [h2, h3]
    refine congrArg (· * _) (congrArg a1 ?_)
    have e0 : (⟨t / 16, by omega⟩ : Fin 4) = ⟨(t * 512 + r.val) / 8192, by omega⟩ := Fin.ext (by show t / 16 = (t * 512 + r.val) / 8192; omega)
    have e1 : (⟨r.val % 16, by omega⟩ : Fin 16) = ⟨(t * 512 + r.val) % 8192 % 16, by omega⟩ := Fin.ext (by show r.val % 16 = (t * 512 + r.val) % 8192 % 16; omega)
    have e2 : (⟨t % 16 * 32 + r.val / 16, by omega⟩ : Fin 512) = ⟨(t * 512 + r.val) % 8192 / 16, by omega⟩ :=
      Fin.ext (by show t % 16 * 32 + r.val / 16 = (t * 512 + r.val) % 8192 / 16; omega)
    dsimp only
    rw [e0, e1, e2]

end Blocks

/-- What a grid point writes back is its row block of the reference's result. -/
theorem flushed_eq (c : Dev nD) (t : Fin cfg0.N) :
    (dats m 0 c).flushed 8 t = ((cfg0.win 8).blk t).view.read (Elt Ideal) (goal m c) := by
  have h : t.val < 64 := t.isLt
  rw [Value.flushed8_A]
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) = _
  funext j
  obtain ⟨r, q, rfl⟩ : ∃ (r : Fin 512) (q : Fin 1024), j = ix2 r q := ⟨j 0, j 1, eq_ix2 j⟩
  refine (out_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ _ _ _ _ _ _ r q).trans
    (Eq.trans ?_ (read_8 (goal m c) t _ _ (emb_8 t h r q)).symm)
  exact block_of _ _ _ _ _ _ _ _ (A0 m c) (A1 m c) (A2 m c) (A3 m c) (A4 m c) _ t.val h r q (first_block t)
    (fun k => block_0 m c t h r k) (fun a k => block_1 m c t h a k) (fun k => block_2 m c t h r k) (fun ρ p k => block_3 m c t h ρ p k)
    (fun a k => block_4 m c t h a k) (fun j k => block_5 m c t j k) (fun k => block_6 m c t k q) (block_7 m c t h r q)

/-- An index is in a point's block when its row is one of the point's 512 rows. -/
theorem mem_blk (t : Fin cfg0.N) (i : S32768x1024.Idx) (hi : t.val * 512 ≤ (i 0 : Nat) ∧ (i 0 : Nat) < t.val * 512 + 512) :
    i ∈ ((cfg0.win 8).blk t).view.set := by
  show i ∈ ((View.whole main_v6).slice (win0_8.rect t)).set
  rw [View.set_slice_whole, Rect.mem_set_unit]
  obtain ⟨_, _, _, _, _, _, _, _, ⟨h0, h1⟩⟩ := index_facts t
  have hl : (i 1 : Nat) < 1024 := (i 1).isLt
  have e0 : win0_8.index t 0 * 512 ≤ (i 0 : Nat) ∧ (i 0 : Nat) < win0_8.index t 0 * 512 + 512 := by
    obtain ⟨ha, hb⟩ := hi
    omega
  have e1 : win0_8.index t 1 * 1024 ≤ (i 1 : Nat) ∧ (i 1 : Nat) < win0_8.index t 1 * 1024 + 1024 := by omega
  intro a
  match a with
  | ⟨0, _⟩ => exact e0
  | ⟨1, _⟩ => exact e1

/-- The row blocks tile the result. -/
theorem cover (i : S32768x1024.Idx) :
    ∃ t : Fin cfg0.N, (cfg0.win 8).flush t = true ∧ i ∈ ((cfg0.win 8).blk t).view.set := by
  have h0 : (i 0 : Nat) < 32768 := (i 0).isLt
  have hN : cfg0.N = 64 := N_0
  refine ⟨⟨(i 0 : Nat) / 512, by omega⟩, flush0_8 _, mem_blk _ _ ?_⟩
  dsimp only
  omega

/-- So the result array ends at the reference's result. -/
theorem final (c : Dev nD) : (dats m 0 c).arrAt 8 cfg0.N = goal m c :=
  (dats m 0 c).arrAt_eq_of_cover 8 (goal m c) (fun t _ => flushed_eq m c t) cover

/-- The run, read: the result array at the reference's result, the arguments unchanged. -/
theorem run : θ_run defs (onTc (τ := τ) (main (F := Ideal))) ⟨m, fun _ => 0, ρ⟩ fun r => ∀ c : Dev nD,
      r.2.mem ((c : Thread nD τ).loc main_v6) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2⟩) (Value.run_blocks m ρ)

end Cert.EvenOutIdeal.RefValue
-- ==== Proof.NearRef.lean ====
/- The reference of the narrowest attention pattern read at one element: a softmax over the 256 keys of a block and its
   predecessor. -/
module

public import proofs.«01_k».proof.Proof.Gen.NearAttnRefIdeal.Read
public import proofs.«01_k».proof.Proof.Scalar
public import Idealize.ShloMosaic.Lib.Pointwise

@[expose] public section

set_option maxRecDepth 16384

noncomputable section

open Idealize.ShloMosaic Idealize.ShloMosaic.TcCoe Idealize.SL.Sem

namespace Cert.NearAttnRefIdeal.RowValue
open Cert.NearAttnRefIdeal Cert.NearAttnRefIdeal.Read Cert.Proof.Scalar

variable (x0 x1 x2 : Vec Ideal S4x8192x1024 .f32) (x4 : Vec Ideal S32x16 .f32)

/-- The sequence (batch, head) as the reference numbers them. -/
abbrev seq (b : Fin 4) (h : Fin 16) : Fin 64 := ⟨b * 16 + h, by omega⟩

/-- The entry of a query, key or value array at position `p` of a sequence. -/
abbrev entry (x : Vec Ideal S4x8192x1024 .f32) (b : Fin 4) (h : Fin 16) (p : Fin 8192) (d : Fin 64) : EReal :=
  x (ix3 b p ⟨h * 64 + d, by omega⟩)

/-- Position `i` of block `n`. -/
abbrev pos (n : Fin 64) (i : Fin 128) : Fin 8192 := ⟨n * 128 + i, by omega⟩

/-- The key (or value) `k` of those block `n` looks at: the block before it, then the block itself; zero before the start. -/
def near (x : Vec Ideal S4x8192x1024 .f32) (b : Fin 4) (h : Fin 16) (n : Fin 64) (k : Fin 256) (d : Fin 64) : EReal :=
  if n.val * 128 + k.val < 128 then 0 else entry x b h ⟨n * 128 + k - 128, by omega⟩ d

theorem near_zero (x : Vec Ideal S4x8192x1024 .f32) (b : Fin 4) (h : Fin 16) (n : Fin 64) (k : Fin 256) (d : Fin 64)
    (hk : n.val * 128 + k.val < 128) : near x b h n k d = 0 := if_pos hk

theorem near_entry (x : Vec Ideal S4x8192x1024 .f32) (b : Fin 4) (h : Fin 16) (n : Fin 64) (k : Fin 256) (d : Fin 64)
    (hk : ¬ n.val * 128 + k.val < 128) : near x b h n k d = entry x b h ⟨n * 128 + k - 128, by omega⟩ d := if_neg hk

/-- Whether query `i` of block `n` attends to key `k`. -/
abbrev allowed (n : Fin 64) (i : Fin 128) (k : Fin 256) : BitVec 1 := val_main_v75 (F := Ideal) (ix3 n i k)

theorem negInf : Ideal.ofBits FTy.f32 4286578688#32 = ⊥ := by simp [Ideal.ofBits, Ideal.ieee]

theorem zero : Ideal.ofBits FTy.f32 0#32 = 0 := by simp [Ideal.ofBits, Ideal.ieee]

theorem pad_zero : val_main_call0_v0 (F := Ideal) (Shape.Idx.first Gen.h_S_) = (0 : EReal) := by
  rw [val_main_call0_v0_apply]
  simp [FloatOps.sitofp]
  rfl

theorem pad_zero' : val_main_call1_v0 (F := Ideal) (Shape.Idx.first Gen.h_S_) = (0 : EReal) := by
  rw [val_main_call1_v0_apply]
  simp [FloatOps.sitofp]
  rfl

theorem queries_at (b : Fin 4) (h : Fin 16) (n : Fin 64) (i : Fin 128) (d : Fin 64) :
    val_main_v2 (F := Ideal) x0 (ix4 (seq b h) n i d) = entry x0 b h (pos n i) d := by
  pointwise [val_main_v2, val_main_v1, val_main_v0]
  refine congrArg x0 ?_
  idx_ext <;> simp <;> omega

theorem keys_at (b : Fin 4) (h : Fin 16) (n : Fin 64) (k : Fin 256) (d : Fin 64) :
    val_main_v8 (F := Ideal) x1 (ix4 (seq b h) n k d) = near x1 b h n k d := by
  pointwise [val_main_v8, val_main_v7, val_main_v6, val_main_v5, val_main_v4, val_main_v3]
  by_cases hk : n.val * 128 + k.val < 128
  · rw [dif_pos (by omega), dif_neg (by omega)]
    exact pad_zero.trans (near_zero x1 b h n k d hk).symm
  · refine Eq.trans ?_ (near_entry x1 b h n k d hk).symm
    by_cases hb : k.val < 128
    · rw [dif_pos hb, dif_pos (by omega)]
      refine congrArg x1 ?_
      idx_ext <;> simp <;> omega
    · rw [dif_neg hb]
      refine congrArg x1 ?_
      idx_ext <;> simp <;> omega

theorem values_at (b : Fin 4) (h : Fin 16) (n : Fin 64) (k : Fin 256) (d : Fin 64) :
    val_main_v14 (F := Ideal) x2 (ix4 (seq b h) n k d) = near x2 b h n k d := by
  pointwise [val_main_v14, val_main_v13, val_main_v12, val_main_v11, val_main_v10, val_main_v9]
  by_cases hk : n.val * 128 + k.val < 128
  · rw [dif_pos (by omega), dif_neg (by omega)]
    exact pad_zero'.trans (near_zero x2 b h n k d hk).symm
  · refine Eq.trans ?_ (near_entry x2 b h n k d hk).symm
    by_cases hb : k.val < 128
    · rw [dif_pos hb, dif_pos (by omega)]
      refine congrArg x2 ?_
      idx_ext <;> simp <;> omega
    · rw [dif_neg hb]
      refine congrArg x2 ?_
      idx_ext <;> simp <;> omega

/-- The masked logit of query `i` of block `n` for key `k`. -/
def logit (b : Fin 4) (h : Fin 16) (n : Fin 64) (i : Fin 128) (k : Fin 256) : EReal :=
  Scalar.select (allowed n i k)
    ((∑ d : Fin 64, entry x0 b h (pos n i) d * near x1 b h n k d) + val_main_v57 (F := Ideal) x4 (ix3 i k h)) ⊥

theorem mask_at (g : Fin 64) (n : Fin 64) (i : Fin 128) (k : Fin 256) :
    val_main_call3_v1 (F := Ideal) (ix4 g n i k) = allowed n i k := by
  pointwise [val_main_call3_v1, val_main_v79]

theorem fill_at (g : Fin 64) (n : Fin 64) (i : Fin 128) (k : Fin 256) :
    val_main_call3_v2 (F := Ideal) (ix4 g n i k) = (⊥ : EReal) := by
  pointwise [val_main_call3_v2, val_main_call3_v0, val_main_cst_16]
  exact negInf

theorem logits_at (b : Fin 4) (h : Fin 16) (n : Fin 64) (i : Fin 128) (k : Fin 256) :
    val_main_v80 (F := Ideal) x0 x1 x4 (ix4 (seq b h) n i k) = logit x0 x1 x4 b h n i k := by
  pointwise [val_main_v80, val_main_v78, val_main_v77, val_main_v76, val_main_v61, val_main_v60, val_main_v59, val_main_v58]
  rw [mask_at, fill_at]
  simp only [queries_at, keys_at]
  unfold logit
  refine congrArg (fun z : EReal => Scalar.select (allowed n i k) ((∑ d : Fin 64, entry x0 b h (pos n i) d * near x1 b h n k d) + z) ⊥) ?_
  refine congrArg (val_main_v57 (F := Ideal) x4) ?_
  idx_ext <;> simp <;> omega

theorem max_at (b : Fin 4) (h : Fin 16) (n : Fin 64) (i : Fin 128) :
    val_main_v81 (F := Ideal) x0 x1 x4 (ix3 (seq b h) n i) = Finset.univ.fold max ⊥ (logit x0 x1 x4 b h n i) := by
  have e : val_main_cst_17 (F := Ideal) (Shape.Idx.first Gen.h_S_) = (⊥ : EReal) := negInf
  pointwise [val_main_v81]
  rw [e]
  simp only [logits_at]

theorem weights_at (b : Fin 4) (h : Fin 16) (n : Fin 64) (i : Fin 128) (k : Fin 256) :
    val_main_v85 (F := Ideal) x0 x1 x4 (ix4 (seq b h) n i k) = weight (logit x0 x1 x4 b h n i) k := by
  pointwise [val_main_v85, val_main_v84, val_main_v83, val_main_v82]
  rw [logits_at, max_at]
  rfl

theorem total_at (b : Fin 4) (h : Fin 16) (n : Fin 64) (i : Fin 128) :
    val_main_v87 (F := Ideal) x0 x1 x4 (ix4 (seq b h) n i 0) = ∑ k, weight (logit x0 x1 x4 b h n i) k := by
  have e : val_main_cst_18 (F := Ideal) (Shape.Idx.first Gen.h_S_) = (0 : EReal) := zero
  pointwise [val_main_v87, val_main_v86]
  rw [e, zero_add]
  simp only [weights_at]

theorem out_at (b : Fin 4) (h : Fin 16) (n : Fin 64) (i : Fin 128) (d : Fin 64) :
    val_main_v90 (F := Ideal) x0 x1 x2 x4 (ix4 (seq b h) n i d)
      = Ideal.div (∑ k, weight (logit x0 x1 x4 b h n i) k * near x2 b h n k d) (∑ k, weight (logit x0 x1 x4 b h n i) k) := by
  pointwise [val_main_v90, val_main_v89, val_main_v88]
  simp only [weights_at, values_at]
  refine congrArg (Ideal.div _) ?_
  exact total_at x0 x1 x4 b h n i

/-- Position `i` of block `n`, by its residue modulo four and its place among the positions with that residue. -/
theorem result_at (b : Fin 4) (h : Fin 16) (n : Fin 64) (i : Fin 32) (j : Fin 4) (d : Fin 64) :
    val_main_v94 (F := Ideal) x0 x1 x2 x4 (ix5 b j 0 ⟨32 * n + i, by omega⟩ ⟨h * 64 + d, by omega⟩)
      = Ideal.div (∑ k, weight (logit x0 x1 x4 b h n ⟨4 * i + j, by omega⟩) k * near x2 b h n k d)
          (∑ k, weight (logit x0 x1 x4 b h n ⟨4 * i + j, by omega⟩) k) := by
  refine Eq.trans ?_ (out_at x0 x1 x2 x4 b h n ⟨4 * i + j, by omega⟩ d)
  pointwise [val_main_v94, val_main_v93, val_main_v92, val_main_v91]
  refine congrArg (val_main_v90 (F := Ideal) x0 x1 x2 x4) ?_
  idx_ext <;> simp <;> omega

end Cert.NearAttnRefIdeal.RowValue
-- ==== Proof.NearHost.lean ====
/- The arrays the host stages for the narrowest attention pattern's kernel, read at one element. -/
module

public import proofs.«01_k».proof.Proof.NearRef
public import proofs.«01_k».proof.Proof.Gen.NearAttnIdeal.Frame.Runs
public import proofs.«01_k».proof.Proof.Gen.NearAttnRefIdeal.Read
public import Idealize.ShloMosaic.Lib.Pipeline.Value
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NearAttnIdeal.Host

open Cert.NearAttnIdeal Cert.NearAttnIdeal.Gen Cert.Proof.Scalar

variable (m : (ℓ : Loc nD τ sig) → Buf (Elt Ideal) ℓ)

theorem two : Ideal.ofBits FTy.f32 1073741824#32 = ((2 : ℝ) : EReal) := by
  simp [Ideal.ofBits, Ideal.ieee]
  rw [← EReal.coe_mul]
  norm_num

theorem negInf : Ideal.ofBits FTy.f32 4286578688#32 = ⊥ := by simp [Ideal.ofBits, Ideal.ieee]

theorem query_at (c : Dev nD) (b : Fin 4) (p : Fin 8192) (l : Fin 6144) (hl : l.val < 1024) :
    (V m c main_v64 : Vec Ideal S4x8192x6144 .bf16) (ix3 b p l)
      = HMul.hMul (α := EReal) (m (c, Proc.tc.devRef main_arg0) (ix3 b p ⟨l, by omega⟩)) L := by
  unfold V
  simp only [List.flatten_cons, List.flatten_nil, List.append_nil, StableHlo.after_append]
  after_reads_at
  rw [dif_pos (by omega)]
  unfold StableHlo.upto
  after_reads_at
  rw [two, div_one_log_two]
  refine congrArg (fun z : EReal => z * L) (congrArg (m (c, Proc.tc.devRef main_arg0)) ?_)
  idx_ext <;> simp <;> omega

theorem key_at (c : Dev nD) (b : Fin 4) (p : Fin 8192) (l : Fin 6144) (hl : 1024 ≤ l.val) (hl' : l.val < 2048) :
    (V m c main_v64 : Vec Ideal S4x8192x6144 .bf16) (ix3 b p l)
      = (m (c, Proc.tc.devRef main_arg1) (ix3 b p ⟨l - 1024, by omega⟩)) := by
  unfold V
  simp only [List.flatten_cons, List.flatten_nil, List.append_nil, StableHlo.after_append]
  after_reads_at
  rw [dif_neg (by omega), dif_pos (by omega)]
  unfold StableHlo.upto
  after_reads_at
  refine congrArg (m (c, Proc.tc.devRef main_arg1)) ?_
  idx_ext <;> simp <;> omega

theorem val_at (c : Dev nD) (b : Fin 4) (p : Fin 8192) (l : Fin 6144) (hl : 2048 ≤ l.val) (hl' : l.val < 3072) :
    (V m c main_v64 : Vec Ideal S4x8192x6144 .bf16) (ix3 b p l)
      = (m (c, Proc.tc.devRef main_arg2) (ix3 b p ⟨l - 2048, by omega⟩)) := by
  unfold V
  simp only [List.flatten_cons, List.flatten_nil, List.append_nil, StableHlo.after_append]
  after_reads_at
  rw [dif_neg (by omega), dif_neg (by omega), dif_pos (by omega)]
  unfold StableHlo.upto
  after_reads_at
  refine congrArg (m (c, Proc.tc.devRef main_arg2)) ?_
  idx_ext <;> simp <;> omega

/-- Looking a table up after scaling every entry by one number is looking it up and scaling what was found. -/
theorem gather_scaled (x : FVec Ideal S32x16 .f32) (y : FVec Ideal S_ .f32) (idx : IVec S128x256x1 32) (j : S128x256x16.Idx) :
    Host.gather gather_S32x16_S128x256x1_S128x256x16_2_0_n_n_0_2_116 (mulf x (broadcastInDim S32x16 ![] bcast_S_S32x16 y)) idx j
      = HMul.hMul (α := EReal) (Host.gather gather_S32x16_S128x256x1_S128x256x16_2_0_n_n_0_2_116 x idx j) (y ix0) := by
  unfold Host.gather
  pointwise []

open Cert.NearAttnRefIdeal.Read in
/-- The reference's mask, as the comparisons it is made of. -/
theorem allowed_at (n : Fin 64) (i : Fin 128) (k : Fin 256) :
    val_main_v75 (F := Ideal) (ix3 n i k) = IntOp.andi
      (IntOp.andi
        (IntOp.cmpi CmpIPredicate.sge (IntOp.subi (IntOp.addi 128#32 (BitVec.ofNat 32 i)) (BitVec.ofNat 32 k)) 0#32)
        (IntOp.cmpi CmpIPredicate.sle (IntOp.subi (IntOp.addi 128#32 (BitVec.ofNat 32 i)) (BitVec.ofNat 32 k)) 128#32))
      (IntOp.ori (IntOp.cmpi CmpIPredicate.sgt (BitVec.ofNat 32 n) 0#32) (IntOp.cmpi CmpIPredicate.sge (BitVec.ofNat 32 k) 128#32)) := by
  have e1 : val_main_c_1 (F := Ideal) ix0 = 128#32 := rfl
  have e2 : val_main_c_2 (F := Ideal) ix0 = 0#32 := rfl
  have e3 : val_main_c_3 (F := Ideal) ix0 = 128#32 := rfl
  have e4 : val_main_c_14 (F := Ideal) ix0 = 0#32 := rfl
  have e5 : val_main_c_15 (F := Ideal) ix0 = 128#32 := rfl
  pointwise [val_main_v75, val_main_v74, val_main_v73, val_main_v72, val_main_v71, val_main_v70, val_main_v69, val_main_v68, val_main_v67, val_main_v66, val_main_v65, val_main_v64, val_main_v63, val_main_v62, val_main_v28, val_main_v27, val_main_v26, val_main_v25, val_main_v24, val_main_v23, val_main_v22, val_main_v21, val_main_v20, val_main_v19, val_main_v18, val_main_v17, val_main_v16, val_main_v15]
  rw [e1, e2, e3, e4, e5]

/-- Choosing through the conjunction of two masks is choosing through one inside the other. -/
theorem select_and (a b : BitVec 1) (x y : EReal) : Scalar.select (IntOp.andi a b) x y = Scalar.select b (Scalar.select a x y) y := by
  have ha : a = 0#1 ∨ a = 1#1 := by
    rcases a with ⟨⟨v, hv⟩⟩
    have : v = 0 ∨ v = 1 := by omega
    rcases this with rfl | rfl
    · exact Or.inl rfl
    · exact Or.inr rfl
  have hb : b = 0#1 ∨ b = 1#1 := by
    rcases b with ⟨⟨v, hv⟩⟩
    have : v = 0 ∨ v = 1 := by omega
    rcases this with rfl | rfl
    · exact Or.inl rfl
    · exact Or.inr rfl
  rcases ha with rfl | rfl <;> rcases hb with rfl | rfl <;> simp [Scalar.select, IntOp.andi]

/-- Past the first block every key is there. -/
theorem later_mask (n : Fin 64) (hn : n ≠ 0) (z : BitVec 1) : IntOp.ori (IntOp.cmpi CmpIPredicate.sgt (BitVec.ofNat 32 n) 0#32) z = 1#1 := by
  have hz : z = 0#1 ∨ z = 1#1 := by
    rcases z with ⟨⟨v, hv⟩⟩
    have : v = 0 ∨ v = 1 := by omega
    rcases this with rfl | rfl
    · exact Or.inl rfl
    · exact Or.inr rfl
  have h : IntOp.cmpi CmpIPredicate.sgt (BitVec.ofNat 32 n) 0#32 = 1#1 := by
    revert n
    decide
  rw [h]
  rcases hz with rfl | rfl <;> rfl

/-- In the first block only its own keys are. -/
theorem first_mask (n : Fin 64) (hn : n = 0) (z : BitVec 1) : IntOp.ori (IntOp.cmpi CmpIPredicate.sgt (BitVec.ofNat 32 n) 0#32) z = z := by
  subst hn
  have h : IntOp.cmpi CmpIPredicate.sgt (BitVec.ofNat 32 (0 : Fin 64)) 0#32 = 0#1 := by decide
  rw [h]
  simp [IntOp.ori]

/-- The bias table the kernel reads for block `n`: the reference's bias in base two where it attends, `-∞` elsewhere. -/
theorem bias_at (c : Dev nD) (n : Fin 64) (h : Fin 16) (p : Fin 128) (l : Fin 256) :
    (V m c main_v56 : Vec Ideal S2x16x128x256 .f32) (ix4 (if n = 0 then 1 else 0) h p l)
      = Scalar.select (Cert.NearAttnRefIdeal.Read.val_main_v75 (F := Ideal) (ix3 n p l))
          (HMul.hMul (α := EReal) (Cert.NearAttnRefIdeal.Read.val_main_v57 (F := Ideal) (m (c, Proc.tc.devRef main_arg4)) (ix3 p l h)) L) ⊥ := by
  rw [allowed_at, select_and]
  generalize hf : (if n = 0 then 1 else 0 : Fin 2) = f
  have hG : ∀ (y : FVec Ideal S_ .f32) (idx : IVec S128x256x1 32), idx = Cert.NearAttnRefIdeal.Read.val_main_v56 (F := Ideal) → y ix0 = L →
      Host.gather gather_S32x16_S128x256x1_S128x256x16_2_0_n_n_0_2_116
        (mulf (m (c, Proc.tc.devRef main_arg4) : FVec Ideal S32x16 .f32) (broadcastInDim S32x16 ![] bcast_S_S32x16 y)) idx (ix3 p l h)
      = HMul.hMul (α := EReal) (Cert.NearAttnRefIdeal.Read.val_main_v57 (F := Ideal) (m (c, Proc.tc.devRef main_arg4)) (ix3 p l h)) L := by
    intro y idx hi hy
    rw [gather_scaled, hi, hy]
    rfl
  unfold V
  simp only [List.flatten_cons, List.flatten_nil, List.append_nil, StableHlo.after_append]
  after_reads_at
  generalize hT : Host.gather gather_S32x16_S128x256x1_S128x256x16_2_0_n_n_0_2_116 _ _ = T
  have hg := (congrFun hT (ix3 p l h)).symm.trans (hG _ _ rfl (by pointwise []; rw [two, div_one_log_two]))
  clear hT hG
  have hbot : (id (constant (F := Ideal) S_ FTy.f32 4286578688#32) ix0 : EReal) = ⊥ := negInf
  have select_one : ∀ x y : EReal, Scalar.select 1#1 x y = x := fun x y => by simp [Scalar.select]
  rw [hg]
  by_cases hn : n = 0
  · rw [first_mask n hn, ← hf, if_pos hn]
    refine (dif_neg (by simp)).trans ?_
    rw [hbot]
  · rw [later_mask n hn, ← hf, if_neg hn]
    refine (dif_pos (by simp)).trans ?_
    rw [hbot, select_one]

end Cert.NearAttnIdeal.Host
-- ==== Proof.NearPieces.lean ====
/-
  The narrowest attention pattern's body as thirty-two units, one per block of 128 queries and pair of heads. A unit leaves its
  128 rows in a scratch slot and stores them from there in four pieces, one per residue modulo four.
-/
module

public import proofs.«01_k».proof.Proof.Gen.NearAttnIdeal.Value

@[expose] public section

set_option maxRecDepth 16384

noncomputable section

open Idealize.ShloMosaic Idealize.ShloMosaic.TcCoe Idealize.SL.Sem

namespace Cert.NearAttnIdeal.Pieces
open Cert.NearAttnIdeal Cert.NearAttnIdeal.Gen

variable {F : FTy → Type} [FloatOps F] [Named F]

/-- The first query block's unit: its window is the block before (`ka`, `va`) and its own (`kb`, `vb`), loaded apart. -/
def unitFirst (q ka kb va vb : Vec F S1x128x128 .bf16) (b0 b1 : Vec F S1x1x128x256 .f32) : FVec F S1x128x128 .f32 :=
  k0_pay48 (k0_pay37 k0_pay7 k0_pay8 (k0_pay21 (k0_pay9 q ka kb) (k0_pay17 b0) (k0_pay18 b1)) (k0_pay36 va vb))

/-- A later query block's unit: its window is one load. -/
def unitLater (q : Vec F S1x128x128 .bf16) (kw vw : Vec F S1x256x128 .bf16) (b0 b1 : Vec F S1x1x128x256 .f32) :
    FVec F S1x128x128 .f32 :=
  k0_pay48 (k0_pay193 k0_pay7 k0_pay8 (k0_pay21 (k0_pay120 k0_pay5 k0_pay6 q kw) (k0_pay17 b0) (k0_pay18 b1)) vw)

theorem inb_cur (r c : ℕ) (hr : r ≤ 384) (hc : c ≤ 2944) : ∀ a, ![0, r, c] a + ![1, 128, 128] a ≤ S1x512x3072.size a := by
  intro a; fin_cases a <;> simp <;> omega
theorem inb_win (r c : ℕ) (hr : r ≤ 256) (hc : c ≤ 2944) : ∀ a, ![0, r, c] a + ![1, 256, 128] a ≤ S1x512x3072.size a := by
  intro a; fin_cases a <;> simp <;> omega
theorem inb_prev (c : ℕ) (hc : c ≤ 2944) : ∀ a, ![0, 0, c] a + ![1, 128, 128] a ≤ S1x128x3072.size a := by
  intro a; fin_cases a <;> simp <;> omega
theorem inb_out (j r c : ℕ) (hj : j ≤ 3) (hr : r ≤ 96) (hc : c ≤ 896) :
    ∀ a, ![0, j, 0, r, c] a + ![1, 1, 1, 32, 128] a ≤ S1x4x1x128x1024.size a := by
  intro a; fin_cases a <;> simp <;> omega
theorem inb_bias (f h : ℕ) (hf : f ≤ 1) (hh : h ≤ 15) : ∀ a, ![f, h, 0, 0] a + ![1, 1, 128, 256] a ≤ S2x16x128x256.size a := by
  intro a; fin_cases a <;> simp <;> omega
theorem inb_slot (s : ℕ) (hs : s ≤ 3) : ∀ a, ![s, 0, 0] a + ![1, 128, 128] a ≤ S4x128x128.size a := by
  intro a; fin_cases a <;> simp <;> omega
theorem inb_rows (s j : ℕ) (hs : s ≤ 3) (hj : j ≤ 3) :
    ∀ a, S1x32x128.size a = 0 ∨ ![s, j, 0] a + ![1, 4, 1] a * (S1x32x128.size a - 1) < S4x128x128.size a := by
  intro a; fin_cases a <;> right <;> simp <;> omega

def cur (r c : ℕ) (hr : r ≤ 384) (hc : c ≤ 2944) : Rect S1x512x3072 := Rect.unit ![0, r, c] ![1, 128, 128] (inb_cur r c hr hc)
def win (r c : ℕ) (hr : r ≤ 256) (hc : c ≤ 2944) : Rect S1x512x3072 := Rect.unit ![0, r, c] ![1, 256, 128] (inb_win r c hr hc)
def prv (c : ℕ) (hc : c ≤ 2944) : Rect S1x128x3072 := Rect.unit ![0, 0, c] ![1, 128, 128] (inb_prev c hc)
def out (j r c : ℕ) (hj : j ≤ 3) (hr : r ≤ 96) (hc : c ≤ 896) : Rect S1x4x1x128x1024 :=
  Rect.unit ![0, j, 0, r, c] ![1, 1, 1, 32, 128] (inb_out j r c hj hr hc)
def bia (f h : ℕ) (hf : f ≤ 1) (hh : h ≤ 15) : Rect S2x16x128x256 := Rect.unit ![f, h, 0, 0] ![1, 1, 128, 256] (inb_bias f h hf hh)
/-- A unit's slot of the scratch buffer. -/
def slot (s : ℕ) (hs : s ≤ 3) : Rect S4x128x128 := Rect.unit ![s, 0, 0] ![1, 128, 128] (inb_slot s hs)
/-- Every fourth row of a slot, from row `j` on. -/
def rows (s j : ℕ) (hs : s ≤ 3) (hj : j ≤ 3) : LoadRect S4x128x128 := ⟨![s, j, 0], S1x32x128.size, ![1, 4, 1], inb_rows s j hs hj⟩

/-- What a unit stores for residue `j`: every fourth of its rows `u`, read back from the scratch slot, over whatever was written before. -/
def stored (v : View sig .tc .vmem S4x128x128 .f32) (T : List (View.Piece (Elt F) S4x128x128 .f32)) (s j : ℕ) (hs : s ≤ 3) (hj : j ≤ 3)
    (u : FVec F S1x128x128 .f32) : FVec F S1x1x1x32x128 .bf16 :=
  k0_pay50 (v.readCov ((⟨slot s hs, u⟩ : View.Piece (Elt F) S4x128x128 .f32) :: T) (rows s j hs hj))

/-- The piece of query block `0`, head pair `hp` and residue `j`; its bias rows are those of table `f`. -/
def pieceFirst (v : View sig .tc .vmem S4x128x128 .f32) (x0 : Vec F S1x512x3072 .bf16) (x1 : Vec F S1x128x3072 .bf16)
    (x2 : Vec F S2x16x128x256 .f32) (f : ℕ) (hf : f ≤ 1) (hp : Fin 8) (j : Fin 4)
    (T : List (View.Piece (Elt F) S4x128x128 .f32)) : View.Piece (Elt F) S1x4x1x128x1024 .bf16 :=
  ⟨out j 0 (128 * hp) (by omega) (by omega) (by omega), stored v T (hp % 4) j (by omega) (by omega)
    (unitFirst (View.ld x0 (cur 0 (128 * hp) (by omega) (by omega)))
      (View.ld x1 (prv (1024 + 128 * hp) (by omega))) (View.ld x0 (cur 0 (1024 + 128 * hp) (by omega) (by omega)))
      (View.ld x1 (prv (2048 + 128 * hp) (by omega))) (View.ld x0 (cur 0 (2048 + 128 * hp) (by omega) (by omega)))
      (View.ld x2 (bia f (2 * hp) hf (by omega))) (View.ld x2 (bia f (2 * hp + 1) hf (by omega))))⟩

/-- The piece of query block `qb + 1`, head pair `hp` and residue `j`. -/
def pieceLater (v : View sig .tc .vmem S4x128x128 .f32) (x0 : Vec F S1x512x3072 .bf16) (x2 : Vec F S2x16x128x256 .f32)
    (qb : Fin 3) (hp : Fin 8) (j : Fin 4) (T : List (View.Piece (Elt F) S4x128x128 .f32)) : View.Piece (Elt F) S1x4x1x128x1024 .bf16 :=
  ⟨out j (32 * (qb + 1)) (128 * hp) (by omega) (by omega) (by omega), stored v T (hp % 4) j (by omega) (by omega)
    (unitLater (View.ld x0 (cur (128 * (qb + 1)) (128 * hp) (by omega) (by omega)))
      (View.ld x0 (win (128 * qb) (1024 + 128 * hp) (by omega) (by omega)))
      (View.ld x0 (win (128 * qb) (2048 + 128 * hp) (by omega) (by omega)))
      (View.ld x2 (bia 0 (2 * hp) (by omega) (by omega))) (View.ld x2 (bia 0 (2 * hp + 1) (by omega) (by omega))))⟩

/-- Which of the two bias tables the first query block reads, as the body computes it from the grid point. -/
def first (i : grid0.Coords) : ℕ := k0_off1 i 0

theorem first_le (i : grid0.Coords) : first i ≤ 1 := by
  have h := k0_off1_inb i 0
  have h' : k0_off1 i 0 + 1 ≤ 2 := h
  unfold first
  omega

theorem all_nil {α : Type} {P : α → Prop} : ∀ p ∈ ([] : List α), P p := fun _ h => absurd h List.not_mem_nil

theorem all_cons {α : Type} {P : α → Prop} {a : α} {l : List α} (h : P a) (t : ∀ p ∈ l, P p) : ∀ p ∈ a :: l, P p := by
  intro p hp
  rcases List.mem_cons.mp hp with rfl | hp
  · exact h
  · exact t p hp

set_option maxHeartbeats 4000000 in
/-- Every piece of the first result is a unit's piece. -/
theorem pieces (c : Dev nD) (i : grid0.Coords) (a3 : Memref sig .tc .vmem S1x512x3072 .bf16) (h3 : a3.IsWhole)
    (a4 : Memref sig .tc .vmem S1x128x3072 .bf16) (h4 : a4.IsWhole) (a5 : Memref sig .tc .vmem S2x16x128x256 .f32) (h5 : a5.IsWhole)
    (a6 : Memref sig .tc .vmem S1x4x1x128x1024 .bf16) (h6 : a6.IsWhole) (a7 : Memref sig .tc .vmem S1x4x1x128x1024 .f32) (h7 : a7.IsWhole)
    (a8 : Memref sig .tc .vmem S4x128x128 .f32) (h8 : a8.IsWhole) (a9 : Memref sig .tc .vmem S4x128x128 .f32) (h9 : a9.IsWhole)
    (x0 : Vec F S1x512x3072 .bf16) (x1 : Vec F S1x128x3072 .bf16) (x2 : Vec F S2x16x128x256 .f32) :
    ∀ p ∈ (kernelRun0_A c i a3 h3 a4 h4 a5 h5 a6 h6 a7 h7 a8 h8 a9 h9 x0 x1 x2).1,
      (∃ hp j T, p = pieceFirst a8.view (a3.view.read (Elt F) (h3.unread x0)) (a4.view.read (Elt F) (h4.unread x1))
        (a5.view.read (Elt F) (h5.unread x2)) (first i) (first_le i) hp j T)
      ∨ (∃ qb hp j T, p = pieceLater a8.view (a3.view.read (Elt F) (h3.unread x0)) (a5.view.read (Elt F) (h5.unread x2)) qb hp j T) := by
  refine all_cons (Or.inr ⟨2, 7, 3, _, rfl⟩) ?_
  refine all_cons (Or.inr ⟨2, 7, 2, _, rfl⟩) ?_
  refine all_cons (Or.inr ⟨2, 7, 1, _, rfl⟩) ?_
  refine all_cons (Or.inr ⟨2, 7, 0, _, rfl⟩) ?_
  refine all_cons (Or.inr ⟨2, 6, 3, _, rfl⟩) ?_
  refine all_cons (Or.inr ⟨2, 6, 2, _, rfl⟩) ?_
  refine all_cons (Or.inr ⟨2, 6, 1, _, rfl⟩) ?_
  refine all_cons (Or.inr ⟨2, 6, 0, _, rfl⟩) ?_
  refine all_cons (Or.inr ⟨2, 5, 3, _, rfl⟩) ?_
  refine all_cons (Or.inr ⟨2, 5, 2, _, rfl⟩) ?_
  refine all_cons (Or.inr ⟨2, 5, 1, _, rfl⟩) ?_
  refine all_cons (Or.inr ⟨2, 5, 0, _, rfl⟩) ?_
  refine all_cons (Or.inr ⟨2, 4, 3, _, rfl⟩) ?_
  refine all_cons (Or.inr ⟨2, 4, 2, _, rfl⟩) ?_
  refine all_cons (Or.inr ⟨2, 4, 1, _, rfl⟩) ?_
  refine all_cons (Or.inr ⟨2, 4, 0, _, rfl⟩) ?_
  refine all_cons (Or.inr ⟨2, 3, 3, _, rfl⟩) ?_
  refine all_cons (Or.inr ⟨2, 3, 2, _, rfl⟩) ?_
  refine all_cons (Or.inr ⟨2, 3, 1, _, rfl⟩) ?_
  refine all_cons (Or.inr ⟨2, 3, 0, _, rfl⟩) ?_
  refine all_cons (Or.inr ⟨2, 2, 3, _, rfl⟩) ?_
  refine all_cons (Or.inr ⟨2, 2, 2, _, rfl⟩) ?_
  refine all_cons (Or.inr ⟨2, 2, 1, _, rfl⟩) ?_
  refine all_cons (Or.inr ⟨2, 2, 0, _, rfl⟩) ?_
  refine all_cons (Or.inr ⟨2, 1, 3, _, rfl⟩) ?_
  refine all_cons (Or.inr ⟨2, 1, 2, _, rfl⟩) ?_
  refine all_cons (Or.inr ⟨2, 1, 1, _, rfl⟩) ?_
  refine all_cons (Or.inr ⟨2, 1, 0, _, rfl⟩) ?_
  refine all_cons (Or.inr ⟨2, 0, 3, _, rfl⟩) ?_
  refine all_cons (Or.inr ⟨2, 0, 2, _, rfl⟩) ?_
  refine all_cons (Or.inr ⟨2, 0, 1, _, rfl⟩) ?_
  refine all_cons (Or.inr ⟨2, 0, 0, _, rfl⟩) ?_
  refine all_cons (Or.inr ⟨1, 7, 3, _, rfl⟩) ?_
  refine all_cons (Or.inr ⟨1, 7, 2, _, rfl⟩) ?_
  refine all_cons (Or.inr ⟨1, 7, 1, _, rfl⟩) ?_
  refine all_cons (Or.inr ⟨1, 7, 0, _, rfl⟩) ?_
  refine all_cons (Or.inr ⟨1, 6, 3, _, rfl⟩) ?_
  refine all_cons (Or.inr ⟨1, 6, 2, _, rfl⟩) ?_
  refine all_cons (Or.inr ⟨1, 6, 1, _, rfl⟩) ?_
  refine all_cons (Or.inr ⟨1, 6, 0, _, rfl⟩) ?_
  refine all_cons (Or.inr ⟨1, 5, 3, _, rfl⟩) ?_
  refine all_cons (Or.inr ⟨1, 5, 2, _, rfl⟩) ?_
  refine all_cons (Or.inr ⟨1, 5, 1, _, rfl⟩) ?_
  refine all_cons (Or.inr ⟨1, 5, 0, _, rfl⟩) ?_
  refine all_cons (Or.inr ⟨1, 4, 3, _, rfl⟩) ?_
  refine all_cons (Or.inr ⟨1, 4, 2, _, rfl⟩) ?_
  refine all_cons (Or.inr ⟨1, 4, 1, _, rfl⟩) ?_
  refine all_cons (Or.inr ⟨1, 4, 0, _, rfl⟩) ?_
  refine all_cons (Or.inr ⟨1, 3, 3, _, rfl⟩) ?_
  refine all_cons (Or.inr ⟨1, 3, 2, _, rfl⟩) ?_
  refine all_cons (Or.inr ⟨1, 3, 1, _, rfl⟩) ?_
  refine all_cons (Or.inr ⟨1, 3, 0, _, rfl⟩) ?_
  refine all_cons (Or.inr ⟨1, 2, 3, _, rfl⟩) ?_
  refine all_cons (Or.inr ⟨1, 2, 2, _, rfl⟩) ?_
  refine all_cons (Or.inr ⟨1, 2, 1, _, rfl⟩) ?_
  refine all_cons (Or.inr ⟨1, 2, 0, _, rfl⟩) ?_
  refine all_cons (Or.inr ⟨1, 1, 3, _, rfl⟩) ?_
  refine all_cons (Or.inr ⟨1, 1, 2, _, rfl⟩) ?_
  refine all_cons (Or.inr ⟨1, 1, 1, _, rfl⟩) ?_
  refine all_cons (Or.inr ⟨1, 1, 0, _, rfl⟩) ?_
  refine all_cons (Or.inr ⟨1, 0, 3, _, rfl⟩) ?_
  refine all_cons (Or.inr ⟨1, 0, 2, _, rfl⟩) ?_
  refine all_cons (Or.inr ⟨1, 0, 1, _, rfl⟩) ?_
  refine all_cons (Or.inr ⟨1, 0, 0, _, rfl⟩) ?_
  refine all_cons (Or.inr ⟨0, 7, 3, _, rfl⟩) ?_
  refine all_cons (Or.inr ⟨0, 7, 2, _, rfl⟩) ?_
  refine all_cons (Or.inr ⟨0, 7, 1, _, rfl⟩) ?_
  refine all_cons (Or.inr ⟨0, 7, 0, _, rfl⟩) ?_
  refine all_cons (Or.inr ⟨0, 6, 3, _, rfl⟩) ?_
  refine all_cons (Or.inr ⟨0, 6, 2, _, rfl⟩) ?_
  refine all_cons (Or.inr ⟨0, 6, 1, _, rfl⟩) ?_
  refine all_cons (Or.inr ⟨0, 6, 0, _, rfl⟩) ?_
  refine all_cons (Or.inr ⟨0, 5, 3, _, rfl⟩) ?_
  refine all_cons (Or.inr ⟨0, 5, 2, _, rfl⟩) ?_
  refine all_cons (Or.inr ⟨0, 5, 1, _, rfl⟩) ?_
  refine all_cons (Or.inr ⟨0, 5, 0, _, rfl⟩) ?_
  refine all_cons (Or.inr ⟨0, 4, 3, _, rfl⟩) ?_
  refine all_cons (Or.inr ⟨0, 4, 2, _, rfl⟩) ?_
  refine all_cons (Or.inr ⟨0, 4, 1, _, rfl⟩) ?_
  refine all_cons (Or.inr ⟨0, 4, 0, _, rfl⟩) ?_
  refine all_cons (Or.inr ⟨0, 3, 3, _, rfl⟩) ?_
  refine all_cons (Or.inr ⟨0, 3, 2, _, rfl⟩) ?_
  refine all_cons (Or.inr ⟨0, 3, 1, _, rfl⟩) ?_
  refine all_cons (Or.inr ⟨0, 3, 0, _, rfl⟩) ?_
  refine all_cons (Or.inr ⟨0, 2, 3, _, rfl⟩) ?_
  refine all_cons (Or.inr ⟨0, 2, 2, _, rfl⟩) ?_
  refine all_cons (Or.inr ⟨0, 2, 1, _, rfl⟩) ?_
  refine all_cons (Or.inr ⟨0, 2, 0, _, rfl⟩) ?_
  refine all_cons (Or.inr ⟨0, 1, 3, _, rfl⟩) ?_
  refine all_cons (Or.inr ⟨0, 1, 2, _, rfl⟩) ?_
  refine all_cons (Or.inr ⟨0, 1, 1, _, rfl⟩) ?_
  refine all_cons (Or.inr ⟨0, 1, 0, _, rfl⟩) ?_
  refine all_cons (Or.inr ⟨0, 0, 3, _, rfl⟩) ?_
  refine all_cons (Or.inr ⟨0, 0, 2, _, rfl⟩) ?_
  refine all_cons (Or.inr ⟨0, 0, 1, _, rfl⟩) ?_
  refine all_cons (Or.inr ⟨0, 0, 0, _, rfl⟩) ?_
  refine all_cons (Or.inl ⟨7, 3, _, rfl⟩) ?_
  refine all_cons (Or.inl ⟨7, 2, _, rfl⟩) ?_
  refine all_cons (Or.inl ⟨7, 1, _, rfl⟩) ?_
  refine all_cons (Or.inl ⟨7, 0, _, rfl⟩) ?_
  refine all_cons (Or.inl ⟨6, 3, _, rfl⟩) ?_
  refine all_cons (Or.inl ⟨6, 2, _, rfl⟩) ?_
  refine all_cons (Or.inl ⟨6, 1, _, rfl⟩) ?_
  refine all_cons (Or.inl ⟨6, 0, _, rfl⟩) ?_
  refine all_cons (Or.inl ⟨5, 3, _, rfl⟩) ?_
  refine all_cons (Or.inl ⟨5, 2, _, rfl⟩) ?_
  refine all_cons (Or.inl ⟨5, 1, _, rfl⟩) ?_
  refine all_cons (Or.inl ⟨5, 0, _, rfl⟩) ?_
  refine all_cons (Or.inl ⟨4, 3, _, rfl⟩) ?_
  refine all_cons (Or.inl ⟨4, 2, _, rfl⟩) ?_
  refine all_cons (Or.inl ⟨4, 1, _, rfl⟩) ?_
  refine all_cons (Or.inl ⟨4, 0, _, rfl⟩) ?_
  refine all_cons (Or.inl ⟨3, 3, _, rfl⟩) ?_
  refine all_cons (Or.inl ⟨3, 2, _, rfl⟩) ?_
  refine all_cons (Or.inl ⟨3, 1, _, rfl⟩) ?_
  refine all_cons (Or.inl ⟨3, 0, _, rfl⟩) ?_
  refine all_cons (Or.inl ⟨2, 3, _, rfl⟩) ?_
  refine all_cons (Or.inl ⟨2, 2, _, rfl⟩) ?_
  refine all_cons (Or.inl ⟨2, 1, _, rfl⟩) ?_
  refine all_cons (Or.inl ⟨2, 0, _, rfl⟩) ?_
  refine all_cons (Or.inl ⟨1, 3, _, rfl⟩) ?_
  refine all_cons (Or.inl ⟨1, 2, _, rfl⟩) ?_
  refine all_cons (Or.inl ⟨1, 1, _, rfl⟩) ?_
  refine all_cons (Or.inl ⟨1, 0, _, rfl⟩) ?_
  refine all_cons (Or.inl ⟨0, 3, _, rfl⟩) ?_
  refine all_cons (Or.inl ⟨0, 2, _, rfl⟩) ?_
  refine all_cons (Or.inl ⟨0, 1, _, rfl⟩) ?_
  refine all_cons (Or.inl ⟨0, 0, _, rfl⟩) ?_
  exact all_nil

end Cert.NearAttnIdeal.Pieces
-- ==== Proof.NearUnit.lean ====
/-
  A unit of the narrowest attention pattern's body, read at one query and one lane: a row of scores over the window's 256 keys,
  its weights, and their weighted sum of values.
-/
module

public import proofs.«01_k».proof.Proof.NearPieces
public import proofs.«01_k».proof.Proof.Scalar
public import Idealize.ShloMosaic.Lib.Pointwise

@[expose] public section

set_option maxRecDepth 16384

noncomputable section

open Idealize.ShloMosaic Idealize.ShloMosaic.TcCoe Idealize.SL.Sem

namespace Cert.NearAttnIdeal.Unit
open Cert.NearAttnIdeal Cert.NearAttnIdeal.Gen Cert.NearAttnIdeal.Pieces Idealize.ShloMosaic.Pointwise
open Cert.Proof.Scalar

/-- The body's lane test: lanes below 64 belong to the pair's first head. -/
theorem low_eq {n : ℕ} (hn : n < 256) (a b : EReal) :
    Scalar.select (IntOp.cmpi CmpIPredicate.slt (BitVec.ofNat 32 n) 64#32) a b = if n < 64 then a else b := by
  have h : IntOp.cmpi CmpIPredicate.slt (BitVec.ofNat 32 n) 64#32 = if n < 64 then 1#1 else 0#1 := by
    revert n; decide
  rw [h]
  split <;> rfl

/-- A sum over a pair's 128 lanes that only sees one head's 64. -/
theorem sum_lanes (e : Fin 2) (f : Fin 128 → EReal) (g : Fin 64 → EReal)
    (hin : ∀ d : Fin 64, f ⟨64 * e + d, by omega⟩ = g d) (hout : ∀ x : Fin 128, (x : ℕ) / 64 ≠ e → f x = 0) :
    ∑ x, f x = ∑ d, g d := by
  have h : ∑ x : Fin 128, f x = ∑ x : Fin (64 + 64), f x := rfl
  rw [h, Fin.sum_univ_add]
  match e with
  | ⟨0, _⟩ =>
    rw [Finset.sum_eq_zero (s := Finset.univ) (f := fun i : Fin 64 => f (Fin.natAdd 64 i)), add_zero]
    · refine Finset.sum_congr rfl fun d _ => ?_
      rw [← hin d]; congr 1; apply Fin.ext; simp
    · intro d _; apply hout; simp
  | ⟨1, _⟩ =>
    rw [Finset.sum_eq_zero (s := Finset.univ) (f := fun i : Fin 64 => f (Fin.castAdd 64 i)), zero_add]
    · refine Finset.sum_congr rfl fun d _ => ?_
      rw [← hin d]; congr 1
    · intro d _; apply hout; simp; omega

theorem score_apply (q : Vec Ideal S1x128x128 .bf16) (kw : Vec Ideal S1x256x128 .bf16) (e : Fin 2) (i : Fin 128) (k : Fin 256) :
    k0_pay120 k0_pay5 k0_pay6 q kw (ix2 ⟨128 * e + i, by omega⟩ k)
      = ∑ d : Fin 64, q (ix3 0 i ⟨64 * e + d, by omega⟩) * kw (ix3 0 k ⟨64 * e + d, by omega⟩) := by
  pointwise [k0_pay120, k0_pay5, k0_pay6, k0_pay4]
  refine sum_lanes e _ _ (fun d => ?_) (fun x hx => ?_)
  · match e with
    | ⟨0, _⟩ => rw [dif_pos (by simp), low_eq (by simp; omega), if_pos (by simp)]; congr 2; idx_ext <;> simp
    | ⟨1, _⟩ => rw [dif_neg (by simp), low_eq (by simp; omega), if_neg (by simp)]; congr 2; idx_ext <;> simp
  · match e with
    | ⟨0, _⟩ => rw [dif_pos (by simp), low_eq (by omega), if_neg (by simp at hx; omega), zero_mul]
    | ⟨1, _⟩ => rw [dif_neg (by simp), low_eq (by omega), if_pos (by simp at hx; omega), zero_mul]

/-- Two blocks of 128 rows one after the other. -/
def joined (a b : Vec Ideal S1x128x128 .bf16) (k : Fin 256) (l : Fin 128) : EReal :=
  if h : (k : ℕ) < 128 then a (ix3 0 ⟨k, h⟩ l) else b (ix3 0 ⟨k - 128, by omega⟩ l)

theorem score_first_apply (q ka kb : Vec Ideal S1x128x128 .bf16) (e : Fin 2) (i : Fin 128) (k : Fin 256) :
    k0_pay9 q ka kb (ix2 ⟨128 * e + i, by omega⟩ k)
      = ∑ d : Fin 64, q (ix3 0 i ⟨64 * e + d, by omega⟩) * joined ka kb k ⟨64 * e + d, by omega⟩ := by
  pointwise [k0_pay9, k0_pay5, k0_pay6, k0_pay4]
  refine sum_lanes e _ _ (fun d => ?_) (fun x hx => ?_)
  · match e with
    | ⟨0, _⟩ => rw [dif_pos (by simp), low_eq (by simp; omega), if_pos (by simp)]; congr 2; idx_ext <;> simp
    | ⟨1, _⟩ => rw [dif_neg (by simp), low_eq (by simp; omega), if_neg (by simp)]; congr 2; idx_ext <;> simp
  · match e with
    | ⟨0, _⟩ => rw [dif_pos (by simp), low_eq (by omega), if_neg (by simp at hx; omega), zero_mul]
    | ⟨1, _⟩ => rw [dif_neg (by simp), low_eq (by omega), if_pos (by simp at hx; omega), zero_mul]

/-- A sum over the weights of both heads, of which a lane's column only sees its own head's. -/
theorem sum_heads (e : Fin 2) (f : Fin 512 → EReal) (g : Fin 256 → EReal)
    (hin : ∀ k : Fin 256, f ⟨256 * e + k, by omega⟩ = g k) (hout : ∀ x : Fin 512, (x : ℕ) / 256 ≠ e → f x = 0) :
    ∑ x, f x = ∑ k, g k := by
  have h : ∑ x : Fin 512, f x = ∑ x : Fin (256 + 256), f x := rfl
  rw [h, Fin.sum_univ_add]
  match e with
  | ⟨0, _⟩ =>
    rw [Finset.sum_eq_zero (s := Finset.univ) (f := fun i : Fin 256 => f (Fin.natAdd 256 i)), add_zero]
    · refine Finset.sum_congr rfl fun d _ => ?_
      rw [← hin d]; congr 1; apply Fin.ext; simp
    · intro d _; apply hout; simp
  | ⟨1, _⟩ =>
    rw [Finset.sum_eq_zero (s := Finset.univ) (f := fun i : Fin 256 => f (Fin.castAdd 256 i)), zero_add]
    · refine Finset.sum_congr rfl fun d _ => ?_
      rw [← hin d]; congr 1
    · intro d _; apply hout; simp; omega

theorem num_apply (p : FVec Ideal S256x256 .bf16) (vw : Vec Ideal S1x256x128 .bf16) (e : Fin 2) (i : Fin 128) (d : Fin 64) :
    k0_pay193 k0_pay7 k0_pay8 p vw (ix2 i ⟨64 * e + d, by omega⟩)
      = ∑ k, p (ix2 ⟨128 * e + i, by omega⟩ k) * vw (ix3 0 k ⟨64 * e + d, by omega⟩) := by
  pointwise [k0_pay193, k0_pay7, k0_pay8, k0_pay5, k0_pay6, k0_pay4]
  refine sum_heads e _ _ (fun k => ?_) (fun x hx => ?_) <;>
  · simp only [low_eq (show 64 * (e : ℕ) + d < 256 by omega), ite_self, dite_eq_ite, ↓reduceDIte, show 64 * (e : ℕ) + d < 128 by omega]
    match e with
    | ⟨0, _⟩ => simp_all
    | ⟨1, _⟩ => simp_all <;> omega

theorem den_apply (p : FVec Ideal S256x256 .bf16) (vw : Vec Ideal S1x256x128 .bf16) (e : Fin 2) (i : Fin 128) (d : Fin 64) :
    k0_pay193 k0_pay7 k0_pay8 p vw (ix2 i ⟨128 + (64 * e + d), by omega⟩) = ∑ k, p (ix2 ⟨128 * e + i, by omega⟩ k) := by
  pointwise [k0_pay193, k0_pay7, k0_pay8, k0_pay5, k0_pay6, k0_pay4]
  refine sum_heads e _ _ (fun k => ?_) (fun x hx => ?_) <;>
  · simp only [low_eq (show 64 * (e : ℕ) + d < 256 by omega), ite_self, dite_eq_ite, ↓reduceDIte, show 64 * (e : ℕ) + d < 128 by omega]
    match e with
    | ⟨0, _⟩ => simp_all
    | ⟨1, _⟩ => simp_all <;> omega

theorem num_first_apply (p : FVec Ideal S256x256 .bf16) (va vb : Vec Ideal S1x128x128 .bf16) (e : Fin 2) (i : Fin 128) (d : Fin 64) :
    k0_pay37 k0_pay7 k0_pay8 p (k0_pay36 va vb) (ix2 i ⟨64 * e + d, by omega⟩)
      = ∑ k, p (ix2 ⟨128 * e + i, by omega⟩ k) * joined va vb k ⟨64 * e + d, by omega⟩ := by
  pointwise [k0_pay37, k0_pay36, k0_pay7, k0_pay8, k0_pay5, k0_pay6, k0_pay4]
  refine sum_heads e _ _ (fun k => ?_) (fun x hx => ?_) <;>
  · simp only [low_eq (show 64 * (e : ℕ) + d < 256 by omega), ite_self, joined, dite_eq_ite, ↓reduceDIte, show 64 * (e : ℕ) + d < 128 by omega]
    match e with
    | ⟨0, _⟩ => simp_all
    | ⟨1, _⟩ => simp_all <;> omega

theorem den_first_apply (p : FVec Ideal S256x256 .bf16) (va vb : Vec Ideal S1x128x128 .bf16) (e : Fin 2) (i : Fin 128) (d : Fin 64) :
    k0_pay37 k0_pay7 k0_pay8 p (k0_pay36 va vb) (ix2 i ⟨128 + (64 * e + d), by omega⟩) = ∑ k, p (ix2 ⟨128 * e + i, by omega⟩ k) := by
  pointwise [k0_pay37, k0_pay36, k0_pay7, k0_pay8, k0_pay5, k0_pay6, k0_pay4]
  refine sum_heads e _ _ (fun k => ?_) (fun x hx => ?_) <;>
  · simp only [low_eq (show 64 * (e : ℕ) + d < 256 by omega), ite_self, joined, dite_eq_ite, ↓reduceDIte, show 64 * (e : ℕ) + d < 128 by omega]
    match e with
    | ⟨0, _⟩ => simp_all
    | ⟨1, _⟩ => simp_all <;> omega

theorem probs_apply (s : FVec Ideal S256x256 .f32) (b0 b1 : Vec Ideal S1x1x128x256 .f32) (e : Fin 2) (i : Fin 128) (k : Fin 256) :
    k0_pay21 s (k0_pay17 b0) (k0_pay18 b1) (ix2 ⟨128 * e + i, by omega⟩ k)
      = Ideal.exp2 ((s (ix2 ⟨128 * e + i, by omega⟩ k) + (if e = 0 then b0 else b1) (ix4 0 0 i k)) -
          Finset.univ.fold max ⊥ fun x => s (ix2 ⟨128 * e + i, by omega⟩ x) + (if e = 0 then b0 else b1) (ix4 0 0 i x)) := by
  have hbot : Ideal.ofBits FTy.f32 4286578688#32 = ⊥ := by simp [Ideal.ofBits, Ideal.ieee]
  pointwise [k0_pay21, k0_pay20, k0_pay19, k0_pay18, k0_pay17]
  rw [hbot]
  match e with
  | ⟨0, _⟩ => simp; rfl
  | ⟨1, _⟩ => simp; rfl

/-- The unit's rows: the weighted sum of values over the weights' sum. -/
theorem finish_apply (pv : FVec Ideal S128x256 .f32) (i : Fin 128) (l : Fin 128) :
    k0_pay48 pv (ix3 0 i l) = Ideal.div (pv (ix2 i ⟨l, by omega⟩)) (pv (ix2 i ⟨128 + l, by omega⟩)) := by
  pointwise [k0_pay48, k0_pay47]

/-- One row of a unit: scores `s` (in base two, bias included), values `v`. -/
def row (s v : Fin 256 → EReal) : EReal :=
  Ideal.div (∑ k, Ideal.exp2 (s k - Finset.univ.fold max ⊥ s) * v k) (∑ k, Ideal.exp2 (s k - Finset.univ.fold max ⊥ s))

/-- A row whose scores are natural ones scaled to base two: a softmax row. -/
theorem row_scaled (t v : Fin 256 → EReal) :
    row (fun k => t k * L) v = Ideal.div (∑ k, weight t k * v k) (∑ k, weight t k) := by
  unfold row
  simp only [weight_scaled]

theorem later_apply (q : Vec Ideal S1x128x128 .bf16) (kw vw : Vec Ideal S1x256x128 .bf16) (b0 b1 : Vec Ideal S1x1x128x256 .f32)
    (e : Fin 2) (i : Fin 128) (d : Fin 64) :
    unitLater q kw vw b0 b1 (ix3 0 i ⟨64 * e + d, by omega⟩)
      = row (fun k => (∑ d' : Fin 64, q (ix3 0 i ⟨64 * e + d', by omega⟩) * kw (ix3 0 k ⟨64 * e + d', by omega⟩))
            + (if e = 0 then b0 else b1) (ix4 0 0 i k))
          (fun k => vw (ix3 0 k ⟨64 * e + d, by omega⟩)) := by
  unfold unitLater row
  rw [finish_apply]
  dsimp only
  rw [den_apply, num_apply]
  simp only [probs_apply, score_apply]

theorem first_apply (q ka kb va vb : Vec Ideal S1x128x128 .bf16) (b0 b1 : Vec Ideal S1x1x128x256 .f32)
    (e : Fin 2) (i : Fin 128) (d : Fin 64) :
    unitFirst q ka kb va vb b0 b1 (ix3 0 i ⟨64 * e + d, by omega⟩)
      = row (fun k => (∑ d' : Fin 64, q (ix3 0 i ⟨64 * e + d', by omega⟩) * joined ka kb k ⟨64 * e + d', by omega⟩)
            + (if e = 0 then b0 else b1) (ix4 0 0 i k))
          (fun k => joined va vb k ⟨64 * e + d, by omega⟩) := by
  unfold unitFirst row
  rw [finish_apply]
  dsimp only
  rw [den_first_apply, num_first_apply]
  simp only [probs_apply, score_first_apply]

/-- What a unit stores for residue `j`, read at one row: row `4 r + j` of the unit. -/
theorem stored_apply (v : View sig .tc .vmem S4x128x128 .f32) (T : List (View.Piece (Elt Ideal) S4x128x128 .f32)) (s j : ℕ) (hs : s ≤ 3)
    (hj : j ≤ 3) (u : FVec Ideal S1x128x128 .f32) (r : Fin 32) (l : Fin 128) :
    stored v T s j hs hj u (ix5 0 0 0 r l) = u (ix3 0 ⟨4 * r + j, by omega⟩ l) := by
  unfold stored
  rw [View.readCov_eq_canon']
  pointwise [k0_pay50]
  refine Eq.trans ?_ (View.canon_cons_emb (slot s hs) u T (ix3 0 ⟨4 * r + j, by omega⟩ l))
  refine congrArg (View.canon ((⟨slot s hs, u⟩ : View.Piece (Elt Ideal) S4x128x128 .f32) :: T)) ?_
  funext a; apply Fin.ext
  match a with
  | ⟨0, _⟩ => show s + 1 * 0 = s + 1 * 0; rfl
  | ⟨1, _⟩ => show j + 4 * r.val = 0 + 1 * (4 * r.val + j); omega
  | ⟨2, _⟩ => show 0 + 1 * l.val = 0 + 1 * l.val; rfl

end Cert.NearAttnIdeal.Unit
-- ==== Proof.NearBlock.lean ====
/-
  What one grid point of the attention kernel writes: every element of its 512 by 1024 block is a softmax row over a window
  of 256 keys, whichever of the thirty-two units stored it.
-/
module

public import proofs.«01_k».proof.Proof.NearUnit
public import Idealize.ShloMosaic.Lib.CellWrites

@[expose] public section

set_option maxRecDepth 16384

noncomputable section

open Idealize.ShloMosaic Idealize.ShloMosaic.TcCoe Idealize.SL.Sem

namespace Cert.NearAttnIdeal.Block
open Cert.NearAttnIdeal Cert.NearAttnIdeal.Gen Cert.NearAttnIdeal.Pieces Cert.NearAttnIdeal.Unit

/-- Writes that all agree with one function: an element that some piece covers reads that function's value. -/
theorem read_writes_of_agree {sig : RefSig} {κ : Kind} {sp : Space} {e : EltTy} {Val : EltTy → Type} {s : Shape}
    (v : View sig κ sp s e) (f : v.ty.Contents Val) (G : s.Idx → Val e) (y : s.Idx) :
    ∀ L : List (View.Piece Val s e), (∀ p ∈ L, ∀ x : p.1.shape.Idx, p.2 x = G (p.1.emb x)) → (∃ p ∈ L, y ∈ p.1.set) →
      v.read Val (v.writes Val f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_of_agree v f G y L (fun q hq => hP q (List.mem_cons_of_mem _ hq)) ?_
      obtain ⟨q, hq, hyq⟩ := h
      rcases List.mem_cons.mp hq with rfl | hq'
      · exact absurd hyq hy
      · exact ⟨q, hq', hyq⟩

variable (x0 : Vec Ideal S1x512x3072 .bf16) (x1 : Vec Ideal S1x128x3072 .bf16) (x2 : Vec Ideal S2x16x128x256 .f32) (f : Fin 2)

theorem ld_cur (r c : ℕ) (hr : r ≤ 384) (hc : c ≤ 2944) (i l : Fin 128) :
    View.ld x0 (cur r c hr hc) (ix3 0 i l) = x0 (ix3 0 ⟨r + i, by omega⟩ ⟨c + l, by omega⟩) := by
  refine congrArg x0 ?_
  funext a; apply Fin.ext
  match a with
  | ⟨0, _⟩ => rfl
  | ⟨1, _⟩ => show r + 1 * i.val = r + i.val; omega
  | ⟨2, _⟩ => show c + 1 * l.val = c + l.val; omega

theorem ld_win (r c : ℕ) (hr : r ≤ 256) (hc : c ≤ 2944) (i : Fin 256) (l : Fin 128) :
    View.ld x0 (win r c hr hc) (ix3 0 i l) = x0 (ix3 0 ⟨r + i, by omega⟩ ⟨c + l, by omega⟩) := by
  refine congrArg x0 ?_
  funext a; apply Fin.ext
  match a with
  | ⟨0, _⟩ => rfl
  | ⟨1, _⟩ => show r + 1 * i.val = r + i.val; omega
  | ⟨2, _⟩ => show c + 1 * l.val = c + l.val; omega

theorem ld_prv (c : ℕ) (hc : c ≤ 2944) (i l : Fin 128) :
    View.ld x1 (prv c hc) (ix3 0 i l) = x1 (ix3 0 i ⟨c + l, by omega⟩) := by
  refine congrArg x1 ?_
  funext a; apply Fin.ext
  match a with
  | ⟨0, _⟩ => rfl
  | ⟨1, _⟩ => show 0 + 1 * i.val = i.val; omega
  | ⟨2, _⟩ => show c + 1 * l.val = c + l.val; omega

theorem emb_out (j r c : ℕ) (hj : j ≤ 3) (hr : r ≤ 96) (hc : c ≤ 896) (i : Fin 32) (l : Fin 128) :
    (out j r c hj hr hc).emb (ix5 0 0 0 i l) = (ix5 0 ⟨j, by omega⟩ 0 ⟨r + i, by omega⟩ ⟨c + l, by omega⟩ : S1x4x1x128x1024.Idx) := by
  funext a; apply Fin.ext
  match a with
  | ⟨0, _⟩ => rfl
  | ⟨1, _⟩ => show j + 1 * 0 = j; omega
  | ⟨2, _⟩ => rfl
  | ⟨3, _⟩ => show r + 1 * i.val = r + i.val; omega
  | ⟨4, _⟩ => show c + 1 * l.val = c + l.val; omega

theorem ld_bia (f h : ℕ) (hf : f ≤ 1) (hh : h ≤ 15) (i : Fin 128) (k : Fin 256) :
    View.ld x2 (bia f h hf hh) (ix4 0 0 i k) = x2 (ix4 ⟨f, by omega⟩ ⟨h, by omega⟩ i k) := by
  refine congrArg x2 ?_
  funext a; apply Fin.ext
  match a with
  | ⟨0, _⟩ => show f + 1 * 0 = f; omega
  | ⟨1, _⟩ => show h + 1 * 0 = h; omega
  | ⟨2, _⟩ => show 0 + 1 * i.val = i.val; omega
  | ⟨3, _⟩ => show 0 + 1 * k.val = k.val; omega

/-- The `k`-th key (or value) row of query block `qb`'s window: block `qb - 1`, then block `qb`. -/
def window (qb : Fin 4) (k : Fin 256) (col : Fin 3072) : EReal :=
  if h : (qb : ℕ) = 0 then
    if hk : (k : ℕ) < 128 then x1 (ix3 0 ⟨k, hk⟩ col) else x0 (ix3 0 ⟨k - 128, by omega⟩ col)
  else x0 (ix3 0 ⟨128 * (qb - 1) + k, by omega⟩ col)

/-- Query `128 qb + i`, head `2 hp + e`, lane `d`; the first block's bias table is `f`. -/
def value (qb : Fin 4) (i : Fin 128) (hp : Fin 8) (e : Fin 2) (d : Fin 64) : EReal :=
  row (fun k => (∑ d' : Fin 64, x0 (ix3 0 ⟨128 * qb + i, by omega⟩ ⟨128 * hp + (64 * e + d'), by omega⟩)
          * window x0 x1 qb k ⟨1024 + 128 * hp + (64 * e + d'), by omega⟩)
        + x2 (ix4 (if (qb : ℕ) = 0 then f else 0) ⟨2 * hp + e, by omega⟩ i k))
    (fun k => window x0 x1 qb k ⟨2048 + 128 * hp + (64 * e + d), by omega⟩)

/-- The same by position in the block: residue, then place among the positions with that residue, then lane. -/
def whole (y : S1x4x1x128x1024.Idx) : EReal :=
  have h1 : (y 1 : ℕ) < 4 := (y 1).isLt
  have h3 : (y 3 : ℕ) < 128 := (y 3).isLt
  have h4 : (y 4 : ℕ) < 1024 := (y 4).isLt
  value x0 x1 x2 f ⟨(y 3 : ℕ) / 32, by omega⟩ ⟨4 * ((y 3 : ℕ) % 32) + (y 1 : ℕ), by omega⟩ ⟨(y 4 : ℕ) / 128, by omega⟩
    ⟨(y 4 : ℕ) % 128 / 64, by omega⟩ ⟨(y 4 : ℕ) % 64, by omega⟩

theorem value_congr {qb qb' : Fin 4} {i i' : Fin 128} {hp hp' : Fin 8} {e e' : Fin 2} {d d' : Fin 64} (h1 : (qb : ℕ) = qb')
    (h2 : (i : ℕ) = i') (h3 : (hp : ℕ) = hp') (h4 : (e : ℕ) = e') (h5 : (d : ℕ) = d') :
    value x0 x1 x2 f qb i hp e d = value x0 x1 x2 f qb' i' hp' e' d' := by
  obtain rfl := Fin.ext h1
  obtain rfl := Fin.ext h2
  obtain rfl := Fin.ext h3
  obtain rfl := Fin.ext h4
  obtain rfl := Fin.ext h5
  rfl

theorem whole_at (j : Fin 4) (qb : Fin 4) (i : Fin 32) (hp : Fin 8) (e : Fin 2) (d : Fin 64) :
    whole x0 x1 x2 f (ix5 0 j 0 ⟨32 * qb + i, by omega⟩ ⟨128 * hp + (64 * e + d), by omega⟩)
      = value x0 x1 x2 f qb ⟨4 * i + j, by omega⟩ hp e d := by
  refine value_congr x0 x1 x2 f ?_ ?_ ?_ ?_ ?_
  · show (32 * (qb : ℕ) + i) / 32 = qb; omega
  · show 4 * ((32 * (qb : ℕ) + i) % 32) + j = 4 * i + j; omega
  · show (128 * (hp : ℕ) + (64 * e + d)) / 128 = hp; omega
  · show (128 * (hp : ℕ) + (64 * e + d)) % 128 / 64 = e; omega
  · show (128 * (hp : ℕ) + (64 * e + d)) % 64 = d; omega

/-- Every index of a stored piece, by row, head and lane. -/
theorem lanes (x : S1x1x1x32x128.Idx) : ∃ (i : Fin 32) (e : Fin 2) (d : Fin 64), x = ix5 0 0 0 i ⟨64 * e + d, by omega⟩ := by
  have h4 : (x 4 : ℕ) < 128 := (x 4).isLt
  refine ⟨x 3, ⟨(x 4 : ℕ) / 64, by omega⟩, ⟨(x 4 : ℕ) % 64, by omega⟩, ?_⟩
  have h0 : (x 0 : ℕ) < 1 := (x 0).isLt
  have h1 : (x 1 : ℕ) < 1 := (x 1).isLt
  have h2 : (x 2 : ℕ) < 1 := (x 2).isLt
  funext a; apply Fin.ext
  match a with
  | ⟨0, _⟩ => show (x 0 : ℕ) = 0; omega
  | ⟨1, _⟩ => show (x 1 : ℕ) = 0; omega
  | ⟨2, _⟩ => show (x 2 : ℕ) = 0; omega
  | ⟨3, _⟩ => rfl
  | ⟨4, _⟩ => show (x 4 : ℕ) = 64 * ((x 4 : ℕ) / 64) + (x 4 : ℕ) % 64; omega

/-- A head's bias rows, of the two that a unit loads. -/
theorem bias_at (g : Fin 2) (hp : Fin 8) (e : Fin 2) (i : Fin 128) (k : Fin 256) (b0 b1 : Vec Ideal S1x1x128x256 .f32)
    (h0 : b0 (ix4 0 0 i k) = x2 (ix4 g ⟨2 * hp, by omega⟩ i k)) (h1 : b1 (ix4 0 0 i k) = x2 (ix4 g ⟨2 * hp + 1, by omega⟩ i k)) :
    (if e = 0 then b0 else b1) (ix4 0 0 i k) = x2 (ix4 g ⟨2 * hp + e, by omega⟩ i k) := by
  match e with
  | ⟨0, _⟩ => exact h0
  | ⟨1, _⟩ => exact h1

theorem row_congr {s s' v v' : Fin 256 → EReal} (h1 : ∀ k, s k = s' k) (h2 : ∀ k, v k = v' k) : row s v = row s' v' := by
  rw [funext h1, funext h2]

theorem later_agrees (v : View sig .tc .vmem S4x128x128 .f32) (T : List (View.Piece (Elt Ideal) S4x128x128 .f32)) (qb : Fin 3) (hp : Fin 8)
    (j : Fin 4) (x : (pieceLater (F := Ideal) v x0 x2 qb hp j T).1.shape.Idx) :
    (pieceLater (F := Ideal) v x0 x2 qb hp j T).2 x = whole x0 x1 x2 f ((pieceLater (F := Ideal) v x0 x2 qb hp j T).1.emb x) := by
  obtain ⟨i, e, d, rfl⟩ := lanes x
  have hr := (congrArg (whole x0 x1 x2 f) (emb_out j (32 * (qb + 1)) (128 * hp) (by omega) (by omega) (by omega) i ⟨64 * e + d, by omega⟩)).trans
    (whole_at x0 x1 x2 f j ⟨qb + 1, by omega⟩ i hp e d)
  refine Eq.trans ?_ hr.symm
  refine (stored_apply v T _ _ _ _ _ i ⟨64 * e + d, by omega⟩).trans ?_
  refine (later_apply _ _ _ _ _ e ⟨4 * i + j, by omega⟩ d).trans (row_congr (fun k => congrArg₂ (· + ·) (Finset.sum_congr rfl fun d' _ =>
    congrArg₂ (· * ·) ?_ ?_) (bias_at x2 0 hp e ⟨4 * i + j, by omega⟩ k _ _ ?_ ?_)) (fun k => ?_))
  · exact ld_cur x0 ..
  · exact ld_win x0 ..
  · exact ld_bia x2 ..
  · exact ld_bia x2 ..
  · exact ld_win x0 ..

theorem first_agrees (v : View sig .tc .vmem S4x128x128 .f32) (T : List (View.Piece (Elt Ideal) S4x128x128 .f32)) (g : ℕ) (hg : g ≤ 1)
    (h1 : g = f) (hp : Fin 8) (j : Fin 4) (x : (pieceFirst (F := Ideal) v x0 x1 x2 g hg hp j T).1.shape.Idx) :
    (pieceFirst (F := Ideal) v x0 x1 x2 g hg hp j T).2 x
      = whole x0 x1 x2 f ((pieceFirst (F := Ideal) v x0 x1 x2 g hg hp j T).1.emb x) := by
  subst h1
  obtain ⟨i, e, d, rfl⟩ := lanes x
  have hr := (congrArg (whole x0 x1 x2 f) (emb_out j 0 (128 * hp) (by omega) (by omega) (by omega) i ⟨64 * e + d, by omega⟩)).trans
    (whole_at x0 x1 x2 f j ⟨0, by omega⟩ i hp e d)
  have hj : ∀ (c : ℕ) (hc : c ≤ 2944) (k : Fin 256) (l : Fin 128),
      joined (View.ld x1 (prv c hc)) (View.ld x0 (cur 0 c (by omega) hc)) k l = window x0 x1 ⟨0, by omega⟩ k ⟨c + l, by omega⟩ := by
    intro c hc k l
    unfold joined window
    rw [dif_pos (show ((⟨0, by omega⟩ : Fin 4) : ℕ) = 0 from rfl)]
    split
    · exact ld_prv x1 ..
    · refine (ld_cur x0 ..).trans (congrArg x0 ?_)
      funext a; apply Fin.ext
      match a with
      | ⟨0, _⟩ => rfl
      | ⟨1, _⟩ => show 0 + (k.val - 128) = k.val - 128; omega
      | ⟨2, _⟩ => rfl
  refine Eq.trans ?_ hr.symm
  refine (stored_apply v T _ _ _ _ _ i ⟨64 * e + d, by omega⟩).trans ?_
  refine (first_apply _ _ _ _ _ _ _ e ⟨4 * i + j, by omega⟩ d).trans (row_congr (fun k => congrArg₂ (· + ·) (Finset.sum_congr rfl fun d' _ =>
    congrArg₂ (· * ·) ?_ ?_) (bias_at x2 f hp e ⟨4 * i + j, by omega⟩ k _ _ ?_ ?_)) (fun k => ?_))
  · refine (ld_cur x0 ..).trans (congrArg x0 ?_)
    funext a; apply Fin.ext
    match a with
    | ⟨0, _⟩ => rfl
    | ⟨1, _⟩ => rfl
    | ⟨2, _⟩ => rfl
  · exact hj _ _ _ _
  · exact ld_bia x2 ..
  · exact ld_bia x2 ..
  · exact hj _ _ _ _

/-- The block a grid point writes back. -/
theorem out_eq (c : Dev nD) (i : grid0.Coords) (hf : first i = f) (a3 : Memref sig .tc .vmem S1x512x3072 .bf16) (h3 : a3.IsWhole)
    (a4 : Memref sig .tc .vmem S1x128x3072 .bf16) (h4 : a4.IsWhole) (a5 : Memref sig .tc .vmem S2x16x128x256 .f32) (h5 : a5.IsWhole)
    (a6 : Memref sig .tc .vmem S1x4x1x128x1024 .bf16) (h6 : a6.IsWhole) (a7 : Memref sig .tc .vmem S1x4x1x128x1024 .f32) (h7 : a7.IsWhole)
    (a8 : Memref sig .tc .vmem S4x128x128 .f32) (h8 : a8.IsWhole) (a9 : Memref sig .tc .vmem S4x128x128 .f32) (h9 : a9.IsWhole) :
    out0_A_3 (F := Ideal) c i a3 h3 a4 h4 a5 h5 a6 h6 a7 h7 a8 h8 a9 h9 x0 x1 x2 = whole x0 x1 x2 f := by
  funext y
  have hp := pieces (F := Ideal) c i a3 h3 a4 h4 a5 h5 a6 h6 a7 h7 a8 h8 a9 h9 x0 x1 x2
  simp only [Memref.IsWhole.read_unread] at hp
  unfold out0_A_3
  refine read_writes_of_agree (Val := Elt Ideal) VO0_3 _ (whole x0 x1 x2 f) y _ (fun p hm => ?_)
    (cover0_A_3 c i a3 h3 a4 h4 a5 h5 a6 h6 a7 h7 a8 h8 a9 h9 x0 x1 x2 y)
  rcases hp p hm with ⟨h, j, T, rfl⟩ | ⟨q, h, j, T, rfl⟩
  · exact first_agrees x0 x1 x2 f _ T (first i) (first_le i) hf h j
  · exact later_agrees x0 x1 x2 f _ T q h j

end Cert.NearAttnIdeal.Block
-- ==== Proof.NearValue.lean ====
/- One query's row of the narrowest attention pattern is the reference's. -/
module

public import proofs.«01_k».proof.Proof.NearHost
public import proofs.«01_k».proof.Proof.NearBlock
public import proofs.«01_k».proof.Proof.NearRef
public import proofs.«01_k».proof.Proof.Gen.NearAttnIdeal.Value
public import proofs.«01_k».proof.Proof.Gen.NearAttnRefIdeal.Run

@[expose] public section

set_option maxRecDepth 16384

noncomputable section

open Idealize.ShloMosaic Idealize.ShloMosaic.TcCoe Idealize.SL.Sem
open Idealize.ShloMosaic.Pipeline (Dat)

namespace Cert.NearAttnIdeal.RefValue

open Cert.NearAttnIdeal Cert.NearAttnIdeal.Gen Cert.Proof.Scalar Cert.NearAttnIdeal.Unit Cert.NearAttnIdeal.Block
open Cert.NearAttnRefIdeal.RowValue

theorem bit_cases (a : BitVec 1) : a = 0#1 ∨ a = 1#1 := by
  rcases a with ⟨⟨v, hv⟩⟩
  have : v = 0 ∨ v = 1 := by omega
  rcases this with rfl | rfl
  · exact Or.inl rfl
  · exact Or.inr rfl

/-- No query attends to a key before the start of its sequence. -/
theorem allowed_start (n : Fin 64) (i : Fin 128) (k : Fin 256) (h : n.val * 128 + k.val < 128) : allowed n i k = 0#1 := by
  have hn : n = 0 := by apply Fin.ext; show n.val = 0; omega
  have hk : IntOp.cmpi CmpIPredicate.sge (BitVec.ofNat 32 k) 128#32 = 0#1 := by
    have : ∀ k : Fin 256, k.val < 128 → IntOp.cmpi CmpIPredicate.sge (BitVec.ofNat 32 k) 128#32 = 0#1 := by decide +kernel
    exact this k (by omega)
  show Cert.NearAttnRefIdeal.Read.val_main_v75 (F := Ideal) (ix3 n i k) = 0#1
  rw [Host.allowed_at, Host.first_mask n hn, hk]
  simp [IntOp.andi]

/-- The number of a grid point's query block. -/
abbrev blk (T : Fin 16) (qb : Fin 4) : Fin 64 := ⟨4 * T + qb, by omega⟩

/-- A grid point's rows of one of the arguments (`A`, in the columns from `c`): its own 512, and the 128 before them if there are any. -/
structure Rows (x0 : Vec Ideal S1x512x3072 .bf16) (x1 : Vec Ideal S1x128x3072 .bf16) (A : Vec Ideal S4x8192x1024 .f32) (b : Fin 4) (T : Fin 16)
    (c : ℕ) (hc : c ≤ 2048) : Prop where
  own : ∀ (p : Fin 512) (l : Fin 1024), x0 (ix3 0 p ⟨c + l, by omega⟩) = A (ix3 b ⟨512 * T + p, by omega⟩ l)
  before : (T : ℕ) ≠ 0 → ∀ (p : Fin 128) (l : Fin 1024), x1 (ix3 0 p ⟨c + l, by omega⟩) = A (ix3 b ⟨512 * T + p - 128, by omega⟩ l)

section Row

variable (x0 : Vec Ideal S1x512x3072 .bf16) (x1 : Vec Ideal S1x128x3072 .bf16) (x2 : Vec Ideal S2x16x128x256 .f32) (f : Fin 2)
  (A0 A1 A2 : Vec Ideal S4x8192x1024 .f32) (A4 : Vec Ideal S32x16 .f32) (b : Fin 4) (T : Fin 16)

theorem window_at (A : Vec Ideal S4x8192x1024 .f32) (c : ℕ) (hc : c ≤ 2048) (hA : Rows x0 x1 A b T c hc) (qb : Fin 4) (k : Fin 256) (l : Fin 1024)
    (h : ¬ (blk T qb).val * 128 + k.val < 128) :
    window x0 x1 qb k ⟨c + l, by omega⟩ = A (ix3 b ⟨(blk T qb).val * 128 + k - 128, by have : (blk T qb).val < 64 := (blk T qb).isLt; omega⟩ l) := by
  have hT : (blk T qb).val = 4 * T.val + qb.val := rfl
  unfold window
  by_cases hn : (qb : ℕ) = 0
  · rw [dif_pos hn]
    by_cases hk : (k : ℕ) < 128
    · rw [dif_pos hk]
      refine (hA.before (by omega) ⟨k, hk⟩ l).trans (congrArg A ?_)
      funext a; apply Fin.ext
      match a with
      | ⟨0, _⟩ => rfl
      | ⟨1, _⟩ => show 512 * T.val + k.val - 128 = (4 * T.val + qb.val) * 128 + k.val - 128; omega
      | ⟨2, _⟩ => rfl
    · rw [dif_neg hk]
      refine (hA.own ⟨k - 128, by omega⟩ l).trans (congrArg A ?_)
      funext a; apply Fin.ext
      match a with
      | ⟨0, _⟩ => rfl
      | ⟨1, _⟩ => show 512 * T.val + (k.val - 128) = (4 * T.val + qb.val) * 128 + k.val - 128; omega
      | ⟨2, _⟩ => rfl
  · rw [dif_neg hn]
    refine (hA.own ⟨128 * (qb - 1) + k, by omega⟩ l).trans (congrArg A ?_)
    funext a; apply Fin.ext
    match a with
    | ⟨0, _⟩ => rfl
    | ⟨1, _⟩ => show 512 * T.val + (128 * (qb.val - 1) + k.val) = (4 * T.val + qb.val) * 128 + k.val - 128; omega
    | ⟨2, _⟩ => rfl

theorem window_col (qb : Fin 4) (k : Fin 256) (i j : Fin 3072) (h : i.val = j.val) : window x0 x1 qb k i = window x0 x1 qb k j := by
  rw [Fin.ext h]

/-- The kernel's score is the reference's masked logit in base two. -/
theorem score_eq (hq : ∀ (p : Fin 512) (l : Fin 1024), x0 (ix3 0 p ⟨l, by omega⟩) = HMul.hMul (α := EReal) (A0 (ix3 b ⟨512 * T + p, by omega⟩ l)) L)
    (hk : Rows x0 x1 A1 b T 1024 (by omega))
    (hb : ∀ (qb : Fin 4) (h : Fin 16) (i : Fin 128) (k : Fin 256), x2 (ix4 (if (qb : ℕ) = 0 then f else 0) h i k)
      = Scalar.select (allowed (blk T qb) i k) (HMul.hMul (α := EReal) (Cert.NearAttnRefIdeal.Read.val_main_v57 (F := Ideal) A4 (ix3 i k h)) L) ⊥)
    (qb : Fin 4) (i : Fin 128) (k : Fin 256) (hp : Fin 8) (e : Fin 2) :
    (∑ d' : Fin 64, x0 (ix3 0 ⟨128 * qb + i, by omega⟩ ⟨128 * hp + (64 * e + d'), by omega⟩)
          * window x0 x1 qb k ⟨1024 + 128 * hp + (64 * e + d'), by omega⟩)
        + x2 (ix4 (if (qb : ℕ) = 0 then f else 0) ⟨2 * hp + e, by omega⟩ i k)
      = logit A0 A1 A4 b ⟨2 * hp + e, by omega⟩ (blk T qb) i k * L := by
  rw [hb]
  unfold logit
  rcases bit_cases (allowed (blk T qb) i k) with ha | ha
  · rw [ha]
    have s0 : ∀ x y : EReal, Scalar.select 0#1 x y = y := fun x y => by simp [Scalar.select]
    rw [s0, s0, bot_mul_L, EReal.add_bot]
  · have s1 : ∀ x y : EReal, Scalar.select 1#1 x y = x := fun x y => by simp [Scalar.select]
    have hs : ¬ (blk T qb).val * 128 + k.val < 128 := fun h => by
      rw [allowed_start (blk T qb) i k h] at ha
      exact absurd ha (by decide)
    rw [ha, s1, s1, add_mul_L, sum_mul_L]
    refine congrArg (· + _) (Finset.sum_congr rfl fun d _ => ?_)
    rw [near_entry A1 b _ (blk T qb) k d hs]
    have eq := hq ⟨128 * qb + i, by omega⟩ ⟨(2 * hp + e) * 64 + d, by omega⟩
    have ek := window_at x0 x1 b T A1 1024 (by omega) hk qb k ⟨(2 * hp + e) * 64 + d, by omega⟩ hs
    have iq : x0 (ix3 0 ⟨128 * qb + i, by omega⟩ ⟨128 * hp + (64 * e + d), by omega⟩)
        = x0 (ix3 0 ⟨128 * qb + i, by omega⟩ ⟨(2 * hp + e) * 64 + d, by omega⟩) := by
      refine congrArg x0 ?_
      funext a; apply Fin.ext
      match a with
      | ⟨0, _⟩ => rfl
      | ⟨1, _⟩ => rfl
      | ⟨2, _⟩ => show 128 * hp.val + (64 * e.val + d.val) = (2 * hp.val + e.val) * 64 + d.val; omega
    have ik := window_col x0 x1 qb k ⟨1024 + 128 * hp + (64 * e + d), by omega⟩ ⟨1024 + ((2 * hp + e) * 64 + d), by omega⟩
      (by show 1024 + 128 * hp.val + (64 * e.val + d.val) = 1024 + ((2 * hp.val + e.val) * 64 + d.val); omega)
    have ia : A0 (ix3 b ⟨512 * T + (128 * qb + i), by omega⟩ ⟨(2 * hp + e) * 64 + d, by omega⟩)
        = entry A0 b ⟨2 * hp + e, by omega⟩ (pos (blk T qb) i) d := by
      refine congrArg A0 ?_
      funext a; apply Fin.ext
      match a with
      | ⟨0, _⟩ => rfl
      | ⟨1, _⟩ => show 512 * T.val + (128 * qb.val + i.val) = (4 * T.val + qb.val) * 128 + i.val; omega
      | ⟨2, _⟩ => rfl
    exact (congrArg₂ (fun x y : EReal => x * y) (iq.trans (eq.trans (congrArg (fun z : EReal => z * L) ia))) (ik.trans ek)).trans
      (mul_right_comm _ _ _)

/-- One element of a grid point's block, from its input blocks' entries. -/
theorem value_eq (hq : ∀ (p : Fin 512) (l : Fin 1024), x0 (ix3 0 p ⟨l, by omega⟩) = HMul.hMul (α := EReal) (A0 (ix3 b ⟨512 * T + p, by omega⟩ l)) L)
    (hk : Rows x0 x1 A1 b T 1024 (by omega)) (hv : Rows x0 x1 A2 b T 2048 (by omega))
    (hb : ∀ (qb : Fin 4) (h : Fin 16) (i : Fin 128) (k : Fin 256), x2 (ix4 (if (qb : ℕ) = 0 then f else 0) h i k)
      = Scalar.select (allowed (blk T qb) i k) (HMul.hMul (α := EReal) (Cert.NearAttnRefIdeal.Read.val_main_v57 (F := Ideal) A4 (ix3 i k h)) L) ⊥)
    (qb : Fin 4) (i : Fin 32) (j : Fin 4) (hp : Fin 8) (e : Fin 2) (d : Fin 64) :
    value x0 x1 x2 f qb ⟨4 * i + j, by omega⟩ hp e d
      = Cert.NearAttnRefIdeal.Read.val_main_v94 (F := Ideal) A0 A1 A2 A4
          (ix5 b j 0 ⟨32 * (blk T qb).val + i, by have : (blk T qb).val < 64 := (blk T qb).isLt; omega⟩ ⟨(2 * hp + e) * 64 + d, by omega⟩) := by
  refine Eq.trans ?_ (result_at A0 A1 A2 A4 b ⟨2 * hp + e, by omega⟩ (blk T qb) i j d).symm
  unfold value
  refine (row_congr (fun k => score_eq x0 x1 x2 f A0 A1 A4 b T hq hk hb qb ⟨4 * i + j, by omega⟩ k hp e) (fun k => rfl)).trans ?_
  refine (row_scaled _ _).trans ?_
  refine congrArg (fun z => Ideal.div z _) (Finset.sum_congr rfl fun k _ => ?_)
  by_cases hs : (blk T qb).val * 128 + k.val < 128
  · have hw : weight (logit A0 A1 A4 b ⟨2 * hp + e, by omega⟩ (blk T qb) ⟨4 * i + j, by omega⟩) k = 0 := by
      refine weight_of_bot ?_
      unfold logit
      rw [allowed_start (blk T qb) _ k hs]
      simp [Scalar.select]
    rw [hw, zero_mul, zero_mul]
  · rw [near_entry A2 b _ (blk T qb) k d hs]
    have iv := window_col x0 x1 qb k ⟨2048 + 128 * hp + (64 * e + d), by omega⟩ ⟨2048 + ((2 * hp + e) * 64 + d), by omega⟩
      (by show 2048 + 128 * hp.val + (64 * e.val + d.val) = 2048 + ((2 * hp.val + e.val) * 64 + d.val); omega)
    exact congrArg (fun z : EReal => _ * z)
      (iv.trans (window_at x0 x1 b T A2 2048 (by omega) hv qb k ⟨(2 * hp + e) * 64 + d, by omega⟩ hs))

end Row

end Cert.NearAttnIdeal.RefValue
-- ==== Proof.NearGrid.lean ====
/- The grid of the narrowest attention pattern: every point writes its block of the reference's result, and the blocks tile it. -/
module

public import proofs.«01_k».proof.Proof.NearValue
public import proofs.«01_k».proof.Proof.Gen.NearAttnIdeal.Value
public import proofs.«01_k».proof.Proof.Gen.NearAttnRefIdeal.Run

@[expose] public section

set_option maxRecDepth 16384

noncomputable section

open Idealize.ShloMosaic Idealize.ShloMosaic.TcCoe Idealize.SL.Sem
open Idealize.ShloMosaic.Pipeline (Dat)

namespace Cert.NearAttnIdeal.RefValue

open Cert.NearAttnIdeal Cert.NearAttnIdeal.Gen Cert.NearAttnIdeal.Pieces Cert.Proof.Scalar Cert.NearAttnIdeal.Unit Cert.NearAttnIdeal.Block
open Cert.NearAttnRefIdeal.RowValue

variable (m : (ℓ : Loc nD τ sig) → Buf (Elt Ideal) ℓ) (ρ : Dev nD → PrngReg)

/-- The reference's result, at this program's arguments. -/
def goal (c : Dev nD) : Vec Ideal S4x4x1x2048x1024 .bf16 :=
  Cert.NearAttnRefIdeal.Read.val_main_v94 (F := Ideal) (m ((c : Thread nD τ).loc main_arg0)) (m ((c : Thread nD τ).loc main_arg1))
    (m ((c : Thread nD τ).loc main_arg2)) (m ((c : Thread nD τ).loc main_arg4))

theorem index_facts : ∀ t : Fin grid0.N,
    (win0_0.index t 0 = t.val / 16 ∧ win0_0.index t 1 = t.val % 16 ∧ win0_0.index t 2 = 0)
    ∧ (win0_1.index t 0 = t.val / 16 ∧ win0_1.index t 1 = 4 * (t.val % 16) - 1 ∧ win0_1.index t 2 = 0)
    ∧ (win0_2.index t 0 = 0 ∧ win0_2.index t 1 = 0 ∧ win0_2.index t 2 = 0 ∧ win0_2.index t 3 = 0)
    ∧ (win0_3.index t 0 = t.val / 16 ∧ win0_3.index t 1 = 0 ∧ win0_3.index t 2 = 0 ∧ win0_3.index t 3 = t.val % 16 ∧ win0_3.index t 4 = 0)
    ∧ first (grid0.coords t) = (if t.val % 16 = 0 then 1 else 0) := by
  decide +kernel

/-- The bias table of a grid point's first block: the second one at the start of a sequence. -/
abbrev table (T : Fin 16) : Fin 2 := if (T : ℕ) = 0 then 1 else 0

/-- An entry of the block of queries, keys and values. -/
theorem read_own (A : Vec Ideal S4x8192x6144 .bf16) (t : Fin cfg0.N) (p : Fin 512) (l : Fin 3072) (j : S4x8192x6144.Idx)
    (e : ((cfg0.win 0).blk t).view.emb (ix3 0 p l) = j) :
    (((cfg0.win 0).blk t).view.read (Elt Ideal) A : Vec Ideal S1x512x3072 .bf16) (ix3 0 p l) = A j := by
  subst e
  exact View.read_apply _ _

/-- An entry of the block before. -/
theorem read_before (A : Vec Ideal S4x8192x6144 .bf16) (t : Fin cfg0.N) (p : Fin 128) (l : Fin 3072) (j : S4x8192x6144.Idx)
    (e : ((cfg0.win 1).blk t).view.emb (ix3 0 p l) = j) :
    (((cfg0.win 1).blk t).view.read (Elt Ideal) A : Vec Ideal S1x128x3072 .bf16) (ix3 0 p l) = A j := by
  subst e
  exact View.read_apply _ _

/-- An entry of the output block. -/
theorem read_result (A : Vec Ideal S4x4x1x2048x1024 .bf16) (t : Fin cfg0.N) (a : Fin 4) (p : Fin 128) (l : Fin 1024) (j : S4x4x1x2048x1024.Idx)
    (e : ((cfg0.win 3).blk t).view.emb (ix5 0 a 0 p l) = j) :
    (((cfg0.win 3).blk t).view.read (Elt Ideal) A : Vec Ideal S1x4x1x128x1024 .bf16) (ix5 0 a 0 p l) = A j := by
  subst e
  exact View.read_apply _ _

/-- The queries, keys and values of a grid point. -/
theorem block_own (c : Dev nD) (t : Fin cfg0.N) (h : t.val < 64) (p : Fin 512) (l : Fin 3072) :
    (iblk m c 0 t : Vec Ideal S1x512x3072 .bf16) (ix3 0 p l)
      = V m c main_v64 (ix3 ⟨t.val / 16, by omega⟩ ⟨512 * (t.val % 16) + p, by omega⟩ ⟨l, by omega⟩) := by
  obtain ⟨⟨h0, h1, h2⟩, _⟩ := index_facts t
  have e : ((cfg0.win 0).blk t).view.emb (ix3 0 p l)
      = (ix3 ⟨t.val / 16, by omega⟩ ⟨512 * (t.val % 16) + p, by omega⟩ ⟨l, by omega⟩ : S4x8192x6144.Idx) := by
    funext a; apply Fin.ext
    match a with
    | ⟨0, _⟩ => show win0_0.index t 0 * 1 + 1 * 0 = t.val / 16; rw [h0]; omega
    | ⟨1, _⟩ => show win0_0.index t 1 * 512 + 1 * p.val = 512 * (t.val % 16) + p.val; rw [h1]; omega
    | ⟨2, _⟩ => show win0_0.index t 2 * 3072 + 1 * l.val = l.val; rw [h2]; omega
  unfold iblk
  exact read_own (V m c main_v64) t p l _ e

/-- The keys and values before a grid point's own. -/
theorem block_before (c : Dev nD) (t : Fin cfg0.N) (h : t.val < 64) (h' : t.val % 16 ≠ 0) (p : Fin 128) (l : Fin 3072) :
    (iblk m c 1 t : Vec Ideal S1x128x3072 .bf16) (ix3 0 p l)
      = V m c main_v64 (ix3 ⟨t.val / 16, by omega⟩ ⟨512 * (t.val % 16) + p - 128, by omega⟩ ⟨l, by omega⟩) := by
  obtain ⟨_, ⟨h0, h1, h2⟩, _⟩ := index_facts t
  have e : ((cfg0.win 1).blk t).view.emb (ix3 0 p l)
      = (ix3 ⟨t.val / 16, by omega⟩ ⟨512 * (t.val % 16) + p - 128, by omega⟩ ⟨l, by omega⟩ : S4x8192x6144.Idx) := by
    funext a; apply Fin.ext
    match a with
    | ⟨0, _⟩ => show win0_1.index t 0 * 1 + 1 * 0 = t.val / 16; rw [h0]; omega
    | ⟨1, _⟩ => show win0_1.index t 1 * 128 + 1 * p.val = 512 * (t.val % 16) + p.val - 128; rw [h1]; omega
    | ⟨2, _⟩ => show win0_1.index t 2 * 3072 + 1 * l.val = l.val; rw [h2]; omega
  unfold iblk
  exact read_before (V m c main_v64) t p l _ e

/-- The bias tables: every grid point reads all of them. -/
theorem block_bias (c : Dev nD) (t : Fin cfg0.N) (f : Fin 2) (h : Fin 16) (i : Fin 128) (k : Fin 256) :
    (iblk m c 2 t : Vec Ideal S2x16x128x256 .f32) (ix4 f h i k) = V m c main_v56 (ix4 f h i k) := by
  obtain ⟨_, _, ⟨h0, h1, h2, h3⟩, _⟩ := index_facts t
  have e : ((cfg0.win 2).blk t).view.emb (ix4 f h i k) = (ix4 f h i k : S2x16x128x256.Idx) := by
    funext a; apply Fin.ext
    match a with
    | ⟨0, _⟩ => show win0_2.index t 0 * 2 + 1 * f.val = f.val; rw [h0]; omega
    | ⟨1, _⟩ => show win0_2.index t 1 * 16 + 1 * h.val = h.val; rw [h1]; omega
    | ⟨2, _⟩ => show win0_2.index t 2 * 128 + 1 * i.val = i.val; rw [h2]; omega
    | ⟨3, _⟩ => show win0_2.index t 3 * 256 + 1 * k.val = k.val; rw [h3]; omega
  unfold iblk
  generalize V m c = W
  exact congrArg (W main_v56) e

/-- The queries of a grid point are the argument's, in base two. -/
theorem queries (c : Dev nD) (t : Fin cfg0.N) (h : t.val < 64) (p : Fin 512) (l : Fin 1024) :
    (iblk m c 0 t : Vec Ideal S1x512x3072 .bf16) (ix3 0 p ⟨l, by omega⟩)
      = HMul.hMul (α := EReal) (m (c, Proc.tc.devRef main_arg0) (ix3 ⟨t.val / 16, by omega⟩ ⟨512 * (t.val % 16) + p, by omega⟩ l)) L :=
  (block_own m c t h p _).trans (Host.query_at m c _ _ _ l.isLt)

/-- The keys of a grid point. -/
theorem keys (c : Dev nD) (t : Fin cfg0.N) (h : t.val < 64) :
    Rows (iblk m c 0 t) (iblk m c 1 t) (m (c, Proc.tc.devRef main_arg1)) ⟨t.val / 16, by omega⟩ ⟨t.val % 16, by omega⟩ 1024 (by omega) where
  own p l := by
    refine (block_own m c t h p _).trans ((Host.key_at m c _ _ _ (by simp) (by simp; omega)).trans ?_)
    refine congrArg (m (c, Proc.tc.devRef main_arg1)) ?_
    idx_ext <;> simp
  before h' p l := by
    refine (block_before m c t h h' p _).trans ((Host.key_at m c _ _ _ (by simp) (by simp; omega)).trans ?_)
    refine congrArg (m (c, Proc.tc.devRef main_arg1)) ?_
    idx_ext <;> simp

/-- The values of a grid point. -/
theorem values (c : Dev nD) (t : Fin cfg0.N) (h : t.val < 64) :
    Rows (iblk m c 0 t) (iblk m c 1 t) (m (c, Proc.tc.devRef main_arg2)) ⟨t.val / 16, by omega⟩ ⟨t.val % 16, by omega⟩ 2048 (by omega) where
  own p l := by
    refine (block_own m c t h p _).trans ((Host.val_at m c _ _ _ (by simp) (by simp; omega)).trans ?_)
    refine congrArg (m (c, Proc.tc.devRef main_arg2)) ?_
    idx_ext <;> simp
  before h' p l := by
    refine (block_before m c t h h' p _).trans ((Host.val_at m c _ _ _ (by simp) (by simp; omega)).trans ?_)
    refine congrArg (m (c, Proc.tc.devRef main_arg2)) ?_
    idx_ext <;> simp

/-- The table a query block uses, from its number. -/
theorem table_eq (T : Fin 16) (qb : Fin 4) : (if (qb : ℕ) = 0 then table T else 0 : Fin 2) = if blk T qb = 0 then 1 else 0 := by
  revert T qb
  decide +kernel

/-- One element of what a grid point computes, from any blocks with the right entries. -/
theorem point (c : Dev nD) (b : Fin 4) (T : Fin 16) (x0 : Vec Ideal S1x512x3072 .bf16) (x1 : Vec Ideal S1x128x3072 .bf16)
    (x2 : Vec Ideal S2x16x128x256 .f32)
    (hq : ∀ (p : Fin 512) (l : Fin 1024), x0 (ix3 0 p ⟨l, by omega⟩)
      = HMul.hMul (α := EReal) (m (c, Proc.tc.devRef main_arg0) (ix3 b ⟨512 * T + p, by omega⟩ l)) L)
    (hk : Rows x0 x1 (m (c, Proc.tc.devRef main_arg1)) b T 1024 (by omega)) (hv : Rows x0 x1 (m (c, Proc.tc.devRef main_arg2)) b T 2048 (by omega))
    (hb : ∀ (n : Fin 64) (h : Fin 16) (i : Fin 128) (k : Fin 256), x2 (ix4 (if n = 0 then 1 else 0) h i k)
      = Scalar.select (allowed n i k) (HMul.hMul (α := EReal)
          (Cert.NearAttnRefIdeal.Read.val_main_v57 (F := Ideal) (m (c, Proc.tc.devRef main_arg4)) (ix3 i k h)) L) ⊥)
    (j qb : Fin 4) (i : Fin 32) (hp : Fin 8) (e : Fin 2) (d : Fin 64) :
    whole x0 x1 x2 (table T) (ix5 0 j 0 ⟨32 * qb + i, by omega⟩ ⟨128 * hp + (64 * e + d), by omega⟩)
      = goal m c (ix5 b j 0 ⟨32 * (blk T qb).val + i, by have : (blk T qb).val < 64 := (blk T qb).isLt; omega⟩ ⟨(2 * hp + e) * 64 + d, by omega⟩) :=
  (whole_at x0 x1 x2 (table T) j qb i hp e d).trans
    (value_eq x0 x1 x2 (table T) _ _ _ _ b T hq hk hv
      (fun qb h i k => (congrArg (fun z => x2 (ix4 z h i k)) (table_eq T qb)).trans (hb (blk T qb) h i k)) qb i j hp e d)

/-- The block a grid point computes, element by element. -/
theorem whole_eq (c : Dev nD) (t : Fin cfg0.N) (h : t.val < 64) (j qb : Fin 4) (i : Fin 32) (hp : Fin 8) (e : Fin 2) (d : Fin 64) :
    whole (iblk m c 0 t) (iblk m c 1 t) (iblk m c 2 t) (table ⟨t.val % 16, by omega⟩)
        (ix5 0 j 0 ⟨32 * qb + i, by omega⟩ ⟨128 * hp + (64 * e + d), by omega⟩)
      = goal m c (ix5 ⟨t.val / 16, by omega⟩ j 0 ⟨32 * (4 * (t.val % 16) + qb) + i, by omega⟩ ⟨(2 * hp + e) * 64 + d, by omega⟩) :=
  point m c ⟨t.val / 16, by omega⟩ ⟨t.val % 16, by omega⟩ (iblk m c 0 t) (iblk m c 1 t) (iblk m c 2 t)
    (queries m c t h) (keys m c t h) (values m c t h)
    (fun n hh i' k => (block_bias m c t _ hh i' k).trans (Host.bias_at m c n hh i' k)) j qb i hp e d

/-- What a grid point writes back is its block of the reference's result. -/
theorem flushed_eq (c : Dev nD) (t : Fin cfg0.N) :
    (dats m 0 c).flushed 3 t = ((cfg0.win 3).blk t).view.read (Elt Ideal) (goal m c) := by
  have h : t.val < 64 := t.isLt
  obtain ⟨_, _, _, ⟨h0, h1, h2, h3, h4⟩, hf⟩ := index_facts t
  have hf' : first (grid0.coords t) = table ⟨t.val % 16, by omega⟩ := by
    rw [hf]
    unfold table
    split <;> rfl
  rw [Value.flushed3_A, out_eq _ _ _ _ _ _ hf']
  show whole (iblk m c 0 t) (iblk m c 1 t) (iblk m c 2 t) (table ⟨t.val % 16, by omega⟩) = _
  funext y
  obtain ⟨j, qb, i, hp, e, d, rfl⟩ : ∃ (j qb : Fin 4) (i : Fin 32) (hp : Fin 8) (e : Fin 2) (d : Fin 64),
      y = ix5 0 j 0 ⟨32 * qb + i, by omega⟩ ⟨128 * hp + (64 * e + d), by omega⟩ := by
    have j0 : (y 0 : ℕ) < 1 := (y 0).isLt
    have j1 : (y 1 : ℕ) < 4 := (y 1).isLt
    have j2 : (y 2 : ℕ) < 1 := (y 2).isLt
    have j3 : (y 3 : ℕ) < 128 := (y 3).isLt
    have j4 : (y 4 : ℕ) < 1024 := (y 4).isLt
    refine ⟨⟨(y 1 : ℕ), j1⟩, ⟨(y 3 : ℕ) / 32, by omega⟩, ⟨(y 3 : ℕ) % 32, by omega⟩, ⟨(y 4 : ℕ) / 128, by omega⟩,
      ⟨(y 4 : ℕ) % 128 / 64, by omega⟩, ⟨(y 4 : ℕ) % 64, by omega⟩, ?_⟩
    funext a; apply Fin.ext
    match a with
    | ⟨0, _⟩ => show (y 0 : ℕ) = 0; omega
    | ⟨1, _⟩ => rfl
    | ⟨2, _⟩ => show (y 2 : ℕ) = 0; omega
    | ⟨3, _⟩ => show (y 3 : ℕ) = 32 * ((y 3 : ℕ) / 32) + (y 3 : ℕ) % 32; omega
    | ⟨4, _⟩ => show (y 4 : ℕ) = 128 * ((y 4 : ℕ) / 128) + (64 * ((y 4 : ℕ) % 128 / 64) + (y 4 : ℕ) % 64); omega
  have e' : ((cfg0.win 3).blk t).view.emb (ix5 0 j 0 ⟨32 * qb + i, by omega⟩ ⟨128 * hp + (64 * e + d), by omega⟩)
      = (ix5 ⟨t.val / 16, by omega⟩ j 0 ⟨32 * (4 * (t.val % 16) + qb) + i, by omega⟩ ⟨(2 * hp + e) * 64 + d, by omega⟩
        : S4x4x1x2048x1024.Idx) := by
    funext a; apply Fin.ext
    match a with
    | ⟨0, _⟩ => show win0_3.index t 0 * 1 + 1 * 0 = t.val / 16; rw [h0]; omega
    | ⟨1, _⟩ => show win0_3.index t 1 * 4 + 1 * j.val = j.val; rw [h1]; omega
    | ⟨2, _⟩ => show win0_3.index t 2 * 1 + 1 * 0 = 0; rw [h2]
    | ⟨3, _⟩ => show win0_3.index t 3 * 128 + 1 * (32 * qb.val + i.val) = 32 * (4 * (t.val % 16) + qb.val) + i.val; rw [h3]; omega
    | ⟨4, _⟩ => show win0_3.index t 4 * 1024 + 1 * (128 * hp.val + (64 * e.val + d.val)) = (2 * hp.val + e.val) * 64 + d.val; rw [h4]; omega
  exact (whole_eq m c t h j qb i hp e d).trans (read_result (goal m c) t _ _ _ _ e').symm

/-- An index is in a point's block when its batch and its 128 places are the point's. -/
theorem mem_blk (t : Fin cfg0.N) (i : S4x4x1x2048x1024.Idx) (hi : (i 0 : Nat) = t.val / 16 ∧ (i 3 : Nat) / 128 = t.val % 16) :
    i ∈ ((cfg0.win 3).blk t).view.set := by
  show i ∈ ((View.whole main_v65_0).slice (win0_3.rect t)).set
  rw [View.set_slice_whole, Rect.mem_set_unit]
  obtain ⟨_, _, _, ⟨h0, h1, h2, h3, h4⟩, _⟩ := index_facts t
  have hj : (i 1 : Nat) < 4 := (i 1).isLt
  have hz : (i 2 : Nat) < 1 := (i 2).isLt
  have hl : (i 4 : Nat) < 1024 := (i 4).isLt
  obtain ⟨ha, hb⟩ := hi
  have e0 : win0_3.index t 0 * 1 ≤ (i 0 : Nat) ∧ (i 0 : Nat) < win0_3.index t 0 * 1 + 1 := by omega
  have e1 : win0_3.index t 1 * 4 ≤ (i 1 : Nat) ∧ (i 1 : Nat) < win0_3.index t 1 * 4 + 4 := by omega
  have e2 : win0_3.index t 2 * 1 ≤ (i 2 : Nat) ∧ (i 2 : Nat) < win0_3.index t 2 * 1 + 1 := by omega
  have e3 : win0_3.index t 3 * 128 ≤ (i 3 : Nat) ∧ (i 3 : Nat) < win0_3.index t 3 * 128 + 128 := by omega
  have e4 : win0_3.index t 4 * 1024 ≤ (i 4 : Nat) ∧ (i 4 : Nat) < win0_3.index t 4 * 1024 + 1024 := by omega
  intro a
  match a with
  | ⟨0, _⟩ => exact e0
  | ⟨1, _⟩ => exact e1
  | ⟨2, _⟩ => exact e2
  | ⟨3, _⟩ => exact e3
  | ⟨4, _⟩ => exact e4

/-- The blocks tile the result. -/
theorem cover (i : S4x4x1x2048x1024.Idx) :
    ∃ t : Fin cfg0.N, (cfg0.win 3).flush t = true ∧ i ∈ ((cfg0.win 3).blk t).view.set := by
  have h0 : (i 0 : Nat) < 4 := (i 0).isLt
  have h3 : (i 3 : Nat) < 2048 := (i 3).isLt
  have hN : cfg0.N = 64 := N_0
  refine ⟨⟨(i 0 : Nat) * 16 + (i 3 : Nat) / 128, by omega⟩, flush0_3 _, mem_blk _ _ ?_⟩
  dsimp only
  omega

/-- So the result array ends at the reference's result. -/
theorem final (c : Dev nD) : (dats m 0 c).arrAt 3 cfg0.N = goal m c :=
  (dats m 0 c).arrAt_eq_of_cover 3 (goal m c) (fun t _ => flushed_eq m c t) cover

/-- The run, read: the result array at the reference's result, the arguments unchanged. -/
theorem run : θ_run defs (onTc (τ := τ) (main (F := Ideal))) ⟨m, fun _ => 0, ρ⟩ fun r => ∀ c : Dev nD,
      r.2.mem ((c : Thread nD τ).loc main_v65_0) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1).trans (final m c), (h c).2.2⟩) (Value.run_blocks m ρ)

end Cert.NearAttnIdeal.RefValue
-- ==== Proof.Claims.lean ====
/-
  The claims that follow from the generated runs alone: every program ends with its arguments unchanged and its
  semaphores at zero, and the named constant's statements.
-/
module

public import proofs.«01_k».proof.Defs
public import proofs.«01_k».proof.Proof.Gen.Attn.Frame
public import proofs.«01_k».proof.Proof.Gen.AttnIdeal.Value
public import proofs.«01_k».proof.Proof.Gen.AttnRefIdeal.Read
public import proofs.«01_k».proof.Proof.Gen.OutProj.Frame
public import proofs.«01_k».proof.Proof.Gen.OutProjIdeal.Value
public import proofs.«01_k».proof.Proof.Gen.OutProjRefIdeal.Read
public import proofs.«01_k».proof.Proof.Gen.InProj.Frame
public import proofs.«01_k».proof.Proof.Gen.InProjIdeal.Value
public import proofs.«01_k».proof.Proof.Gen.InProjRefIdeal.Read
public import proofs.«01_k».proof.Proof.Gen.EvenProj.Frame
public import proofs.«01_k».proof.Proof.Gen.EvenProjIdeal.Value
public import proofs.«01_k».proof.Proof.Gen.EvenProjRefIdeal.Read
public import proofs.«01_k».proof.Proof.Gen.EvenOut.Frame
public import proofs.«01_k».proof.Proof.Gen.EvenOutIdeal.Value
public import proofs.«01_k».proof.Proof.Gen.EvenOutRefIdeal.Read
public import proofs.«01_k».proof.Proof.Gen.FirstProj.Frame
public import proofs.«01_k».proof.Proof.Gen.FirstProjIdeal.Value
public import proofs.«01_k».proof.Proof.Gen.FirstProjRefIdeal.Read
public import proofs.«01_k».proof.Proof.Gen.NearAttn.Frame
public import proofs.«01_k».proof.Proof.Gen.NearAttnIdeal.Value
public import proofs.«01_k».proof.Proof.Gen.NearAttnRefIdeal.Read
public import proofs.«01_k».proof.Proof.OutValue
public import proofs.«01_k».proof.Proof.AttnGrid
public import proofs.«01_k».proof.Proof.InValue
public import proofs.«01_k».proof.Proof.EvenValue
public import proofs.«01_k».proof.Proof.FirstValue
public import proofs.«01_k».proof.Proof.ConvValue
public import proofs.«01_k».proof.Proof.NearGrid
public import Idealize.ShloMosaic.Lib.Quiescent

@[expose] public section

noncomputable section

open Idealize.ShloMosaic Idealize.ShloMosaic.TcCoe Idealize.SL.Sem

namespace Cert.Proof.Claims

theorem frame_attn : Cert.quiescent_Attn := fun m ρ _ => Cert.Attn.Gen.frame m ρ
theorem frame_attn_ideal : Cert.quiescent_AttnIdeal := fun m ρ _ => Cert.AttnIdeal.Gen.frame m ρ
/-- The attention reference: a host program, no semaphore declared. -/
theorem frame_attn_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
theorem frame_attn_ideal_pre [Cert.Pre_lse_finite.Facts] : Cert.quiescent_AttnIdeal_pre_lse_finite := fun m ρ _ => Cert.AttnIdeal.Gen.frame m ρ
theorem frame_attn_ref_pre [Cert.Pre_lse_finite.Facts] : Cert.quiescent_AttnRefIdeal_pre_lse_finite := fun m ρ _ => frame_attn_ref m ρ trivial
theorem frame_out : Cert.quiescent_OutProj := fun m ρ _ => Cert.OutProj.Gen.frame m ρ
theorem frame_out_ideal : Cert.quiescent_OutProjIdeal := fun m ρ _ => Cert.OutProjIdeal.Gen.frame m ρ
/-- The output projection's reference. -/
theorem frame_out_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)
theorem frame_in : Cert.quiescent_InProj := fun m ρ _ => Cert.InProj.Gen.frame m ρ
theorem frame_in_ideal : Cert.quiescent_InProjIdeal := fun m ρ _ => Cert.InProjIdeal.Gen.frame m ρ
/-- The input projection's reference. -/
theorem frame_in_ref : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

theorem frame_in_ideal_pre [Cert.Pre_inputs_finite.Facts] : Cert.quiescent_InProjIdeal_pre_inputs_finite := fun m ρ _ => Cert.InProjIdeal.Gen.frame m ρ
theorem frame_in_ref_pre [Cert.Pre_inputs_finite.Facts] : Cert.quiescent_InProjRefIdeal_pre_inputs_finite := fun m ρ _ => frame_in_ref m ρ trivial

/-- Both attention programs are one text but for the name `log2e`, whose literal is the nearest float to `1 / log 2`. -/
theorem preserves_attn : Cert.preserves_Attn_AttnIdeal :=
  IdealRules.named_const.statement Cert.AttnIdeal.κ "log2e" .f32 0x3FB8AA3B#32 (((Real.log 2)⁻¹ : ℝ) : EReal) rfl
theorem preserves_out : Cert.preserves_OutProj_OutProjIdeal := trivial
/-- The same constant in the input projection. -/
theorem preserves_in : Cert.preserves_InProj_InProjIdeal :=
  IdealRules.named_const.statement Cert.InProjIdeal.κ "log2e" .f32 0x3FB8AA3B#32 (((Real.log 2)⁻¹ : ℝ) : EReal) rfl

/-- The one shape relation the precondition's text takes. -/
theorem lse_finite_facts : Cert.Pre_lse_finite.Facts := ⟨by decide⟩

/-- A number whose absolute value is below infinity is real. -/
theorem real_of_abs_lt (x : EReal) (h : Ideal.cmp .olt (max x (-x)) (Ideal.ofBits FTy.f32 2139095040#32) = 1#1) : ∃ z : ℝ, x = (z : EReal) := by
  have ht : Ideal.ofBits FTy.f32 2139095040#32 = ⊤ := by simp [Ideal.ofBits, Ideal.ieee]
  rw [ht] at h
  induction x using EReal.rec with
  | bot => simp [Ideal.cmp] at h
  | top => simp [Ideal.cmp] at h
  | coe r => exact ⟨r, rfl⟩

/-- The precondition says that the earlier log-sum-exps are real numbers. -/
theorem lse_real [Cert.Pre_lse_finite.Facts] (m : (ℓ : Loc Cert.AttnIdeal.nD Cert.AttnIdeal.τ Cert.AttnIdeal.sig) → Buf (Elt Ideal) ℓ)
    (h : Cert.Pre_AttnIdeal_lse_finite m) : Cert.AttnIdeal.RefValue.Finite m := fun c j =>
  real_of_abs_lt _ (congrFun (h c) j)

/-- Equal arguments give equal results of the reference attention. -/
theorem attn_agree a0 a1 a2 a3 a4 a5 b0 b1 b2 b3 b4 b5 (h0 : a0 = b0) (h1 : a1 = b1) (h2 : a2 = b2) (h3 : a3 = b3) (h4 : a4 = b4) (h5 : a5 = b5) :
    Cert.AttnRefIdeal.Read.val_main_v124 (F := Ideal) a0 a1 a2 a3 a4 a5 = Cert.AttnRefIdeal.Read.val_main_v124 (F := Ideal) b0 b1 b2 b3 b4 b5 := by
  rw [h0, h1, h2, h3, h4, h5]

/-- The attention kernel computes the reference's attention, mixed into the earlier patterns' result. -/
theorem value_attn [Cert.Pre_lse_finite.Facts] : Cert.algebraic_AttnIdeal_AttnRefIdeal_pre_lse_finite := fun m ρ m' ρ' hpre hag =>
  ⟨fun c => Cert.AttnIdeal.RefValue.goal m c, Cert.AttnIdeal.RefValue.run m ρ (lse_real m hpre),
    (θ_run Cert.AttnRefIdeal.defs _ _).mono (fun r h c => ⟨by
        rw [(h c).1]
        exact attn_agree _ _ _ _ _ _ _ _ _ _ _ _ (hag c).1 (hag c).2.1 (hag c).2.2.1 (hag c).2.2.2.1 (hag c).2.2.2.2.1 (hag c).2.2.2.2.2, (h c).2⟩)
      (Cert.AttnRefIdeal.Value.run (F := Ideal) m' ρ')⟩

/-- The output projection kernel computes the reference's residual sum. -/
theorem value_out : Cert.algebraic_OutProjIdeal_OutProjRefIdeal := fun m ρ m' ρ' _ hag =>
  ⟨fun c => Cert.OutProjIdeal.RefValue.goal m c, Cert.OutProjIdeal.RefValue.run m ρ,
    (θ_run Cert.OutProjRefIdeal.defs _ _).mono (fun r h c => ⟨by
        rw [(h c).1]
        show Cert.OutProjRefIdeal.Read.val_main_v4 (F := Ideal) _ _ _ = _
        rw [(hag c).1, (hag c).2.1, (hag c).2.2], (h c).2⟩)
      (Cert.OutProjRefIdeal.Value.run (F := Ideal) m' ρ')⟩

/-- The shape relations the input projection's precondition takes. -/
theorem inputs_finite_facts : Cert.Pre_inputs_finite.Facts := ⟨by decide, by decide, by decide, by decide⟩

/-- The precondition says that every argument of the input projection holds real numbers. -/
theorem inputs_real [Cert.Pre_inputs_finite.Facts] (m : (ℓ : Loc Cert.InProjIdeal.nD Cert.InProjIdeal.τ Cert.InProjIdeal.sig) → Buf (Elt Ideal) ℓ)
    (h : Cert.Pre_InProjIdeal_inputs_finite m) : Cert.InProjIdeal.RefValue.Finite m := fun c =>
  ⟨fun j => real_of_abs_lt _ (congrFun (h c).1 j), fun j => real_of_abs_lt _ (congrFun (h c).2.1 j),
    fun j => real_of_abs_lt _ (congrFun (h c).2.2.1 j), fun j => real_of_abs_lt _ (congrFun (h c).2.2.2 j)⟩

/-- Equal arguments give equal results of the reference input projection. -/
theorem in_agree a0 a1 a2 a3 b0 b1 b2 b3 (h0 : a0 = b0) (h1 : a1 = b1) (h2 : a2 = b2) (h3 : a3 = b3) :
    Cert.InProjRefIdeal.Read.val_main_v67 (F := Ideal) a0 a1 a2 a3 = Cert.InProjRefIdeal.Read.val_main_v67 (F := Ideal) b0 b1 b2 b3 := by
  rw [h0, h1, h2, h3]

/-- The input projection kernel computes the reference's normalised projection, its quarters activated. -/
theorem value_in [Cert.Pre_inputs_finite.Facts] : Cert.algebraic_InProjIdeal_InProjRefIdeal_pre_inputs_finite := fun m ρ m' ρ' hpre hag =>
  ⟨fun c => Cert.InProjIdeal.RefValue.goal m c, Cert.InProjIdeal.RefValue.run m ρ (inputs_real m hpre),
    (θ_run Cert.InProjRefIdeal.defs _ _).mono (fun r h c => ⟨by
        rw [(h c).1]
        exact in_agree _ _ _ _ _ _ _ _ (hag c).1 (hag c).2.1 (hag c).2.2.1 (hag c).2.2.2, (h c).2⟩)
      (Cert.InProjRefIdeal.Value.run (F := Ideal) m' ρ')⟩

theorem frame_even : Cert.quiescent_EvenProj := fun m ρ _ => Cert.EvenProj.Gen.frame m ρ
theorem frame_even_ideal : Cert.quiescent_EvenProjIdeal := fun m ρ _ => Cert.EvenProjIdeal.Gen.frame m ρ
/-- The even input projection's reference. -/
theorem frame_even_ref : Cert.quiescent_EvenProjRefIdeal := fun m ρ _ =>
  (θ_run Cert.EvenProjRefIdeal.defs _ _).mono (fun r h => ⟨fun c => (h c).2,
      Idealize.ShloMosaic.sem_eq_zero_of_no_sems (by decide) r.2⟩)
    (Cert.EvenProjRefIdeal.Value.run (F := Ideal) m ρ)

theorem frame_even_ideal_pre [Cert.Pre_even_finite.Facts] : Cert.quiescent_EvenProjIdeal_pre_even_finite := fun m ρ _ => Cert.EvenProjIdeal.Gen.frame m ρ
theorem frame_even_ref_pre [Cert.Pre_even_finite.Facts] : Cert.quiescent_EvenProjRefIdeal_pre_even_finite := fun m ρ _ => frame_even_ref m ρ trivial

theorem preserves_even : Cert.preserves_EvenProj_EvenProjIdeal := trivial

/-- The shape relations the even input projection's precondition takes. -/
theorem even_finite_facts : Cert.Pre_even_finite.Facts := ⟨by decide, by decide, by decide⟩

/-- The precondition says that the activations, the row gain and the weights hold real numbers. -/
theorem even_real [Cert.Pre_even_finite.Facts] (m : (ℓ : Loc Cert.EvenProjIdeal.nD Cert.EvenProjIdeal.τ Cert.EvenProjIdeal.sig) → Buf (Elt Ideal) ℓ)
    (h : Cert.Pre_EvenProjIdeal_even_finite m) : Cert.EvenProjIdeal.RefValue.Finite m := fun c =>
  ⟨fun j => real_of_abs_lt _ (congrFun (h c).1 j), fun j => real_of_abs_lt _ (congrFun (h c).2.1 j),
    fun j => real_of_abs_lt _ (congrFun (h c).2.2 j)⟩

/-- Equal arguments give equal results of the reference even input projection. -/
theorem even_agree a0 a1 a2 a3 a4 b0 b1 b2 b3 b4 (h0 : a0 = b0) (h1 : a1 = b1) (h2 : a2 = b2) (h3 : a3 = b3) (h4 : a4 = b4) :
    Cert.EvenProjRefIdeal.Read.val_main_v71 (F := Ideal) a0 a1 a2 a3 a4 = Cert.EvenProjRefIdeal.Read.val_main_v71 (F := Ideal) b0 b1 b2 b3 b4 := by
  rw [h0, h1, h2, h3, h4]

/-- The even input projection kernel computes the reference's normalised projection, its sixths normalised, gated and multiplied. -/
theorem value_even [Cert.Pre_even_finite.Facts] : Cert.algebraic_EvenProjIdeal_EvenProjRefIdeal_pre_even_finite := fun m ρ m' ρ' hpre hag =>
  ⟨fun c => Cert.EvenProjIdeal.RefValue.goal m c, Cert.EvenProjIdeal.RefValue.run m ρ (even_real m hpre),
    (θ_run Cert.EvenProjRefIdeal.defs _ _).mono (fun r h c => ⟨by
        rw [(h c).1]
        exact even_agree _ _ _ _ _ _ _ _ _ _ (hag c).1 (hag c).2.1 (hag c).2.2.1 (hag c).2.2.2.1 (hag c).2.2.2.2, (h c).2⟩)
      (Cert.EvenProjRefIdeal.Value.run (F := Ideal) m' ρ')⟩

theorem frame_evenout : Cert.quiescent_EvenOut := fun m ρ _ => Cert.EvenOut.Gen.frame m ρ
theorem frame_evenout_ideal : Cert.quiescent_EvenOutIdeal := fun m ρ _ => Cert.EvenOutIdeal.Gen.frame m ρ
/-- The even output projection's reference. -/
theorem frame_evenout_ref : Cert.quiescent_EvenOutRefIdeal := fun m ρ _ =>
  (θ_run Cert.EvenOutRefIdeal.defs _ _).mono (fun r h => ⟨fun c => (h c).2,
      Idealize.ShloMosaic.sem_eq_zero_of_no_sems (by decide) r.2⟩)
    (Cert.EvenOutRefIdeal.Value.run (F := Ideal) m ρ)

theorem preserves_evenout : Cert.preserves_EvenOut_EvenOutIdeal := trivial

/-- Equal arguments, equal reference results. -/
theorem evenout_agree a0 a1 a2 a3 a4 b0 b1 b2 b3 b4 (h0 : a0 = b0) (h1 : a1 = b1) (h2 : a2 = b2) (h3 : a3 = b3) (h4 : a4 = b4) :
    Cert.EvenOutRefIdeal.Read.val_main_v34 (F := Ideal) a0 a1 a2 a3 a4 = Cert.EvenOutRefIdeal.Read.val_main_v34 (F := Ideal) b0 b1 b2 b3 b4 := by
  rw [h0, h1, h2, h3, h4]

/-- The even output projection kernel computes the reference's convolution and attention, gated, projected onto the residual stream. -/
theorem value_evenout : Cert.algebraic_EvenOutIdeal_EvenOutRefIdeal := fun m ρ m' ρ' _ hag =>
  ⟨fun c => Cert.EvenOutIdeal.RefValue.goal m c, Cert.EvenOutIdeal.RefValue.run m ρ,
    (θ_run Cert.EvenOutRefIdeal.defs _ _).mono (fun r h c => ⟨by
        rw [(h c).1]
        exact evenout_agree _ _ _ _ _ _ _ _ _ _ (hag c).1 (hag c).2.1 (hag c).2.2.1 (hag c).2.2.2.1 (hag c).2.2.2.2, (h c).2⟩)
      (Cert.EvenOutRefIdeal.Value.run (F := Ideal) m' ρ')⟩

theorem frame_first : Cert.quiescent_FirstProj := fun m ρ _ => Cert.FirstProj.Gen.frame m ρ
theorem frame_first_ideal : Cert.quiescent_FirstProjIdeal := fun m ρ _ => Cert.FirstProjIdeal.Gen.frame m ρ
/-- The first odd input projection's reference. -/
theorem frame_first_ref : Cert.quiescent_FirstProjRefIdeal := fun m ρ _ =>
  (θ_run Cert.FirstProjRefIdeal.defs _ _).mono (fun r h => ⟨fun c => (h c).2,
      Idealize.ShloMosaic.sem_eq_zero_of_no_sems (by decide) r.2⟩)
    (Cert.FirstProjRefIdeal.Value.run (F := Ideal) m ρ)

theorem frame_first_ideal_pre [Cert.Pre_first_finite.Facts] : Cert.quiescent_FirstProjIdeal_pre_first_finite := fun m ρ _ => Cert.FirstProjIdeal.Gen.frame m ρ
theorem frame_first_ref_pre [Cert.Pre_first_finite.Facts] : Cert.quiescent_FirstProjRefIdeal_pre_first_finite := fun m ρ _ => frame_first_ref m ρ trivial

/-- The same constant in the first odd input projection. -/
theorem preserves_first : Cert.preserves_FirstProj_FirstProjIdeal :=
  IdealRules.named_const.statement Cert.FirstProjIdeal.κ "log2e" .f32 0x3FB8AA3B#32 (((Real.log 2)⁻¹ : ℝ) : EReal) rfl

/-- The shape relations the first odd input projection's precondition takes. -/
theorem first_finite_facts : Cert.Pre_first_finite.Facts := ⟨by decide, by decide, by decide, by decide⟩

/-- The precondition says that every argument of the first odd input projection holds real numbers. -/
theorem first_real [Cert.Pre_first_finite.Facts] (m : (ℓ : Loc Cert.FirstProjIdeal.nD Cert.FirstProjIdeal.τ Cert.FirstProjIdeal.sig) → Buf (Elt Ideal) ℓ)
    (h : Cert.Pre_FirstProjIdeal_first_finite m) : Cert.FirstProjIdeal.RefValue.Finite m := fun c =>
  ⟨fun j => real_of_abs_lt _ (congrFun (h c).1 j), fun j => real_of_abs_lt _ (congrFun (h c).2.1 j),
    fun j => real_of_abs_lt _ (congrFun (h c).2.2.1 j), fun j => real_of_abs_lt _ (congrFun (h c).2.2.2 j)⟩

/-- Equal arguments give equal results of the reference first odd input projection. -/
theorem first_agree a0 a1 a2 a3 b0 b1 b2 b3 (h0 : a0 = b0) (h1 : a1 = b1) (h2 : a2 = b2) (h3 : a3 = b3) :
    Cert.FirstProjRefIdeal.Read.val_main_v67 (F := Ideal) a0 a1 a2 a3 = Cert.FirstProjRefIdeal.Read.val_main_v67 (F := Ideal) b0 b1 b2 b3 := by
  rw [h0, h1, h2, h3]

/-- The first odd input projection kernel computes the reference's normalised projection, its quarters activated. -/
theorem value_first [Cert.Pre_first_finite.Facts] : Cert.algebraic_FirstProjIdeal_FirstProjRefIdeal_pre_first_finite := fun m ρ m' ρ' hpre hag =>
  ⟨fun c => Cert.FirstProjIdeal.RefValue.goal m c, Cert.FirstProjIdeal.RefValue.run m ρ (first_real m hpre),
    (θ_run Cert.FirstProjRefIdeal.defs _ _).mono (fun r h c => ⟨by
        rw [(h c).1]
        exact first_agree _ _ _ _ _ _ _ _ (hag c).1 (hag c).2.1 (hag c).2.2.1 (hag c).2.2.2, (h c).2⟩)
      (Cert.FirstProjRefIdeal.Value.run (F := Ideal) m' ρ')⟩

theorem frame_nearattn : Cert.quiescent_NearAttn := fun m ρ _ => Cert.NearAttn.Gen.frame m ρ
theorem frame_nearattn_ideal : Cert.quiescent_NearAttnIdeal := fun m ρ _ => Cert.NearAttnIdeal.Gen.frame m ρ
/-- The narrowest attention pattern's reference. -/
theorem frame_nearattn_ref : Cert.quiescent_NearAttnRefIdeal := fun m ρ _ =>
  (θ_run Cert.NearAttnRefIdeal.defs _ _).mono (fun r h => ⟨fun c => (h c).2,
      Idealize.ShloMosaic.sem_eq_zero_of_no_sems (by decide) r.2⟩)
    (Cert.NearAttnRefIdeal.Value.run (F := Ideal) m ρ)

/-- The same constant in the narrowest attention pattern. -/
theorem preserves_nearattn : Cert.preserves_NearAttn_NearAttnIdeal :=
  IdealRules.named_const.statement Cert.NearAttnIdeal.κ "log2e" .f32 0x3FB8AA3B#32 (((Real.log 2)⁻¹ : ℝ) : EReal) rfl

/-- Equal arguments, equal reference results. -/
theorem nearattn_agree a0 a1 a2 a4 b0 b1 b2 b4 (h0 : a0 = b0) (h1 : a1 = b1) (h2 : a2 = b2) (h4 : a4 = b4) :
    Cert.NearAttnRefIdeal.Read.val_main_v94 (F := Ideal) a0 a1 a2 a4 = Cert.NearAttnRefIdeal.Read.val_main_v94 (F := Ideal) b0 b1 b2 b4 := by
  rw [h0, h1, h2, h4]

/-- The narrowest attention pattern's kernel computes the reference's block attention, rearranged by residue. -/
theorem value_nearattn : Cert.algebraic_NearAttnIdeal_NearAttnRefIdeal := fun m ρ m' ρ' _ hag =>
  ⟨fun c => Cert.NearAttnIdeal.RefValue.goal m c, Cert.NearAttnIdeal.RefValue.run m ρ,
    (θ_run Cert.NearAttnRefIdeal.defs _ _).mono (fun r h c => ⟨by
        rw [(h c).1]
        exact nearattn_agree _ _ _ _ _ _ _ _ (hag c).1 (hag c).2.1 (hag c).2.2.1 (hag c).2.2.2.2, (h c).2⟩)
      (Cert.NearAttnRefIdeal.Value.run (F := Ideal) m' ρ')⟩

end Cert.Proof.Claims
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.EvenProj
public import proofs.«01_k».proof.Proof.Gen.EvenProj.Skeleton
public import proofs.«01_k».proof.Proof.Gen.EvenProj.Launch
public import proofs.«01_k».proof.Proof.Gen.EvenProj.Points
public import proofs.«01_k».proof.Proof.Gen.EvenProj.Frame
public import proofs.«01_k».proof.Proof.Gen.EvenProjIdeal
public import proofs.«01_k».proof.Proof.Gen.EvenProjIdeal.Skeleton
public import proofs.«01_k».proof.Proof.Gen.EvenProjIdeal.Launch
public import proofs.«01_k».proof.Proof.Gen.EvenProjIdeal.Points
public import proofs.«01_k».proof.Proof.Gen.EvenProjIdeal.Frame
public import proofs.«01_k».proof.Proof.Gen.EvenProjRefIdeal
public import proofs.«01_k».proof.Proof.Gen.EvenProjIdeal.Value
public import proofs.«01_k».proof.Proof.Gen.EvenProjRefIdeal.Run
public import proofs.«01_k».proof.Proof.Gen.EvenProjRefIdeal.Read
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.EvenOutIdeal.Value
public import proofs.«01_k».proof.Proof.Gen.EvenOutRefIdeal.Run
public import proofs.«01_k».proof.Proof.Gen.EvenOutRefIdeal.Read
public import proofs.«01_k».proof.Proof.Gen.NearAttn
public import proofs.«01_k».proof.Proof.Gen.NearAttn.Skeleton
public import proofs.«01_k».proof.Proof.Gen.NearAttn.Launch
public import proofs.«01_k».proof.Proof.Gen.NearAttn.Points
public import proofs.«01_k».proof.Proof.Gen.NearAttn.Frame
public import proofs.«01_k».proof.Proof.Gen.NearAttnIdeal
public import proofs.«01_k».proof.Proof.Gen.NearAttnIdeal.Skeleton
public import proofs.«01_k».proof.Proof.Gen.NearAttnIdeal.Launch
public import proofs.«01_k».proof.Proof.Gen.NearAttnIdeal.Points
public import proofs.«01_k».proof.Proof.Gen.NearAttnIdeal.Frame
public import proofs.«01_k».proof.Proof.Gen.NearAttnRefIdeal
public import proofs.«01_k».proof.Proof.Gen.NearAttnIdeal.Value
public import proofs.«01_k».proof.Proof.Gen.NearAttnRefIdeal.Run
public import proofs.«01_k».proof.Proof.Gen.NearAttnRefIdeal.Read
public import proofs.«01_k».proof.Proof.Gen.FirstProj
public import proofs.«01_k».proof.Proof.Gen.FirstProj.Skeleton
public import proofs.«01_k».proof.Proof.Gen.FirstProj.Launch
public import proofs.«01_k».proof.Proof.Gen.FirstProj.Points
public import proofs.«01_k».proof.Proof.Gen.FirstProj.Frame
public import proofs.«01_k».proof.Proof.Gen.FirstProjIdeal
public import proofs.«01_k».proof.Proof.Gen.FirstProjIdeal.Skeleton
public import proofs.«01_k».proof.Proof.Gen.FirstProjIdeal.Launch
public import proofs.«01_k».proof.Proof.Gen.FirstProjIdeal.Points
public import proofs.«01_k».proof.Proof.Gen.FirstProjIdeal.Frame
public import proofs.«01_k».proof.Proof.Gen.FirstProjRefIdeal
public import proofs.«01_k».proof.Proof.Gen.FirstProjIdeal.Value
public import proofs.«01_k».proof.Proof.Gen.FirstProjRefIdeal.Run
public import proofs.«01_k».proof.Proof.Gen.FirstProjRefIdeal.Read
public import proofs.«01_k».proof.Proof.Claims
public import Idealize.ShloMosaic.Adequacy
public import Idealize.ShloMosaic.Init

@[expose] public section

noncomputable section

namespace Cert.Proof

open Idealize.ShloMosaic Idealize.SL.Sem Cert.Attn

theorem claim : Cert.Claim :=
  have := Claims.lse_finite_facts
  have := Claims.inputs_finite_facts
  have := Claims.even_finite_facts
  have := Claims.first_finite_facts
  ⟨Cert.Attn.Gen.facts, Cert.AttnIdeal.Gen.facts, Cert.AttnRefIdeal.Gen.facts, Cert.OutProj.Gen.facts,
    Cert.OutProjIdeal.Gen.facts, Cert.OutProjRefIdeal.Gen.facts, Cert.InProj.Gen.facts, Cert.InProjIdeal.Gen.facts,
    Cert.InProjRefIdeal.Gen.facts, Cert.EvenProj.Gen.facts, Cert.EvenProjIdeal.Gen.facts, Cert.EvenProjRefIdeal.Gen.facts,
    Cert.EvenOut.Gen.facts, Cert.EvenOutIdeal.Gen.facts, Cert.EvenOutRefIdeal.Gen.facts,
    Cert.FirstProj.Gen.facts, Cert.FirstProjIdeal.Gen.facts, Cert.FirstProjRefIdeal.Gen.facts,
    Cert.NearAttn.Gen.facts, Cert.NearAttnIdeal.Gen.facts, Cert.NearAttnRefIdeal.Gen.facts,
    Claims.lse_finite_facts, Claims.inputs_finite_facts, Claims.even_finite_facts, Claims.first_finite_facts,
    Claims.frame_attn, Claims.frame_attn_ideal, Claims.frame_attn_ideal_pre, Claims.frame_attn_ref, Claims.frame_attn_ref_pre,
    Claims.frame_out, Claims.frame_out_ideal, Claims.frame_out_ref,
    Claims.frame_in, Claims.frame_in_ideal, Claims.frame_in_ideal_pre, Claims.frame_in_ref, Claims.frame_in_ref_pre,
    Claims.frame_even, Claims.frame_even_ideal, Claims.frame_even_ideal_pre, Claims.frame_even_ref, Claims.frame_even_ref_pre,
    Claims.frame_evenout, Claims.frame_evenout_ideal, Claims.frame_evenout_ref,
    Claims.frame_first, Claims.frame_first_ideal, Claims.frame_first_ideal_pre, Claims.frame_first_ref, Claims.frame_first_ref_pre,
    Claims.frame_nearattn, Claims.frame_nearattn_ideal, Claims.frame_nearattn_ref,
    Claims.preserves_attn, Claims.value_attn, Claims.preserves_out, Claims.value_out, Claims.preserves_in, Claims.value_in,
    Claims.preserves_even, Claims.value_even,
    Claims.preserves_evenout, Claims.value_evenout, Claims.preserves_first, Claims.value_first,
    Claims.preserves_nearattn, Claims.value_nearattn⟩

end Cert.Proof

end
